-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_nonneg [hPre_scales_nonneg : Cert.Pre_scales_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_scales_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_nonneg [hPre_scales_nonneg : Cert.Pre_scales_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Distances (m : (ℓ : Loc Cert.Distances.nD Cert.Distances.τ Cert.Distances.sig) → Buf (Elt Bits) ℓ) : Prop :=
  True

def Pre_Distances_lens_nonneg [hPre_lens_nonneg : Cert.Pre_lens_nonneg.Facts] (m : (ℓ : Loc Cert.Distances.nD Cert.Distances.τ Cert.Distances.sig) → Buf (Elt Bits) ℓ) : Prop :=
  ∀ c : Dev Cert.Distances.nD,
    (Cert.Pre_lens_nonneg.fn (F := Bits) (m ((c.tc : Thread Cert.Distances.nD Cert.Distances.τ).loc Cert.Distances.main_arg0)) (m ((c.tc : Thread Cert.Distances.nD Cert.Distances.τ).loc Cert.Distances.main_arg1)) (m ((c.tc : Thread Cert.Distances.nD Cert.Distances.τ).loc Cert.Distances.main_arg2))) = (fun _ => 1#1)

def Pre_DistancesReference (m : (ℓ : Loc Cert.DistancesReference.nD Cert.DistancesReference.τ Cert.DistancesReference.sig) → Buf (Elt Bits) ℓ) : Prop :=
  True

def Pre_DistancesReference_lens_nonneg [hPre_lens_nonneg : Cert.Pre_lens_nonneg.Facts] (m : (ℓ : Loc Cert.DistancesReference.nD Cert.DistancesReference.τ Cert.DistancesReference.sig) → Buf (Elt Bits) ℓ) : Prop :=
  ∀ c : Dev Cert.DistancesReference.nD,
    (Cert.Pre_lens_nonneg.fn (F := Bits) (m ((c.tc : Thread Cert.DistancesReference.nD Cert.DistancesReference.τ).loc Cert.DistancesReference.main_arg0)) (m ((c.tc : Thread Cert.DistancesReference.nD Cert.DistancesReference.τ).loc Cert.DistancesReference.main_arg1)) (m ((c.tc : Thread Cert.DistancesReference.nD Cert.DistancesReference.τ).loc Cert.DistancesReference.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_nonneg [hKernelIdeal : Cert.KernelIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_nonneg [hReferenceIdeal : Cert.ReferenceIdeal.Facts] [hPre_scales_nonneg : Cert.Pre_scales_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Distances [hDistances : Cert.Distances.Facts] : Prop :=
  ∀ (m : (ℓ : Loc Cert.Distances.nD Cert.Distances.τ Cert.Distances.sig) → Buf (Elt Bits) ℓ) (g : Dev Cert.Distances.nD → PrngReg), Pre_Distances m →
    θ_run (Cert.Distances.defs (F := Bits)) (onTc (τ := Cert.Distances.τ) (Cert.Distances.main (F := Bits))) ⟨m, fun _ => 0, g⟩ (fun r => (∀ c : Dev Cert.Distances.nD,
      r.2.mem ((c.tc : Thread Cert.Distances.nD Cert.Distances.τ).loc Cert.Distances.main_arg0) = m ((c.tc : Thread Cert.Distances.nD Cert.Distances.τ).loc Cert.Distances.main_arg0)
      ∧ r.2.mem ((c.tc : Thread Cert.Distances.nD Cert.Distances.τ).loc Cert.Distances.main_arg1) = m ((c.tc : Thread Cert.Distances.nD Cert.Distances.τ).loc Cert.Distances.main_arg1)
      ∧ r.2.mem ((c.tc : Thread Cert.Distances.nD Cert.Distances.τ).loc Cert.Distances.main_arg2) = m ((c.tc : Thread Cert.Distances.nD Cert.Distances.τ).loc Cert.Distances.main_arg2))
      ∧ r.2.sem = fun _ => 0)

def quiescent_Distances_pre_lens_nonneg [hDistances : Cert.Distances.Facts] [hPre_lens_nonneg : Cert.Pre_lens_nonneg.Facts] : Prop :=
  ∀ (m : (ℓ : Loc Cert.Distances.nD Cert.Distances.τ Cert.Distances.sig) → Buf (Elt Bits) ℓ) (g : Dev Cert.Distances.nD → PrngReg), Pre_Distances_lens_nonneg m →
    θ_run (Cert.Distances.defs (F := Bits)) (onTc (τ := Cert.Distances.τ) (Cert.Distances.main (F := Bits))) ⟨m, fun _ => 0, g⟩ (fun r => (∀ c : Dev Cert.Distances.nD,
      r.2.mem ((c.tc : Thread Cert.Distances.nD Cert.Distances.τ).loc Cert.Distances.main_arg0) = m ((c.tc : Thread Cert.Distances.nD Cert.Distances.τ).loc Cert.Distances.main_arg0)
      ∧ r.2.mem ((c.tc : Thread Cert.Distances.nD Cert.Distances.τ).loc Cert.Distances.main_arg1) = m ((c.tc : Thread Cert.Distances.nD Cert.Distances.τ).loc Cert.Distances.main_arg1)
      ∧ r.2.mem ((c.tc : Thread Cert.Distances.nD Cert.Distances.τ).loc Cert.Distances.main_arg2) = m ((c.tc : Thread Cert.Distances.nD Cert.Distances.τ).loc Cert.Distances.main_arg2))
      ∧ r.2.sem = fun _ => 0)

def quiescent_DistancesReference [hDistancesReference : Cert.DistancesReference.Facts] : Prop :=
  ∀ (m : (ℓ : Loc Cert.DistancesReference.nD Cert.DistancesReference.τ Cert.DistancesReference.sig) → Buf (Elt Bits) ℓ) (g : Dev Cert.DistancesReference.nD → PrngReg), Pre_DistancesReference m →
    θ_run (Cert.DistancesReference.defs (F := Bits)) (onTc (τ := Cert.DistancesReference.τ) (Cert.DistancesReference.main (F := Bits))) ⟨m, fun _ => 0, g⟩ (fun r => (∀ c : Dev Cert.DistancesReference.nD,
      r.2.mem ((c.tc : Thread Cert.DistancesReference.nD Cert.DistancesReference.τ).loc Cert.DistancesReference.main_arg0) = m ((c.tc : Thread Cert.DistancesReference.nD Cert.DistancesReference.τ).loc Cert.DistancesReference.main_arg0)
      ∧ r.2.mem ((c.tc : Thread Cert.DistancesReference.nD Cert.DistancesReference.τ).loc Cert.DistancesReference.main_arg1) = m ((c.tc : Thread Cert.DistancesReference.nD Cert.DistancesReference.τ).loc Cert.DistancesReference.main_arg1)
      ∧ r.2.mem ((c.tc : Thread Cert.DistancesReference.nD Cert.DistancesReference.τ).loc Cert.DistancesReference.main_arg2) = m ((c.tc : Thread Cert.DistancesReference.nD Cert.DistancesReference.τ).loc Cert.DistancesReference.main_arg2))
      ∧ r.2.sem = fun _ => 0)

def quiescent_DistancesReference_pre_lens_nonneg [hDistancesReference : Cert.DistancesReference.Facts] [hPre_lens_nonneg : Cert.Pre_lens_nonneg.Facts] : Prop :=
  ∀ (m : (ℓ : Loc Cert.DistancesReference.nD Cert.DistancesReference.τ Cert.DistancesReference.sig) → Buf (Elt Bits) ℓ) (g : Dev Cert.DistancesReference.nD → PrngReg), Pre_DistancesReference_lens_nonneg m →
    θ_run (Cert.DistancesReference.defs (F := Bits)) (onTc (τ := Cert.DistancesReference.τ) (Cert.DistancesReference.main (F := Bits))) ⟨m, fun _ => 0, g⟩ (fun r => (∀ c : Dev Cert.DistancesReference.nD,
      r.2.mem ((c.tc : Thread Cert.DistancesReference.nD Cert.DistancesReference.τ).loc Cert.DistancesReference.main_arg0) = m ((c.tc : Thread Cert.DistancesReference.nD Cert.DistancesReference.τ).loc Cert.DistancesReference.main_arg0)
      ∧ r.2.mem ((c.tc : Thread Cert.DistancesReference.nD Cert.DistancesReference.τ).loc Cert.DistancesReference.main_arg1) = m ((c.tc : Thread Cert.DistancesReference.nD Cert.DistancesReference.τ).loc Cert.DistancesReference.main_arg1)
      ∧ r.2.mem ((c.tc : Thread Cert.DistancesReference.nD Cert.DistancesReference.τ).loc Cert.DistancesReference.main_arg2) = m ((c.tc : Thread Cert.DistancesReference.nD Cert.DistancesReference.τ).loc Cert.DistancesReference.main_arg2))
      ∧ r.2.sem = fun _ => 0)

def preserves_Kernel_KernelIdeal : Prop :=
  True

def algebraic_KernelIdeal_ReferenceIdeal_pre_scales_nonneg [hKernelIdeal : Cert.KernelIdeal.Facts] [hReferenceIdeal : Cert.ReferenceIdeal.Facts] [hPre_scales_nonneg : Cert.Pre_scales_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12_0) = v0 c
          ∧ r.2.mem ((c.tc : Thread Cert.ReferenceIdeal.nD Cert.ReferenceIdeal.τ).loc Cert.ReferenceIdeal.main_arg5) = v1 c
          ∧ r.2.mem ((c.tc : Thread Cert.ReferenceIdeal.nD Cert.ReferenceIdeal.τ).loc Cert.ReferenceIdeal.main_v12_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def bitexact_Distances_DistancesReference_pre_lens_nonneg [hDistances : Cert.Distances.Facts] [hDistancesReference : Cert.DistancesReference.Facts] [hPre_lens_nonneg : Cert.Pre_lens_nonneg.Facts] : Prop :=
  ∀ (m : (ℓ : Loc Cert.Distances.nD Cert.Distances.τ Cert.Distances.sig) → Buf (Elt Bits) ℓ) (g : Dev Cert.Distances.nD → PrngReg)
    (m' : (ℓ : Loc Cert.DistancesReference.nD Cert.DistancesReference.τ Cert.DistancesReference.sig) → Buf (Elt Bits) ℓ) (g' : Dev Cert.DistancesReference.nD → PrngReg), Pre_Distances_lens_nonneg m →
    (∀ c : Dev Cert.Distances.nD,
      m' ((c.tc : Thread Cert.DistancesReference.nD Cert.DistancesReference.τ).loc Cert.DistancesReference.main_arg0) = m ((c.tc : Thread Cert.Distances.nD Cert.Distances.τ).loc Cert.Distances.main_arg0)
      ∧ m' ((c.tc : Thread Cert.DistancesReference.nD Cert.DistancesReference.τ).loc Cert.DistancesReference.main_arg1) = m ((c.tc : Thread Cert.Distances.nD Cert.Distances.τ).loc Cert.Distances.main_arg1)
      ∧ m' ((c.tc : Thread Cert.DistancesReference.nD Cert.DistancesReference.τ).loc Cert.DistancesReference.main_arg2) = m ((c.tc : Thread Cert.Distances.nD Cert.Distances.τ).loc Cert.Distances.main_arg2)) →
    ∃ (v0 : (c : Dev Cert.Distances.nD) → Buf (Elt Bits) ((c.tc : Thread Cert.Distances.nD Cert.Distances.τ).loc Cert.Distances.main_v8_0)) (v1 : (c : Dev Cert.Distances.nD) → Buf (Elt Bits) ((c.tc : Thread Cert.Distances.nD Cert.Distances.τ).loc Cert.Distances.main_v8_1)),
      θ_run (Cert.Distances.defs (F := Bits)) (onTc (τ := Cert.Distances.τ) (Cert.Distances.main (F := Bits))) ⟨m, fun _ => 0, g⟩ (fun r => ∀ c : Dev Cert.Distances.nD,
          r.2.mem ((c.tc : Thread Cert.Distances.nD Cert.Distances.τ).loc Cert.Distances.main_v8_0) = v0 c
          ∧ r.2.mem ((c.tc : Thread Cert.Distances.nD Cert.Distances.τ).loc Cert.Distances.main_v8_1) = v1 c
          ∧ r.2.mem ((c.tc : Thread Cert.Distances.nD Cert.Distances.τ).loc Cert.Distances.main_arg0) = m ((c.tc : Thread Cert.Distances.nD Cert.Distances.τ).loc Cert.Distances.main_arg0)
          ∧ r.2.mem ((c.tc : Thread Cert.Distances.nD Cert.Distances.τ).loc Cert.Distances.main_arg1) = m ((c.tc : Thread Cert.Distances.nD Cert.Distances.τ).loc Cert.Distances.main_arg1)
          ∧ r.2.mem ((c.tc : Thread Cert.Distances.nD Cert.Distances.τ).loc Cert.Distances.main_arg2) = m ((c.tc : Thread Cert.Distances.nD Cert.Distances.τ).loc Cert.Distances.main_arg2))
      ∧ θ_run (Cert.DistancesReference.defs (F := Bits)) (onTc (τ := Cert.DistancesReference.τ) (Cert.DistancesReference.main (F := Bits))) ⟨m', fun _ => 0, g'⟩ (fun r => ∀ c : Dev Cert.DistancesReference.nD,
          r.2.mem ((c.tc : Thread Cert.DistancesReference.nD Cert.DistancesReference.τ).loc Cert.DistancesReference.main_v48) = v0 c
          ∧ r.2.mem ((c.tc : Thread Cert.DistancesReference.nD Cert.DistancesReference.τ).loc Cert.DistancesReference.main_v49) = v1 c
          ∧ r.2.mem ((c.tc : Thread Cert.DistancesReference.nD Cert.DistancesReference.τ).loc Cert.DistancesReference.main_arg0) = m' ((c.tc : Thread Cert.DistancesReference.nD Cert.DistancesReference.τ).loc Cert.DistancesReference.main_arg0)
          ∧ r.2.mem ((c.tc : Thread Cert.DistancesReference.nD Cert.DistancesReference.τ).loc Cert.DistancesReference.main_arg1) = m' ((c.tc : Thread Cert.DistancesReference.nD Cert.DistancesReference.τ).loc Cert.DistancesReference.main_arg1)
          ∧ r.2.mem ((c.tc : Thread Cert.DistancesReference.nD Cert.DistancesReference.τ).loc Cert.DistancesReference.main_arg2) = m' ((c.tc : Thread Cert.DistancesReference.nD Cert.DistancesReference.τ).loc Cert.DistancesReference.main_arg2))

def Claim : Prop :=
  ∃ (hKernel : Cert.Kernel.Facts) (hKernelIdeal : Cert.KernelIdeal.Facts) (hReferenceIdeal : Cert.ReferenceIdeal.Facts) (hDistances : Cert.Distances.Facts) (hDistancesReference : Cert.DistancesReference.Facts) (hPre_scales_nonneg : Cert.Pre_scales_nonneg.Facts) (hPre_lens_nonneg : Cert.Pre_lens_nonneg.Facts),
    quiescent_Kernel (hKernel := hKernel)
    ∧ quiescent_KernelIdeal (hKernelIdeal := hKernelIdeal)
    ∧ quiescent_KernelIdeal_pre_scales_nonneg (hKernelIdeal := hKernelIdeal) (hPre_scales_nonneg := hPre_scales_nonneg)
    ∧ quiescent_ReferenceIdeal (hReferenceIdeal := hReferenceIdeal)
    ∧ quiescent_ReferenceIdeal_pre_scales_nonneg (hReferenceIdeal := hReferenceIdeal) (hPre_scales_nonneg := hPre_scales_nonneg)
    ∧ quiescent_Distances (hDistances := hDistances)
    ∧ quiescent_Distances_pre_lens_nonneg (hDistances := hDistances) (hPre_lens_nonneg := hPre_lens_nonneg)
    ∧ quiescent_DistancesReference (hDistancesReference := hDistancesReference)
    ∧ quiescent_DistancesReference_pre_lens_nonneg (hDistancesReference := hDistancesReference) (hPre_lens_nonneg := hPre_lens_nonneg)
    ∧ preserves_Kernel_KernelIdeal
    ∧ algebraic_KernelIdeal_ReferenceIdeal_pre_scales_nonneg (hKernelIdeal := hKernelIdeal) (hReferenceIdeal := hReferenceIdeal) (hPre_scales_nonneg := hPre_scales_nonneg)
    ∧ bitexact_Distances_DistancesReference_pre_lens_nonneg (hDistances := hDistances) (hDistancesReference := hDistancesReference) (hPre_lens_nonneg := hPre_lens_nonneg)
-- ==== Pre_lens_nonneg.lean ====
abbrev S3072x2 : Shape := ⟨2, ![3072, 2]⟩
abbrev S3072x4096x2 : Shape := ⟨3, ![3072, 4096, 2]⟩
abbrev S3072 : Shape := ⟨1, ![3072]⟩
abbrev S_ : Shape := ⟨0, ![]⟩

class Facts : Prop where
  bcast_S_S3072 : S_.BroadcastsInDim S3072 (![] : Fin 0 → Fin S3072.rank)

variable [Facts]

def fn {F : FTy → Type} [FloatOps F] (main_arg0 : IVec S3072x2 32) (main_arg1 : IVec S3072x4096x2 32) (main_arg2 : IVec S3072 32) : IVec S3072 1 :=
  let main_c : IVec S_ 32 := constantI S_ 32 0#32
  let main_v0 : IVec S3072 32 := broadcastInDim S3072 ![] bcast_S_S3072 main_c
  let main_v1 : IVec S3072 1 := cmpi .sge main_arg2 main_v0
  main_v1
-- ==== Pre_scales_nonneg.lean ====
abbrev S3072x96 : Shape := ⟨2, ![3072, 96]⟩
abbrev S12288x128 : Shape := ⟨2, ![12288, 128]⟩
abbrev S3072x64 : Shape := ⟨2, ![3072, 64]⟩
abbrev S_ : Shape := ⟨0, ![]⟩

class Facts : Prop where
  bcast_S_S12288x128 : S_.BroadcastsInDim S12288x128 (![] : Fin 0 → Fin S12288x128.rank)

variable [Facts]

def fn_part2 {F : FTy → Type} [FloatOps F] (main_v30 : IVec S12288x128 1) (main_v31 : IVec S12288x128 1) (main_v36 : IVec S12288x128 1) : IVec S12288x128 1 :=
  let main_v37 : IVec S12288x128 1 := ori main_v31 main_v36
  let main_v38 : IVec S12288x128 1 := andi main_v30 main_v37
  main_v38

def fn_part1 {F : FTy → Type} [FloatOps F] (main_arg2 : IVec S12288x128 32) (main_arg3 : IVec S12288x128 32) (main_arg4 : IVec S12288x128 32) (main_v7 : IVec S12288x128 1) (main_v14 : IVec S12288x128 1) (main_v15 : IVec S12288x128 1) (main_v17 : IVec S12288x128 1) : IVec S12288x128 1 :=
  let main_c_5 : IVec S_ 32 := constantI S_ 32 2139095040#32
  let main_v18 : IVec S12288x128 32 := broadcastInDim S12288x128 ![] bcast_S_S12288x128 main_c_5
  let main_v19 : IVec S12288x128 1 := cmpi .slt main_arg2 main_v18
  let main_v20 : IVec S12288x128 1 := andi main_v17 main_v19
  let main_v21 : IVec S12288x128 1 := ori main_v15 main_v20
  let main_v22 : IVec S12288x128 1 := andi main_v14 main_v21
  let main_v23 : IVec S12288x128 1 := noti main_v7
  let main_c_6 : IVec S_ 32 := constantI S_ 32 0#32
  let main_v24 : IVec S12288x128 32 := broadcastInDim S12288x128 ![] bcast_S_S12288x128 main_c_6
  let main_v25 : IVec S12288x128 1 := cmpi .sge main_arg3 main_v24
  let main_c_7 : IVec S_ 32 := constantI S_ 32 2139095040#32
  let main_v26 : IVec S12288x128 32 := broadcastInDim S12288x128 ![] bcast_S_S12288x128 main_c_7
  let main_v27 : IVec S12288x128 1 := cmpi .slt main_arg3 main_v26
  let main_v28 : IVec S12288x128 1 := andi main_v25 main_v27
  let main_v29 : IVec S12288x128 1 := ori main_v23 main_v28
  let main_v30 : IVec S12288x128 1 := andi main_v22 main_v29
  let main_v31 : IVec S12288x128 1 := noti main_v7
  let main_c_8 : IVec S_ 32 := constantI S_ 32 0#32
  let main_v32 : IVec S12288x128 32 := broadcastInDim S12288x128 ![] bcast_S_S12288x128 main_c_8
  let main_v33 : IVec S12288x128 1 := cmpi .sge main_arg4 main_v32
  let main_c_9 : IVec S_ 32 := constantI S_ 32 2139095040#32
  let main_v34 : IVec S12288x128 32 := broadcastInDim S12288x128 ![] bcast_S_S12288x128 main_c_9
  let main_v35 : IVec S12288x128 1 := cmpi .slt main_arg4 main_v34
  let main_v36 : IVec S12288x128 1 := andi main_v33 main_v35
  fn_part2 (F := F) main_v30 main_v31 main_v36

def fn {F : FTy → Type} [FloatOps F] (main_arg0 : FVec F S3072x96 .bf16) (main_arg1 : IVec S12288x128 32) (main_arg2 : IVec S12288x128 32) (main_arg3 : IVec S12288x128 32) (main_arg4 : IVec S12288x128 32) (main_arg5 : IVec S3072x64 32) : IVec S12288x128 1 :=
  let main_v0 : IVec S12288x128 32 := iotaInDim S12288x128 32 1
  let main_c : IVec S_ 32 := constantI S_ 32 31#32
  let main_v1 : IVec S12288x128 32 := broadcastInDim S12288x128 ![] bcast_S_S12288x128 main_c
  let main_v2 : IVec S12288x128 32 := andi main_v0 main_v1
  let main_c_0 : IVec S_ 32 := constantI S_ 32 24#32
  let main_v3 : IVec S12288x128 32 := broadcastInDim S12288x128 ![] bcast_S_S12288x128 main_c_0
  let main_v4 : IVec S12288x128 1 := cmpi .sge main_v2 main_v3
  let main_c_1 : IVec S_ 32 := constantI S_ 32 26#32
  let main_v5 : IVec S12288x128 32 := broadcastInDim S12288x128 ![] bcast_S_S12288x128 main_c_1
  let main_v6 : IVec S12288x128 1 := cmpi .sle main_v2 main_v5
  let main_v7 : IVec S12288x128 1 := andi main_v4 main_v6
  let main_v8 : IVec S12288x128 1 := noti main_v7
  let main_c_2 : IVec S_ 32 := constantI S_ 32 0#32
  let main_v9 : IVec S12288x128 32 := broadcastInDim S12288x128 ![] bcast_S_S12288x128 main_c_2
  let main_v10 : IVec S12288x128 1 := cmpi .sge main_arg1 main_v9
  let main_c_3 : IVec S_ 32 := constantI S_ 32 2139095040#32
  let main_v11 : IVec S12288x128 32 := broadcastInDim S12288x128 ![] bcast_S_S12288x128 main_c_3
  let main_v12 : IVec S12288x128 1 := cmpi .slt main_arg1 main_v11
  let main_v13 : IVec S12288x128 1 := andi main_v10 main_v12
  let main_v14 : IVec S12288x128 1 := ori main_v8 main_v13
  let main_v15 : IVec S12288x128 1 := noti main_v7
  let main_c_4 : IVec S_ 32 := constantI S_ 32 0#32
  let main_v16 : IVec S12288x128 32 := broadcastInDim S12288x128 ![] bcast_S_S12288x128 main_c_4
  let main_v17 : IVec S12288x128 1 := cmpi .sge main_arg2 main_v16
  fn_part1 (F := F) main_arg2 main_arg3 main_arg4 main_v7 main_v14 main_v15 main_v17
-- ==== Kernel.lean ====
abbrev S3072x96 : Shape := ⟨2, ![3072, 96]⟩
abbrev S12288x128 : Shape := ⟨2, ![12288, 128]⟩
abbrev S3072x64 : Shape := ⟨2, ![3072, 64]⟩
abbrev S96x3072 : Shape := ⟨2, ![96, 3072]⟩
abbrev S96x768 : Shape := ⟨2, ![96, 768]⟩
abbrev S64x768 : Shape := ⟨2, ![64, 768]⟩
abbrev S96x128 : Shape := ⟨2, ![96, 128]⟩
abbrev S2048x128 : Shape := ⟨2, ![2048, 128]⟩
abbrev S128x64 : Shape := ⟨2, ![128, 64]⟩
abbrev S64x128 : Shape := ⟨2, ![64, 128]⟩
abbrev S128x128 : Shape := ⟨2, ![128, 128]⟩
abbrev S32x128 : Shape := ⟨2, ![32, 128]⟩
abbrev S8x128 : Shape := ⟨2, ![8, 128]⟩
abbrev S1x128 : Shape := ⟨2, ![1, 128]⟩
abbrev S128 : Shape := ⟨1, ![128]⟩
abbrev S3x128 : Shape := ⟨2, ![3, 128]⟩
abbrev S64x3072 : Shape := ⟨2, ![64, 3072]⟩

abbrev nBuf : Space → Nat
  | .hbm => 28
  | .vmem => 60
  | .smem => 0
  | _ => 0

abbrev bufTy : (tb : Table) → Fin (tcTables nBuf tb) → BufTy
  | .hbm, ⟨0, _⟩ => ⟨S3072x96, .bf16⟩
  | .hbm, ⟨1, _⟩ => ⟨S12288x128, .i32⟩
  | .hbm, ⟨2, _⟩ => ⟨S12288x128, .i32⟩
  | .hbm, ⟨3, _⟩ => ⟨S12288x128, .i32⟩
  | .hbm, ⟨4, _⟩ => ⟨S12288x128, .i32⟩
  | .hbm, ⟨5, _⟩ => ⟨S3072x64, .i32⟩
  | .hbm, ⟨6, _⟩ => ⟨S96x3072, .bf16⟩
  | .hbm, ⟨7, _⟩ => ⟨S96x768, .bf16⟩
  | .hbm, ⟨8, _⟩ => ⟨S64x768, .i32⟩
  | .hbm, ⟨9, _⟩ => ⟨S64x768, .f32⟩
  | .hbm, ⟨10, _⟩ => ⟨S96x3072, .bf16⟩
  | .hbm, ⟨11, _⟩ => ⟨S96x768, .bf16⟩
  | .hbm, ⟨12, _⟩ => ⟨S64x768, .i32⟩
  | .hbm, ⟨13, _⟩ => ⟨S64x768, .f32⟩
  | .hbm, ⟨14, _⟩ => ⟨S96x3072, .bf16⟩
  | .hbm, ⟨15, _⟩ => ⟨S96x768, .bf16⟩
  | .hbm, ⟨16, _⟩ => ⟨S64x768, .i32⟩
  | .hbm, ⟨17, _⟩ => ⟨S64x768, .f32⟩
  | .hbm, ⟨18, _⟩ => ⟨S96x3072, .bf16⟩
  | .hbm, ⟨19, _⟩ => ⟨S96x768, .bf16⟩
  | .hbm, ⟨20, _⟩ => ⟨S64x768, .i32⟩
  | .hbm, ⟨21, _⟩ => ⟨S64x768, .f32⟩
  | .hbm, ⟨22, _⟩ => ⟨S96x3072, .bf16⟩
  | .hbm, ⟨23, _⟩ => ⟨S3072x96, .bf16⟩
  | .hbm, ⟨24, _⟩ => ⟨S64x3072, .i32⟩
  | .hbm, ⟨25, _⟩ => ⟨S3072x64, .i32⟩
  | .hbm, ⟨26, _⟩ => ⟨S64x3072, .f32⟩
  | .hbm, ⟨27, _⟩ => ⟨S3072x64, .f32⟩
  | .local _ .vmem, ⟨0, _⟩ => ⟨S96x128, .bf16⟩
  | .local _ .vmem, ⟨1, _⟩ => ⟨S96x128, .bf16⟩
  | .local _ .vmem, ⟨2, _⟩ => ⟨S2048x128, .i32⟩
  | .local _ .vmem, ⟨3, _⟩ => ⟨S2048x128, .i32⟩
  | .local _ .vmem, ⟨4, _⟩ => ⟨S128x64, .i32⟩
  | .local _ .vmem, ⟨5, _⟩ => ⟨S128x64, .i32⟩
  | .local _ .vmem, ⟨6, _⟩ => ⟨S96x128, .bf16⟩
  | .local _ .vmem, ⟨7, _⟩ => ⟨S96x128, .bf16⟩
  | .local _ .vmem, ⟨8, _⟩ => ⟨S64x128, .i32⟩
  | .local _ .vmem, ⟨9, _⟩ => ⟨S64x128, .i32⟩
  | .local _ .vmem, ⟨10, _⟩ => ⟨S64x128, .f32⟩
  | .local _ .vmem, ⟨11, _⟩ => ⟨S64x128, .f32⟩
  | .local _ .vmem, ⟨12, _⟩ => ⟨S2048x128, .i32⟩
  | .local _ .vmem, ⟨13, _⟩ => ⟨S64x128, .f32⟩
  | .local _ .vmem, ⟨14, _⟩ => ⟨S64x128, .f32⟩
  | .local _ .vmem, ⟨15, _⟩ => ⟨S96x128, .bf16⟩
  | .local _ .vmem, ⟨16, _⟩ => ⟨S96x128, .bf16⟩
  | .local _ .vmem, ⟨17, _⟩ => ⟨S2048x128, .i32⟩
  | .local _ .vmem, ⟨18, _⟩ => ⟨S2048x128, .i32⟩
  | .local _ .vmem, ⟨19, _⟩ => ⟨S128x64, .i32⟩
  | .local _ .vmem, ⟨20, _⟩ => ⟨S128x64, .i32⟩
  | .local _ .vmem, ⟨21, _⟩ => ⟨S96x128, .bf16⟩
  | .local _ .vmem, ⟨22, _⟩ => ⟨S96x128, .bf16⟩
  | .local _ .vmem, ⟨23, _⟩ => ⟨S64x128, .i32⟩
  | .local _ .vmem, ⟨24, _⟩ => ⟨S64x128, .i32⟩
  | .local _ .vmem, ⟨25, _⟩ => ⟨S64x128, .f32⟩
  | .local _ .vmem, ⟨26, _⟩ => ⟨S64x128, .f32⟩
  | .local _ .vmem, ⟨27, _⟩ => ⟨S2048x128, .i32⟩
  | .local _ .vmem, ⟨28, _⟩ => ⟨S64x128, .f32⟩
  | .local _ .vmem, ⟨29, _⟩ => ⟨S64x128, .f32⟩
  | .local _ .vmem, ⟨30, _⟩ => ⟨S96x128, .bf16⟩
  | .local _ .vmem, ⟨31, _⟩ => ⟨S96x128, .bf16⟩
  | .local _ .vmem, ⟨32, _⟩ => ⟨S2048x128, .i32⟩
  | .local _ .vmem, ⟨33, _⟩ => ⟨S2048x128, .i32⟩
  | .local _ .vmem, ⟨34, _⟩ => ⟨S128x64, .i32⟩
  | .local _ .vmem, ⟨35, _⟩ => ⟨S128x64, .i32⟩
  | .local _ .vmem, ⟨36, _⟩ => ⟨S96x128, .bf16⟩
  | .local _ .vmem, ⟨37, _⟩ => ⟨S96x128, .bf16⟩
  | .local _ .vmem, ⟨38, _⟩ => ⟨S64x128, .i32⟩
  | .local _ .vmem, ⟨39, _⟩ => ⟨S64x128, .i32⟩
  | .local _ .vmem, ⟨40, _⟩ => ⟨S64x128, .f32⟩
  | .local _ .vmem, ⟨41, _⟩ => ⟨S64x128, .f32⟩
  | .local _ .vmem, ⟨42, _⟩ => ⟨S2048x128, .i32⟩
  | .local _ .vmem, ⟨43, _⟩ => ⟨S64x128, .f32⟩
  | .local _ .vmem, ⟨44, _⟩ => ⟨S64x128, .f32⟩
  | .local _ .vmem, ⟨45, _⟩ => ⟨S96x128, .bf16⟩
  | .local _ .vmem, ⟨46, _⟩ => ⟨S96x128, .bf16⟩
  | .local _ .vmem, ⟨47, _⟩ => ⟨S2048x128, .i32⟩
  | .local _ .vmem, ⟨48, _⟩ => ⟨S2048x128, .i32⟩
  | .local _ .vmem, ⟨49, _⟩ => ⟨S128x64, .i32⟩
  | .local _ .vmem, ⟨50, _⟩ => ⟨S128x64, .i32⟩
  | .local _ .vmem, ⟨51, _⟩ => ⟨S96x128, .bf16⟩
  | .local _ .vmem, ⟨52, _⟩ => ⟨S96x128, .bf16⟩
  | .local _ .vmem, ⟨53, _⟩ => ⟨S64x128, .i32⟩
  | .local _ .vmem, ⟨54, _⟩ => ⟨S64x128, .i32⟩
  | .local _ .vmem, ⟨55, _⟩ => ⟨S64x128, .f32⟩
  | .local _ .vmem, ⟨56, _⟩ => ⟨S64x128, .f32⟩
  | .local _ .vmem, ⟨57, _⟩ => ⟨S2048x128, .i32⟩
  | .local _ .vmem, ⟨58, _⟩ => ⟨S64x128, .f32⟩
  | .local _ .vmem, ⟨59, _⟩ => ⟨S64x128, .f32⟩
  | _, _ => ⟨S3072x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_scratch0 : Ref sig .tc := ⟨.vmem, 27, rfl⟩
abbrev cc1_scratch1 : Ref sig .tc := ⟨.vmem, 28, rfl⟩
abbrev cc1_scratch2 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg4_1 : Ref sig .tc := ⟨.vmem, 39, rfl⟩
abbrev cc2_stg5_0 : Ref sig .tc := ⟨.vmem, 40, rfl⟩
abbrev cc2_stg5_1 : Ref sig .tc := ⟨.vmem, 41, rfl⟩
abbrev cc2_scratch0 : Ref sig .tc := ⟨.vmem, 42, rfl⟩
abbrev cc2_scratch1 : Ref sig .tc := ⟨.vmem, 43, rfl⟩
abbrev cc2_scratch2 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc3_stg3_0 : Ref sig .tc := ⟨.vmem, 51, rfl⟩
abbrev cc3_stg3_1 : Ref sig .tc := ⟨.vmem, 52, rfl⟩
abbrev cc3_stg4_0 : Ref sig .tc := ⟨.vmem, 53, rfl⟩
abbrev cc3_stg4_1 : Ref sig .tc := ⟨.vmem, 54, rfl⟩
abbrev cc3_stg5_0 : Ref sig .tc := ⟨.vmem, 55, rfl⟩
abbrev cc3_stg5_1 : Ref sig .tc := ⟨.vmem, 56, rfl⟩
abbrev cc3_scratch0 : Ref sig .tc := ⟨.vmem, 57, rfl⟩
abbrev cc3_scratch1 : Ref sig .tc := ⟨.vmem, 58, rfl⟩
abbrev cc3_scratch2 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem4_1 : DmaSem sig := 45
abbrev cc3_sem5_0 : DmaSem sig := 46
abbrev cc3_sem5_1 : DmaSem sig := 47

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32_27 : BitVec 32 := 0#32
  let c0_i32 : BitVec 32 := 0#32
  let c1_i32 : BitVec 32 := 1#32
  let arg10 : BitVec 32 := Scf.iv c0_i32 c1_i32 k0_t1
  let c1_i32_26 : BitVec 32 := 1#32
  let v37 : BitVec 32 := Scalar.muli arg10 c1_i32_26
  let v38 : BitVec 32 := Scalar.addi c0_i32_27 v37
  let c128_i32 : BitVec 32 := 128#32
  let v39 : BitVec 32 := Scalar.muli v38 c128_i32
  v39
def k0_off1 (k0_t1 : Fin k0_t1_loop.trips) : Fin 2 → Nat :=
  let c0_i32_27 : BitVec 32 := 0#32
  let c0_i32 : BitVec 32 := 0#32
  let c1_i32 : BitVec 32 := 1#32
  let arg10 : BitVec 32 := Scf.iv c0_i32 c1_i32 k0_t1
  let c1_i32_26 : BitVec 32 := 1#32
  let v37 : BitVec 32 := Scalar.muli arg10 c1_i32_26
  let v38 : BitVec 32 := Scalar.addi c0_i32_27 v37
  let c128_i32 : BitVec 32 := 128#32
  let v39 : BitVec 32 := Scalar.muli v38 c128_i32
  let v40 : BitVec 32 := v39
  let v41 : Index := Scalar.indexCast v40
  let c0_28 : Index := 0#32
  ![v41.toNat, 0]
@[reducible] def k0_t2_loop : Scf.Loop 32 :=
  let c0_i32_2 : BitVec 32 := 0#32
  let c8_i32 : BitVec 32 := 8#32
  let v7 : BitVec 32 := Scalar.addi c0_i32_2 c8_i32
  let c1_i32_3 : BitVec 32 := 1#32
  ⟨c0_i32_2, v7, c1_i32_3⟩
def k0_mult2 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let c0_i32_29 : BitVec 32 := 0#32
  let v40 : BitVec 32 := Scalar.addi v39 c0_i32_29
  let c32_i32 : BitVec 32 := 32#32
  let v41 : BitVec 32 := Scalar.muli v40 c32_i32
  let c24_i32 : BitVec 32 := 24#32
  let v42 : BitVec 32 := Scalar.addi v41 c24_i32
  v42
def k0_off2 (k0_t2 : Fin k0_t2_loop.trips) (c0_i32_29 : BitVec 32) (c24_i32 : BitVec 32) : Fin 2 → Nat :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let v40 : BitVec 32 := Scalar.addi v39 c0_i32_29
  let c32_i32 : BitVec 32 := 32#32
  let v41 : BitVec 32 := Scalar.muli v40 c32_i32
  let v42 : BitVec 32 := Scalar.addi v41 c24_i32
  let v43 : BitVec 32 := v42
  let v44 : Index := Scalar.indexCast v43
  let c0_30 : Index := 0#32
  ![v44.toNat, 0]
def k0_mult3 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let c0_i32_29 : BitVec 32 := 0#32
  let v40 : BitVec 32 := Scalar.addi v39 c0_i32_29
  let c32_i32_31 : BitVec 32 := 32#32
  let v49 : BitVec 32 := Scalar.muli v40 c32_i32_31
  let c0_i32_32 : BitVec 32 := 0#32
  let v50 : BitVec 32 := Scalar.addi v49 c0_i32_32
  v50
def k0_mult4 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let c0_i32_29 : BitVec 32 := 0#32
  let v40 : BitVec 32 := Scalar.addi v39 c0_i32_29
  let c32_i32_34 : BitVec 32 := 32#32
  let v67 : BitVec 32 := Scalar.muli v40 c32_i32_34
  let c8_i32_35 : BitVec 32 := 8#32
  let v68 : BitVec 32 := Scalar.addi v67 c8_i32_35
  v68
def k0_mult5 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let c0_i32_29 : BitVec 32 := 0#32
  let v40 : BitVec 32 := Scalar.addi v39 c0_i32_29
  let c32_i32_37 : BitVec 32 := 32#32
  let v86 : BitVec 32 := Scalar.muli v40 c32_i32_37
  let c16_i32_38 : BitVec 32 := 16#32
  let v87 : BitVec 32 := Scalar.addi v86 c16_i32_38
  v87
def k0_off3 (k0_t2 : Fin k0_t2_loop.trips) (c0_i32_29 : BitVec 32) : Fin 2 → Nat :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let v40 : BitVec 32 := Scalar.addi v39 c0_i32_29
  let v107 : Index := Scalar.indexCast v40
  let c0_41 : Index := 0#32
  ![v107.toNat, 0]
def k0_mult6 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_42 : BitVec 32 := 8#32
  let v111 : BitVec 32 := Scalar.muli v38 c8_i32_42
  let c1_i32_43 : BitVec 32 := 1#32
  let v112 : BitVec 32 := Scalar.addi v111 c1_i32_43
  let c32_i32_44 : BitVec 32 := 32#32
  let v113 : BitVec 32 := Scalar.muli v112 c32_i32_44
  let c24_i32_45 : BitVec 32 := 24#32
  let v114 : BitVec 32 := Scalar.addi v113 c24_i32_45
  v114
def k0_mult7 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_42 : BitVec 32 := 8#32
  let v111 : BitVec 32 := Scalar.muli v38 c8_i32_42
  let c1_i32_43 : BitVec 32 := 1#32
  let v112 : BitVec 32 := Scalar.addi v111 c1_i32_43
  let c32_i32_47 : BitVec 32 := 32#32
  let v121 : BitVec 32 := Scalar.muli v112 c32_i32_47
  let c0_i32_48 : BitVec 32 := 0#32
  let v122 : BitVec 32 := Scalar.addi v121 c0_i32_48
  v122
def k0_mult8 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_42 : BitVec 32 := 8#32
  let v111 : BitVec 32 := Scalar.muli v38 c8_i32_42
  let c1_i32_43 : BitVec 32 := 1#32
  let v112 : BitVec 32 := Scalar.addi v111 c1_i32_43
  let c32_i32_50 : BitVec 32 := 32#32
  let v139 : BitVec 32 := Scalar.muli v112 c32_i32_50
  let c8_i32_51 : BitVec 32 := 8#32
  let v140 : BitVec 32 := Scalar.addi v139 c8_i32_51
  v140
def k0_mult9 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_42 : BitVec 32 := 8#32
  let v111 : BitVec 32 := Scalar.muli v38 c8_i32_42
  let c1_i32_43 : BitVec 32 := 1#32
  let v112 : BitVec 32 := Scalar.addi v111 c1_i32_43
  let c32_i32_53 : BitVec 32 := 32#32
  let v158 : BitVec 32 := Scalar.muli v112 c32_i32_53
  let c16_i32_54 : BitVec 32 := 16#32
  let v159 : BitVec 32 := Scalar.addi v158 c16_i32_54
  v159
def k0_mult10 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_58 : BitVec 32 := 8#32
  let v183 : BitVec 32 := Scalar.muli v38 c8_i32_58
  let c2_i32 : BitVec 32 := 2#32
  let v184 : BitVec 32 := Scalar.addi v183 c2_i32
  let c32_i32_59 : BitVec 32 := 32#32
  let v185 : BitVec 32 := Scalar.muli v184 c32_i32_59
  let c24_i32_60 : BitVec 32 := 24#32
  let v186 : BitVec 32 := Scalar.addi v185 c24_i32_60
  v186
def k0_mult11 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_58 : BitVec 32 := 8#32
  let v183 : BitVec 32 := Scalar.muli v38 c8_i32_58
  let c2_i32 : BitVec 32 := 2#32
  let v184 : BitVec 32 := Scalar.addi v183 c2_i32
  let c32_i32_62 : BitVec 32 := 32#32
  let v193 : BitVec 32 := Scalar.muli v184 c32_i32_62
  let c0_i32_63 : BitVec 32 := 0#32
  let v194 : BitVec 32 := Scalar.addi v193 c0_i32_63
  v194
def k0_mult12 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_58 : BitVec 32 := 8#32
  let v183 : BitVec 32 := Scalar.muli v38 c8_i32_58
  let c2_i32 : BitVec 32 := 2#32
  let v184 : BitVec 32 := Scalar.addi v183 c2_i32
  let c32_i32_65 : BitVec 32 := 32#32
  let v211 : BitVec 32 := Scalar.muli v184 c32_i32_65
  let c8_i32_66 : BitVec 32 := 8#32
  let v212 : BitVec 32 := Scalar.addi v211 c8_i32_66
  v212
def k0_mult13 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_58 : BitVec 32 := 8#32
  let v183 : BitVec 32 := Scalar.muli v38 c8_i32_58
  let c2_i32 : BitVec 32 := 2#32
  let v184 : BitVec 32 := Scalar.addi v183 c2_i32
  let c32_i32_68 : BitVec 32 := 32#32
  let v230 : BitVec 32 := Scalar.muli v184 c32_i32_68
  let c16_i32_69 : BitVec 32 := 16#32
  let v231 : BitVec 32 := Scalar.addi v230 c16_i32_69
  v231
def k0_mult14 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_73 : BitVec 32 := 8#32
  let v255 : BitVec 32 := Scalar.muli v38 c8_i32_73
  let c3_i32 : BitVec 32 := 3#32
  let v256 : BitVec 32 := Scalar.addi v255 c3_i32
  let c32_i32_74 : BitVec 32 := 32#32
  let v257 : BitVec 32 := Scalar.muli v256 c32_i32_74
  let c24_i32_75 : BitVec 32 := 24#32
  let v258 : BitVec 32 := Scalar.addi v257 c24_i32_75
  v258
def k0_mult15 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_73 : BitVec 32 := 8#32
  let v255 : BitVec 32 := Scalar.muli v38 c8_i32_73
  let c3_i32 : BitVec 32 := 3#32
  let v256 : BitVec 32 := Scalar.addi v255 c3_i32
  let c32_i32_77 : BitVec 32 := 32#32
  let v265 : BitVec 32 := Scalar.muli v256 c32_i32_77
  let c0_i32_78 : BitVec 32 := 0#32
  let v266 : BitVec 32 := Scalar.addi v265 c0_i32_78
  v266
def k0_mult16 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_73 : BitVec 32 := 8#32
  let v255 : BitVec 32 := Scalar.muli v38 c8_i32_73
  let c3_i32 : BitVec 32 := 3#32
  let v256 : BitVec 32 := Scalar.addi v255 c3_i32
  let c32_i32_80 : BitVec 32 := 32#32
  let v283 : BitVec 32 := Scalar.muli v256 c32_i32_80
  let c8_i32_81 : BitVec 32 := 8#32
  let v284 : BitVec 32 := Scalar.addi v283 c8_i32_81
  v284
def k0_mult17 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_73 : BitVec 32 := 8#32
  let v255 : BitVec 32 := Scalar.muli v38 c8_i32_73
  let c3_i32 : BitVec 32 := 3#32
  let v256 : BitVec 32 := Scalar.addi v255 c3_i32
  let c32_i32_83 : BitVec 32 := 32#32
  let v302 : BitVec 32 := Scalar.muli v256 c32_i32_83
  let c16_i32_84 : BitVec 32 := 16#32
  let v303 : BitVec 32 := Scalar.addi v302 c16_i32_84
  v303
def k0_mult18 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_88 : BitVec 32 := 8#32
  let v327 : BitVec 32 := Scalar.muli v38 c8_i32_88
  let c4_i32 : BitVec 32 := 4#32
  let v328 : BitVec 32 := Scalar.addi v327 c4_i32
  let c32_i32_89 : BitVec 32 := 32#32
  let v329 : BitVec 32 := Scalar.muli v328 c32_i32_89
  let c24_i32_90 : BitVec 32 := 24#32
  let v330 : BitVec 32 := Scalar.addi v329 c24_i32_90
  v330
def k0_mult19 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_88 : BitVec 32 := 8#32
  let v327 : BitVec 32 := Scalar.muli v38 c8_i32_88
  let c4_i32 : BitVec 32 := 4#32
  let v328 : BitVec 32 := Scalar.addi v327 c4_i32
  let c32_i32_92 : BitVec 32 := 32#32
  let v337 : BitVec 32 := Scalar.muli v328 c32_i32_92
  let c0_i32_93 : BitVec 32 := 0#32
  let v338 : BitVec 32 := Scalar.addi v337 c0_i32_93
  v338
def k0_mult20 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_88 : BitVec 32 := 8#32
  let v327 : BitVec 32 := Scalar.muli v38 c8_i32_88
  let c4_i32 : BitVec 32 := 4#32
  let v328 : BitVec 32 := Scalar.addi v327 c4_i32
  let c32_i32_95 : BitVec 32 := 32#32
  let v355 : BitVec 32 := Scalar.muli v328 c32_i32_95
  let c8_i32_96 : BitVec 32 := 8#32
  let v356 : BitVec 32 := Scalar.addi v355 c8_i32_96
  v356
def k0_mult21 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_88 : BitVec 32 := 8#32
  let v327 : BitVec 32 := Scalar.muli v38 c8_i32_88
  let c4_i32 : BitVec 32 := 4#32
  let v328 : BitVec 32 := Scalar.addi v327 c4_i32
  let c32_i32_98 : BitVec 32 := 32#32
  let v374 : BitVec 32 := Scalar.muli v328 c32_i32_98
  let c16_i32_99 : BitVec 32 := 16#32
  let v375 : BitVec 32 := Scalar.addi v374 c16_i32_99
  v375
def k0_mult22 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_103 : BitVec 32 := 8#32
  let v399 : BitVec 32 := Scalar.muli v38 c8_i32_103
  let c5_i32 : BitVec 32 := 5#32
  let v400 : BitVec 32 := Scalar.addi v399 c5_i32
  let c32_i32_104 : BitVec 32 := 32#32
  let v401 : BitVec 32 := Scalar.muli v400 c32_i32_104
  let c24_i32_105 : BitVec 32 := 24#32
  let v402 : BitVec 32 := Scalar.addi v401 c24_i32_105
  v402
def k0_mult23 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_103 : BitVec 32 := 8#32
  let v399 : BitVec 32 := Scalar.muli v38 c8_i32_103
  let c5_i32 : BitVec 32 := 5#32
  let v400 : BitVec 32 := Scalar.addi v399 c5_i32
  let c32_i32_107 : BitVec 32 := 32#32
  let v409 : BitVec 32 := Scalar.muli v400 c32_i32_107
  let c0_i32_108 : BitVec 32 := 0#32
  let v410 : BitVec 32 := Scalar.addi v409 c0_i32_108
  v410
def k0_mult24 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_103 : BitVec 32 := 8#32
  let v399 : BitVec 32 := Scalar.muli v38 c8_i32_103
  let c5_i32 : BitVec 32 := 5#32
  let v400 : BitVec 32 := Scalar.addi v399 c5_i32
  let c32_i32_110 : BitVec 32 := 32#32
  let v427 : BitVec 32 := Scalar.muli v400 c32_i32_110
  let c8_i32_111 : BitVec 32 := 8#32
  let v428 : BitVec 32 := Scalar.addi v427 c8_i32_111
  v428
def k0_mult25 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_103 : BitVec 32 := 8#32
  let v399 : BitVec 32 := Scalar.muli v38 c8_i32_103
  let c5_i32 : BitVec 32 := 5#32
  let v400 : BitVec 32 := Scalar.addi v399 c5_i32
  let c32_i32_113 : BitVec 32 := 32#32
  let v446 : BitVec 32 := Scalar.muli v400 c32_i32_113
  let c16_i32_114 : BitVec 32 := 16#32
  let v447 : BitVec 32 := Scalar.addi v446 c16_i32_114
  v447
def k0_mult26 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_118 : BitVec 32 := 8#32
  let v471 : BitVec 32 := Scalar.muli v38 c8_i32_118
  let c6_i32 : BitVec 32 := 6#32
  let v472 : BitVec 32 := Scalar.addi v471 c6_i32
  let c32_i32_119 : BitVec 32 := 32#32
  let v473 : BitVec 32 := Scalar.muli v472 c32_i32_119
  let c24_i32_120 : BitVec 32 := 24#32
  let v474 : BitVec 32 := Scalar.addi v473 c24_i32_120
  v474
def k0_mult27 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_118 : BitVec 32 := 8#32
  let v471 : BitVec 32 := Scalar.muli v38 c8_i32_118
  let c6_i32 : BitVec 32 := 6#32
  let v472 : BitVec 32 := Scalar.addi v471 c6_i32
  let c32_i32_122 : BitVec 32 := 32#32
  let v481 : BitVec 32 := Scalar.muli v472 c32_i32_122
  let c0_i32_123 : BitVec 32 := 0#32
  let v482 : BitVec 32 := Scalar.addi v481 c0_i32_123
  v482
def k0_mult28 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_118 : BitVec 32 := 8#32
  let v471 : BitVec 32 := Scalar.muli v38 c8_i32_118
  let c6_i32 : BitVec 32 := 6#32
  let v472 : BitVec 32 := Scalar.addi v471 c6_i32
  let c32_i32_125 : BitVec 32 := 32#32
  let v499 : BitVec 32 := Scalar.muli v472 c32_i32_125
  let c8_i32_126 : BitVec 32 := 8#32
  let v500 : BitVec 32 := Scalar.addi v499 c8_i32_126
  v500
def k0_mult29 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_118 : BitVec 32 := 8#32
  let v471 : BitVec 32 := Scalar.muli v38 c8_i32_118
  let c6_i32 : BitVec 32 := 6#32
  let v472 : BitVec 32 := Scalar.addi v471 c6_i32
  let c32_i32_128 : BitVec 32 := 32#32
  let v518 : BitVec 32 := Scalar.muli v472 c32_i32_128
  let c16_i32_129 : BitVec 32 := 16#32
  let v519 : BitVec 32 := Scalar.addi v518 c16_i32_129
  v519
def k0_mult30 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_133 : BitVec 32 := 8#32
  let v543 : BitVec 32 := Scalar.muli v38 c8_i32_133
  let c7_i32 : BitVec 32 := 7#32
  let v544 : BitVec 32 := Scalar.addi v543 c7_i32
  let c32_i32_134 : BitVec 32 := 32#32
  let v545 : BitVec 32 := Scalar.muli v544 c32_i32_134
  let c24_i32_135 : BitVec 32 := 24#32
  let v546 : BitVec 32 := Scalar.addi v545 c24_i32_135
  v546
def k0_mult31 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_133 : BitVec 32 := 8#32
  let v543 : BitVec 32 := Scalar.muli v38 c8_i32_133
  let c7_i32 : BitVec 32 := 7#32
  let v544 : BitVec 32 := Scalar.addi v543 c7_i32
  let c32_i32_137 : BitVec 32 := 32#32
  let v553 : BitVec 32 := Scalar.muli v544 c32_i32_137
  let c0_i32_138 : BitVec 32 := 0#32
  let v554 : BitVec 32 := Scalar.addi v553 c0_i32_138
  v554
def k0_mult32 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_133 : BitVec 32 := 8#32
  let v543 : BitVec 32 := Scalar.muli v38 c8_i32_133
  let c7_i32 : BitVec 32 := 7#32
  let v544 : BitVec 32 := Scalar.addi v543 c7_i32
  let c32_i32_140 : BitVec 32 := 32#32
  let v571 : BitVec 32 := Scalar.muli v544 c32_i32_140
  let c8_i32_141 : BitVec 32 := 8#32
  let v572 : BitVec 32 := Scalar.addi v571 c8_i32_141
  v572
def k0_mult33 (k0_t2 : Fin k0_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k0_t2
  let c1_i32_26 : BitVec 32 := 1#32
  let v37 : BitVec 32 := Scalar.muli arg10 c1_i32_26
  let v38 : BitVec 32 := Scalar.addi c0_i32_27 v37
  let c8_i32_133 : BitVec 32 := 8#32
  let v543 : BitVec 32 := Scalar.muli v38 c8_i32_133
  let c7_i32 : BitVec 32 := 7#32
  let v544 : BitVec 32 := Scalar.addi v543 c7_i32
  let c32_i32_143 : BitVec 32 := 32#32
  let v590 : BitVec 32 := Scalar.muli v544 c32_i32_143
  let c16_i32_144 : BitVec 32 := 16#32
  let v591 : BitVec 32 := Scalar.addi v590 c16_i32_144
  v591
@[reducible] def k0_t3_loop : Scf.Loop 32 :=
  let c0_i32_20 : BitVec 32 := 0#32
  let c8_i32_21 : BitVec 32 := 8#32
  let v32 : BitVec 32 := Scalar.addi c0_i32_20 c8_i32_21
  let c1_i32_22 : BitVec 32 := 1#32
  ⟨c0_i32_20, v32, c1_i32_22⟩
def k0_mult34 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_26 : BitVec 32 := 8#32
  let v37 : BitVec 32 := Scalar.muli arg10 c8_i32_26
  let c0_i32_27 : BitVec 32 := 0#32
  let v38 : BitVec 32 := Scalar.addi v37 c0_i32_27
  let c32_i32 : BitVec 32 := 32#32
  let v39 : BitVec 32 := Scalar.muli v38 c32_i32
  let c24_i32 : BitVec 32 := 24#32
  let v40 : BitVec 32 := Scalar.addi v39 c24_i32
  v40
def k0_off4 (k0_t3 : Fin k0_t3_loop.trips) (c0_i32_27 : BitVec 32) (c24_i32 : BitVec 32) : Fin 2 → Nat :=
  let c0_i32_20 : BitVec 32 := 0#32
  let c1_i32_22 : BitVec 32 := 1#32
  let arg10 : BitVec 32 := Scf.iv c0_i32_20 c1_i32_22 k0_t3
  let c8_i32_26 : BitVec 32 := 8#32
  let v37 : BitVec 32 := Scalar.muli arg10 c8_i32_26
  let v38 : BitVec 32 := Scalar.addi v37 c0_i32_27
  let c32_i32 : BitVec 32 := 32#32
  let v39 : BitVec 32 := Scalar.muli v38 c32_i32
  let v40 : BitVec 32 := Scalar.addi v39 c24_i32
  let v41 : BitVec 32 := v40
  let v42 : Index := Scalar.indexCast v41
  let c0_28 : Index := 0#32
  ![v42.toNat, 0]
def k0_off5 (k0_t3 : Fin k0_t3_loop.trips) (c0_i32_27 : BitVec 32) : Fin 2 → Nat :=
  let c0_i32_20 : BitVec 32 := 0#32
  let c1_i32_22 : BitVec 32 := 1#32
  let arg10 : BitVec 32 := Scf.iv c0_i32_20 c1_i32_22 k0_t3
  let c8_i32_26 : BitVec 32 := 8#32
  let v37 : BitVec 32 := Scalar.muli arg10 c8_i32_26
  let v38 : BitVec 32 := Scalar.addi v37 c0_i32_27
  let v48 : Index := Scalar.indexCast v38
  let c0_29 : Index := 0#32
  ![v48.toNat, 0]
def k0_mult35 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_26 : BitVec 32 := 8#32
  let v37 : BitVec 32 := Scalar.muli arg10 c8_i32_26
  let c0_i32_27 : BitVec 32 := 0#32
  let v38 : BitVec 32 := Scalar.addi v37 c0_i32_27
  let c32_i32_30 : BitVec 32 := 32#32
  let v52 : BitVec 32 := Scalar.muli v38 c32_i32_30
  let c0_i32_31 : BitVec 32 := 0#32
  let v53 : BitVec 32 := Scalar.addi v52 c0_i32_31
  v53
def k0_mult36 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_26 : BitVec 32 := 8#32
  let v37 : BitVec 32 := Scalar.muli arg10 c8_i32_26
  let c0_i32_27 : BitVec 32 := 0#32
  let v38 : BitVec 32 := Scalar.addi v37 c0_i32_27
  let c32_i32_33 : BitVec 32 := 32#32
  let v63 : BitVec 32 := Scalar.muli v38 c32_i32_33
  let c8_i32_34 : BitVec 32 := 8#32
  let v64 : BitVec 32 := Scalar.addi v63 c8_i32_34
  v64
def k0_mult37 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_26 : BitVec 32 := 8#32
  let v37 : BitVec 32 := Scalar.muli arg10 c8_i32_26
  let c0_i32_27 : BitVec 32 := 0#32
  let v38 : BitVec 32 := Scalar.addi v37 c0_i32_27
  let c32_i32_36 : BitVec 32 := 32#32
  let v74 : BitVec 32 := Scalar.muli v38 c32_i32_36
  let c16_i32_37 : BitVec 32 := 16#32
  let v75 : BitVec 32 := Scalar.addi v74 c16_i32_37
  v75
def k0_mult38 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_39 : BitVec 32 := 8#32
  let v85 : BitVec 32 := Scalar.muli arg10 c8_i32_39
  let c1_i32_40 : BitVec 32 := 1#32
  let v86 : BitVec 32 := Scalar.addi v85 c1_i32_40
  let c32_i32_41 : BitVec 32 := 32#32
  let v87 : BitVec 32 := Scalar.muli v86 c32_i32_41
  let c24_i32_42 : BitVec 32 := 24#32
  let v88 : BitVec 32 := Scalar.addi v87 c24_i32_42
  v88
def k0_mult39 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_39 : BitVec 32 := 8#32
  let v85 : BitVec 32 := Scalar.muli arg10 c8_i32_39
  let c1_i32_40 : BitVec 32 := 1#32
  let v86 : BitVec 32 := Scalar.addi v85 c1_i32_40
  let c32_i32_45 : BitVec 32 := 32#32
  let v100 : BitVec 32 := Scalar.muli v86 c32_i32_45
  let c0_i32_46 : BitVec 32 := 0#32
  let v101 : BitVec 32 := Scalar.addi v100 c0_i32_46
  v101
def k0_mult40 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_39 : BitVec 32 := 8#32
  let v85 : BitVec 32 := Scalar.muli arg10 c8_i32_39
  let c1_i32_40 : BitVec 32 := 1#32
  let v86 : BitVec 32 := Scalar.addi v85 c1_i32_40
  let c32_i32_48 : BitVec 32 := 32#32
  let v111 : BitVec 32 := Scalar.muli v86 c32_i32_48
  let c8_i32_49 : BitVec 32 := 8#32
  let v112 : BitVec 32 := Scalar.addi v111 c8_i32_49
  v112
def k0_mult41 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_39 : BitVec 32 := 8#32
  let v85 : BitVec 32 := Scalar.muli arg10 c8_i32_39
  let c1_i32_40 : BitVec 32 := 1#32
  let v86 : BitVec 32 := Scalar.addi v85 c1_i32_40
  let c32_i32_51 : BitVec 32 := 32#32
  let v122 : BitVec 32 := Scalar.muli v86 c32_i32_51
  let c16_i32_52 : BitVec 32 := 16#32
  let v123 : BitVec 32 := Scalar.addi v122 c16_i32_52
  v123
def k0_mult42 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_54 : BitVec 32 := 8#32
  let v133 : BitVec 32 := Scalar.muli arg10 c8_i32_54
  let c2_i32 : BitVec 32 := 2#32
  let v134 : BitVec 32 := Scalar.addi v133 c2_i32
  let c32_i32_55 : BitVec 32 := 32#32
  let v135 : BitVec 32 := Scalar.muli v134 c32_i32_55
  let c24_i32_56 : BitVec 32 := 24#32
  let v136 : BitVec 32 := Scalar.addi v135 c24_i32_56
  v136
def k0_mult43 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_54 : BitVec 32 := 8#32
  let v133 : BitVec 32 := Scalar.muli arg10 c8_i32_54
  let c2_i32 : BitVec 32 := 2#32
  let v134 : BitVec 32 := Scalar.addi v133 c2_i32
  let c32_i32_59 : BitVec 32 := 32#32
  let v148 : BitVec 32 := Scalar.muli v134 c32_i32_59
  let c0_i32_60 : BitVec 32 := 0#32
  let v149 : BitVec 32 := Scalar.addi v148 c0_i32_60
  v149
def k0_mult44 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_54 : BitVec 32 := 8#32
  let v133 : BitVec 32 := Scalar.muli arg10 c8_i32_54
  let c2_i32 : BitVec 32 := 2#32
  let v134 : BitVec 32 := Scalar.addi v133 c2_i32
  let c32_i32_62 : BitVec 32 := 32#32
  let v159 : BitVec 32 := Scalar.muli v134 c32_i32_62
  let c8_i32_63 : BitVec 32 := 8#32
  let v160 : BitVec 32 := Scalar.addi v159 c8_i32_63
  v160
def k0_mult45 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_54 : BitVec 32 := 8#32
  let v133 : BitVec 32 := Scalar.muli arg10 c8_i32_54
  let c2_i32 : BitVec 32 := 2#32
  let v134 : BitVec 32 := Scalar.addi v133 c2_i32
  let c32_i32_65 : BitVec 32 := 32#32
  let v170 : BitVec 32 := Scalar.muli v134 c32_i32_65
  let c16_i32_66 : BitVec 32 := 16#32
  let v171 : BitVec 32 := Scalar.addi v170 c16_i32_66
  v171
def k0_mult46 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_68 : BitVec 32 := 8#32
  let v181 : BitVec 32 := Scalar.muli arg10 c8_i32_68
  let c3_i32 : BitVec 32 := 3#32
  let v182 : BitVec 32 := Scalar.addi v181 c3_i32
  let c32_i32_69 : BitVec 32 := 32#32
  let v183 : BitVec 32 := Scalar.muli v182 c32_i32_69
  let c24_i32_70 : BitVec 32 := 24#32
  let v184 : BitVec 32 := Scalar.addi v183 c24_i32_70
  v184
def k0_mult47 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_68 : BitVec 32 := 8#32
  let v181 : BitVec 32 := Scalar.muli arg10 c8_i32_68
  let c3_i32 : BitVec 32 := 3#32
  let v182 : BitVec 32 := Scalar.addi v181 c3_i32
  let c32_i32_73 : BitVec 32 := 32#32
  let v196 : BitVec 32 := Scalar.muli v182 c32_i32_73
  let c0_i32_74 : BitVec 32 := 0#32
  let v197 : BitVec 32 := Scalar.addi v196 c0_i32_74
  v197
def k0_mult48 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_68 : BitVec 32 := 8#32
  let v181 : BitVec 32 := Scalar.muli arg10 c8_i32_68
  let c3_i32 : BitVec 32 := 3#32
  let v182 : BitVec 32 := Scalar.addi v181 c3_i32
  let c32_i32_76 : BitVec 32 := 32#32
  let v207 : BitVec 32 := Scalar.muli v182 c32_i32_76
  let c8_i32_77 : BitVec 32 := 8#32
  let v208 : BitVec 32 := Scalar.addi v207 c8_i32_77
  v208
def k0_mult49 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_68 : BitVec 32 := 8#32
  let v181 : BitVec 32 := Scalar.muli arg10 c8_i32_68
  let c3_i32 : BitVec 32 := 3#32
  let v182 : BitVec 32 := Scalar.addi v181 c3_i32
  let c32_i32_79 : BitVec 32 := 32#32
  let v218 : BitVec 32 := Scalar.muli v182 c32_i32_79
  let c16_i32_80 : BitVec 32 := 16#32
  let v219 : BitVec 32 := Scalar.addi v218 c16_i32_80
  v219
def k0_mult50 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_82 : BitVec 32 := 8#32
  let v229 : BitVec 32 := Scalar.muli arg10 c8_i32_82
  let c4_i32 : BitVec 32 := 4#32
  let v230 : BitVec 32 := Scalar.addi v229 c4_i32
  let c32_i32_83 : BitVec 32 := 32#32
  let v231 : BitVec 32 := Scalar.muli v230 c32_i32_83
  let c24_i32_84 : BitVec 32 := 24#32
  let v232 : BitVec 32 := Scalar.addi v231 c24_i32_84
  v232
def k0_mult51 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_82 : BitVec 32 := 8#32
  let v229 : BitVec 32 := Scalar.muli arg10 c8_i32_82
  let c4_i32 : BitVec 32 := 4#32
  let v230 : BitVec 32 := Scalar.addi v229 c4_i32
  let c32_i32_87 : BitVec 32 := 32#32
  let v244 : BitVec 32 := Scalar.muli v230 c32_i32_87
  let c0_i32_88 : BitVec 32 := 0#32
  let v245 : BitVec 32 := Scalar.addi v244 c0_i32_88
  v245
def k0_mult52 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_82 : BitVec 32 := 8#32
  let v229 : BitVec 32 := Scalar.muli arg10 c8_i32_82
  let c4_i32 : BitVec 32 := 4#32
  let v230 : BitVec 32 := Scalar.addi v229 c4_i32
  let c32_i32_90 : BitVec 32 := 32#32
  let v255 : BitVec 32 := Scalar.muli v230 c32_i32_90
  let c8_i32_91 : BitVec 32 := 8#32
  let v256 : BitVec 32 := Scalar.addi v255 c8_i32_91
  v256
def k0_mult53 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_82 : BitVec 32 := 8#32
  let v229 : BitVec 32 := Scalar.muli arg10 c8_i32_82
  let c4_i32 : BitVec 32 := 4#32
  let v230 : BitVec 32 := Scalar.addi v229 c4_i32
  let c32_i32_93 : BitVec 32 := 32#32
  let v266 : BitVec 32 := Scalar.muli v230 c32_i32_93
  let c16_i32_94 : BitVec 32 := 16#32
  let v267 : BitVec 32 := Scalar.addi v266 c16_i32_94
  v267
def k0_mult54 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_96 : BitVec 32 := 8#32
  let v277 : BitVec 32 := Scalar.muli arg10 c8_i32_96
  let c5_i32 : BitVec 32 := 5#32
  let v278 : BitVec 32 := Scalar.addi v277 c5_i32
  let c32_i32_97 : BitVec 32 := 32#32
  let v279 : BitVec 32 := Scalar.muli v278 c32_i32_97
  let c24_i32_98 : BitVec 32 := 24#32
  let v280 : BitVec 32 := Scalar.addi v279 c24_i32_98
  v280
def k0_mult55 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_96 : BitVec 32 := 8#32
  let v277 : BitVec 32 := Scalar.muli arg10 c8_i32_96
  let c5_i32 : BitVec 32 := 5#32
  let v278 : BitVec 32 := Scalar.addi v277 c5_i32
  let c32_i32_101 : BitVec 32 := 32#32
  let v292 : BitVec 32 := Scalar.muli v278 c32_i32_101
  let c0_i32_102 : BitVec 32 := 0#32
  let v293 : BitVec 32 := Scalar.addi v292 c0_i32_102
  v293
def k0_mult56 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_96 : BitVec 32 := 8#32
  let v277 : BitVec 32 := Scalar.muli arg10 c8_i32_96
  let c5_i32 : BitVec 32 := 5#32
  let v278 : BitVec 32 := Scalar.addi v277 c5_i32
  let c32_i32_104 : BitVec 32 := 32#32
  let v303 : BitVec 32 := Scalar.muli v278 c32_i32_104
  let c8_i32_105 : BitVec 32 := 8#32
  let v304 : BitVec 32 := Scalar.addi v303 c8_i32_105
  v304
def k0_mult57 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_96 : BitVec 32 := 8#32
  let v277 : BitVec 32 := Scalar.muli arg10 c8_i32_96
  let c5_i32 : BitVec 32 := 5#32
  let v278 : BitVec 32 := Scalar.addi v277 c5_i32
  let c32_i32_107 : BitVec 32 := 32#32
  let v314 : BitVec 32 := Scalar.muli v278 c32_i32_107
  let c16_i32_108 : BitVec 32 := 16#32
  let v315 : BitVec 32 := Scalar.addi v314 c16_i32_108
  v315
def k0_mult58 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_110 : BitVec 32 := 8#32
  let v325 : BitVec 32 := Scalar.muli arg10 c8_i32_110
  let c6_i32 : BitVec 32 := 6#32
  let v326 : BitVec 32 := Scalar.addi v325 c6_i32
  let c32_i32_111 : BitVec 32 := 32#32
  let v327 : BitVec 32 := Scalar.muli v326 c32_i32_111
  let c24_i32_112 : BitVec 32 := 24#32
  let v328 : BitVec 32 := Scalar.addi v327 c24_i32_112
  v328
def k0_mult59 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_110 : BitVec 32 := 8#32
  let v325 : BitVec 32 := Scalar.muli arg10 c8_i32_110
  let c6_i32 : BitVec 32 := 6#32
  let v326 : BitVec 32 := Scalar.addi v325 c6_i32
  let c32_i32_115 : BitVec 32 := 32#32
  let v340 : BitVec 32 := Scalar.muli v326 c32_i32_115
  let c0_i32_116 : BitVec 32 := 0#32
  let v341 : BitVec 32 := Scalar.addi v340 c0_i32_116
  v341
def k0_mult60 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_110 : BitVec 32 := 8#32
  let v325 : BitVec 32 := Scalar.muli arg10 c8_i32_110
  let c6_i32 : BitVec 32 := 6#32
  let v326 : BitVec 32 := Scalar.addi v325 c6_i32
  let c32_i32_118 : BitVec 32 := 32#32
  let v351 : BitVec 32 := Scalar.muli v326 c32_i32_118
  let c8_i32_119 : BitVec 32 := 8#32
  let v352 : BitVec 32 := Scalar.addi v351 c8_i32_119
  v352
def k0_mult61 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_110 : BitVec 32 := 8#32
  let v325 : BitVec 32 := Scalar.muli arg10 c8_i32_110
  let c6_i32 : BitVec 32 := 6#32
  let v326 : BitVec 32 := Scalar.addi v325 c6_i32
  let c32_i32_121 : BitVec 32 := 32#32
  let v362 : BitVec 32 := Scalar.muli v326 c32_i32_121
  let c16_i32_122 : BitVec 32 := 16#32
  let v363 : BitVec 32 := Scalar.addi v362 c16_i32_122
  v363
def k0_mult62 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_124 : BitVec 32 := 8#32
  let v373 : BitVec 32 := Scalar.muli arg10 c8_i32_124
  let c7_i32 : BitVec 32 := 7#32
  let v374 : BitVec 32 := Scalar.addi v373 c7_i32
  let c32_i32_125 : BitVec 32 := 32#32
  let v375 : BitVec 32 := Scalar.muli v374 c32_i32_125
  let c24_i32_126 : BitVec 32 := 24#32
  let v376 : BitVec 32 := Scalar.addi v375 c24_i32_126
  v376
def k0_mult63 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_124 : BitVec 32 := 8#32
  let v373 : BitVec 32 := Scalar.muli arg10 c8_i32_124
  let c7_i32 : BitVec 32 := 7#32
  let v374 : BitVec 32 := Scalar.addi v373 c7_i32
  let c32_i32_129 : BitVec 32 := 32#32
  let v388 : BitVec 32 := Scalar.muli v374 c32_i32_129
  let c0_i32_130 : BitVec 32 := 0#32
  let v389 : BitVec 32 := Scalar.addi v388 c0_i32_130
  v389
def k0_mult64 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_124 : BitVec 32 := 8#32
  let v373 : BitVec 32 := Scalar.muli arg10 c8_i32_124
  let c7_i32 : BitVec 32 := 7#32
  let v374 : BitVec 32 := Scalar.addi v373 c7_i32
  let c32_i32_132 : BitVec 32 := 32#32
  let v399 : BitVec 32 := Scalar.muli v374 c32_i32_132
  let c8_i32_133 : BitVec 32 := 8#32
  let v400 : BitVec 32 := Scalar.addi v399 c8_i32_133
  v400
def k0_mult65 (k0_t3 : Fin k0_t3_loop.trips) : BitVec 32 :=
  let c0_i32_20 : BitVec 32 := 0#32
  let c1_i32_22 : BitVec 32 := 1#32
  let arg10 : BitVec 32 := Scf.iv c0_i32_20 c1_i32_22 k0_t3
  let c8_i32_124 : BitVec 32 := 8#32
  let v373 : BitVec 32 := Scalar.muli arg10 c8_i32_124
  let c7_i32 : BitVec 32 := 7#32
  let v374 : BitVec 32 := Scalar.addi v373 c7_i32
  let c32_i32_135 : BitVec 32 := 32#32
  let v410 : BitVec 32 := Scalar.muli v374 c32_i32_135
  let c16_i32_136 : BitVec 32 := 16#32
  let v411 : BitVec 32 := Scalar.addi v410 c16_i32_136
  v411
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S96x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![6], ![false]⟩

@[reducible] def k1_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k1_mult1 (k1_t1 : Fin k1_t1_loop.trips) : BitVec 32 :=
  let c0_i32_27 : BitVec 32 := 0#32
  let c0_i32 : BitVec 32 := 0#32
  let c1_i32 : BitVec 32 := 1#32
  let arg10 : BitVec 32 := Scf.iv c0_i32 c1_i32 k1_t1
  let c1_i32_26 : BitVec 32 := 1#32
  let v37 : BitVec 32 := Scalar.muli arg10 c1_i32_26
  let v38 : BitVec 32 := Scalar.addi c0_i32_27 v37
  let c128_i32 : BitVec 32 := 128#32
  let v39 : BitVec 32 := Scalar.muli v38 c128_i32
  v39
def k1_off1 (k1_t1 : Fin k1_t1_loop.trips) : Fin 2 → Nat :=
  let c0_i32_27 : BitVec 32 := 0#32
  let c0_i32 : BitVec 32 := 0#32
  let c1_i32 : BitVec 32 := 1#32
  let arg10 : BitVec 32 := Scf.iv c0_i32 c1_i32 k1_t1
  let c1_i32_26 : BitVec 32 := 1#32
  let v37 : BitVec 32 := Scalar.muli arg10 c1_i32_26
  let v38 : BitVec 32 := Scalar.addi c0_i32_27 v37
  let c128_i32 : BitVec 32 := 128#32
  let v39 : BitVec 32 := Scalar.muli v38 c128_i32
  let v40 : BitVec 32 := v39
  let v41 : Index := Scalar.indexCast v40
  let c0_28 : Index := 0#32
  ![v41.toNat, 0]
@[reducible] def k1_t2_loop : Scf.Loop 32 :=
  let c0_i32_2 : BitVec 32 := 0#32
  let c8_i32 : BitVec 32 := 8#32
  let v7 : BitVec 32 := Scalar.addi c0_i32_2 c8_i32
  let c1_i32_3 : BitVec 32 := 1#32
  ⟨c0_i32_2, v7, c1_i32_3⟩
def k1_mult2 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let c0_i32_29 : BitVec 32 := 0#32
  let v40 : BitVec 32 := Scalar.addi v39 c0_i32_29
  let c32_i32 : BitVec 32 := 32#32
  let v41 : BitVec 32 := Scalar.muli v40 c32_i32
  let c24_i32 : BitVec 32 := 24#32
  let v42 : BitVec 32 := Scalar.addi v41 c24_i32
  v42
def k1_off2 (k1_t2 : Fin k1_t2_loop.trips) (c0_i32_29 : BitVec 32) (c24_i32 : BitVec 32) : Fin 2 → Nat :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let v40 : BitVec 32 := Scalar.addi v39 c0_i32_29
  let c32_i32 : BitVec 32 := 32#32
  let v41 : BitVec 32 := Scalar.muli v40 c32_i32
  let v42 : BitVec 32 := Scalar.addi v41 c24_i32
  let v43 : BitVec 32 := v42
  let v44 : Index := Scalar.indexCast v43
  let c0_30 : Index := 0#32
  ![v44.toNat, 0]
def k1_mult3 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let c0_i32_29 : BitVec 32 := 0#32
  let v40 : BitVec 32 := Scalar.addi v39 c0_i32_29
  let c32_i32_31 : BitVec 32 := 32#32
  let v49 : BitVec 32 := Scalar.muli v40 c32_i32_31
  let c0_i32_32 : BitVec 32 := 0#32
  let v50 : BitVec 32 := Scalar.addi v49 c0_i32_32
  v50
def k1_mult4 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let c0_i32_29 : BitVec 32 := 0#32
  let v40 : BitVec 32 := Scalar.addi v39 c0_i32_29
  let c32_i32_34 : BitVec 32 := 32#32
  let v67 : BitVec 32 := Scalar.muli v40 c32_i32_34
  let c8_i32_35 : BitVec 32 := 8#32
  let v68 : BitVec 32 := Scalar.addi v67 c8_i32_35
  v68
def k1_mult5 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let c0_i32_29 : BitVec 32 := 0#32
  let v40 : BitVec 32 := Scalar.addi v39 c0_i32_29
  let c32_i32_37 : BitVec 32 := 32#32
  let v86 : BitVec 32 := Scalar.muli v40 c32_i32_37
  let c16_i32_38 : BitVec 32 := 16#32
  let v87 : BitVec 32 := Scalar.addi v86 c16_i32_38
  v87
def k1_off3 (k1_t2 : Fin k1_t2_loop.trips) (c0_i32_29 : BitVec 32) : Fin 2 → Nat :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let v40 : BitVec 32 := Scalar.addi v39 c0_i32_29
  let v107 : Index := Scalar.indexCast v40
  let c0_41 : Index := 0#32
  ![v107.toNat, 0]
def k1_mult6 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_42 : BitVec 32 := 8#32
  let v111 : BitVec 32 := Scalar.muli v38 c8_i32_42
  let c1_i32_43 : BitVec 32 := 1#32
  let v112 : BitVec 32 := Scalar.addi v111 c1_i32_43
  let c32_i32_44 : BitVec 32 := 32#32
  let v113 : BitVec 32 := Scalar.muli v112 c32_i32_44
  let c24_i32_45 : BitVec 32 := 24#32
  let v114 : BitVec 32 := Scalar.addi v113 c24_i32_45
  v114
def k1_mult7 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_42 : BitVec 32 := 8#32
  let v111 : BitVec 32 := Scalar.muli v38 c8_i32_42
  let c1_i32_43 : BitVec 32 := 1#32
  let v112 : BitVec 32 := Scalar.addi v111 c1_i32_43
  let c32_i32_47 : BitVec 32 := 32#32
  let v121 : BitVec 32 := Scalar.muli v112 c32_i32_47
  let c0_i32_48 : BitVec 32 := 0#32
  let v122 : BitVec 32 := Scalar.addi v121 c0_i32_48
  v122
def k1_mult8 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_42 : BitVec 32 := 8#32
  let v111 : BitVec 32 := Scalar.muli v38 c8_i32_42
  let c1_i32_43 : BitVec 32 := 1#32
  let v112 : BitVec 32 := Scalar.addi v111 c1_i32_43
  let c32_i32_50 : BitVec 32 := 32#32
  let v139 : BitVec 32 := Scalar.muli v112 c32_i32_50
  let c8_i32_51 : BitVec 32 := 8#32
  let v140 : BitVec 32 := Scalar.addi v139 c8_i32_51
  v140
def k1_mult9 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_42 : BitVec 32 := 8#32
  let v111 : BitVec 32 := Scalar.muli v38 c8_i32_42
  let c1_i32_43 : BitVec 32 := 1#32
  let v112 : BitVec 32 := Scalar.addi v111 c1_i32_43
  let c32_i32_53 : BitVec 32 := 32#32
  let v158 : BitVec 32 := Scalar.muli v112 c32_i32_53
  let c16_i32_54 : BitVec 32 := 16#32
  let v159 : BitVec 32 := Scalar.addi v158 c16_i32_54
  v159
def k1_mult10 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_58 : BitVec 32 := 8#32
  let v183 : BitVec 32 := Scalar.muli v38 c8_i32_58
  let c2_i32 : BitVec 32 := 2#32
  let v184 : BitVec 32 := Scalar.addi v183 c2_i32
  let c32_i32_59 : BitVec 32 := 32#32
  let v185 : BitVec 32 := Scalar.muli v184 c32_i32_59
  let c24_i32_60 : BitVec 32 := 24#32
  let v186 : BitVec 32 := Scalar.addi v185 c24_i32_60
  v186
def k1_mult11 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_58 : BitVec 32 := 8#32
  let v183 : BitVec 32 := Scalar.muli v38 c8_i32_58
  let c2_i32 : BitVec 32 := 2#32
  let v184 : BitVec 32 := Scalar.addi v183 c2_i32
  let c32_i32_62 : BitVec 32 := 32#32
  let v193 : BitVec 32 := Scalar.muli v184 c32_i32_62
  let c0_i32_63 : BitVec 32 := 0#32
  let v194 : BitVec 32 := Scalar.addi v193 c0_i32_63
  v194
def k1_mult12 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_58 : BitVec 32 := 8#32
  let v183 : BitVec 32 := Scalar.muli v38 c8_i32_58
  let c2_i32 : BitVec 32 := 2#32
  let v184 : BitVec 32 := Scalar.addi v183 c2_i32
  let c32_i32_65 : BitVec 32 := 32#32
  let v211 : BitVec 32 := Scalar.muli v184 c32_i32_65
  let c8_i32_66 : BitVec 32 := 8#32
  let v212 : BitVec 32 := Scalar.addi v211 c8_i32_66
  v212
def k1_mult13 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_58 : BitVec 32 := 8#32
  let v183 : BitVec 32 := Scalar.muli v38 c8_i32_58
  let c2_i32 : BitVec 32 := 2#32
  let v184 : BitVec 32 := Scalar.addi v183 c2_i32
  let c32_i32_68 : BitVec 32 := 32#32
  let v230 : BitVec 32 := Scalar.muli v184 c32_i32_68
  let c16_i32_69 : BitVec 32 := 16#32
  let v231 : BitVec 32 := Scalar.addi v230 c16_i32_69
  v231
def k1_mult14 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_73 : BitVec 32 := 8#32
  let v255 : BitVec 32 := Scalar.muli v38 c8_i32_73
  let c3_i32 : BitVec 32 := 3#32
  let v256 : BitVec 32 := Scalar.addi v255 c3_i32
  let c32_i32_74 : BitVec 32 := 32#32
  let v257 : BitVec 32 := Scalar.muli v256 c32_i32_74
  let c24_i32_75 : BitVec 32 := 24#32
  let v258 : BitVec 32 := Scalar.addi v257 c24_i32_75
  v258
def k1_mult15 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_73 : BitVec 32 := 8#32
  let v255 : BitVec 32 := Scalar.muli v38 c8_i32_73
  let c3_i32 : BitVec 32 := 3#32
  let v256 : BitVec 32 := Scalar.addi v255 c3_i32
  let c32_i32_77 : BitVec 32 := 32#32
  let v265 : BitVec 32 := Scalar.muli v256 c32_i32_77
  let c0_i32_78 : BitVec 32 := 0#32
  let v266 : BitVec 32 := Scalar.addi v265 c0_i32_78
  v266
def k1_mult16 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_73 : BitVec 32 := 8#32
  let v255 : BitVec 32 := Scalar.muli v38 c8_i32_73
  let c3_i32 : BitVec 32 := 3#32
  let v256 : BitVec 32 := Scalar.addi v255 c3_i32
  let c32_i32_80 : BitVec 32 := 32#32
  let v283 : BitVec 32 := Scalar.muli v256 c32_i32_80
  let c8_i32_81 : BitVec 32 := 8#32
  let v284 : BitVec 32 := Scalar.addi v283 c8_i32_81
  v284
def k1_mult17 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_73 : BitVec 32 := 8#32
  let v255 : BitVec 32 := Scalar.muli v38 c8_i32_73
  let c3_i32 : BitVec 32 := 3#32
  let v256 : BitVec 32 := Scalar.addi v255 c3_i32
  let c32_i32_83 : BitVec 32 := 32#32
  let v302 : BitVec 32 := Scalar.muli v256 c32_i32_83
  let c16_i32_84 : BitVec 32 := 16#32
  let v303 : BitVec 32 := Scalar.addi v302 c16_i32_84
  v303
def k1_mult18 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_88 : BitVec 32 := 8#32
  let v327 : BitVec 32 := Scalar.muli v38 c8_i32_88
  let c4_i32 : BitVec 32 := 4#32
  let v328 : BitVec 32 := Scalar.addi v327 c4_i32
  let c32_i32_89 : BitVec 32 := 32#32
  let v329 : BitVec 32 := Scalar.muli v328 c32_i32_89
  let c24_i32_90 : BitVec 32 := 24#32
  let v330 : BitVec 32 := Scalar.addi v329 c24_i32_90
  v330
def k1_mult19 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_88 : BitVec 32 := 8#32
  let v327 : BitVec 32 := Scalar.muli v38 c8_i32_88
  let c4_i32 : BitVec 32 := 4#32
  let v328 : BitVec 32 := Scalar.addi v327 c4_i32
  let c32_i32_92 : BitVec 32 := 32#32
  let v337 : BitVec 32 := Scalar.muli v328 c32_i32_92
  let c0_i32_93 : BitVec 32 := 0#32
  let v338 : BitVec 32 := Scalar.addi v337 c0_i32_93
  v338
def k1_mult20 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_88 : BitVec 32 := 8#32
  let v327 : BitVec 32 := Scalar.muli v38 c8_i32_88
  let c4_i32 : BitVec 32 := 4#32
  let v328 : BitVec 32 := Scalar.addi v327 c4_i32
  let c32_i32_95 : BitVec 32 := 32#32
  let v355 : BitVec 32 := Scalar.muli v328 c32_i32_95
  let c8_i32_96 : BitVec 32 := 8#32
  let v356 : BitVec 32 := Scalar.addi v355 c8_i32_96
  v356
def k1_mult21 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_88 : BitVec 32 := 8#32
  let v327 : BitVec 32 := Scalar.muli v38 c8_i32_88
  let c4_i32 : BitVec 32 := 4#32
  let v328 : BitVec 32 := Scalar.addi v327 c4_i32
  let c32_i32_98 : BitVec 32 := 32#32
  let v374 : BitVec 32 := Scalar.muli v328 c32_i32_98
  let c16_i32_99 : BitVec 32 := 16#32
  let v375 : BitVec 32 := Scalar.addi v374 c16_i32_99
  v375
def k1_mult22 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_103 : BitVec 32 := 8#32
  let v399 : BitVec 32 := Scalar.muli v38 c8_i32_103
  let c5_i32 : BitVec 32 := 5#32
  let v400 : BitVec 32 := Scalar.addi v399 c5_i32
  let c32_i32_104 : BitVec 32 := 32#32
  let v401 : BitVec 32 := Scalar.muli v400 c32_i32_104
  let c24_i32_105 : BitVec 32 := 24#32
  let v402 : BitVec 32 := Scalar.addi v401 c24_i32_105
  v402
def k1_mult23 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_103 : BitVec 32 := 8#32
  let v399 : BitVec 32 := Scalar.muli v38 c8_i32_103
  let c5_i32 : BitVec 32 := 5#32
  let v400 : BitVec 32 := Scalar.addi v399 c5_i32
  let c32_i32_107 : BitVec 32 := 32#32
  let v409 : BitVec 32 := Scalar.muli v400 c32_i32_107
  let c0_i32_108 : BitVec 32 := 0#32
  let v410 : BitVec 32 := Scalar.addi v409 c0_i32_108
  v410
def k1_mult24 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_103 : BitVec 32 := 8#32
  let v399 : BitVec 32 := Scalar.muli v38 c8_i32_103
  let c5_i32 : BitVec 32 := 5#32
  let v400 : BitVec 32 := Scalar.addi v399 c5_i32
  let c32_i32_110 : BitVec 32 := 32#32
  let v427 : BitVec 32 := Scalar.muli v400 c32_i32_110
  let c8_i32_111 : BitVec 32 := 8#32
  let v428 : BitVec 32 := Scalar.addi v427 c8_i32_111
  v428
def k1_mult25 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_103 : BitVec 32 := 8#32
  let v399 : BitVec 32 := Scalar.muli v38 c8_i32_103
  let c5_i32 : BitVec 32 := 5#32
  let v400 : BitVec 32 := Scalar.addi v399 c5_i32
  let c32_i32_113 : BitVec 32 := 32#32
  let v446 : BitVec 32 := Scalar.muli v400 c32_i32_113
  let c16_i32_114 : BitVec 32 := 16#32
  let v447 : BitVec 32 := Scalar.addi v446 c16_i32_114
  v447
def k1_mult26 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_118 : BitVec 32 := 8#32
  let v471 : BitVec 32 := Scalar.muli v38 c8_i32_118
  let c6_i32 : BitVec 32 := 6#32
  let v472 : BitVec 32 := Scalar.addi v471 c6_i32
  let c32_i32_119 : BitVec 32 := 32#32
  let v473 : BitVec 32 := Scalar.muli v472 c32_i32_119
  let c24_i32_120 : BitVec 32 := 24#32
  let v474 : BitVec 32 := Scalar.addi v473 c24_i32_120
  v474
def k1_mult27 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_118 : BitVec 32 := 8#32
  let v471 : BitVec 32 := Scalar.muli v38 c8_i32_118
  let c6_i32 : BitVec 32 := 6#32
  let v472 : BitVec 32 := Scalar.addi v471 c6_i32
  let c32_i32_122 : BitVec 32 := 32#32
  let v481 : BitVec 32 := Scalar.muli v472 c32_i32_122
  let c0_i32_123 : BitVec 32 := 0#32
  let v482 : BitVec 32 := Scalar.addi v481 c0_i32_123
  v482
def k1_mult28 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_118 : BitVec 32 := 8#32
  let v471 : BitVec 32 := Scalar.muli v38 c8_i32_118
  let c6_i32 : BitVec 32 := 6#32
  let v472 : BitVec 32 := Scalar.addi v471 c6_i32
  let c32_i32_125 : BitVec 32 := 32#32
  let v499 : BitVec 32 := Scalar.muli v472 c32_i32_125
  let c8_i32_126 : BitVec 32 := 8#32
  let v500 : BitVec 32 := Scalar.addi v499 c8_i32_126
  v500
def k1_mult29 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_118 : BitVec 32 := 8#32
  let v471 : BitVec 32 := Scalar.muli v38 c8_i32_118
  let c6_i32 : BitVec 32 := 6#32
  let v472 : BitVec 32 := Scalar.addi v471 c6_i32
  let c32_i32_128 : BitVec 32 := 32#32
  let v518 : BitVec 32 := Scalar.muli v472 c32_i32_128
  let c16_i32_129 : BitVec 32 := 16#32
  let v519 : BitVec 32 := Scalar.addi v518 c16_i32_129
  v519
def k1_mult30 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_133 : BitVec 32 := 8#32
  let v543 : BitVec 32 := Scalar.muli v38 c8_i32_133
  let c7_i32 : BitVec 32 := 7#32
  let v544 : BitVec 32 := Scalar.addi v543 c7_i32
  let c32_i32_134 : BitVec 32 := 32#32
  let v545 : BitVec 32 := Scalar.muli v544 c32_i32_134
  let c24_i32_135 : BitVec 32 := 24#32
  let v546 : BitVec 32 := Scalar.addi v545 c24_i32_135
  v546
def k1_mult31 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_133 : BitVec 32 := 8#32
  let v543 : BitVec 32 := Scalar.muli v38 c8_i32_133
  let c7_i32 : BitVec 32 := 7#32
  let v544 : BitVec 32 := Scalar.addi v543 c7_i32
  let c32_i32_137 : BitVec 32 := 32#32
  let v553 : BitVec 32 := Scalar.muli v544 c32_i32_137
  let c0_i32_138 : BitVec 32 := 0#32
  let v554 : BitVec 32 := Scalar.addi v553 c0_i32_138
  v554
def k1_mult32 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_133 : BitVec 32 := 8#32
  let v543 : BitVec 32 := Scalar.muli v38 c8_i32_133
  let c7_i32 : BitVec 32 := 7#32
  let v544 : BitVec 32 := Scalar.addi v543 c7_i32
  let c32_i32_140 : BitVec 32 := 32#32
  let v571 : BitVec 32 := Scalar.muli v544 c32_i32_140
  let c8_i32_141 : BitVec 32 := 8#32
  let v572 : BitVec 32 := Scalar.addi v571 c8_i32_141
  v572
def k1_mult33 (k1_t2 : Fin k1_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k1_t2
  let c1_i32_26 : BitVec 32 := 1#32
  let v37 : BitVec 32 := Scalar.muli arg10 c1_i32_26
  let v38 : BitVec 32 := Scalar.addi c0_i32_27 v37
  let c8_i32_133 : BitVec 32 := 8#32
  let v543 : BitVec 32 := Scalar.muli v38 c8_i32_133
  let c7_i32 : BitVec 32 := 7#32
  let v544 : BitVec 32 := Scalar.addi v543 c7_i32
  let c32_i32_143 : BitVec 32 := 32#32
  let v590 : BitVec 32 := Scalar.muli v544 c32_i32_143
  let c16_i32_144 : BitVec 32 := 16#32
  let v591 : BitVec 32 := Scalar.addi v590 c16_i32_144
  v591
@[reducible] def k1_t3_loop : Scf.Loop 32 :=
  let c0_i32_20 : BitVec 32 := 0#32
  let c8_i32_21 : BitVec 32 := 8#32
  let v32 : BitVec 32 := Scalar.addi c0_i32_20 c8_i32_21
  let c1_i32_22 : BitVec 32 := 1#32
  ⟨c0_i32_20, v32, c1_i32_22⟩
def k1_mult34 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_26 : BitVec 32 := 8#32
  let v37 : BitVec 32 := Scalar.muli arg10 c8_i32_26
  let c0_i32_27 : BitVec 32 := 0#32
  let v38 : BitVec 32 := Scalar.addi v37 c0_i32_27
  let c32_i32 : BitVec 32 := 32#32
  let v39 : BitVec 32 := Scalar.muli v38 c32_i32
  let c24_i32 : BitVec 32 := 24#32
  let v40 : BitVec 32 := Scalar.addi v39 c24_i32
  v40
def k1_off4 (k1_t3 : Fin k1_t3_loop.trips) (c0_i32_27 : BitVec 32) (c24_i32 : BitVec 32) : Fin 2 → Nat :=
  let c0_i32_20 : BitVec 32 := 0#32
  let c1_i32_22 : BitVec 32 := 1#32
  let arg10 : BitVec 32 := Scf.iv c0_i32_20 c1_i32_22 k1_t3
  let c8_i32_26 : BitVec 32 := 8#32
  let v37 : BitVec 32 := Scalar.muli arg10 c8_i32_26
  let v38 : BitVec 32 := Scalar.addi v37 c0_i32_27
  let c32_i32 : BitVec 32 := 32#32
  let v39 : BitVec 32 := Scalar.muli v38 c32_i32
  let v40 : BitVec 32 := Scalar.addi v39 c24_i32
  let v41 : BitVec 32 := v40
  let v42 : Index := Scalar.indexCast v41
  let c0_28 : Index := 0#32
  ![v42.toNat, 0]
def k1_off5 (k1_t3 : Fin k1_t3_loop.trips) (c0_i32_27 : BitVec 32) : Fin 2 → Nat :=
  let c0_i32_20 : BitVec 32 := 0#32
  let c1_i32_22 : BitVec 32 := 1#32
  let arg10 : BitVec 32 := Scf.iv c0_i32_20 c1_i32_22 k1_t3
  let c8_i32_26 : BitVec 32 := 8#32
  let v37 : BitVec 32 := Scalar.muli arg10 c8_i32_26
  let v38 : BitVec 32 := Scalar.addi v37 c0_i32_27
  let v48 : Index := Scalar.indexCast v38
  let c0_29 : Index := 0#32
  ![v48.toNat, 0]
def k1_mult35 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_26 : BitVec 32 := 8#32
  let v37 : BitVec 32 := Scalar.muli arg10 c8_i32_26
  let c0_i32_27 : BitVec 32 := 0#32
  let v38 : BitVec 32 := Scalar.addi v37 c0_i32_27
  let c32_i32_30 : BitVec 32 := 32#32
  let v52 : BitVec 32 := Scalar.muli v38 c32_i32_30
  let c0_i32_31 : BitVec 32 := 0#32
  let v53 : BitVec 32 := Scalar.addi v52 c0_i32_31
  v53
def k1_mult36 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_26 : BitVec 32 := 8#32
  let v37 : BitVec 32 := Scalar.muli arg10 c8_i32_26
  let c0_i32_27 : BitVec 32 := 0#32
  let v38 : BitVec 32 := Scalar.addi v37 c0_i32_27
  let c32_i32_33 : BitVec 32 := 32#32
  let v63 : BitVec 32 := Scalar.muli v38 c32_i32_33
  let c8_i32_34 : BitVec 32 := 8#32
  let v64 : BitVec 32 := Scalar.addi v63 c8_i32_34
  v64
def k1_mult37 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_26 : BitVec 32 := 8#32
  let v37 : BitVec 32 := Scalar.muli arg10 c8_i32_26
  let c0_i32_27 : BitVec 32 := 0#32
  let v38 : BitVec 32 := Scalar.addi v37 c0_i32_27
  let c32_i32_36 : BitVec 32 := 32#32
  let v74 : BitVec 32 := Scalar.muli v38 c32_i32_36
  let c16_i32_37 : BitVec 32 := 16#32
  let v75 : BitVec 32 := Scalar.addi v74 c16_i32_37
  v75
def k1_mult38 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_39 : BitVec 32 := 8#32
  let v85 : BitVec 32 := Scalar.muli arg10 c8_i32_39
  let c1_i32_40 : BitVec 32 := 1#32
  let v86 : BitVec 32 := Scalar.addi v85 c1_i32_40
  let c32_i32_41 : BitVec 32 := 32#32
  let v87 : BitVec 32 := Scalar.muli v86 c32_i32_41
  let c24_i32_42 : BitVec 32 := 24#32
  let v88 : BitVec 32 := Scalar.addi v87 c24_i32_42
  v88
def k1_mult39 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_39 : BitVec 32 := 8#32
  let v85 : BitVec 32 := Scalar.muli arg10 c8_i32_39
  let c1_i32_40 : BitVec 32 := 1#32
  let v86 : BitVec 32 := Scalar.addi v85 c1_i32_40
  let c32_i32_45 : BitVec 32 := 32#32
  let v100 : BitVec 32 := Scalar.muli v86 c32_i32_45
  let c0_i32_46 : BitVec 32 := 0#32
  let v101 : BitVec 32 := Scalar.addi v100 c0_i32_46
  v101
def k1_mult40 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_39 : BitVec 32 := 8#32
  let v85 : BitVec 32 := Scalar.muli arg10 c8_i32_39
  let c1_i32_40 : BitVec 32 := 1#32
  let v86 : BitVec 32 := Scalar.addi v85 c1_i32_40
  let c32_i32_48 : BitVec 32 := 32#32
  let v111 : BitVec 32 := Scalar.muli v86 c32_i32_48
  let c8_i32_49 : BitVec 32 := 8#32
  let v112 : BitVec 32 := Scalar.addi v111 c8_i32_49
  v112
def k1_mult41 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_39 : BitVec 32 := 8#32
  let v85 : BitVec 32 := Scalar.muli arg10 c8_i32_39
  let c1_i32_40 : BitVec 32 := 1#32
  let v86 : BitVec 32 := Scalar.addi v85 c1_i32_40
  let c32_i32_51 : BitVec 32 := 32#32
  let v122 : BitVec 32 := Scalar.muli v86 c32_i32_51
  let c16_i32_52 : BitVec 32 := 16#32
  let v123 : BitVec 32 := Scalar.addi v122 c16_i32_52
  v123
def k1_mult42 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_54 : BitVec 32 := 8#32
  let v133 : BitVec 32 := Scalar.muli arg10 c8_i32_54
  let c2_i32 : BitVec 32 := 2#32
  let v134 : BitVec 32 := Scalar.addi v133 c2_i32
  let c32_i32_55 : BitVec 32 := 32#32
  let v135 : BitVec 32 := Scalar.muli v134 c32_i32_55
  let c24_i32_56 : BitVec 32 := 24#32
  let v136 : BitVec 32 := Scalar.addi v135 c24_i32_56
  v136
def k1_mult43 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_54 : BitVec 32 := 8#32
  let v133 : BitVec 32 := Scalar.muli arg10 c8_i32_54
  let c2_i32 : BitVec 32 := 2#32
  let v134 : BitVec 32 := Scalar.addi v133 c2_i32
  let c32_i32_59 : BitVec 32 := 32#32
  let v148 : BitVec 32 := Scalar.muli v134 c32_i32_59
  let c0_i32_60 : BitVec 32 := 0#32
  let v149 : BitVec 32 := Scalar.addi v148 c0_i32_60
  v149
def k1_mult44 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_54 : BitVec 32 := 8#32
  let v133 : BitVec 32 := Scalar.muli arg10 c8_i32_54
  let c2_i32 : BitVec 32 := 2#32
  let v134 : BitVec 32 := Scalar.addi v133 c2_i32
  let c32_i32_62 : BitVec 32 := 32#32
  let v159 : BitVec 32 := Scalar.muli v134 c32_i32_62
  let c8_i32_63 : BitVec 32 := 8#32
  let v160 : BitVec 32 := Scalar.addi v159 c8_i32_63
  v160
def k1_mult45 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_54 : BitVec 32 := 8#32
  let v133 : BitVec 32 := Scalar.muli arg10 c8_i32_54
  let c2_i32 : BitVec 32 := 2#32
  let v134 : BitVec 32 := Scalar.addi v133 c2_i32
  let c32_i32_65 : BitVec 32 := 32#32
  let v170 : BitVec 32 := Scalar.muli v134 c32_i32_65
  let c16_i32_66 : BitVec 32 := 16#32
  let v171 : BitVec 32 := Scalar.addi v170 c16_i32_66
  v171
def k1_mult46 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_68 : BitVec 32 := 8#32
  let v181 : BitVec 32 := Scalar.muli arg10 c8_i32_68
  let c3_i32 : BitVec 32 := 3#32
  let v182 : BitVec 32 := Scalar.addi v181 c3_i32
  let c32_i32_69 : BitVec 32 := 32#32
  let v183 : BitVec 32 := Scalar.muli v182 c32_i32_69
  let c24_i32_70 : BitVec 32 := 24#32
  let v184 : BitVec 32 := Scalar.addi v183 c24_i32_70
  v184
def k1_mult47 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_68 : BitVec 32 := 8#32
  let v181 : BitVec 32 := Scalar.muli arg10 c8_i32_68
  let c3_i32 : BitVec 32 := 3#32
  let v182 : BitVec 32 := Scalar.addi v181 c3_i32
  let c32_i32_73 : BitVec 32 := 32#32
  let v196 : BitVec 32 := Scalar.muli v182 c32_i32_73
  let c0_i32_74 : BitVec 32 := 0#32
  let v197 : BitVec 32 := Scalar.addi v196 c0_i32_74
  v197
def k1_mult48 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_68 : BitVec 32 := 8#32
  let v181 : BitVec 32 := Scalar.muli arg10 c8_i32_68
  let c3_i32 : BitVec 32 := 3#32
  let v182 : BitVec 32 := Scalar.addi v181 c3_i32
  let c32_i32_76 : BitVec 32 := 32#32
  let v207 : BitVec 32 := Scalar.muli v182 c32_i32_76
  let c8_i32_77 : BitVec 32 := 8#32
  let v208 : BitVec 32 := Scalar.addi v207 c8_i32_77
  v208
def k1_mult49 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_68 : BitVec 32 := 8#32
  let v181 : BitVec 32 := Scalar.muli arg10 c8_i32_68
  let c3_i32 : BitVec 32 := 3#32
  let v182 : BitVec 32 := Scalar.addi v181 c3_i32
  let c32_i32_79 : BitVec 32 := 32#32
  let v218 : BitVec 32 := Scalar.muli v182 c32_i32_79
  let c16_i32_80 : BitVec 32 := 16#32
  let v219 : BitVec 32 := Scalar.addi v218 c16_i32_80
  v219
def k1_mult50 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_82 : BitVec 32 := 8#32
  let v229 : BitVec 32 := Scalar.muli arg10 c8_i32_82
  let c4_i32 : BitVec 32 := 4#32
  let v230 : BitVec 32 := Scalar.addi v229 c4_i32
  let c32_i32_83 : BitVec 32 := 32#32
  let v231 : BitVec 32 := Scalar.muli v230 c32_i32_83
  let c24_i32_84 : BitVec 32 := 24#32
  let v232 : BitVec 32 := Scalar.addi v231 c24_i32_84
  v232
def k1_mult51 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_82 : BitVec 32 := 8#32
  let v229 : BitVec 32 := Scalar.muli arg10 c8_i32_82
  let c4_i32 : BitVec 32 := 4#32
  let v230 : BitVec 32 := Scalar.addi v229 c4_i32
  let c32_i32_87 : BitVec 32 := 32#32
  let v244 : BitVec 32 := Scalar.muli v230 c32_i32_87
  let c0_i32_88 : BitVec 32 := 0#32
  let v245 : BitVec 32 := Scalar.addi v244 c0_i32_88
  v245
def k1_mult52 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_82 : BitVec 32 := 8#32
  let v229 : BitVec 32 := Scalar.muli arg10 c8_i32_82
  let c4_i32 : BitVec 32 := 4#32
  let v230 : BitVec 32 := Scalar.addi v229 c4_i32
  let c32_i32_90 : BitVec 32 := 32#32
  let v255 : BitVec 32 := Scalar.muli v230 c32_i32_90
  let c8_i32_91 : BitVec 32 := 8#32
  let v256 : BitVec 32 := Scalar.addi v255 c8_i32_91
  v256
def k1_mult53 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_82 : BitVec 32 := 8#32
  let v229 : BitVec 32 := Scalar.muli arg10 c8_i32_82
  let c4_i32 : BitVec 32 := 4#32
  let v230 : BitVec 32 := Scalar.addi v229 c4_i32
  let c32_i32_93 : BitVec 32 := 32#32
  let v266 : BitVec 32 := Scalar.muli v230 c32_i32_93
  let c16_i32_94 : BitVec 32 := 16#32
  let v267 : BitVec 32 := Scalar.addi v266 c16_i32_94
  v267
def k1_mult54 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_96 : BitVec 32 := 8#32
  let v277 : BitVec 32 := Scalar.muli arg10 c8_i32_96
  let c5_i32 : BitVec 32 := 5#32
  let v278 : BitVec 32 := Scalar.addi v277 c5_i32
  let c32_i32_97 : BitVec 32 := 32#32
  let v279 : BitVec 32 := Scalar.muli v278 c32_i32_97
  let c24_i32_98 : BitVec 32 := 24#32
  let v280 : BitVec 32 := Scalar.addi v279 c24_i32_98
  v280
def k1_mult55 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_96 : BitVec 32 := 8#32
  let v277 : BitVec 32 := Scalar.muli arg10 c8_i32_96
  let c5_i32 : BitVec 32 := 5#32
  let v278 : BitVec 32 := Scalar.addi v277 c5_i32
  let c32_i32_101 : BitVec 32 := 32#32
  let v292 : BitVec 32 := Scalar.muli v278 c32_i32_101
  let c0_i32_102 : BitVec 32 := 0#32
  let v293 : BitVec 32 := Scalar.addi v292 c0_i32_102
  v293
def k1_mult56 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_96 : BitVec 32 := 8#32
  let v277 : BitVec 32 := Scalar.muli arg10 c8_i32_96
  let c5_i32 : BitVec 32 := 5#32
  let v278 : BitVec 32 := Scalar.addi v277 c5_i32
  let c32_i32_104 : BitVec 32 := 32#32
  let v303 : BitVec 32 := Scalar.muli v278 c32_i32_104
  let c8_i32_105 : BitVec 32 := 8#32
  let v304 : BitVec 32 := Scalar.addi v303 c8_i32_105
  v304
def k1_mult57 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_96 : BitVec 32 := 8#32
  let v277 : BitVec 32 := Scalar.muli arg10 c8_i32_96
  let c5_i32 : BitVec 32 := 5#32
  let v278 : BitVec 32 := Scalar.addi v277 c5_i32
  let c32_i32_107 : BitVec 32 := 32#32
  let v314 : BitVec 32 := Scalar.muli v278 c32_i32_107
  let c16_i32_108 : BitVec 32 := 16#32
  let v315 : BitVec 32 := Scalar.addi v314 c16_i32_108
  v315
def k1_mult58 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_110 : BitVec 32 := 8#32
  let v325 : BitVec 32 := Scalar.muli arg10 c8_i32_110
  let c6_i32 : BitVec 32 := 6#32
  let v326 : BitVec 32 := Scalar.addi v325 c6_i32
  let c32_i32_111 : BitVec 32 := 32#32
  let v327 : BitVec 32 := Scalar.muli v326 c32_i32_111
  let c24_i32_112 : BitVec 32 := 24#32
  let v328 : BitVec 32 := Scalar.addi v327 c24_i32_112
  v328
def k1_mult59 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_110 : BitVec 32 := 8#32
  let v325 : BitVec 32 := Scalar.muli arg10 c8_i32_110
  let c6_i32 : BitVec 32 := 6#32
  let v326 : BitVec 32 := Scalar.addi v325 c6_i32
  let c32_i32_115 : BitVec 32 := 32#32
  let v340 : BitVec 32 := Scalar.muli v326 c32_i32_115
  let c0_i32_116 : BitVec 32 := 0#32
  let v341 : BitVec 32 := Scalar.addi v340 c0_i32_116
  v341
def k1_mult60 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_110 : BitVec 32 := 8#32
  let v325 : BitVec 32 := Scalar.muli arg10 c8_i32_110
  let c6_i32 : BitVec 32 := 6#32
  let v326 : BitVec 32 := Scalar.addi v325 c6_i32
  let c32_i32_118 : BitVec 32 := 32#32
  let v351 : BitVec 32 := Scalar.muli v326 c32_i32_118
  let c8_i32_119 : BitVec 32 := 8#32
  let v352 : BitVec 32 := Scalar.addi v351 c8_i32_119
  v352
def k1_mult61 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_110 : BitVec 32 := 8#32
  let v325 : BitVec 32 := Scalar.muli arg10 c8_i32_110
  let c6_i32 : BitVec 32 := 6#32
  let v326 : BitVec 32 := Scalar.addi v325 c6_i32
  let c32_i32_121 : BitVec 32 := 32#32
  let v362 : BitVec 32 := Scalar.muli v326 c32_i32_121
  let c16_i32_122 : BitVec 32 := 16#32
  let v363 : BitVec 32 := Scalar.addi v362 c16_i32_122
  v363
def k1_mult62 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_124 : BitVec 32 := 8#32
  let v373 : BitVec 32 := Scalar.muli arg10 c8_i32_124
  let c7_i32 : BitVec 32 := 7#32
  let v374 : BitVec 32 := Scalar.addi v373 c7_i32
  let c32_i32_125 : BitVec 32 := 32#32
  let v375 : BitVec 32 := Scalar.muli v374 c32_i32_125
  let c24_i32_126 : BitVec 32 := 24#32
  let v376 : BitVec 32 := Scalar.addi v375 c24_i32_126
  v376
def k1_mult63 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_124 : BitVec 32 := 8#32
  let v373 : BitVec 32 := Scalar.muli arg10 c8_i32_124
  let c7_i32 : BitVec 32 := 7#32
  let v374 : BitVec 32 := Scalar.addi v373 c7_i32
  let c32_i32_129 : BitVec 32 := 32#32
  let v388 : BitVec 32 := Scalar.muli v374 c32_i32_129
  let c0_i32_130 : BitVec 32 := 0#32
  let v389 : BitVec 32 := Scalar.addi v388 c0_i32_130
  v389
def k1_mult64 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_124 : BitVec 32 := 8#32
  let v373 : BitVec 32 := Scalar.muli arg10 c8_i32_124
  let c7_i32 : BitVec 32 := 7#32
  let v374 : BitVec 32 := Scalar.addi v373 c7_i32
  let c32_i32_132 : BitVec 32 := 32#32
  let v399 : BitVec 32 := Scalar.muli v374 c32_i32_132
  let c8_i32_133 : BitVec 32 := 8#32
  let v400 : BitVec 32 := Scalar.addi v399 c8_i32_133
  v400
def k1_mult65 (k1_t3 : Fin k1_t3_loop.trips) : BitVec 32 :=
  let c0_i32_20 : BitVec 32 := 0#32
  let c1_i32_22 : BitVec 32 := 1#32
  let arg10 : BitVec 32 := Scf.iv c0_i32_20 c1_i32_22 k1_t3
  let c8_i32_124 : BitVec 32 := 8#32
  let v373 : BitVec 32 := Scalar.muli arg10 c8_i32_124
  let c7_i32 : BitVec 32 := 7#32
  let v374 : BitVec 32 := Scalar.addi v373 c7_i32
  let c32_i32_135 : BitVec 32 := 32#32
  let v410 : BitVec 32 := Scalar.muli v374 c32_i32_135
  let c16_i32_136 : BitVec 32 := 16#32
  let v411 : BitVec 32 := Scalar.addi v410 c16_i32_136
  v411
def cc1_transform_0 (i : grid1.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S96x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x64 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S96x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![6], ![false]⟩

@[reducible] def k2_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k2_mult1 (k2_t1 : Fin k2_t1_loop.trips) : BitVec 32 :=
  let c0_i32_27 : BitVec 32 := 0#32
  let c0_i32 : BitVec 32 := 0#32
  let c1_i32 : BitVec 32 := 1#32
  let arg10 : BitVec 32 := Scf.iv c0_i32 c1_i32 k2_t1
  let c1_i32_26 : BitVec 32 := 1#32
  let v37 : BitVec 32 := Scalar.muli arg10 c1_i32_26
  let v38 : BitVec 32 := Scalar.addi c0_i32_27 v37
  let c128_i32 : BitVec 32 := 128#32
  let v39 : BitVec 32 := Scalar.muli v38 c128_i32
  v39
def k2_off1 (k2_t1 : Fin k2_t1_loop.trips) : Fin 2 → Nat :=
  let c0_i32_27 : BitVec 32 := 0#32
  let c0_i32 : BitVec 32 := 0#32
  let c1_i32 : BitVec 32 := 1#32
  let arg10 : BitVec 32 := Scf.iv c0_i32 c1_i32 k2_t1
  let c1_i32_26 : BitVec 32 := 1#32
  let v37 : BitVec 32 := Scalar.muli arg10 c1_i32_26
  let v38 : BitVec 32 := Scalar.addi c0_i32_27 v37
  let c128_i32 : BitVec 32 := 128#32
  let v39 : BitVec 32 := Scalar.muli v38 c128_i32
  let v40 : BitVec 32 := v39
  let v41 : Index := Scalar.indexCast v40
  let c0_28 : Index := 0#32
  ![v41.toNat, 0]
@[reducible] def k2_t2_loop : Scf.Loop 32 :=
  let c0_i32_2 : BitVec 32 := 0#32
  let c8_i32 : BitVec 32 := 8#32
  let v7 : BitVec 32 := Scalar.addi c0_i32_2 c8_i32
  let c1_i32_3 : BitVec 32 := 1#32
  ⟨c0_i32_2, v7, c1_i32_3⟩
def k2_mult2 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let c0_i32_29 : BitVec 32 := 0#32
  let v40 : BitVec 32 := Scalar.addi v39 c0_i32_29
  let c32_i32 : BitVec 32 := 32#32
  let v41 : BitVec 32 := Scalar.muli v40 c32_i32
  let c24_i32 : BitVec 32 := 24#32
  let v42 : BitVec 32 := Scalar.addi v41 c24_i32
  v42
def k2_off2 (k2_t2 : Fin k2_t2_loop.trips) (c0_i32_29 : BitVec 32) (c24_i32 : BitVec 32) : Fin 2 → Nat :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let v40 : BitVec 32 := Scalar.addi v39 c0_i32_29
  let c32_i32 : BitVec 32 := 32#32
  let v41 : BitVec 32 := Scalar.muli v40 c32_i32
  let v42 : BitVec 32 := Scalar.addi v41 c24_i32
  let v43 : BitVec 32 := v42
  let v44 : Index := Scalar.indexCast v43
  let c0_30 : Index := 0#32
  ![v44.toNat, 0]
def k2_mult3 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let c0_i32_29 : BitVec 32 := 0#32
  let v40 : BitVec 32 := Scalar.addi v39 c0_i32_29
  let c32_i32_31 : BitVec 32 := 32#32
  let v49 : BitVec 32 := Scalar.muli v40 c32_i32_31
  let c0_i32_32 : BitVec 32 := 0#32
  let v50 : BitVec 32 := Scalar.addi v49 c0_i32_32
  v50
def k2_mult4 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let c0_i32_29 : BitVec 32 := 0#32
  let v40 : BitVec 32 := Scalar.addi v39 c0_i32_29
  let c32_i32_34 : BitVec 32 := 32#32
  let v67 : BitVec 32 := Scalar.muli v40 c32_i32_34
  let c8_i32_35 : BitVec 32 := 8#32
  let v68 : BitVec 32 := Scalar.addi v67 c8_i32_35
  v68
def k2_mult5 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let c0_i32_29 : BitVec 32 := 0#32
  let v40 : BitVec 32 := Scalar.addi v39 c0_i32_29
  let c32_i32_37 : BitVec 32 := 32#32
  let v86 : BitVec 32 := Scalar.muli v40 c32_i32_37
  let c16_i32_38 : BitVec 32 := 16#32
  let v87 : BitVec 32 := Scalar.addi v86 c16_i32_38
  v87
def k2_off3 (k2_t2 : Fin k2_t2_loop.trips) (c0_i32_29 : BitVec 32) : Fin 2 → Nat :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let v40 : BitVec 32 := Scalar.addi v39 c0_i32_29
  let v107 : Index := Scalar.indexCast v40
  let c0_41 : Index := 0#32
  ![v107.toNat, 0]
def k2_mult6 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_42 : BitVec 32 := 8#32
  let v111 : BitVec 32 := Scalar.muli v38 c8_i32_42
  let c1_i32_43 : BitVec 32 := 1#32
  let v112 : BitVec 32 := Scalar.addi v111 c1_i32_43
  let c32_i32_44 : BitVec 32 := 32#32
  let v113 : BitVec 32 := Scalar.muli v112 c32_i32_44
  let c24_i32_45 : BitVec 32 := 24#32
  let v114 : BitVec 32 := Scalar.addi v113 c24_i32_45
  v114
def k2_mult7 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_42 : BitVec 32 := 8#32
  let v111 : BitVec 32 := Scalar.muli v38 c8_i32_42
  let c1_i32_43 : BitVec 32 := 1#32
  let v112 : BitVec 32 := Scalar.addi v111 c1_i32_43
  let c32_i32_47 : BitVec 32 := 32#32
  let v121 : BitVec 32 := Scalar.muli v112 c32_i32_47
  let c0_i32_48 : BitVec 32 := 0#32
  let v122 : BitVec 32 := Scalar.addi v121 c0_i32_48
  v122
def k2_mult8 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_42 : BitVec 32 := 8#32
  let v111 : BitVec 32 := Scalar.muli v38 c8_i32_42
  let c1_i32_43 : BitVec 32 := 1#32
  let v112 : BitVec 32 := Scalar.addi v111 c1_i32_43
  let c32_i32_50 : BitVec 32 := 32#32
  let v139 : BitVec 32 := Scalar.muli v112 c32_i32_50
  let c8_i32_51 : BitVec 32 := 8#32
  let v140 : BitVec 32 := Scalar.addi v139 c8_i32_51
  v140
def k2_mult9 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_42 : BitVec 32 := 8#32
  let v111 : BitVec 32 := Scalar.muli v38 c8_i32_42
  let c1_i32_43 : BitVec 32 := 1#32
  let v112 : BitVec 32 := Scalar.addi v111 c1_i32_43
  let c32_i32_53 : BitVec 32 := 32#32
  let v158 : BitVec 32 := Scalar.muli v112 c32_i32_53
  let c16_i32_54 : BitVec 32 := 16#32
  let v159 : BitVec 32 := Scalar.addi v158 c16_i32_54
  v159
def k2_mult10 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_58 : BitVec 32 := 8#32
  let v183 : BitVec 32 := Scalar.muli v38 c8_i32_58
  let c2_i32 : BitVec 32 := 2#32
  let v184 : BitVec 32 := Scalar.addi v183 c2_i32
  let c32_i32_59 : BitVec 32 := 32#32
  let v185 : BitVec 32 := Scalar.muli v184 c32_i32_59
  let c24_i32_60 : BitVec 32 := 24#32
  let v186 : BitVec 32 := Scalar.addi v185 c24_i32_60
  v186
def k2_mult11 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_58 : BitVec 32 := 8#32
  let v183 : BitVec 32 := Scalar.muli v38 c8_i32_58
  let c2_i32 : BitVec 32 := 2#32
  let v184 : BitVec 32 := Scalar.addi v183 c2_i32
  let c32_i32_62 : BitVec 32 := 32#32
  let v193 : BitVec 32 := Scalar.muli v184 c32_i32_62
  let c0_i32_63 : BitVec 32 := 0#32
  let v194 : BitVec 32 := Scalar.addi v193 c0_i32_63
  v194
def k2_mult12 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_58 : BitVec 32 := 8#32
  let v183 : BitVec 32 := Scalar.muli v38 c8_i32_58
  let c2_i32 : BitVec 32 := 2#32
  let v184 : BitVec 32 := Scalar.addi v183 c2_i32
  let c32_i32_65 : BitVec 32 := 32#32
  let v211 : BitVec 32 := Scalar.muli v184 c32_i32_65
  let c8_i32_66 : BitVec 32 := 8#32
  let v212 : BitVec 32 := Scalar.addi v211 c8_i32_66
  v212
def k2_mult13 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_58 : BitVec 32 := 8#32
  let v183 : BitVec 32 := Scalar.muli v38 c8_i32_58
  let c2_i32 : BitVec 32 := 2#32
  let v184 : BitVec 32 := Scalar.addi v183 c2_i32
  let c32_i32_68 : BitVec 32 := 32#32
  let v230 : BitVec 32 := Scalar.muli v184 c32_i32_68
  let c16_i32_69 : BitVec 32 := 16#32
  let v231 : BitVec 32 := Scalar.addi v230 c16_i32_69
  v231
def k2_mult14 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_73 : BitVec 32 := 8#32
  let v255 : BitVec 32 := Scalar.muli v38 c8_i32_73
  let c3_i32 : BitVec 32 := 3#32
  let v256 : BitVec 32 := Scalar.addi v255 c3_i32
  let c32_i32_74 : BitVec 32 := 32#32
  let v257 : BitVec 32 := Scalar.muli v256 c32_i32_74
  let c24_i32_75 : BitVec 32 := 24#32
  let v258 : BitVec 32 := Scalar.addi v257 c24_i32_75
  v258
def k2_mult15 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_73 : BitVec 32 := 8#32
  let v255 : BitVec 32 := Scalar.muli v38 c8_i32_73
  let c3_i32 : BitVec 32 := 3#32
  let v256 : BitVec 32 := Scalar.addi v255 c3_i32
  let c32_i32_77 : BitVec 32 := 32#32
  let v265 : BitVec 32 := Scalar.muli v256 c32_i32_77
  let c0_i32_78 : BitVec 32 := 0#32
  let v266 : BitVec 32 := Scalar.addi v265 c0_i32_78
  v266
def k2_mult16 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_73 : BitVec 32 := 8#32
  let v255 : BitVec 32 := Scalar.muli v38 c8_i32_73
  let c3_i32 : BitVec 32 := 3#32
  let v256 : BitVec 32 := Scalar.addi v255 c3_i32
  let c32_i32_80 : BitVec 32 := 32#32
  let v283 : BitVec 32 := Scalar.muli v256 c32_i32_80
  let c8_i32_81 : BitVec 32 := 8#32
  let v284 : BitVec 32 := Scalar.addi v283 c8_i32_81
  v284
def k2_mult17 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_73 : BitVec 32 := 8#32
  let v255 : BitVec 32 := Scalar.muli v38 c8_i32_73
  let c3_i32 : BitVec 32 := 3#32
  let v256 : BitVec 32 := Scalar.addi v255 c3_i32
  let c32_i32_83 : BitVec 32 := 32#32
  let v302 : BitVec 32 := Scalar.muli v256 c32_i32_83
  let c16_i32_84 : BitVec 32 := 16#32
  let v303 : BitVec 32 := Scalar.addi v302 c16_i32_84
  v303
def k2_mult18 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_88 : BitVec 32 := 8#32
  let v327 : BitVec 32 := Scalar.muli v38 c8_i32_88
  let c4_i32 : BitVec 32 := 4#32
  let v328 : BitVec 32 := Scalar.addi v327 c4_i32
  let c32_i32_89 : BitVec 32 := 32#32
  let v329 : BitVec 32 := Scalar.muli v328 c32_i32_89
  let c24_i32_90 : BitVec 32 := 24#32
  let v330 : BitVec 32 := Scalar.addi v329 c24_i32_90
  v330
def k2_mult19 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_88 : BitVec 32 := 8#32
  let v327 : BitVec 32 := Scalar.muli v38 c8_i32_88
  let c4_i32 : BitVec 32 := 4#32
  let v328 : BitVec 32 := Scalar.addi v327 c4_i32
  let c32_i32_92 : BitVec 32 := 32#32
  let v337 : BitVec 32 := Scalar.muli v328 c32_i32_92
  let c0_i32_93 : BitVec 32 := 0#32
  let v338 : BitVec 32 := Scalar.addi v337 c0_i32_93
  v338
def k2_mult20 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_88 : BitVec 32 := 8#32
  let v327 : BitVec 32 := Scalar.muli v38 c8_i32_88
  let c4_i32 : BitVec 32 := 4#32
  let v328 : BitVec 32 := Scalar.addi v327 c4_i32
  let c32_i32_95 : BitVec 32 := 32#32
  let v355 : BitVec 32 := Scalar.muli v328 c32_i32_95
  let c8_i32_96 : BitVec 32 := 8#32
  let v356 : BitVec 32 := Scalar.addi v355 c8_i32_96
  v356
def k2_mult21 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_88 : BitVec 32 := 8#32
  let v327 : BitVec 32 := Scalar.muli v38 c8_i32_88
  let c4_i32 : BitVec 32 := 4#32
  let v328 : BitVec 32 := Scalar.addi v327 c4_i32
  let c32_i32_98 : BitVec 32 := 32#32
  let v374 : BitVec 32 := Scalar.muli v328 c32_i32_98
  let c16_i32_99 : BitVec 32 := 16#32
  let v375 : BitVec 32 := Scalar.addi v374 c16_i32_99
  v375
def k2_mult22 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_103 : BitVec 32 := 8#32
  let v399 : BitVec 32 := Scalar.muli v38 c8_i32_103
  let c5_i32 : BitVec 32 := 5#32
  let v400 : BitVec 32 := Scalar.addi v399 c5_i32
  let c32_i32_104 : BitVec 32 := 32#32
  let v401 : BitVec 32 := Scalar.muli v400 c32_i32_104
  let c24_i32_105 : BitVec 32 := 24#32
  let v402 : BitVec 32 := Scalar.addi v401 c24_i32_105
  v402
def k2_mult23 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_103 : BitVec 32 := 8#32
  let v399 : BitVec 32 := Scalar.muli v38 c8_i32_103
  let c5_i32 : BitVec 32 := 5#32
  let v400 : BitVec 32 := Scalar.addi v399 c5_i32
  let c32_i32_107 : BitVec 32 := 32#32
  let v409 : BitVec 32 := Scalar.muli v400 c32_i32_107
  let c0_i32_108 : BitVec 32 := 0#32
  let v410 : BitVec 32 := Scalar.addi v409 c0_i32_108
  v410
def k2_mult24 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_103 : BitVec 32 := 8#32
  let v399 : BitVec 32 := Scalar.muli v38 c8_i32_103
  let c5_i32 : BitVec 32 := 5#32
  let v400 : BitVec 32 := Scalar.addi v399 c5_i32
  let c32_i32_110 : BitVec 32 := 32#32
  let v427 : BitVec 32 := Scalar.muli v400 c32_i32_110
  let c8_i32_111 : BitVec 32 := 8#32
  let v428 : BitVec 32 := Scalar.addi v427 c8_i32_111
  v428
def k2_mult25 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_103 : BitVec 32 := 8#32
  let v399 : BitVec 32 := Scalar.muli v38 c8_i32_103
  let c5_i32 : BitVec 32 := 5#32
  let v400 : BitVec 32 := Scalar.addi v399 c5_i32
  let c32_i32_113 : BitVec 32 := 32#32
  let v446 : BitVec 32 := Scalar.muli v400 c32_i32_113
  let c16_i32_114 : BitVec 32 := 16#32
  let v447 : BitVec 32 := Scalar.addi v446 c16_i32_114
  v447
def k2_mult26 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_118 : BitVec 32 := 8#32
  let v471 : BitVec 32 := Scalar.muli v38 c8_i32_118
  let c6_i32 : BitVec 32 := 6#32
  let v472 : BitVec 32 := Scalar.addi v471 c6_i32
  let c32_i32_119 : BitVec 32 := 32#32
  let v473 : BitVec 32 := Scalar.muli v472 c32_i32_119
  let c24_i32_120 : BitVec 32 := 24#32
  let v474 : BitVec 32 := Scalar.addi v473 c24_i32_120
  v474
def k2_mult27 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_118 : BitVec 32 := 8#32
  let v471 : BitVec 32 := Scalar.muli v38 c8_i32_118
  let c6_i32 : BitVec 32 := 6#32
  let v472 : BitVec 32 := Scalar.addi v471 c6_i32
  let c32_i32_122 : BitVec 32 := 32#32
  let v481 : BitVec 32 := Scalar.muli v472 c32_i32_122
  let c0_i32_123 : BitVec 32 := 0#32
  let v482 : BitVec 32 := Scalar.addi v481 c0_i32_123
  v482
def k2_mult28 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_118 : BitVec 32 := 8#32
  let v471 : BitVec 32 := Scalar.muli v38 c8_i32_118
  let c6_i32 : BitVec 32 := 6#32
  let v472 : BitVec 32 := Scalar.addi v471 c6_i32
  let c32_i32_125 : BitVec 32 := 32#32
  let v499 : BitVec 32 := Scalar.muli v472 c32_i32_125
  let c8_i32_126 : BitVec 32 := 8#32
  let v500 : BitVec 32 := Scalar.addi v499 c8_i32_126
  v500
def k2_mult29 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_118 : BitVec 32 := 8#32
  let v471 : BitVec 32 := Scalar.muli v38 c8_i32_118
  let c6_i32 : BitVec 32 := 6#32
  let v472 : BitVec 32 := Scalar.addi v471 c6_i32
  let c32_i32_128 : BitVec 32 := 32#32
  let v518 : BitVec 32 := Scalar.muli v472 c32_i32_128
  let c16_i32_129 : BitVec 32 := 16#32
  let v519 : BitVec 32 := Scalar.addi v518 c16_i32_129
  v519
def k2_mult30 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_133 : BitVec 32 := 8#32
  let v543 : BitVec 32 := Scalar.muli v38 c8_i32_133
  let c7_i32 : BitVec 32 := 7#32
  let v544 : BitVec 32 := Scalar.addi v543 c7_i32
  let c32_i32_134 : BitVec 32 := 32#32
  let v545 : BitVec 32 := Scalar.muli v544 c32_i32_134
  let c24_i32_135 : BitVec 32 := 24#32
  let v546 : BitVec 32 := Scalar.addi v545 c24_i32_135
  v546
def k2_mult31 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_133 : BitVec 32 := 8#32
  let v543 : BitVec 32 := Scalar.muli v38 c8_i32_133
  let c7_i32 : BitVec 32 := 7#32
  let v544 : BitVec 32 := Scalar.addi v543 c7_i32
  let c32_i32_137 : BitVec 32 := 32#32
  let v553 : BitVec 32 := Scalar.muli v544 c32_i32_137
  let c0_i32_138 : BitVec 32 := 0#32
  let v554 : BitVec 32 := Scalar.addi v553 c0_i32_138
  v554
def k2_mult32 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_133 : BitVec 32 := 8#32
  let v543 : BitVec 32 := Scalar.muli v38 c8_i32_133
  let c7_i32 : BitVec 32 := 7#32
  let v544 : BitVec 32 := Scalar.addi v543 c7_i32
  let c32_i32_140 : BitVec 32 := 32#32
  let v571 : BitVec 32 := Scalar.muli v544 c32_i32_140
  let c8_i32_141 : BitVec 32 := 8#32
  let v572 : BitVec 32 := Scalar.addi v571 c8_i32_141
  v572
def k2_mult33 (k2_t2 : Fin k2_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k2_t2
  let c1_i32_26 : BitVec 32 := 1#32
  let v37 : BitVec 32 := Scalar.muli arg10 c1_i32_26
  let v38 : BitVec 32 := Scalar.addi c0_i32_27 v37
  let c8_i32_133 : BitVec 32 := 8#32
  let v543 : BitVec 32 := Scalar.muli v38 c8_i32_133
  let c7_i32 : BitVec 32 := 7#32
  let v544 : BitVec 32 := Scalar.addi v543 c7_i32
  let c32_i32_143 : BitVec 32 := 32#32
  let v590 : BitVec 32 := Scalar.muli v544 c32_i32_143
  let c16_i32_144 : BitVec 32 := 16#32
  let v591 : BitVec 32 := Scalar.addi v590 c16_i32_144
  v591
@[reducible] def k2_t3_loop : Scf.Loop 32 :=
  let c0_i32_20 : BitVec 32 := 0#32
  let c8_i32_21 : BitVec 32 := 8#32
  let v32 : BitVec 32 := Scalar.addi c0_i32_20 c8_i32_21
  let c1_i32_22 : BitVec 32 := 1#32
  ⟨c0_i32_20, v32, c1_i32_22⟩
def k2_mult34 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_26 : BitVec 32 := 8#32
  let v37 : BitVec 32 := Scalar.muli arg10 c8_i32_26
  let c0_i32_27 : BitVec 32 := 0#32
  let v38 : BitVec 32 := Scalar.addi v37 c0_i32_27
  let c32_i32 : BitVec 32 := 32#32
  let v39 : BitVec 32 := Scalar.muli v38 c32_i32
  let c24_i32 : BitVec 32 := 24#32
  let v40 : BitVec 32 := Scalar.addi v39 c24_i32
  v40
def k2_off4 (k2_t3 : Fin k2_t3_loop.trips) (c0_i32_27 : BitVec 32) (c24_i32 : BitVec 32) : Fin 2 → Nat :=
  let c0_i32_20 : BitVec 32 := 0#32
  let c1_i32_22 : BitVec 32 := 1#32
  let arg10 : BitVec 32 := Scf.iv c0_i32_20 c1_i32_22 k2_t3
  let c8_i32_26 : BitVec 32 := 8#32
  let v37 : BitVec 32 := Scalar.muli arg10 c8_i32_26
  let v38 : BitVec 32 := Scalar.addi v37 c0_i32_27
  let c32_i32 : BitVec 32 := 32#32
  let v39 : BitVec 32 := Scalar.muli v38 c32_i32
  let v40 : BitVec 32 := Scalar.addi v39 c24_i32
  let v41 : BitVec 32 := v40
  let v42 : Index := Scalar.indexCast v41
  let c0_28 : Index := 0#32
  ![v42.toNat, 0]
def k2_off5 (k2_t3 : Fin k2_t3_loop.trips) (c0_i32_27 : BitVec 32) : Fin 2 → Nat :=
  let c0_i32_20 : BitVec 32 := 0#32
  let c1_i32_22 : BitVec 32 := 1#32
  let arg10 : BitVec 32 := Scf.iv c0_i32_20 c1_i32_22 k2_t3
  let c8_i32_26 : BitVec 32 := 8#32
  let v37 : BitVec 32 := Scalar.muli arg10 c8_i32_26
  let v38 : BitVec 32 := Scalar.addi v37 c0_i32_27
  let v48 : Index := Scalar.indexCast v38
  let c0_29 : Index := 0#32
  ![v48.toNat, 0]
def k2_mult35 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_26 : BitVec 32 := 8#32
  let v37 : BitVec 32 := Scalar.muli arg10 c8_i32_26
  let c0_i32_27 : BitVec 32 := 0#32
  let v38 : BitVec 32 := Scalar.addi v37 c0_i32_27
  let c32_i32_30 : BitVec 32 := 32#32
  let v52 : BitVec 32 := Scalar.muli v38 c32_i32_30
  let c0_i32_31 : BitVec 32 := 0#32
  let v53 : BitVec 32 := Scalar.addi v52 c0_i32_31
  v53
def k2_mult36 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_26 : BitVec 32 := 8#32
  let v37 : BitVec 32 := Scalar.muli arg10 c8_i32_26
  let c0_i32_27 : BitVec 32 := 0#32
  let v38 : BitVec 32 := Scalar.addi v37 c0_i32_27
  let c32_i32_33 : BitVec 32 := 32#32
  let v63 : BitVec 32 := Scalar.muli v38 c32_i32_33
  let c8_i32_34 : BitVec 32 := 8#32
  let v64 : BitVec 32 := Scalar.addi v63 c8_i32_34
  v64
def k2_mult37 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_26 : BitVec 32 := 8#32
  let v37 : BitVec 32 := Scalar.muli arg10 c8_i32_26
  let c0_i32_27 : BitVec 32 := 0#32
  let v38 : BitVec 32 := Scalar.addi v37 c0_i32_27
  let c32_i32_36 : BitVec 32 := 32#32
  let v74 : BitVec 32 := Scalar.muli v38 c32_i32_36
  let c16_i32_37 : BitVec 32 := 16#32
  let v75 : BitVec 32 := Scalar.addi v74 c16_i32_37
  v75
def k2_mult38 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_39 : BitVec 32 := 8#32
  let v85 : BitVec 32 := Scalar.muli arg10 c8_i32_39
  let c1_i32_40 : BitVec 32 := 1#32
  let v86 : BitVec 32 := Scalar.addi v85 c1_i32_40
  let c32_i32_41 : BitVec 32 := 32#32
  let v87 : BitVec 32 := Scalar.muli v86 c32_i32_41
  let c24_i32_42 : BitVec 32 := 24#32
  let v88 : BitVec 32 := Scalar.addi v87 c24_i32_42
  v88
def k2_mult39 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_39 : BitVec 32 := 8#32
  let v85 : BitVec 32 := Scalar.muli arg10 c8_i32_39
  let c1_i32_40 : BitVec 32 := 1#32
  let v86 : BitVec 32 := Scalar.addi v85 c1_i32_40
  let c32_i32_45 : BitVec 32 := 32#32
  let v100 : BitVec 32 := Scalar.muli v86 c32_i32_45
  let c0_i32_46 : BitVec 32 := 0#32
  let v101 : BitVec 32 := Scalar.addi v100 c0_i32_46
  v101
def k2_mult40 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_39 : BitVec 32 := 8#32
  let v85 : BitVec 32 := Scalar.muli arg10 c8_i32_39
  let c1_i32_40 : BitVec 32 := 1#32
  let v86 : BitVec 32 := Scalar.addi v85 c1_i32_40
  let c32_i32_48 : BitVec 32 := 32#32
  let v111 : BitVec 32 := Scalar.muli v86 c32_i32_48
  let c8_i32_49 : BitVec 32 := 8#32
  let v112 : BitVec 32 := Scalar.addi v111 c8_i32_49
  v112
def k2_mult41 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_39 : BitVec 32 := 8#32
  let v85 : BitVec 32 := Scalar.muli arg10 c8_i32_39
  let c1_i32_40 : BitVec 32 := 1#32
  let v86 : BitVec 32 := Scalar.addi v85 c1_i32_40
  let c32_i32_51 : BitVec 32 := 32#32
  let v122 : BitVec 32 := Scalar.muli v86 c32_i32_51
  let c16_i32_52 : BitVec 32 := 16#32
  let v123 : BitVec 32 := Scalar.addi v122 c16_i32_52
  v123
def k2_mult42 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_54 : BitVec 32 := 8#32
  let v133 : BitVec 32 := Scalar.muli arg10 c8_i32_54
  let c2_i32 : BitVec 32 := 2#32
  let v134 : BitVec 32 := Scalar.addi v133 c2_i32
  let c32_i32_55 : BitVec 32 := 32#32
  let v135 : BitVec 32 := Scalar.muli v134 c32_i32_55
  let c24_i32_56 : BitVec 32 := 24#32
  let v136 : BitVec 32 := Scalar.addi v135 c24_i32_56
  v136
def k2_mult43 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_54 : BitVec 32 := 8#32
  let v133 : BitVec 32 := Scalar.muli arg10 c8_i32_54
  let c2_i32 : BitVec 32 := 2#32
  let v134 : BitVec 32 := Scalar.addi v133 c2_i32
  let c32_i32_59 : BitVec 32 := 32#32
  let v148 : BitVec 32 := Scalar.muli v134 c32_i32_59
  let c0_i32_60 : BitVec 32 := 0#32
  let v149 : BitVec 32 := Scalar.addi v148 c0_i32_60
  v149
def k2_mult44 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_54 : BitVec 32 := 8#32
  let v133 : BitVec 32 := Scalar.muli arg10 c8_i32_54
  let c2_i32 : BitVec 32 := 2#32
  let v134 : BitVec 32 := Scalar.addi v133 c2_i32
  let c32_i32_62 : BitVec 32 := 32#32
  let v159 : BitVec 32 := Scalar.muli v134 c32_i32_62
  let c8_i32_63 : BitVec 32 := 8#32
  let v160 : BitVec 32 := Scalar.addi v159 c8_i32_63
  v160
def k2_mult45 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_54 : BitVec 32 := 8#32
  let v133 : BitVec 32 := Scalar.muli arg10 c8_i32_54
  let c2_i32 : BitVec 32 := 2#32
  let v134 : BitVec 32 := Scalar.addi v133 c2_i32
  let c32_i32_65 : BitVec 32 := 32#32
  let v170 : BitVec 32 := Scalar.muli v134 c32_i32_65
  let c16_i32_66 : BitVec 32 := 16#32
  let v171 : BitVec 32 := Scalar.addi v170 c16_i32_66
  v171
def k2_mult46 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_68 : BitVec 32 := 8#32
  let v181 : BitVec 32 := Scalar.muli arg10 c8_i32_68
  let c3_i32 : BitVec 32 := 3#32
  let v182 : BitVec 32 := Scalar.addi v181 c3_i32
  let c32_i32_69 : BitVec 32 := 32#32
  let v183 : BitVec 32 := Scalar.muli v182 c32_i32_69
  let c24_i32_70 : BitVec 32 := 24#32
  let v184 : BitVec 32 := Scalar.addi v183 c24_i32_70
  v184
def k2_mult47 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_68 : BitVec 32 := 8#32
  let v181 : BitVec 32 := Scalar.muli arg10 c8_i32_68
  let c3_i32 : BitVec 32 := 3#32
  let v182 : BitVec 32 := Scalar.addi v181 c3_i32
  let c32_i32_73 : BitVec 32 := 32#32
  let v196 : BitVec 32 := Scalar.muli v182 c32_i32_73
  let c0_i32_74 : BitVec 32 := 0#32
  let v197 : BitVec 32 := Scalar.addi v196 c0_i32_74
  v197
def k2_mult48 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_68 : BitVec 32 := 8#32
  let v181 : BitVec 32 := Scalar.muli arg10 c8_i32_68
  let c3_i32 : BitVec 32 := 3#32
  let v182 : BitVec 32 := Scalar.addi v181 c3_i32
  let c32_i32_76 : BitVec 32 := 32#32
  let v207 : BitVec 32 := Scalar.muli v182 c32_i32_76
  let c8_i32_77 : BitVec 32 := 8#32
  let v208 : BitVec 32 := Scalar.addi v207 c8_i32_77
  v208
def k2_mult49 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_68 : BitVec 32 := 8#32
  let v181 : BitVec 32 := Scalar.muli arg10 c8_i32_68
  let c3_i32 : BitVec 32 := 3#32
  let v182 : BitVec 32 := Scalar.addi v181 c3_i32
  let c32_i32_79 : BitVec 32 := 32#32
  let v218 : BitVec 32 := Scalar.muli v182 c32_i32_79
  let c16_i32_80 : BitVec 32 := 16#32
  let v219 : BitVec 32 := Scalar.addi v218 c16_i32_80
  v219
def k2_mult50 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_82 : BitVec 32 := 8#32
  let v229 : BitVec 32 := Scalar.muli arg10 c8_i32_82
  let c4_i32 : BitVec 32 := 4#32
  let v230 : BitVec 32 := Scalar.addi v229 c4_i32
  let c32_i32_83 : BitVec 32 := 32#32
  let v231 : BitVec 32 := Scalar.muli v230 c32_i32_83
  let c24_i32_84 : BitVec 32 := 24#32
  let v232 : BitVec 32 := Scalar.addi v231 c24_i32_84
  v232
def k2_mult51 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_82 : BitVec 32 := 8#32
  let v229 : BitVec 32 := Scalar.muli arg10 c8_i32_82
  let c4_i32 : BitVec 32 := 4#32
  let v230 : BitVec 32 := Scalar.addi v229 c4_i32
  let c32_i32_87 : BitVec 32 := 32#32
  let v244 : BitVec 32 := Scalar.muli v230 c32_i32_87
  let c0_i32_88 : BitVec 32 := 0#32
  let v245 : BitVec 32 := Scalar.addi v244 c0_i32_88
  v245
def k2_mult52 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_82 : BitVec 32 := 8#32
  let v229 : BitVec 32 := Scalar.muli arg10 c8_i32_82
  let c4_i32 : BitVec 32 := 4#32
  let v230 : BitVec 32 := Scalar.addi v229 c4_i32
  let c32_i32_90 : BitVec 32 := 32#32
  let v255 : BitVec 32 := Scalar.muli v230 c32_i32_90
  let c8_i32_91 : BitVec 32 := 8#32
  let v256 : BitVec 32 := Scalar.addi v255 c8_i32_91
  v256
def k2_mult53 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_82 : BitVec 32 := 8#32
  let v229 : BitVec 32 := Scalar.muli arg10 c8_i32_82
  let c4_i32 : BitVec 32 := 4#32
  let v230 : BitVec 32 := Scalar.addi v229 c4_i32
  let c32_i32_93 : BitVec 32 := 32#32
  let v266 : BitVec 32 := Scalar.muli v230 c32_i32_93
  let c16_i32_94 : BitVec 32 := 16#32
  let v267 : BitVec 32 := Scalar.addi v266 c16_i32_94
  v267
def k2_mult54 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_96 : BitVec 32 := 8#32
  let v277 : BitVec 32 := Scalar.muli arg10 c8_i32_96
  let c5_i32 : BitVec 32 := 5#32
  let v278 : BitVec 32 := Scalar.addi v277 c5_i32
  let c32_i32_97 : BitVec 32 := 32#32
  let v279 : BitVec 32 := Scalar.muli v278 c32_i32_97
  let c24_i32_98 : BitVec 32 := 24#32
  let v280 : BitVec 32 := Scalar.addi v279 c24_i32_98
  v280
def k2_mult55 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_96 : BitVec 32 := 8#32
  let v277 : BitVec 32 := Scalar.muli arg10 c8_i32_96
  let c5_i32 : BitVec 32 := 5#32
  let v278 : BitVec 32 := Scalar.addi v277 c5_i32
  let c32_i32_101 : BitVec 32 := 32#32
  let v292 : BitVec 32 := Scalar.muli v278 c32_i32_101
  let c0_i32_102 : BitVec 32 := 0#32
  let v293 : BitVec 32 := Scalar.addi v292 c0_i32_102
  v293
def k2_mult56 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_96 : BitVec 32 := 8#32
  let v277 : BitVec 32 := Scalar.muli arg10 c8_i32_96
  let c5_i32 : BitVec 32 := 5#32
  let v278 : BitVec 32 := Scalar.addi v277 c5_i32
  let c32_i32_104 : BitVec 32 := 32#32
  let v303 : BitVec 32 := Scalar.muli v278 c32_i32_104
  let c8_i32_105 : BitVec 32 := 8#32
  let v304 : BitVec 32 := Scalar.addi v303 c8_i32_105
  v304
def k2_mult57 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_96 : BitVec 32 := 8#32
  let v277 : BitVec 32 := Scalar.muli arg10 c8_i32_96
  let c5_i32 : BitVec 32 := 5#32
  let v278 : BitVec 32 := Scalar.addi v277 c5_i32
  let c32_i32_107 : BitVec 32 := 32#32
  let v314 : BitVec 32 := Scalar.muli v278 c32_i32_107
  let c16_i32_108 : BitVec 32 := 16#32
  let v315 : BitVec 32 := Scalar.addi v314 c16_i32_108
  v315
def k2_mult58 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_110 : BitVec 32 := 8#32
  let v325 : BitVec 32 := Scalar.muli arg10 c8_i32_110
  let c6_i32 : BitVec 32 := 6#32
  let v326 : BitVec 32 := Scalar.addi v325 c6_i32
  let c32_i32_111 : BitVec 32 := 32#32
  let v327 : BitVec 32 := Scalar.muli v326 c32_i32_111
  let c24_i32_112 : BitVec 32 := 24#32
  let v328 : BitVec 32 := Scalar.addi v327 c24_i32_112
  v328
def k2_mult59 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_110 : BitVec 32 := 8#32
  let v325 : BitVec 32 := Scalar.muli arg10 c8_i32_110
  let c6_i32 : BitVec 32 := 6#32
  let v326 : BitVec 32 := Scalar.addi v325 c6_i32
  let c32_i32_115 : BitVec 32 := 32#32
  let v340 : BitVec 32 := Scalar.muli v326 c32_i32_115
  let c0_i32_116 : BitVec 32 := 0#32
  let v341 : BitVec 32 := Scalar.addi v340 c0_i32_116
  v341
def k2_mult60 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_110 : BitVec 32 := 8#32
  let v325 : BitVec 32 := Scalar.muli arg10 c8_i32_110
  let c6_i32 : BitVec 32 := 6#32
  let v326 : BitVec 32 := Scalar.addi v325 c6_i32
  let c32_i32_118 : BitVec 32 := 32#32
  let v351 : BitVec 32 := Scalar.muli v326 c32_i32_118
  let c8_i32_119 : BitVec 32 := 8#32
  let v352 : BitVec 32 := Scalar.addi v351 c8_i32_119
  v352
def k2_mult61 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_110 : BitVec 32 := 8#32
  let v325 : BitVec 32 := Scalar.muli arg10 c8_i32_110
  let c6_i32 : BitVec 32 := 6#32
  let v326 : BitVec 32 := Scalar.addi v325 c6_i32
  let c32_i32_121 : BitVec 32 := 32#32
  let v362 : BitVec 32 := Scalar.muli v326 c32_i32_121
  let c16_i32_122 : BitVec 32 := 16#32
  let v363 : BitVec 32 := Scalar.addi v362 c16_i32_122
  v363
def k2_mult62 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_124 : BitVec 32 := 8#32
  let v373 : BitVec 32 := Scalar.muli arg10 c8_i32_124
  let c7_i32 : BitVec 32 := 7#32
  let v374 : BitVec 32 := Scalar.addi v373 c7_i32
  let c32_i32_125 : BitVec 32 := 32#32
  let v375 : BitVec 32 := Scalar.muli v374 c32_i32_125
  let c24_i32_126 : BitVec 32 := 24#32
  let v376 : BitVec 32 := Scalar.addi v375 c24_i32_126
  v376
def k2_mult63 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_124 : BitVec 32 := 8#32
  let v373 : BitVec 32 := Scalar.muli arg10 c8_i32_124
  let c7_i32 : BitVec 32 := 7#32
  let v374 : BitVec 32 := Scalar.addi v373 c7_i32
  let c32_i32_129 : BitVec 32 := 32#32
  let v388 : BitVec 32 := Scalar.muli v374 c32_i32_129
  let c0_i32_130 : BitVec 32 := 0#32
  let v389 : BitVec 32 := Scalar.addi v388 c0_i32_130
  v389
def k2_mult64 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_124 : BitVec 32 := 8#32
  let v373 : BitVec 32 := Scalar.muli arg10 c8_i32_124
  let c7_i32 : BitVec 32 := 7#32
  let v374 : BitVec 32 := Scalar.addi v373 c7_i32
  let c32_i32_132 : BitVec 32 := 32#32
  let v399 : BitVec 32 := Scalar.muli v374 c32_i32_132
  let c8_i32_133 : BitVec 32 := 8#32
  let v400 : BitVec 32 := Scalar.addi v399 c8_i32_133
  v400
def k2_mult65 (k2_t3 : Fin k2_t3_loop.trips) : BitVec 32 :=
  let c0_i32_20 : BitVec 32 := 0#32
  let c1_i32_22 : BitVec 32 := 1#32
  let arg10 : BitVec 32 := Scf.iv c0_i32_20 c1_i32_22 k2_t3
  let c8_i32_124 : BitVec 32 := 8#32
  let v373 : BitVec 32 := Scalar.muli arg10 c8_i32_124
  let c7_i32 : BitVec 32 := 7#32
  let v374 : BitVec 32 := Scalar.addi v373 c7_i32
  let c32_i32_135 : BitVec 32 := 32#32
  let v410 : BitVec 32 := Scalar.muli v374 c32_i32_135
  let c16_i32_136 : BitVec 32 := 16#32
  let v411 : BitVec 32 := Scalar.addi v410 c16_i32_136
  v411
def cc2_transform_0 (i : grid2.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S96x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x64 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S96x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S64x128 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S64x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![6], ![false]⟩

@[reducible] def k3_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k3_mult1 (k3_t1 : Fin k3_t1_loop.trips) : BitVec 32 :=
  let c0_i32_27 : BitVec 32 := 0#32
  let c0_i32 : BitVec 32 := 0#32
  let c1_i32 : BitVec 32 := 1#32
  let arg10 : BitVec 32 := Scf.iv c0_i32 c1_i32 k3_t1
  let c1_i32_26 : BitVec 32 := 1#32
  let v37 : BitVec 32 := Scalar.muli arg10 c1_i32_26
  let v38 : BitVec 32 := Scalar.addi c0_i32_27 v37
  let c128_i32 : BitVec 32 := 128#32
  let v39 : BitVec 32 := Scalar.muli v38 c128_i32
  v39
def k3_off1 (k3_t1 : Fin k3_t1_loop.trips) : Fin 2 → Nat :=
  let c0_i32_27 : BitVec 32 := 0#32
  let c0_i32 : BitVec 32 := 0#32
  let c1_i32 : BitVec 32 := 1#32
  let arg10 : BitVec 32 := Scf.iv c0_i32 c1_i32 k3_t1
  let c1_i32_26 : BitVec 32 := 1#32
  let v37 : BitVec 32 := Scalar.muli arg10 c1_i32_26
  let v38 : BitVec 32 := Scalar.addi c0_i32_27 v37
  let c128_i32 : BitVec 32 := 128#32
  let v39 : BitVec 32 := Scalar.muli v38 c128_i32
  let v40 : BitVec 32 := v39
  let v41 : Index := Scalar.indexCast v40
  let c0_28 : Index := 0#32
  ![v41.toNat, 0]
@[reducible] def k3_t2_loop : Scf.Loop 32 :=
  let c0_i32_2 : BitVec 32 := 0#32
  let c8_i32 : BitVec 32 := 8#32
  let v7 : BitVec 32 := Scalar.addi c0_i32_2 c8_i32
  let c1_i32_3 : BitVec 32 := 1#32
  ⟨c0_i32_2, v7, c1_i32_3⟩
def k3_mult2 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let c0_i32_29 : BitVec 32 := 0#32
  let v40 : BitVec 32 := Scalar.addi v39 c0_i32_29
  let c32_i32 : BitVec 32 := 32#32
  let v41 : BitVec 32 := Scalar.muli v40 c32_i32
  let c24_i32 : BitVec 32 := 24#32
  let v42 : BitVec 32 := Scalar.addi v41 c24_i32
  v42
def k3_off2 (k3_t2 : Fin k3_t2_loop.trips) (c0_i32_29 : BitVec 32) (c24_i32 : BitVec 32) : Fin 2 → Nat :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let v40 : BitVec 32 := Scalar.addi v39 c0_i32_29
  let c32_i32 : BitVec 32 := 32#32
  let v41 : BitVec 32 := Scalar.muli v40 c32_i32
  let v42 : BitVec 32 := Scalar.addi v41 c24_i32
  let v43 : BitVec 32 := v42
  let v44 : Index := Scalar.indexCast v43
  let c0_30 : Index := 0#32
  ![v44.toNat, 0]
def k3_mult3 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let c0_i32_29 : BitVec 32 := 0#32
  let v40 : BitVec 32 := Scalar.addi v39 c0_i32_29
  let c32_i32_31 : BitVec 32 := 32#32
  let v49 : BitVec 32 := Scalar.muli v40 c32_i32_31
  let c0_i32_32 : BitVec 32 := 0#32
  let v50 : BitVec 32 := Scalar.addi v49 c0_i32_32
  v50
def k3_mult4 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let c0_i32_29 : BitVec 32 := 0#32
  let v40 : BitVec 32 := Scalar.addi v39 c0_i32_29
  let c32_i32_34 : BitVec 32 := 32#32
  let v67 : BitVec 32 := Scalar.muli v40 c32_i32_34
  let c8_i32_35 : BitVec 32 := 8#32
  let v68 : BitVec 32 := Scalar.addi v67 c8_i32_35
  v68
def k3_mult5 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let c0_i32_29 : BitVec 32 := 0#32
  let v40 : BitVec 32 := Scalar.addi v39 c0_i32_29
  let c32_i32_37 : BitVec 32 := 32#32
  let v86 : BitVec 32 := Scalar.muli v40 c32_i32_37
  let c16_i32_38 : BitVec 32 := 16#32
  let v87 : BitVec 32 := Scalar.addi v86 c16_i32_38
  v87
def k3_off3 (k3_t2 : Fin k3_t2_loop.trips) (c0_i32_29 : BitVec 32) : Fin 2 → Nat :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_28 : BitVec 32 := 8#32
  let v39 : BitVec 32 := Scalar.muli v38 c8_i32_28
  let v40 : BitVec 32 := Scalar.addi v39 c0_i32_29
  let v107 : Index := Scalar.indexCast v40
  let c0_41 : Index := 0#32
  ![v107.toNat, 0]
def k3_mult6 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_42 : BitVec 32 := 8#32
  let v111 : BitVec 32 := Scalar.muli v38 c8_i32_42
  let c1_i32_43 : BitVec 32 := 1#32
  let v112 : BitVec 32 := Scalar.addi v111 c1_i32_43
  let c32_i32_44 : BitVec 32 := 32#32
  let v113 : BitVec 32 := Scalar.muli v112 c32_i32_44
  let c24_i32_45 : BitVec 32 := 24#32
  let v114 : BitVec 32 := Scalar.addi v113 c24_i32_45
  v114
def k3_mult7 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_42 : BitVec 32 := 8#32
  let v111 : BitVec 32 := Scalar.muli v38 c8_i32_42
  let c1_i32_43 : BitVec 32 := 1#32
  let v112 : BitVec 32 := Scalar.addi v111 c1_i32_43
  let c32_i32_47 : BitVec 32 := 32#32
  let v121 : BitVec 32 := Scalar.muli v112 c32_i32_47
  let c0_i32_48 : BitVec 32 := 0#32
  let v122 : BitVec 32 := Scalar.addi v121 c0_i32_48
  v122
def k3_mult8 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_42 : BitVec 32 := 8#32
  let v111 : BitVec 32 := Scalar.muli v38 c8_i32_42
  let c1_i32_43 : BitVec 32 := 1#32
  let v112 : BitVec 32 := Scalar.addi v111 c1_i32_43
  let c32_i32_50 : BitVec 32 := 32#32
  let v139 : BitVec 32 := Scalar.muli v112 c32_i32_50
  let c8_i32_51 : BitVec 32 := 8#32
  let v140 : BitVec 32 := Scalar.addi v139 c8_i32_51
  v140
def k3_mult9 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_42 : BitVec 32 := 8#32
  let v111 : BitVec 32 := Scalar.muli v38 c8_i32_42
  let c1_i32_43 : BitVec 32 := 1#32
  let v112 : BitVec 32 := Scalar.addi v111 c1_i32_43
  let c32_i32_53 : BitVec 32 := 32#32
  let v158 : BitVec 32 := Scalar.muli v112 c32_i32_53
  let c16_i32_54 : BitVec 32 := 16#32
  let v159 : BitVec 32 := Scalar.addi v158 c16_i32_54
  v159
def k3_mult10 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_58 : BitVec 32 := 8#32
  let v183 : BitVec 32 := Scalar.muli v38 c8_i32_58
  let c2_i32 : BitVec 32 := 2#32
  let v184 : BitVec 32 := Scalar.addi v183 c2_i32
  let c32_i32_59 : BitVec 32 := 32#32
  let v185 : BitVec 32 := Scalar.muli v184 c32_i32_59
  let c24_i32_60 : BitVec 32 := 24#32
  let v186 : BitVec 32 := Scalar.addi v185 c24_i32_60
  v186
def k3_mult11 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_58 : BitVec 32 := 8#32
  let v183 : BitVec 32 := Scalar.muli v38 c8_i32_58
  let c2_i32 : BitVec 32 := 2#32
  let v184 : BitVec 32 := Scalar.addi v183 c2_i32
  let c32_i32_62 : BitVec 32 := 32#32
  let v193 : BitVec 32 := Scalar.muli v184 c32_i32_62
  let c0_i32_63 : BitVec 32 := 0#32
  let v194 : BitVec 32 := Scalar.addi v193 c0_i32_63
  v194
def k3_mult12 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_58 : BitVec 32 := 8#32
  let v183 : BitVec 32 := Scalar.muli v38 c8_i32_58
  let c2_i32 : BitVec 32 := 2#32
  let v184 : BitVec 32 := Scalar.addi v183 c2_i32
  let c32_i32_65 : BitVec 32 := 32#32
  let v211 : BitVec 32 := Scalar.muli v184 c32_i32_65
  let c8_i32_66 : BitVec 32 := 8#32
  let v212 : BitVec 32 := Scalar.addi v211 c8_i32_66
  v212
def k3_mult13 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_58 : BitVec 32 := 8#32
  let v183 : BitVec 32 := Scalar.muli v38 c8_i32_58
  let c2_i32 : BitVec 32 := 2#32
  let v184 : BitVec 32 := Scalar.addi v183 c2_i32
  let c32_i32_68 : BitVec 32 := 32#32
  let v230 : BitVec 32 := Scalar.muli v184 c32_i32_68
  let c16_i32_69 : BitVec 32 := 16#32
  let v231 : BitVec 32 := Scalar.addi v230 c16_i32_69
  v231
def k3_mult14 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_73 : BitVec 32 := 8#32
  let v255 : BitVec 32 := Scalar.muli v38 c8_i32_73
  let c3_i32 : BitVec 32 := 3#32
  let v256 : BitVec 32 := Scalar.addi v255 c3_i32
  let c32_i32_74 : BitVec 32 := 32#32
  let v257 : BitVec 32 := Scalar.muli v256 c32_i32_74
  let c24_i32_75 : BitVec 32 := 24#32
  let v258 : BitVec 32 := Scalar.addi v257 c24_i32_75
  v258
def k3_mult15 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_73 : BitVec 32 := 8#32
  let v255 : BitVec 32 := Scalar.muli v38 c8_i32_73
  let c3_i32 : BitVec 32 := 3#32
  let v256 : BitVec 32 := Scalar.addi v255 c3_i32
  let c32_i32_77 : BitVec 32 := 32#32
  let v265 : BitVec 32 := Scalar.muli v256 c32_i32_77
  let c0_i32_78 : BitVec 32 := 0#32
  let v266 : BitVec 32 := Scalar.addi v265 c0_i32_78
  v266
def k3_mult16 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_73 : BitVec 32 := 8#32
  let v255 : BitVec 32 := Scalar.muli v38 c8_i32_73
  let c3_i32 : BitVec 32 := 3#32
  let v256 : BitVec 32 := Scalar.addi v255 c3_i32
  let c32_i32_80 : BitVec 32 := 32#32
  let v283 : BitVec 32 := Scalar.muli v256 c32_i32_80
  let c8_i32_81 : BitVec 32 := 8#32
  let v284 : BitVec 32 := Scalar.addi v283 c8_i32_81
  v284
def k3_mult17 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_73 : BitVec 32 := 8#32
  let v255 : BitVec 32 := Scalar.muli v38 c8_i32_73
  let c3_i32 : BitVec 32 := 3#32
  let v256 : BitVec 32 := Scalar.addi v255 c3_i32
  let c32_i32_83 : BitVec 32 := 32#32
  let v302 : BitVec 32 := Scalar.muli v256 c32_i32_83
  let c16_i32_84 : BitVec 32 := 16#32
  let v303 : BitVec 32 := Scalar.addi v302 c16_i32_84
  v303
def k3_mult18 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_88 : BitVec 32 := 8#32
  let v327 : BitVec 32 := Scalar.muli v38 c8_i32_88
  let c4_i32 : BitVec 32 := 4#32
  let v328 : BitVec 32 := Scalar.addi v327 c4_i32
  let c32_i32_89 : BitVec 32 := 32#32
  let v329 : BitVec 32 := Scalar.muli v328 c32_i32_89
  let c24_i32_90 : BitVec 32 := 24#32
  let v330 : BitVec 32 := Scalar.addi v329 c24_i32_90
  v330
def k3_mult19 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_88 : BitVec 32 := 8#32
  let v327 : BitVec 32 := Scalar.muli v38 c8_i32_88
  let c4_i32 : BitVec 32 := 4#32
  let v328 : BitVec 32 := Scalar.addi v327 c4_i32
  let c32_i32_92 : BitVec 32 := 32#32
  let v337 : BitVec 32 := Scalar.muli v328 c32_i32_92
  let c0_i32_93 : BitVec 32 := 0#32
  let v338 : BitVec 32 := Scalar.addi v337 c0_i32_93
  v338
def k3_mult20 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_88 : BitVec 32 := 8#32
  let v327 : BitVec 32 := Scalar.muli v38 c8_i32_88
  let c4_i32 : BitVec 32 := 4#32
  let v328 : BitVec 32 := Scalar.addi v327 c4_i32
  let c32_i32_95 : BitVec 32 := 32#32
  let v355 : BitVec 32 := Scalar.muli v328 c32_i32_95
  let c8_i32_96 : BitVec 32 := 8#32
  let v356 : BitVec 32 := Scalar.addi v355 c8_i32_96
  v356
def k3_mult21 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_88 : BitVec 32 := 8#32
  let v327 : BitVec 32 := Scalar.muli v38 c8_i32_88
  let c4_i32 : BitVec 32 := 4#32
  let v328 : BitVec 32 := Scalar.addi v327 c4_i32
  let c32_i32_98 : BitVec 32 := 32#32
  let v374 : BitVec 32 := Scalar.muli v328 c32_i32_98
  let c16_i32_99 : BitVec 32 := 16#32
  let v375 : BitVec 32 := Scalar.addi v374 c16_i32_99
  v375
def k3_mult22 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_103 : BitVec 32 := 8#32
  let v399 : BitVec 32 := Scalar.muli v38 c8_i32_103
  let c5_i32 : BitVec 32 := 5#32
  let v400 : BitVec 32 := Scalar.addi v399 c5_i32
  let c32_i32_104 : BitVec 32 := 32#32
  let v401 : BitVec 32 := Scalar.muli v400 c32_i32_104
  let c24_i32_105 : BitVec 32 := 24#32
  let v402 : BitVec 32 := Scalar.addi v401 c24_i32_105
  v402
def k3_mult23 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_103 : BitVec 32 := 8#32
  let v399 : BitVec 32 := Scalar.muli v38 c8_i32_103
  let c5_i32 : BitVec 32 := 5#32
  let v400 : BitVec 32 := Scalar.addi v399 c5_i32
  let c32_i32_107 : BitVec 32 := 32#32
  let v409 : BitVec 32 := Scalar.muli v400 c32_i32_107
  let c0_i32_108 : BitVec 32 := 0#32
  let v410 : BitVec 32 := Scalar.addi v409 c0_i32_108
  v410
def k3_mult24 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_103 : BitVec 32 := 8#32
  let v399 : BitVec 32 := Scalar.muli v38 c8_i32_103
  let c5_i32 : BitVec 32 := 5#32
  let v400 : BitVec 32 := Scalar.addi v399 c5_i32
  let c32_i32_110 : BitVec 32 := 32#32
  let v427 : BitVec 32 := Scalar.muli v400 c32_i32_110
  let c8_i32_111 : BitVec 32 := 8#32
  let v428 : BitVec 32 := Scalar.addi v427 c8_i32_111
  v428
def k3_mult25 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_103 : BitVec 32 := 8#32
  let v399 : BitVec 32 := Scalar.muli v38 c8_i32_103
  let c5_i32 : BitVec 32 := 5#32
  let v400 : BitVec 32 := Scalar.addi v399 c5_i32
  let c32_i32_113 : BitVec 32 := 32#32
  let v446 : BitVec 32 := Scalar.muli v400 c32_i32_113
  let c16_i32_114 : BitVec 32 := 16#32
  let v447 : BitVec 32 := Scalar.addi v446 c16_i32_114
  v447
def k3_mult26 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_118 : BitVec 32 := 8#32
  let v471 : BitVec 32 := Scalar.muli v38 c8_i32_118
  let c6_i32 : BitVec 32 := 6#32
  let v472 : BitVec 32 := Scalar.addi v471 c6_i32
  let c32_i32_119 : BitVec 32 := 32#32
  let v473 : BitVec 32 := Scalar.muli v472 c32_i32_119
  let c24_i32_120 : BitVec 32 := 24#32
  let v474 : BitVec 32 := Scalar.addi v473 c24_i32_120
  v474
def k3_mult27 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_118 : BitVec 32 := 8#32
  let v471 : BitVec 32 := Scalar.muli v38 c8_i32_118
  let c6_i32 : BitVec 32 := 6#32
  let v472 : BitVec 32 := Scalar.addi v471 c6_i32
  let c32_i32_122 : BitVec 32 := 32#32
  let v481 : BitVec 32 := Scalar.muli v472 c32_i32_122
  let c0_i32_123 : BitVec 32 := 0#32
  let v482 : BitVec 32 := Scalar.addi v481 c0_i32_123
  v482
def k3_mult28 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_118 : BitVec 32 := 8#32
  let v471 : BitVec 32 := Scalar.muli v38 c8_i32_118
  let c6_i32 : BitVec 32 := 6#32
  let v472 : BitVec 32 := Scalar.addi v471 c6_i32
  let c32_i32_125 : BitVec 32 := 32#32
  let v499 : BitVec 32 := Scalar.muli v472 c32_i32_125
  let c8_i32_126 : BitVec 32 := 8#32
  let v500 : BitVec 32 := Scalar.addi v499 c8_i32_126
  v500
def k3_mult29 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_118 : BitVec 32 := 8#32
  let v471 : BitVec 32 := Scalar.muli v38 c8_i32_118
  let c6_i32 : BitVec 32 := 6#32
  let v472 : BitVec 32 := Scalar.addi v471 c6_i32
  let c32_i32_128 : BitVec 32 := 32#32
  let v518 : BitVec 32 := Scalar.muli v472 c32_i32_128
  let c16_i32_129 : BitVec 32 := 16#32
  let v519 : BitVec 32 := Scalar.addi v518 c16_i32_129
  v519
def k3_mult30 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_133 : BitVec 32 := 8#32
  let v543 : BitVec 32 := Scalar.muli v38 c8_i32_133
  let c7_i32 : BitVec 32 := 7#32
  let v544 : BitVec 32 := Scalar.addi v543 c7_i32
  let c32_i32_134 : BitVec 32 := 32#32
  let v545 : BitVec 32 := Scalar.muli v544 c32_i32_134
  let c24_i32_135 : BitVec 32 := 24#32
  let v546 : BitVec 32 := Scalar.addi v545 c24_i32_135
  v546
def k3_mult31 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_133 : BitVec 32 := 8#32
  let v543 : BitVec 32 := Scalar.muli v38 c8_i32_133
  let c7_i32 : BitVec 32 := 7#32
  let v544 : BitVec 32 := Scalar.addi v543 c7_i32
  let c32_i32_137 : BitVec 32 := 32#32
  let v553 : BitVec 32 := Scalar.muli v544 c32_i32_137
  let c0_i32_138 : BitVec 32 := 0#32
  let v554 : BitVec 32 := Scalar.addi v553 c0_i32_138
  v554
def k3_mult32 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_133 : BitVec 32 := 8#32
  let v543 : BitVec 32 := Scalar.muli v38 c8_i32_133
  let c7_i32 : BitVec 32 := 7#32
  let v544 : BitVec 32 := Scalar.addi v543 c7_i32
  let c32_i32_140 : BitVec 32 := 32#32
  let v571 : BitVec 32 := Scalar.muli v544 c32_i32_140
  let c8_i32_141 : BitVec 32 := 8#32
  let v572 : BitVec 32 := Scalar.addi v571 c8_i32_141
  v572
def k3_mult33 (k3_t2 : Fin k3_t2_loop.trips) : BitVec 32 :=
  let c0_i32_27 : BitVec 32 := 0#32
  let c0_i32_2 : BitVec 32 := 0#32
  let c1_i32_3 : BitVec 32 := 1#32
  let arg10 : BitVec 32 := Scf.iv c0_i32_2 c1_i32_3 k3_t2
  let c1_i32_26 : BitVec 32 := 1#32
  let v37 : BitVec 32 := Scalar.muli arg10 c1_i32_26
  let v38 : BitVec 32 := Scalar.addi c0_i32_27 v37
  let c8_i32_133 : BitVec 32 := 8#32
  let v543 : BitVec 32 := Scalar.muli v38 c8_i32_133
  let c7_i32 : BitVec 32 := 7#32
  let v544 : BitVec 32 := Scalar.addi v543 c7_i32
  let c32_i32_143 : BitVec 32 := 32#32
  let v590 : BitVec 32 := Scalar.muli v544 c32_i32_143
  let c16_i32_144 : BitVec 32 := 16#32
  let v591 : BitVec 32 := Scalar.addi v590 c16_i32_144
  v591
@[reducible] def k3_t3_loop : Scf.Loop 32 :=
  let c0_i32_20 : BitVec 32 := 0#32
  let c8_i32_21 : BitVec 32 := 8#32
  let v32 : BitVec 32 := Scalar.addi c0_i32_20 c8_i32_21
  let c1_i32_22 : BitVec 32 := 1#32
  ⟨c0_i32_20, v32, c1_i32_22⟩
def k3_mult34 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_26 : BitVec 32 := 8#32
  let v37 : BitVec 32 := Scalar.muli arg10 c8_i32_26
  let c0_i32_27 : BitVec 32 := 0#32
  let v38 : BitVec 32 := Scalar.addi v37 c0_i32_27
  let c32_i32 : BitVec 32 := 32#32
  let v39 : BitVec 32 := Scalar.muli v38 c32_i32
  let c24_i32 : BitVec 32 := 24#32
  let v40 : BitVec 32 := Scalar.addi v39 c24_i32
  v40
def k3_off4 (k3_t3 : Fin k3_t3_loop.trips) (c0_i32_27 : BitVec 32) (c24_i32 : BitVec 32) : Fin 2 → Nat :=
  let c0_i32_20 : BitVec 32 := 0#32
  let c1_i32_22 : BitVec 32 := 1#32
  let arg10 : BitVec 32 := Scf.iv c0_i32_20 c1_i32_22 k3_t3
  let c8_i32_26 : BitVec 32 := 8#32
  let v37 : BitVec 32 := Scalar.muli arg10 c8_i32_26
  let v38 : BitVec 32 := Scalar.addi v37 c0_i32_27
  let c32_i32 : BitVec 32 := 32#32
  let v39 : BitVec 32 := Scalar.muli v38 c32_i32
  let v40 : BitVec 32 := Scalar.addi v39 c24_i32
  let v41 : BitVec 32 := v40
  let v42 : Index := Scalar.indexCast v41
  let c0_28 : Index := 0#32
  ![v42.toNat, 0]
def k3_off5 (k3_t3 : Fin k3_t3_loop.trips) (c0_i32_27 : BitVec 32) : Fin 2 → Nat :=
  let c0_i32_20 : BitVec 32 := 0#32
  let c1_i32_22 : BitVec 32 := 1#32
  let arg10 : BitVec 32 := Scf.iv c0_i32_20 c1_i32_22 k3_t3
  let c8_i32_26 : BitVec 32 := 8#32
  let v37 : BitVec 32 := Scalar.muli arg10 c8_i32_26
  let v38 : BitVec 32 := Scalar.addi v37 c0_i32_27
  let v48 : Index := Scalar.indexCast v38
  let c0_29 : Index := 0#32
  ![v48.toNat, 0]
def k3_mult35 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_26 : BitVec 32 := 8#32
  let v37 : BitVec 32 := Scalar.muli arg10 c8_i32_26
  let c0_i32_27 : BitVec 32 := 0#32
  let v38 : BitVec 32 := Scalar.addi v37 c0_i32_27
  let c32_i32_30 : BitVec 32 := 32#32
  let v52 : BitVec 32 := Scalar.muli v38 c32_i32_30
  let c0_i32_31 : BitVec 32 := 0#32
  let v53 : BitVec 32 := Scalar.addi v52 c0_i32_31
  v53
def k3_mult36 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_26 : BitVec 32 := 8#32
  let v37 : BitVec 32 := Scalar.muli arg10 c8_i32_26
  let c0_i32_27 : BitVec 32 := 0#32
  let v38 : BitVec 32 := Scalar.addi v37 c0_i32_27
  let c32_i32_33 : BitVec 32 := 32#32
  let v63 : BitVec 32 := Scalar.muli v38 c32_i32_33
  let c8_i32_34 : BitVec 32 := 8#32
  let v64 : BitVec 32 := Scalar.addi v63 c8_i32_34
  v64
def k3_mult37 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_26 : BitVec 32 := 8#32
  let v37 : BitVec 32 := Scalar.muli arg10 c8_i32_26
  let c0_i32_27 : BitVec 32 := 0#32
  let v38 : BitVec 32 := Scalar.addi v37 c0_i32_27
  let c32_i32_36 : BitVec 32 := 32#32
  let v74 : BitVec 32 := Scalar.muli v38 c32_i32_36
  let c16_i32_37 : BitVec 32 := 16#32
  let v75 : BitVec 32 := Scalar.addi v74 c16_i32_37
  v75
def k3_mult38 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_39 : BitVec 32 := 8#32
  let v85 : BitVec 32 := Scalar.muli arg10 c8_i32_39
  let c1_i32_40 : BitVec 32 := 1#32
  let v86 : BitVec 32 := Scalar.addi v85 c1_i32_40
  let c32_i32_41 : BitVec 32 := 32#32
  let v87 : BitVec 32 := Scalar.muli v86 c32_i32_41
  let c24_i32_42 : BitVec 32 := 24#32
  let v88 : BitVec 32 := Scalar.addi v87 c24_i32_42
  v88
def k3_mult39 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_39 : BitVec 32 := 8#32
  let v85 : BitVec 32 := Scalar.muli arg10 c8_i32_39
  let c1_i32_40 : BitVec 32 := 1#32
  let v86 : BitVec 32 := Scalar.addi v85 c1_i32_40
  let c32_i32_45 : BitVec 32 := 32#32
  let v100 : BitVec 32 := Scalar.muli v86 c32_i32_45
  let c0_i32_46 : BitVec 32 := 0#32
  let v101 : BitVec 32 := Scalar.addi v100 c0_i32_46
  v101
def k3_mult40 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_39 : BitVec 32 := 8#32
  let v85 : BitVec 32 := Scalar.muli arg10 c8_i32_39
  let c1_i32_40 : BitVec 32 := 1#32
  let v86 : BitVec 32 := Scalar.addi v85 c1_i32_40
  let c32_i32_48 : BitVec 32 := 32#32
  let v111 : BitVec 32 := Scalar.muli v86 c32_i32_48
  let c8_i32_49 : BitVec 32 := 8#32
  let v112 : BitVec 32 := Scalar.addi v111 c8_i32_49
  v112
def k3_mult41 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_39 : BitVec 32 := 8#32
  let v85 : BitVec 32 := Scalar.muli arg10 c8_i32_39
  let c1_i32_40 : BitVec 32 := 1#32
  let v86 : BitVec 32 := Scalar.addi v85 c1_i32_40
  let c32_i32_51 : BitVec 32 := 32#32
  let v122 : BitVec 32 := Scalar.muli v86 c32_i32_51
  let c16_i32_52 : BitVec 32 := 16#32
  let v123 : BitVec 32 := Scalar.addi v122 c16_i32_52
  v123
def k3_mult42 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_54 : BitVec 32 := 8#32
  let v133 : BitVec 32 := Scalar.muli arg10 c8_i32_54
  let c2_i32 : BitVec 32 := 2#32
  let v134 : BitVec 32 := Scalar.addi v133 c2_i32
  let c32_i32_55 : BitVec 32 := 32#32
  let v135 : BitVec 32 := Scalar.muli v134 c32_i32_55
  let c24_i32_56 : BitVec 32 := 24#32
  let v136 : BitVec 32 := Scalar.addi v135 c24_i32_56
  v136
def k3_mult43 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_54 : BitVec 32 := 8#32
  let v133 : BitVec 32 := Scalar.muli arg10 c8_i32_54
  let c2_i32 : BitVec 32 := 2#32
  let v134 : BitVec 32 := Scalar.addi v133 c2_i32
  let c32_i32_59 : BitVec 32 := 32#32
  let v148 : BitVec 32 := Scalar.muli v134 c32_i32_59
  let c0_i32_60 : BitVec 32 := 0#32
  let v149 : BitVec 32 := Scalar.addi v148 c0_i32_60
  v149
def k3_mult44 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_54 : BitVec 32 := 8#32
  let v133 : BitVec 32 := Scalar.muli arg10 c8_i32_54
  let c2_i32 : BitVec 32 := 2#32
  let v134 : BitVec 32 := Scalar.addi v133 c2_i32
  let c32_i32_62 : BitVec 32 := 32#32
  let v159 : BitVec 32 := Scalar.muli v134 c32_i32_62
  let c8_i32_63 : BitVec 32 := 8#32
  let v160 : BitVec 32 := Scalar.addi v159 c8_i32_63
  v160
def k3_mult45 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_54 : BitVec 32 := 8#32
  let v133 : BitVec 32 := Scalar.muli arg10 c8_i32_54
  let c2_i32 : BitVec 32 := 2#32
  let v134 : BitVec 32 := Scalar.addi v133 c2_i32
  let c32_i32_65 : BitVec 32 := 32#32
  let v170 : BitVec 32 := Scalar.muli v134 c32_i32_65
  let c16_i32_66 : BitVec 32 := 16#32
  let v171 : BitVec 32 := Scalar.addi v170 c16_i32_66
  v171
def k3_mult46 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_68 : BitVec 32 := 8#32
  let v181 : BitVec 32 := Scalar.muli arg10 c8_i32_68
  let c3_i32 : BitVec 32 := 3#32
  let v182 : BitVec 32 := Scalar.addi v181 c3_i32
  let c32_i32_69 : BitVec 32 := 32#32
  let v183 : BitVec 32 := Scalar.muli v182 c32_i32_69
  let c24_i32_70 : BitVec 32 := 24#32
  let v184 : BitVec 32 := Scalar.addi v183 c24_i32_70
  v184
def k3_mult47 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_68 : BitVec 32 := 8#32
  let v181 : BitVec 32 := Scalar.muli arg10 c8_i32_68
  let c3_i32 : BitVec 32 := 3#32
  let v182 : BitVec 32 := Scalar.addi v181 c3_i32
  let c32_i32_73 : BitVec 32 := 32#32
  let v196 : BitVec 32 := Scalar.muli v182 c32_i32_73
  let c0_i32_74 : BitVec 32 := 0#32
  let v197 : BitVec 32 := Scalar.addi v196 c0_i32_74
  v197
def k3_mult48 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_68 : BitVec 32 := 8#32
  let v181 : BitVec 32 := Scalar.muli arg10 c8_i32_68
  let c3_i32 : BitVec 32 := 3#32
  let v182 : BitVec 32 := Scalar.addi v181 c3_i32
  let c32_i32_76 : BitVec 32 := 32#32
  let v207 : BitVec 32 := Scalar.muli v182 c32_i32_76
  let c8_i32_77 : BitVec 32 := 8#32
  let v208 : BitVec 32 := Scalar.addi v207 c8_i32_77
  v208
def k3_mult49 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_68 : BitVec 32 := 8#32
  let v181 : BitVec 32 := Scalar.muli arg10 c8_i32_68
  let c3_i32 : BitVec 32 := 3#32
  let v182 : BitVec 32 := Scalar.addi v181 c3_i32
  let c32_i32_79 : BitVec 32 := 32#32
  let v218 : BitVec 32 := Scalar.muli v182 c32_i32_79
  let c16_i32_80 : BitVec 32 := 16#32
  let v219 : BitVec 32 := Scalar.addi v218 c16_i32_80
  v219
def k3_mult50 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_82 : BitVec 32 := 8#32
  let v229 : BitVec 32 := Scalar.muli arg10 c8_i32_82
  let c4_i32 : BitVec 32 := 4#32
  let v230 : BitVec 32 := Scalar.addi v229 c4_i32
  let c32_i32_83 : BitVec 32 := 32#32
  let v231 : BitVec 32 := Scalar.muli v230 c32_i32_83
  let c24_i32_84 : BitVec 32 := 24#32
  let v232 : BitVec 32 := Scalar.addi v231 c24_i32_84
  v232
def k3_mult51 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_82 : BitVec 32 := 8#32
  let v229 : BitVec 32 := Scalar.muli arg10 c8_i32_82
  let c4_i32 : BitVec 32 := 4#32
  let v230 : BitVec 32 := Scalar.addi v229 c4_i32
  let c32_i32_87 : BitVec 32 := 32#32
  let v244 : BitVec 32 := Scalar.muli v230 c32_i32_87
  let c0_i32_88 : BitVec 32 := 0#32
  let v245 : BitVec 32 := Scalar.addi v244 c0_i32_88
  v245
def k3_mult52 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_82 : BitVec 32 := 8#32
  let v229 : BitVec 32 := Scalar.muli arg10 c8_i32_82
  let c4_i32 : BitVec 32 := 4#32
  let v230 : BitVec 32 := Scalar.addi v229 c4_i32
  let c32_i32_90 : BitVec 32 := 32#32
  let v255 : BitVec 32 := Scalar.muli v230 c32_i32_90
  let c8_i32_91 : BitVec 32 := 8#32
  let v256 : BitVec 32 := Scalar.addi v255 c8_i32_91
  v256
def k3_mult53 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_82 : BitVec 32 := 8#32
  let v229 : BitVec 32 := Scalar.muli arg10 c8_i32_82
  let c4_i32 : BitVec 32 := 4#32
  let v230 : BitVec 32 := Scalar.addi v229 c4_i32
  let c32_i32_93 : BitVec 32 := 32#32
  let v266 : BitVec 32 := Scalar.muli v230 c32_i32_93
  let c16_i32_94 : BitVec 32 := 16#32
  let v267 : BitVec 32 := Scalar.addi v266 c16_i32_94
  v267
def k3_mult54 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_96 : BitVec 32 := 8#32
  let v277 : BitVec 32 := Scalar.muli arg10 c8_i32_96
  let c5_i32 : BitVec 32 := 5#32
  let v278 : BitVec 32 := Scalar.addi v277 c5_i32
  let c32_i32_97 : BitVec 32 := 32#32
  let v279 : BitVec 32 := Scalar.muli v278 c32_i32_97
  let c24_i32_98 : BitVec 32 := 24#32
  let v280 : BitVec 32 := Scalar.addi v279 c24_i32_98
  v280
def k3_mult55 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_96 : BitVec 32 := 8#32
  let v277 : BitVec 32 := Scalar.muli arg10 c8_i32_96
  let c5_i32 : BitVec 32 := 5#32
  let v278 : BitVec 32 := Scalar.addi v277 c5_i32
  let c32_i32_101 : BitVec 32 := 32#32
  let v292 : BitVec 32 := Scalar.muli v278 c32_i32_101
  let c0_i32_102 : BitVec 32 := 0#32
  let v293 : BitVec 32 := Scalar.addi v292 c0_i32_102
  v293
def k3_mult56 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_96 : BitVec 32 := 8#32
  let v277 : BitVec 32 := Scalar.muli arg10 c8_i32_96
  let c5_i32 : BitVec 32 := 5#32
  let v278 : BitVec 32 := Scalar.addi v277 c5_i32
  let c32_i32_104 : BitVec 32 := 32#32
  let v303 : BitVec 32 := Scalar.muli v278 c32_i32_104
  let c8_i32_105 : BitVec 32 := 8#32
  let v304 : BitVec 32 := Scalar.addi v303 c8_i32_105
  v304
def k3_mult57 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_96 : BitVec 32 := 8#32
  let v277 : BitVec 32 := Scalar.muli arg10 c8_i32_96
  let c5_i32 : BitVec 32 := 5#32
  let v278 : BitVec 32 := Scalar.addi v277 c5_i32
  let c32_i32_107 : BitVec 32 := 32#32
  let v314 : BitVec 32 := Scalar.muli v278 c32_i32_107
  let c16_i32_108 : BitVec 32 := 16#32
  let v315 : BitVec 32 := Scalar.addi v314 c16_i32_108
  v315
def k3_mult58 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_110 : BitVec 32 := 8#32
  let v325 : BitVec 32 := Scalar.muli arg10 c8_i32_110
  let c6_i32 : BitVec 32 := 6#32
  let v326 : BitVec 32 := Scalar.addi v325 c6_i32
  let c32_i32_111 : BitVec 32 := 32#32
  let v327 : BitVec 32 := Scalar.muli v326 c32_i32_111
  let c24_i32_112 : BitVec 32 := 24#32
  let v328 : BitVec 32 := Scalar.addi v327 c24_i32_112
  v328
def k3_mult59 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_110 : BitVec 32 := 8#32
  let v325 : BitVec 32 := Scalar.muli arg10 c8_i32_110
  let c6_i32 : BitVec 32 := 6#32
  let v326 : BitVec 32 := Scalar.addi v325 c6_i32
  let c32_i32_115 : BitVec 32 := 32#32
  let v340 : BitVec 32 := Scalar.muli v326 c32_i32_115
  let c0_i32_116 : BitVec 32 := 0#32
  let v341 : BitVec 32 := Scalar.addi v340 c0_i32_116
  v341
def k3_mult60 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_110 : BitVec 32 := 8#32
  let v325 : BitVec 32 := Scalar.muli arg10 c8_i32_110
  let c6_i32 : BitVec 32 := 6#32
  let v326 : BitVec 32 := Scalar.addi v325 c6_i32
  let c32_i32_118 : BitVec 32 := 32#32
  let v351 : BitVec 32 := Scalar.muli v326 c32_i32_118
  let c8_i32_119 : BitVec 32 := 8#32
  let v352 : BitVec 32 := Scalar.addi v351 c8_i32_119
  v352
def k3_mult61 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_110 : BitVec 32 := 8#32
  let v325 : BitVec 32 := Scalar.muli arg10 c8_i32_110
  let c6_i32 : BitVec 32 := 6#32
  let v326 : BitVec 32 := Scalar.addi v325 c6_i32
  let c32_i32_121 : BitVec 32 := 32#32
  let v362 : BitVec 32 := Scalar.muli v326 c32_i32_121
  let c16_i32_122 : BitVec 32 := 16#32
  let v363 : BitVec 32 := Scalar.addi v362 c16_i32_122
  v363
def k3_mult62 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_124 : BitVec 32 := 8#32
  let v373 : BitVec 32 := Scalar.muli arg10 c8_i32_124
  let c7_i32 : BitVec 32 := 7#32
  let v374 : BitVec 32 := Scalar.addi v373 c7_i32
  let c32_i32_125 : BitVec 32 := 32#32
  let v375 : BitVec 32 := Scalar.muli v374 c32_i32_125
  let c24_i32_126 : BitVec 32 := 24#32
  let v376 : BitVec 32 := Scalar.addi v375 c24_i32_126
  v376
def k3_mult63 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_124 : BitVec 32 := 8#32
  let v373 : BitVec 32 := Scalar.muli arg10 c8_i32_124
  let c7_i32 : BitVec 32 := 7#32
  let v374 : BitVec 32 := Scalar.addi v373 c7_i32
  let c32_i32_129 : BitVec 32 := 32#32
  let v388 : BitVec 32 := Scalar.muli v374 c32_i32_129
  let c0_i32_130 : BitVec 32 := 0#32
  let v389 : BitVec 32 := Scalar.addi v388 c0_i32_130
  v389
def k3_mult64 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_124 : BitVec 32 := 8#32
  let v373 : BitVec 32 := Scalar.muli arg10 c8_i32_124
  let c7_i32 : BitVec 32 := 7#32
  let v374 : BitVec 32 := Scalar.addi v373 c7_i32
  let c32_i32_132 : BitVec 32 := 32#32
  let v399 : BitVec 32 := Scalar.muli v374 c32_i32_132
  let c8_i32_133 : BitVec 32 := 8#32
  let v400 : BitVec 32 := Scalar.addi v399 c8_i32_133
  v400
def k3_mult65 (k3_t3 : Fin k3_t3_loop.trips) : BitVec 32 :=
  let c0_i32_20 : BitVec 32 := 0#32
  let c1_i32_22 : BitVec 32 := 1#32
  let arg10 : BitVec 32 := Scf.iv c0_i32_20 c1_i32_22 k3_t3
  let c8_i32_124 : BitVec 32 := 8#32
  let v373 : BitVec 32 := Scalar.muli arg10 c8_i32_124
  let c7_i32 : BitVec 32 := 7#32
  let v374 : BitVec 32 := Scalar.addi v373 c7_i32
  let c32_i32_135 : BitVec 32 := 32#32
  let v410 : BitVec 32 := Scalar.muli v374 c32_i32_135
  let c16_i32_136 : BitVec 32 := 16#32
  let v411 : BitVec 32 := Scalar.addi v410 c16_i32_136
  v411
def cc3_transform_0 (i : grid3.Coords) : Fin 2 → Nat :=
  let arg0 : BitVec 32 := BitVec.ofNat 32 (i 0).val
  let c18_i32 : BitVec 32 := 18#32
  let v0 : BitVec 32 := Scalar.addi c18_i32 arg0
  let c0_i32 : BitVec 32 := 0#32
  let c0_i32_0 : BitVec 32 := 0#32
  ![c0_i32.toNat, v0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c18_i32 : BitVec 32 := 18#32
  let v0 : BitVec 32 := Scalar.addi c18_i32 arg0
  let c0_i32 : BitVec 32 := 0#32
  let c0_i32_0 : BitVec 32 := 0#32
  ![v0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S96x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x64 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S96x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S64x128 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S64x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== ReferenceIdeal.lean ====
abbrev S3072x96 : Shape := ⟨2, ![3072, 96]⟩
abbrev S12288x128 : Shape := ⟨2, ![12288, 128]⟩
abbrev S3072x64 : Shape := ⟨2, ![3072, 64]⟩
abbrev S49152x128 : Shape := ⟨2, ![49152, 128]⟩
abbrev S24x16x128x4x32 : Shape := ⟨5, ![24, 16, 128, 4, 32]⟩
abbrev S24x128x16x4x32 : Shape := ⟨5, ![24, 128, 16, 4, 32]⟩
abbrev S3072x64x32 : Shape := ⟨3, ![3072, 64, 32]⟩
abbrev S3072x64x24 : Shape := ⟨3, ![3072, 64, 24]⟩
abbrev S3072x64x24x4 : Shape := ⟨4, ![3072, 64, 24, 4]⟩
abbrev S3072x64x96 : Shape := ⟨3, ![3072, 64, 96]⟩
abbrev S3072x64x3 : Shape := ⟨3, ![3072, 64, 3]⟩
abbrev S3072x64x3x32 : Shape := ⟨4, ![3072, 64, 3, 32]⟩
abbrev S3072x1x96 : Shape := ⟨3, ![3072, 1, 96]⟩
abbrev S3072 : Shape := ⟨1, ![3072]⟩
abbrev S3072x1 : Shape := ⟨2, ![3072, 1]⟩
abbrev S3072x64x1 : Shape := ⟨3, ![3072, 64, 1]⟩

abbrev nBuf : Space → Nat
  | .hbm => 20
  | .vmem => 5
  | .smem => 0
  | _ => 0

abbrev bufTy : (tb : Table) → Fin (tcTables nBuf tb) → BufTy
  | .hbm, ⟨0, _⟩ => ⟨S3072x96, .bf16⟩
  | .hbm, ⟨1, _⟩ => ⟨S12288x128, .i32⟩
  | .hbm, ⟨2, _⟩ => ⟨S12288x128, .i32⟩
  | .hbm, ⟨3, _⟩ => ⟨S12288x128, .i32⟩
  | .hbm, ⟨4, _⟩ => ⟨S12288x128, .i32⟩
  | .hbm, ⟨5, _⟩ => ⟨S3072x64, .i32⟩
  | .hbm, ⟨6, _⟩ => ⟨S49152x128, .i32⟩
  | .hbm, ⟨7, _⟩ => ⟨S24x16x128x4x32, .i32⟩
  | .hbm, ⟨8, _⟩ => ⟨S24x128x16x4x32, .i32⟩
  | .hbm, ⟨9, _⟩ => ⟨S3072x64x32, .i32⟩
  | .hbm, ⟨10, _⟩ => ⟨S3072x64x24, .i32⟩
  | .hbm, ⟨11, _⟩ => ⟨S3072x64x24x4, .fp8e4m3⟩
  | .hbm, ⟨12, _⟩ => ⟨S3072x64x96, .fp8e4m3⟩
  | .hbm, ⟨13, _⟩ => ⟨S3072x64x3, .i32⟩
  | .hbm, ⟨14, _⟩ => ⟨S3072x64x3, .f32⟩
  | .hbm, ⟨15, _⟩ => ⟨S3072x64x3x32, .f32⟩
  | .hbm, ⟨16, _⟩ => ⟨S3072x64x96, .f32⟩
  | .hbm, ⟨17, _⟩ => ⟨S3072x1x96, .bf16⟩
  | .hbm, ⟨18, _⟩ => ⟨S3072x96, .bf16⟩
  | .hbm, ⟨19, _⟩ => ⟨S3072x64, .f32⟩
  | .local _ .vmem, ⟨0, _⟩ => ⟨S3072x1x96, .bf16⟩
  | .local _ .vmem, ⟨1, _⟩ => ⟨S3072x64x96, .fp8e4m3⟩
  | .local _ .vmem, ⟨2, _⟩ => ⟨S3072x64x96, .f32⟩
  | .local _ .vmem, ⟨3, _⟩ => ⟨S3072x96, .bf16⟩
  | .local _ .vmem, ⟨4, _⟩ => ⟨S3072x64, .f32⟩
  | _, _ => ⟨S3072x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3072x1x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x64x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x64x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x96 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Distances.lean ====
abbrev S3072x2 : Shape := ⟨2, ![3072, 2]⟩
abbrev S3072x4096x2 : Shape := ⟨3, ![3072, 4096, 2]⟩
abbrev S3072 : Shape := ⟨1, ![3072]⟩
abbrev S3072x32x128x2 : Shape := ⟨4, ![3072, 32, 128, 2]⟩
abbrev S3072x32x2x128 : Shape := ⟨4, ![3072, 32, 2, 128]⟩
abbrev S196608x128 : Shape := ⟨2, ![196608, 128]⟩
abbrev S24x128x2 : Shape := ⟨3, ![24, 128, 2]⟩
abbrev S24x2x128 : Shape := ⟨3, ![24, 2, 128]⟩
abbrev S6144 : Shape := ⟨1, ![6144]⟩
abbrev S24576x128 : Shape := ⟨2, ![24576, 128]⟩
abbrev S24x1x128 : Shape := ⟨3, ![24, 1, 128]⟩
abbrev S8192x128 : Shape := ⟨2, ![8192, 128]⟩
abbrev S1024x128 : Shape := ⟨2, ![1024, 128]⟩
abbrev S1x1x128 : Shape := ⟨3, ![1, 1, 128]⟩
abbrev S8x128 : Shape := ⟨2, ![8, 128]⟩
abbrev S1 : Shape := ⟨1, ![1]⟩
abbrev S128x128 : Shape := ⟨2, ![128, 128]⟩
abbrev S1x128 : Shape := ⟨2, ![1, 128]⟩
abbrev S128 : Shape := ⟨1, ![128]⟩

abbrev nBuf : Space → Nat
  | .hbm => 13
  | .vmem => 7
  | .smem => 2
  | _ => 0

abbrev bufTy : (tb : Table) → Fin (tcTables nBuf tb) → BufTy
  | .hbm, ⟨0, _⟩ => ⟨S3072x2, .i32⟩
  | .hbm, ⟨1, _⟩ => ⟨S3072x4096x2, .i32⟩
  | .hbm, ⟨2, _⟩ => ⟨S3072, .i32⟩
  | .hbm, ⟨3, _⟩ => ⟨S3072x4096x2, .i32⟩
  | .hbm, ⟨4, _⟩ => ⟨S3072x32x128x2, .i32⟩
  | .hbm, ⟨5, _⟩ => ⟨S3072x32x2x128, .i32⟩
  | .hbm, ⟨6, _⟩ => ⟨S196608x128, .i32⟩
  | .hbm, ⟨7, _⟩ => ⟨S3072x2, .i32⟩
  | .hbm, ⟨8, _⟩ => ⟨S24x128x2, .i32⟩
  | .hbm, ⟨9, _⟩ => ⟨S24x2x128, .i32⟩
  | .hbm, ⟨10, _⟩ => ⟨S6144, .i32⟩
  | .hbm, ⟨11, _⟩ => ⟨S24576x128, .i32⟩
  | .hbm, ⟨12, _⟩ => ⟨S24x1x128, .i32⟩
  | .local _ .vmem, ⟨0, _⟩ => ⟨S8192x128, .i32⟩
  | .local _ .vmem, ⟨1, _⟩ => ⟨S8192x128, .i32⟩
  | .local _ .vmem, ⟨2, _⟩ => ⟨S1024x128, .i32⟩
  | .local _ .vmem, ⟨3, _⟩ => ⟨S1024x128, .i32⟩
  | .local _ .vmem, ⟨4, _⟩ => ⟨S1x1x128, .i32⟩
  | .local _ .vmem, ⟨5, _⟩ => ⟨S1x1x128, .i32⟩
  | .local _ .vmem, ⟨6, _⟩ => ⟨S1024x128, .i32⟩
  | .local _ .smem, ⟨0, _⟩ => ⟨S6144, .i32⟩
  | .local _ .smem, ⟨1, _⟩ => ⟨S3072, .i32⟩
  | _, _ => ⟨S3072x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32 : BitVec 32 := 0#32
  let c32_i32 : BitVec 32 := 32#32
  let v6 : BitVec 32 := Scalar.addi c0_i32 c32_i32
  let c1_i32 : BitVec 32 := 1#32
  ⟨c0_i32, v6, c1_i32⟩
def k0_off1 (i : grid0.Coords) (k0_t1 : Fin k0_t1_loop.trips) (c0_i32_26 : BitVec 32) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v67 : BitVec 32 := Scalar.muli v0 c2_i32
  let c0_i32_25 : BitVec 32 := 0#32
  let c0_i32 : BitVec 32 := 0#32
  let c1_i32 : BitVec 32 := 1#32
  let arg7 : BitVec 32 := Scf.iv c0_i32 c1_i32 k0_t1
  let c1_i32_24 : BitVec 32 := 1#32
  let v63 : BitVec 32 := Scalar.muli arg7 c1_i32_24
  let v64 : BitVec 32 := Scalar.addi c0_i32_25 v63
  let c4_i32 : BitVec 32 := 4#32
  let v65 : BitVec 32 := Scalar.muli v64 c4_i32
  let v66 : BitVec 32 := Scalar.addi v65 c0_i32_26
  let v68 : BitVec 32 := Scalar.addi v67 v66
  let v69 : Index := Scalar.indexCast v68
  ![v69.toNat]
def k0_off2 (i : grid0.Coords) (k0_t1 : Fin k0_t1_loop.trips) (c0_i32_26 : BitVec 32) : Fin 1 → Nat :=
  let arg0 : BitVec 32 := BitVec.ofNat 32 (i 0).val
  let c128_i32 : BitVec 32 := 128#32
  let v0 : BitVec 32 := Scalar.muli arg0 c128_i32
  let c2_i32_27 : BitVec 32 := 2#32
  let v71 : BitVec 32 := Scalar.muli v0 c2_i32_27
  let c128_i32_28 : BitVec 32 := 128#32
  let v72 : BitVec 32 := Scalar.addi v71 c128_i32_28
  let c0_i32_25 : BitVec 32 := 0#32
  let c0_i32 : BitVec 32 := 0#32
  let c1_i32 : BitVec 32 := 1#32
  let arg7 : BitVec 32 := Scf.iv c0_i32 c1_i32 k0_t1
  let c1_i32_24 : BitVec 32 := 1#32
  let v63 : BitVec 32 := Scalar.muli arg7 c1_i32_24
  let v64 : BitVec 32 := Scalar.addi c0_i32_25 v63
  let c4_i32 : BitVec 32 := 4#32
  let v65 : BitVec 32 := Scalar.muli v64 c4_i32
  let v66 : BitVec 32 := Scalar.addi v65 c0_i32_26
  let v73 : BitVec 32 := Scalar.addi v72 v66
  let v74 : Index := Scalar.indexCast v73
  ![v74.toNat]
def k0_off3 (i : grid0.Coords) (k0_t1 : Fin k0_t1_loop.trips) (c0_i32_26 : BitVec 32) : Fin 1 → Nat :=
  let arg0 : BitVec 32 := BitVec.ofNat 32 (i 0).val
  let c128_i32 : BitVec 32 := 128#32
  let v0 : BitVec 32 := Scalar.muli arg0 c128_i32
  let c0_i32_25 : BitVec 32 := 0#32
  let c0_i32 : BitVec 32 := 0#32
  let c1_i32 : BitVec 32 := 1#32
  let arg7 : BitVec 32 := Scf.iv c0_i32 c1_i32 k0_t1
  let c1_i32_24 : BitVec 32 := 1#32
  let v63 : BitVec 32 := Scalar.muli arg7 c1_i32_24
  let v64 : BitVec 32 := Scalar.addi c0_i32_25 v63
  let c4_i32 : BitVec 32 := 4#32
  let v65 : BitVec 32 := Scalar.muli v64 c4_i32
  let v66 : BitVec 32 := Scalar.addi v65 c0_i32_26
  let v76 : BitVec 32 := Scalar.addi v0 v66
  let v77 : Index := Scalar.indexCast v76
  ![v77.toNat]
def k0_mult1 (k0_t1 : Fin k0_t1_loop.trips) : BitVec 32 :=
  let c0_i32_25 : BitVec 32 := 0#32
  let c0_i32 : BitVec 32 := 0#32
  let c1_i32 : BitVec 32 := 1#32
  let arg7 : BitVec 32 := Scf.iv c0_i32 c1_i32 k0_t1
  let c1_i32_24 : BitVec 32 := 1#32
  let v63 : BitVec 32 := Scalar.muli arg7 c1_i32_24
  let v64 : BitVec 32 := Scalar.addi c0_i32_25 v63
  let c4_i32 : BitVec 32 := 4#32
  let v65 : BitVec 32 := Scalar.muli v64 c4_i32
  let c0_i32_26 : BitVec 32 := 0#32
  let v66 : BitVec 32 := Scalar.addi v65 c0_i32_26
  let c64_i32_29 : BitVec 32 := 64#32
  let v79 : BitVec 32 := Scalar.muli v66 c64_i32_29
  v79
def k0_off4 (k0_t1 : Fin k0_t1_loop.trips) (c0_i32_26 : BitVec 32) (c0_i32_30 : BitVec 32) : Fin 2 → Nat :=
  let c0_i32_25 : BitVec 32 := 0#32
  let c0_i32 : BitVec 32 := 0#32
  let c1_i32 : BitVec 32 := 1#32
  let arg7 : BitVec 32 := Scf.iv c0_i32 c1_i32 k0_t1
  let c1_i32_24 : BitVec 32 := 1#32
  let v63 : BitVec 32 := Scalar.muli arg7 c1_i32_24
  let v64 : BitVec 32 := Scalar.addi c0_i32_25 v63
  let c4_i32 : BitVec 32 := 4#32
  let v65 : BitVec 32 := Scalar.muli v64 c4_i32
  let v66 : BitVec 32 := Scalar.addi v65 c0_i32_26
  let c64_i32_29 : BitVec 32 := 64#32
  let v79 : BitVec 32 := Scalar.muli v66 c64_i32_29
  let v80 : BitVec 32 := v79
  let v81 : BitVec 32 := Scalar.addi v80 c0_i32_30
  let v82 : Index := Scalar.indexCast v81
  let c0_31 : Index := 0#32
  ![v82.toNat, 0]
def k0_off5 (k0_t1 : Fin k0_t1_loop.trips) (c0_i32_26 : BitVec 32) (c0_i32_32 : BitVec 32) : Fin 2 → Nat :=
  let c0_i32_25 : BitVec 32 := 0#32
  let c0_i32 : BitVec 32 := 0#32
  let c1_i32 : BitVec 32 := 1#32
  let arg7 : BitVec 32 := Scf.iv c0_i32 c1_i32 k0_t1
  let c1_i32_24 : BitVec 32 := 1#32
  let v63 : BitVec 32 := Scalar.muli arg7 c1_i32_24
  let v64 : BitVec 32 := Scalar.addi c0_i32_25 v63
  let c4_i32 : BitVec 32 := 4#32
  let v65 : BitVec 32 := Scalar.muli v64 c4_i32
  let v66 : BitVec 32 := Scalar.addi v65 c0_i32_26
  let c64_i32_29 : BitVec 32 := 64#32
  let v79 : BitVec 32 := Scalar.muli v66 c64_i32_29
  let v80 : BitVec 32 := v79
  let v85 : BitVec 32 := Scalar.addi v80 c0_i32_32
  let c1_i32_33 : BitVec 32 := 1#32
  let v86 : BitVec 32 := Scalar.addi v85 c1_i32_33
  let v87 : Index := Scalar.indexCast v86
  let c0_34 : Index := 0#32
  ![v87.toNat, 0]
def k0_mult2 (k0_t1 : Fin k0_t1_loop.trips) : BitVec 32 :=
  let c0_i32_25 : BitVec 32 := 0#32
  let c0_i32 : BitVec 32 := 0#32
  let c1_i32 : BitVec 32 := 1#32
  let arg7 : BitVec 32 := Scf.iv c0_i32 c1_i32 k0_t1
  let c1_i32_24 : BitVec 32 := 1#32
  let v63 : BitVec 32 := Scalar.muli arg7 c1_i32_24
  let v64 : BitVec 32 := Scalar.addi c0_i32_25 v63
  let c4_i32 : BitVec 32 := 4#32
  let v65 : BitVec 32 := Scalar.muli v64 c4_i32
  let c0_i32_26 : BitVec 32 := 0#32
  let v66 : BitVec 32 := Scalar.addi v65 c0_i32_26
  let c8_i32_54 : BitVec 32 := 8#32
  let v174 : BitVec 32 := Scalar.muli v66 c8_i32_54
  v174
def k0_off6 (k0_t1 : Fin k0_t1_loop.trips) (c0_i32_26 : BitVec 32) : Fin 2 → Nat :=
  let c0_i32_25 : BitVec 32 := 0#32
  let c0_i32 : BitVec 32 := 0#32
  let c1_i32 : BitVec 32 := 1#32
  let arg7 : BitVec 32 := Scf.iv c0_i32 c1_i32 k0_t1
  let c1_i32_24 : BitVec 32 := 1#32
  let v63 : BitVec 32 := Scalar.muli arg7 c1_i32_24
  let v64 : BitVec 32 := Scalar.addi c0_i32_25 v63
  let c4_i32 : BitVec 32 := 4#32
  let v65 : BitVec 32 := Scalar.muli v64 c4_i32
  let v66 : BitVec 32 := Scalar.addi v65 c0_i32_26
  let c8_i32_54 : BitVec 32 := 8#32
  let v174 : BitVec 32 := Scalar.muli v66 c8_i32_54
  let v175 : BitVec 32 := v174
  let v176 : Index := Scalar.indexCast v175
  let c0_55 : Index := 0#32
  ![v176.toNat, 0]
def k0_mult3 (k0_t1 : Fin k0_t1_loop.trips) : BitVec 32 :=
  let c0_i32_25 : BitVec 32 := 0#32
  let c0_i32 : BitVec 32 := 0#32
  let c1_i32 : BitVec 32 := 1#32
  let arg7 : BitVec 32 := Scf.iv c0_i32 c1_i32 k0_t1
  let c1_i32_24 : BitVec 32 := 1#32
  let v63 : BitVec 32 := Scalar.muli arg7 c1_i32_24
  let v64 : BitVec 32 := Scalar.addi c0_i32_25 v63
  let c4_i32_56 : BitVec 32 := 4#32
  let v178 : BitVec 32 := Scalar.muli v64 c4_i32_56
  let c1_i32_57 : BitVec 32 := 1#32
  let v179 : BitVec 32 := Scalar.addi v178 c1_i32_57
  let c64_i32_61 : BitVec 32 := 64#32
  let v192 : BitVec 32 := Scalar.muli v179 c64_i32_61
  v192
def k0_mult4 (k0_t1 : Fin k0_t1_loop.trips) : BitVec 32 :=
  let c0_i32_25 : BitVec 32 := 0#32
  let c0_i32 : BitVec 32 := 0#32
  let c1_i32 : BitVec 32 := 1#32
  let arg7 : BitVec 32 := Scf.iv c0_i32 c1_i32 k0_t1
  let c1_i32_24 : BitVec 32 := 1#32
  let v63 : BitVec 32 := Scalar.muli arg7 c1_i32_24
  let v64 : BitVec 32 := Scalar.addi c0_i32_25 v63
  let c4_i32_56 : BitVec 32 := 4#32
  let v178 : BitVec 32 := Scalar.muli v64 c4_i32_56
  let c1_i32_57 : BitVec 32 := 1#32
  let v179 : BitVec 32 := Scalar.addi v178 c1_i32_57
  let c8_i32_93 : BitVec 32 := 8#32
  let v287 : BitVec 32 := Scalar.muli v179 c8_i32_93
  v287
def k0_mult5 (k0_t1 : Fin k0_t1_loop.trips) : BitVec 32 :=
  let c0_i32_25 : BitVec 32 := 0#32
  let c0_i32 : BitVec 32 := 0#32
  let c1_i32 : BitVec 32 := 1#32
  let arg7 : BitVec 32 := Scf.iv c0_i32 c1_i32 k0_t1
  let c1_i32_24 : BitVec 32 := 1#32
  let v63 : BitVec 32 := Scalar.muli arg7 c1_i32_24
  let v64 : BitVec 32 := Scalar.addi c0_i32_25 v63
  let c4_i32_95 : BitVec 32 := 4#32
  let v291 : BitVec 32 := Scalar.muli v64 c4_i32_95
  let c2_i32_96 : BitVec 32 := 2#32
  let v292 : BitVec 32 := Scalar.addi v291 c2_i32_96
  let c64_i32_100 : BitVec 32 := 64#32
  let v305 : BitVec 32 := Scalar.muli v292 c64_i32_100
  v305
def k0_mult6 (k0_t1 : Fin k0_t1_loop.trips) : BitVec 32 :=
  let c0_i32_25 : BitVec 32 := 0#32
  let c0_i32 : BitVec 32 := 0#32
  let c1_i32 : BitVec 32 := 1#32
  let arg7 : BitVec 32 := Scf.iv c0_i32 c1_i32 k0_t1
  let c1_i32_24 : BitVec 32 := 1#32
  let v63 : BitVec 32 := Scalar.muli arg7 c1_i32_24
  let v64 : BitVec 32 := Scalar.addi c0_i32_25 v63
  let c4_i32_95 : BitVec 32 := 4#32
  let v291 : BitVec 32 := Scalar.muli v64 c4_i32_95
  let c2_i32_96 : BitVec 32 := 2#32
  let v292 : BitVec 32 := Scalar.addi v291 c2_i32_96
  let c8_i32_132 : BitVec 32 := 8#32
  let v400 : BitVec 32 := Scalar.muli v292 c8_i32_132
  v400
def k0_mult7 (k0_t1 : Fin k0_t1_loop.trips) : BitVec 32 :=
  let c0_i32_25 : BitVec 32 := 0#32
  let c0_i32 : BitVec 32 := 0#32
  let c1_i32 : BitVec 32 := 1#32
  let arg7 : BitVec 32 := Scf.iv c0_i32 c1_i32 k0_t1
  let c1_i32_24 : BitVec 32 := 1#32
  let v63 : BitVec 32 := Scalar.muli arg7 c1_i32_24
  let v64 : BitVec 32 := Scalar.addi c0_i32_25 v63
  let c4_i32_134 : BitVec 32 := 4#32
  let v404 : BitVec 32 := Scalar.muli v64 c4_i32_134
  let c3_i32 : BitVec 32 := 3#32
  let v405 : BitVec 32 := Scalar.addi v404 c3_i32
  let c64_i32_138 : BitVec 32 := 64#32
  let v418 : BitVec 32 := Scalar.muli v405 c64_i32_138
  v418
def k0_mult8 (k0_t1 : Fin k0_t1_loop.trips) : BitVec 32 :=
  let c0_i32_25 : BitVec 32 := 0#32
  let c0_i32 : BitVec 32 := 0#32
  let c1_i32 : BitVec 32 := 1#32
  let arg7 : BitVec 32 := Scf.iv c0_i32 c1_i32 k0_t1
  let c1_i32_24 : BitVec 32 := 1#32
  let v63 : BitVec 32 := Scalar.muli arg7 c1_i32_24
  let v64 : BitVec 32 := Scalar.addi c0_i32_25 v63
  let c4_i32_134 : BitVec 32 := 4#32
  let v404 : BitVec 32 := Scalar.muli v64 c4_i32_134
  let c3_i32 : BitVec 32 := 3#32
  let v405 : BitVec 32 := Scalar.addi v404 c3_i32
  let c8_i32_170 : BitVec 32 := 8#32
  let v513 : BitVec 32 := Scalar.muli v405 c8_i32_170
  v513
@[reducible] def k0_t2_loop : Scf.Loop 32 :=
  let c0_i32_19 : BitVec 32 := 0#32
  let c7_i32 : BitVec 32 := 7#32
  let v58 : BitVec 32 := Scalar.addi c0_i32_19 c7_i32
  let c1_i32_20 : BitVec 32 := 1#32
  ⟨c0_i32_19, v58, c1_i32_20⟩
@[reducible] def k0_t3_loop : Scf.Loop 32 :=
  let c0_i32_27 : BitVec 32 := 0#32
  let c8_i32 : BitVec 32 := 8#32
  let v73 : BitVec 32 := Scalar.addi c0_i32_27 c8_i32
  let c1_i32_28 : BitVec 32 := 1#32
  ⟨c0_i32_27, v73, c1_i32_28⟩
def k0_mult9 (k0_t3 : Fin k0_t3_loop.trips) : BitVec 32 :=
  let c0_i32_27 : BitVec 32 := 0#32
  let c1_i32_28 : BitVec 32 := 1#32
  let arg10 : BitVec 32 := Scf.iv c0_i32_27 c1_i32_28 k0_t3
  let c128_i32_61 : BitVec 32 := 128#32
  let v163 : BitVec 32 := Scalar.muli arg10 c128_i32_61
  let c0_i32_62 : BitVec 32 := 0#32
  let v164 : BitVec 32 := Scalar.addi v163 c0_i32_62
  v164
def k0_off7 (k0_t3 : Fin k0_t3_loop.trips) (c0_i32_62 : BitVec 32) : Fin 2 → Nat :=
  let c0_i32_27 : BitVec 32 := 0#32
  let c1_i32_28 : BitVec 32 := 1#32
  let arg10 : BitVec 32 := Scf.iv c0_i32_27 c1_i32_28 k0_t3
  let c128_i32_61 : BitVec 32 := 128#32
  let v163 : BitVec 32 := Scalar.muli arg10 c128_i32_61
  let v164 : BitVec 32 := Scalar.addi v163 c0_i32_62
  let v165 : BitVec 32 := v164
  let v166 : Index := Scalar.indexCast v165
  let c0_63 : Index := 0#32
  ![v166.toNat, 0]
def k0_mult10 (k0_t3 : Fin k0_t3_loop.trips) : BitVec 32 :=
  let c0_i32_27 : BitVec 32 := 0#32
  let c1_i32_28 : BitVec 32 := 1#32
  let arg10 : BitVec 32 := Scf.iv c0_i32_27 c1_i32_28 k0_t3
  let c128_i32_65 : BitVec 32 := 128#32
  let v174 : BitVec 32 := Scalar.muli arg10 c128_i32_65
  let c8_i32_66 : BitVec 32 := 8#32
  let v175 : BitVec 32 := Scalar.addi v174 c8_i32_66
  v175
def k0_mult11 (k0_t3 : Fin k0_t3_loop.trips) : BitVec 32 :=
  let c0_i32_27 : BitVec 32 := 0#32
  let c1_i32_28 : BitVec 32 := 1#32
  let arg10 : BitVec 32 := Scf.iv c0_i32_27 c1_i32_28 k0_t3
  let c128_i32_70 : BitVec 32 := 128#32
  let v185 : BitVec 32 := Scalar.muli arg10 c128_i32_70
  let c16_i32_71 : BitVec 32 := 16#32
  let v186 : BitVec 32 := Scalar.addi v185 c16_i32_71
  v186
def k0_mult12 (k0_t3 : Fin k0_t3_loop.trips) : BitVec 32 :=
  let c0_i32_27 : BitVec 32 := 0#32
  let c1_i32_28 : BitVec 32 := 1#32
  let arg10 : BitVec 32 := Scf.iv c0_i32_27 c1_i32_28 k0_t3
  let c128_i32_75 : BitVec 32 := 128#32
  let v196 : BitVec 32 := Scalar.muli arg10 c128_i32_75
  let c24_i32_76 : BitVec 32 := 24#32
  let v197 : BitVec 32 := Scalar.addi v196 c24_i32_76
  v197
def k0_mult13 (k0_t3 : Fin k0_t3_loop.trips) : BitVec 32 :=
  let c0_i32_27 : BitVec 32 := 0#32
  let c1_i32_28 : BitVec 32 := 1#32
  let arg10 : BitVec 32 := Scf.iv c0_i32_27 c1_i32_28 k0_t3
  let c128_i32_80 : BitVec 32 := 128#32
  let v207 : BitVec 32 := Scalar.muli arg10 c128_i32_80
  let c32_i32_81 : BitVec 32 := 32#32
  let v208 : BitVec 32 := Scalar.addi v207 c32_i32_81
  v208
def k0_mult14 (k0_t3 : Fin k0_t3_loop.trips) : BitVec 32 :=
  let c0_i32_27 : BitVec 32 := 0#32
  let c1_i32_28 : BitVec 32 := 1#32
  let arg10 : BitVec 32 := Scf.iv c0_i32_27 c1_i32_28 k0_t3
  let c128_i32_85 : BitVec 32 := 128#32
  let v218 : BitVec 32 := Scalar.muli arg10 c128_i32_85
  let c40_i32 : BitVec 32 := 40#32
  let v219 : BitVec 32 := Scalar.addi v218 c40_i32
  v219
def k0_mult15 (k0_t3 : Fin k0_t3_loop.trips) : BitVec 32 :=
  let c0_i32_27 : BitVec 32 := 0#32
  let c1_i32_28 : BitVec 32 := 1#32
  let arg10 : BitVec 32 := Scf.iv c0_i32_27 c1_i32_28 k0_t3
  let c128_i32_89 : BitVec 32 := 128#32
  let v229 : BitVec 32 := Scalar.muli arg10 c128_i32_89
  let c48_i32 : BitVec 32 := 48#32
  let v230 : BitVec 32 := Scalar.addi v229 c48_i32
  v230
def k0_mult16 (k0_t3 : Fin k0_t3_loop.trips) : BitVec 32 :=
  let c0_i32_27 : BitVec 32 := 0#32
  let c1_i32_28 : BitVec 32 := 1#32
  let arg10 : BitVec 32 := Scf.iv c0_i32_27 c1_i32_28 k0_t3
  let c128_i32_93 : BitVec 32 := 128#32
  let v240 : BitVec 32 := Scalar.muli arg10 c128_i32_93
  let c56_i32 : BitVec 32 := 56#32
  let v241 : BitVec 32 := Scalar.addi v240 c56_i32
  v241
def k0_mult17 (k0_t3 : Fin k0_t3_loop.trips) : BitVec 32 :=
  let c0_i32_27 : BitVec 32 := 0#32
  let c1_i32_28 : BitVec 32 := 1#32
  let arg10 : BitVec 32 := Scf.iv c0_i32_27 c1_i32_28 k0_t3
  let c128_i32_97 : BitVec 32 := 128#32
  let v251 : BitVec 32 := Scalar.muli arg10 c128_i32_97
  let c64_i32_98 : BitVec 32 := 64#32
  let v252 : BitVec 32 := Scalar.addi v251 c64_i32_98
  v252
def k0_mult18 (k0_t3 : Fin k0_t3_loop.trips) : BitVec 32 :=
  let c0_i32_27 : BitVec 32 := 0#32
  let c1_i32_28 : BitVec 32 := 1#32
  let arg10 : BitVec 32 := Scf.iv c0_i32_27 c1_i32_28 k0_t3
  let c128_i32_102 : BitVec 32 := 128#32
  let v262 : BitVec 32 := Scalar.muli arg10 c128_i32_102
  let c72_i32 : BitVec 32 := 72#32
  let v263 : BitVec 32 := Scalar.addi v262 c72_i32
  v263
def k0_mult19 (k0_t3 : Fin k0_t3_loop.trips) : BitVec 32 :=
  let c0_i32_27 : BitVec 32 := 0#32
  let c1_i32_28 : BitVec 32 := 1#32
  let arg10 : BitVec 32 := Scf.iv c0_i32_27 c1_i32_28 k0_t3
  let c128_i32_106 : BitVec 32 := 128#32
  let v273 : BitVec 32 := Scalar.muli arg10 c128_i32_106
  let c80_i32 : BitVec 32 := 80#32
  let v274 : BitVec 32 := Scalar.addi v273 c80_i32
  v274
def k0_mult20 (k0_t3 : Fin k0_t3_loop.trips) : BitVec 32 :=
  let c0_i32_27 : BitVec 32 := 0#32
  let c1_i32_28 : BitVec 32 := 1#32
  let arg10 : BitVec 32 := Scf.iv c0_i32_27 c1_i32_28 k0_t3
  let c128_i32_110 : BitVec 32 := 128#32
  let v284 : BitVec 32 := Scalar.muli arg10 c128_i32_110
  let c88_i32 : BitVec 32 := 88#32
  let v285 : BitVec 32 := Scalar.addi v284 c88_i32
  v285
def k0_mult21 (k0_t3 : Fin k0_t3_loop.trips) : BitVec 32 :=
  let c0_i32_27 : BitVec 32 := 0#32
  let c1_i32_28 : BitVec 32 := 1#32
  let arg10 : BitVec 32 := Scf.iv c0_i32_27 c1_i32_28 k0_t3
  let c128_i32_114 : BitVec 32 := 128#32
  let v295 : BitVec 32 := Scalar.muli arg10 c128_i32_114
  let c96_i32 : BitVec 32 := 96#32
  let v296 : BitVec 32 := Scalar.addi v295 c96_i32
  v296
def k0_mult22 (k0_t3 : Fin k0_t3_loop.trips) : BitVec 32 :=
  let c0_i32_27 : BitVec 32 := 0#32
  let c1_i32_28 : BitVec 32 := 1#32
  let arg10 : BitVec 32 := Scf.iv c0_i32_27 c1_i32_28 k0_t3
  let c128_i32_118 : BitVec 32 := 128#32
  let v306 : BitVec 32 := Scalar.muli arg10 c128_i32_118
  let c104_i32 : BitVec 32 := 104#32
  let v307 : BitVec 32 := Scalar.addi v306 c104_i32
  v307
def k0_mult23 (k0_t3 : Fin k0_t3_loop.trips) : BitVec 32 :=
  let c0_i32_27 : BitVec 32 := 0#32
  let c1_i32_28 : BitVec 32 := 1#32
  let arg10 : BitVec 32 := Scf.iv c0_i32_27 c1_i32_28 k0_t3
  let c128_i32_122 : BitVec 32 := 128#32
  let v317 : BitVec 32 := Scalar.muli arg10 c128_i32_122
  let c112_i32 : BitVec 32 := 112#32
  let v318 : BitVec 32 := Scalar.addi v317 c112_i32
  v318
def k0_mult24 (k0_t3 : Fin k0_t3_loop.trips) : BitVec 32 :=
  let c0_i32_27 : BitVec 32 := 0#32
  let c1_i32_28 : BitVec 32 := 1#32
  let arg10 : BitVec 32 := Scf.iv c0_i32_27 c1_i32_28 k0_t3
  let c128_i32_126 : BitVec 32 := 128#32
  let v328 : BitVec 32 := Scalar.muli arg10 c128_i32_126
  let c120_i32 : BitVec 32 := 120#32
  let v329 : BitVec 32 := Scalar.addi v328 c120_i32
  v329
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S6144 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S3072 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DistancesReference.lean ====
abbrev S3072x2 : Shape := ⟨2, ![3072, 2]⟩
abbrev S3072x4096x2 : Shape := ⟨3, ![3072, 4096, 2]⟩
abbrev S3072 : Shape := ⟨1, ![3072]⟩
abbrev S3072x1x2 : Shape := ⟨3, ![3072, 1, 2]⟩
abbrev S3072x4096x1 : Shape := ⟨3, ![3072, 4096, 1]⟩
abbrev S3072x4096 : Shape := ⟨2, ![3072, 4096]⟩
abbrev S4096 : Shape := ⟨1, ![4096]⟩
abbrev S1x4096 : Shape := ⟨2, ![1, 4096]⟩
abbrev S3072x1 : Shape := ⟨2, ![3072, 1]⟩
abbrev S_ : Shape := ⟨0, ![]⟩
abbrev S64 : Shape := ⟨1, ![64]⟩
abbrev S3072x1x4096 : Shape := ⟨3, ![3072, 1, 4096]⟩
abbrev S1x64x1 : Shape := ⟨3, ![1, 64, 1]⟩
abbrev S3072x64x4096 : Shape := ⟨3, ![3072, 64, 4096]⟩
abbrev S3072x64 : Shape := ⟨2, ![3072, 64]⟩
abbrev S1x64 : Shape := ⟨2, ![1, 64]⟩
abbrev S3072x8x4x128 : Shape := ⟨4, ![3072, 8, 4, 128]⟩
abbrev S3072x8x1x128 : Shape := ⟨4, ![3072, 8, 1, 128]⟩
abbrev S3072x8x128 : Shape := ⟨3, ![3072, 8, 128]⟩
abbrev S24576x128 : Shape := ⟨2, ![24576, 128]⟩
abbrev S24x1x128 : Shape := ⟨3, ![24, 1, 128]⟩

abbrev nBuf : Space → Nat
  | .hbm => 66
  | .vmem => 0
  | .smem => 0
  | _ => 0

abbrev bufTy : (tb : Table) → Fin (tcTables nBuf tb) → BufTy
  | .hbm, ⟨0, _⟩ => ⟨S3072x2, .i32⟩
  | .hbm, ⟨1, _⟩ => ⟨S3072x4096x2, .i32⟩
  | .hbm, ⟨2, _⟩ => ⟨S3072, .i32⟩
  | .hbm, ⟨3, _⟩ => ⟨S3072x1x2, .i32⟩
  | .hbm, ⟨4, _⟩ => ⟨S3072x4096x2, .i32⟩
  | .hbm, ⟨5, _⟩ => ⟨S3072x4096x2, .i32⟩
  | .hbm, ⟨6, _⟩ => ⟨S3072x4096x2, .i32⟩
  | .hbm, ⟨7, _⟩ => ⟨S3072x4096x2, .i32⟩
  | .hbm, ⟨8, _⟩ => ⟨S3072x4096x1, .i32⟩
  | .hbm, ⟨9, _⟩ => ⟨S3072x4096, .i32⟩
  | .hbm, ⟨10, _⟩ => ⟨S3072x4096x1, .i32⟩
  | .hbm, ⟨11, _⟩ => ⟨S3072x4096, .i32⟩
  | .hbm, ⟨12, _⟩ => ⟨S3072x4096, .i32⟩
  | .hbm, ⟨13, _⟩ => ⟨S4096, .i32⟩
  | .hbm, ⟨14, _⟩ => ⟨S1x4096, .i32⟩
  | .hbm, ⟨15, _⟩ => ⟨S3072x1, .i32⟩
  | .hbm, ⟨16, _⟩ => ⟨S3072x4096, .i32⟩
  | .hbm, ⟨17, _⟩ => ⟨S3072x4096, .i32⟩
  | .hbm, ⟨18, _⟩ => ⟨S3072x4096, .i1⟩
  | .hbm, ⟨19, _⟩ => ⟨S_, .i32⟩
  | .hbm, ⟨20, _⟩ => ⟨S_, .i32⟩
  | .hbm, ⟨21, _⟩ => ⟨S3072x4096, .i32⟩
  | .hbm, ⟨22, _⟩ => ⟨S3072x4096, .i32⟩
  | .hbm, ⟨23, _⟩ => ⟨S64, .i32⟩
  | .hbm, ⟨24, _⟩ => ⟨S3072x1x4096, .i32⟩
  | .hbm, ⟨25, _⟩ => ⟨S1x64x1, .i32⟩
  | .hbm, ⟨26, _⟩ => ⟨S3072x64x4096, .i32⟩
  | .hbm, ⟨27, _⟩ => ⟨S3072x64x4096, .i32⟩
  | .hbm, ⟨28, _⟩ => ⟨S3072x64x4096, .i1⟩
  | .hbm, ⟨29, _⟩ => ⟨S3072x64x4096, .i32⟩
  | .hbm, ⟨30, _⟩ => ⟨S_, .i32⟩
  | .hbm, ⟨31, _⟩ => ⟨S3072x64, .i32⟩
  | .hbm, ⟨32, _⟩ => ⟨S_, .i32⟩
  | .hbm, ⟨33, _⟩ => ⟨S3072x64, .i32⟩
  | .hbm, ⟨34, _⟩ => ⟨S3072x64, .i1⟩
  | .hbm, ⟨35, _⟩ => ⟨S1x64, .i32⟩
  | .hbm, ⟨36, _⟩ => ⟨S_, .i32⟩
  | .hbm, ⟨37, _⟩ => ⟨S_, .i32⟩
  | .hbm, ⟨38, _⟩ => ⟨S3072x64, .i32⟩
  | .hbm, ⟨39, _⟩ => ⟨S3072x64, .i32⟩
  | .hbm, ⟨40, _⟩ => ⟨S3072x64, .i32⟩
  | .hbm, ⟨41, _⟩ => ⟨S_, .i32⟩
  | .hbm, ⟨42, _⟩ => ⟨S3072, .i32⟩
  | .hbm, ⟨43, _⟩ => ⟨S3072x8x4x128, .i32⟩
  | .hbm, ⟨44, _⟩ => ⟨S3072x8x1x128, .i32⟩
  | .hbm, ⟨45, _⟩ => ⟨S3072x8x128, .i32⟩
  | .hbm, ⟨46, _⟩ => ⟨S3072x8x1x128, .i32⟩
  | .hbm, ⟨47, _⟩ => ⟨S3072x8x128, .i32⟩
  | .hbm, ⟨48, _⟩ => ⟨S_, .i32⟩
  | .hbm, ⟨49, _⟩ => ⟨S3072x8x128, .i32⟩
  | .hbm, ⟨50, _⟩ => ⟨S3072x8x128, .i32⟩
  | .hbm, ⟨51, _⟩ => ⟨S3072x8x128, .i32⟩
  | .hbm, ⟨52, _⟩ => ⟨S3072x8x1x128, .i32⟩
  | .hbm, ⟨53, _⟩ => ⟨S3072x8x128, .i32⟩
  | .hbm, ⟨54, _⟩ => ⟨S_, .i32⟩
  | .hbm, ⟨55, _⟩ => ⟨S3072x8x128, .i32⟩
  | .hbm, ⟨56, _⟩ => ⟨S3072x8x128, .i32⟩
  | .hbm, ⟨57, _⟩ => ⟨S3072x8x128, .i32⟩
  | .hbm, ⟨58, _⟩ => ⟨S3072x8x1x128, .i32⟩
  | .hbm, ⟨59, _⟩ => ⟨S3072x8x128, .i32⟩
  | .hbm, ⟨60, _⟩ => ⟨S_, .i32⟩
  | .hbm, ⟨61, _⟩ => ⟨S3072x8x128, .i32⟩
  | .hbm, ⟨62, _⟩ => ⟨S3072x8x128, .i32⟩
  | .hbm, ⟨63, _⟩ => ⟨S3072x8x128, .i32⟩
  | .hbm, ⟨64, _⟩ => ⟨S24576x128, .i32⟩
  | .hbm, ⟨65, _⟩ => ⟨S24x1x128, .i32⟩
  | _, _ => ⟨S3072x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_0 : Ref sig .tc := ⟨.hbm, 30, rfl⟩
abbrev main_v24 : Ref sig .tc := ⟨.hbm, 31, rfl⟩
abbrev main_c_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v28 : Ref sig .tc := ⟨.hbm, 40, rfl⟩
abbrev main_c_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Proof.Trips.lean ====
/-
  What the three loops of the attention body compute, at any float interpretation.

  One block of the grid handles 128 batch rows.  The first loop transposes the gathered rows into a scratch
  array whose column is the batch row and whose row `32 * k + word` is a word of the row gathered for item `k`.
  The second loop writes one row of scores per item, and the third accumulates the pooled embedding.  Each
  theorem here names what one trip does, and then what the whole loop leaves behind, by functions of the
  arrays alone.
-/
module

public import proofs.«01_k».proof.Proof.Gen.KernelIdeal.Loops
public import Idealize.ShloMosaic.Lib.VecWindow
public import Idealize.ShloMosaic.Lib.WritesUnit
public import Idealize.ShloMosaic.Lib.Pointwise.Index

@[expose] public section

set_option maxRecDepth 16384

noncomputable section

namespace Cert.KernelIdeal.Attend

open Idealize.ShloMosaic Idealize.SL.Sem
open Cert.KernelIdeal Cert.KernelIdeal.Gen

variable {F : FTy → Type} [FloatOps F]

/-! ## The functions -/

/-- The row of 128 scores of one item, from the features `x` and the item's words: its scales `sc` and its codes
`a`, `b`, `d` (thirty-two codes each). -/
def scoreOf (x : Vec F S96x128 .bf16) (sc a b d : Vec F S8x128 .i32) : FVec F S1x128 .f32 :=
  k0_pay18 (k0_pay78 x) (k0_pay15 sc) (k0_pay16 (k0_pay76 x) sc a) (k0_pay17 (k0_pay77 x) sc b) d

/-- One item added to the three accumulators: `p` is the item's row of attention weights. -/
def poolOf (p : Vec F S1x128 .f32) (sc a b d : Vec F S8x128 .i32)
    (acc : FVec F S32x128 .f32 × FVec F S32x128 .f32 × FVec F S32x128 .f32) :
    FVec F S32x128 .f32 × FVec F S32x128 .f32 × FVec F S32x128 .f32 :=
  (k0_pay41 acc.1 sc p a, k0_pay42 acc.2.1 sc p b, k0_pay44 acc.2.2 (k0_pay40 sc p) (k0_pay43 d))

/-- Each item's group of eight words lies inside the transposed words. -/
theorem words_inb (n : Fin 64) (q : Fin 4) : ∀ a, (![32 * n.val + 8 * q.val, 0] : Fin 2 → ℕ) a + S8x128.size a ≤ S2048x128.size a := by
  intro a
  have := n.isLt; have := q.isLt
  fin_cases a
  · show 32 * n.val + 8 * q.val + 8 ≤ 2048; omega
  · show 0 + 128 ≤ 128; omega

/-- The `q`-th group of eight words of item `n`, for all 128 batch rows. -/
def words (w : Vec F S2048x128 .i32) (n : Fin 64) (q : Fin 4) : Vec F S8x128 .i32 :=
  VecWindow.window w ![32 * n.val + 8 * q.val, 0] S8x128.size (words_inb n q)

/-- Each item's row lies inside the score and weight arrays. -/
theorem row_inb (n : Fin 64) : ∀ a, (![n.val, 0] : Fin 2 → ℕ) a + S1x128.size a ≤ S64x128.size a := by
  intro a
  have := n.isLt
  fin_cases a
  · show n.val + 1 ≤ 64; omega
  · show 0 + 128 ≤ 128; omega

/-- Row `n` of the attention weights. -/
def row (p : Vec F S64x128 .f32) (n : Fin 64) : Vec F S1x128 .f32 :=
  VecWindow.window p ![n.val, 0] S1x128.size (row_inb n)

/-- The scores of item `n`, out of the transposed words `w`. -/
def scoreRow (x : Vec F S96x128 .bf16) (w : Vec F S2048x128 .i32) (n : Fin 64) : FVec F S1x128 .f32 :=
  scoreOf x (words w n 3) (words w n 0) (words w n 1) (words w n 2)

/-- Item `n` added to the accumulators. -/
def poolStep (w : Vec F S2048x128 .i32) (p : Vec F S64x128 .f32) (n : Fin 64)
    (acc : FVec F S32x128 .f32 × FVec F S32x128 .f32 × FVec F S32x128 .f32) :
    FVec F S32x128 .f32 × FVec F S32x128 .f32 × FVec F S32x128 .f32 :=
  poolOf (row p n) (words w n 3) (words w n 0) (words w n 1) (words w n 2) acc

/-- The accumulators after the first `k` items. -/
def pool (w : Vec F S2048x128 .i32) (p : Vec F S64x128 .f32)
    (init : FVec F S32x128 .f32 × FVec F S32x128 .f32 × FVec F S32x128 .f32) :
    (k : ℕ) → k ≤ 64 → FVec F S32x128 .f32 × FVec F S32x128 .f32 × FVec F S32x128 .f32
  | 0, _ => init
  | k + 1, h => poolStep w p ⟨k, h⟩ (pool w p init k (Nat.le_of_succ_le h))

/-- The transpose in tiles of 128 rows: entry `(r, lane)` is the word at row `128 * (r / 128) + lane` and
column `r % 128`. -/
def transposed (x1 : Vec F S2048x128 .i32) : Vec F S2048x128 .i32 := fun j =>
  x1 (ix2 ⟨128 * ((j 0).val / 128) + (j 1).val, by
    have h0 : (j 0).val < 2048 := (j 0).isLt
    have h1 : (j 1).val < 128 := (j 1).isLt
    omega⟩ ⟨(j 0).val % 128, Nat.mod_lt _ (by decide)⟩)

/-- The scores of all items: row `n` is `scoreRow x w n`. -/
def scores (x : Vec F S96x128 .bf16) (w : Vec F S2048x128 .i32) : Vec F S64x128 .f32 := fun j =>
  scoreRow x w ⟨(j 0).val, (j 0).isLt⟩ (ix2 (0 : Fin 1) ⟨(j 1).val, (j 1).isLt⟩)

/-! ## One trip of each loop -/

section
variable (𝒱 : Variants) (c : Dev nD) (bd : Option 𝒱.V) (i : grid0.Coords)
  (arg1 : Memref sig .tc .vmem S96x128 .bf16) (harg1 : arg1.IsWhole) (arg2 : Memref sig .tc .vmem S2048x128 .i32) (harg2 : arg2.IsWhole)
  (arg3 : Memref sig .tc .vmem S128x64 .i32) (harg3 : arg3.IsWhole) (arg4 : Memref sig .tc .vmem S96x128 .bf16) (harg4 : arg4.IsWhole)
  (arg5 : Memref sig .tc .vmem S64x128 .i32) (harg5 : arg5.IsWhole) (arg6 : Memref sig .tc .vmem S64x128 .f32) (harg6 : arg6.IsWhole)
  (arg7 : Memref sig .tc .vmem S2048x128 .i32) (harg7 : arg7.IsWhole) (arg8 : Memref sig .tc .vmem S64x128 .f32) (harg8 : arg8.IsWhole)
  (arg9 : Memref sig .tc .vmem S64x128 .f32) (harg9 : arg9.IsWhole)

/-- The store of one trip of the transposing loop. -/
theorem tripL1 (X : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 arg8 harg8 arg9 harg9 X k
      = [⟨Rect.unit (s := S2048x128) (k0_off1 k) S128x128.size (k0_off1_inb k),
          k0_pay74 (arg2.view.readAt (Elt F) (Rect.unit (s := S2048x128) (k0_off1 k) S128x128.size (k0_off1_inb k)).toLoadRect X)⟩] := by
  unfold tripL_k0_t1 trip_k0_t1; rfl

/-- The words a trip of the scoring loop loads. -/
abbrev ld2 (X : BufTy.Contents (Elt F) arg7.view.ty) (k : Fin k0_t2_loop.trips) (r : Fin 8) (q : Fin 4) : Vec F S8x128 .i32 :=
  arg7.view.readAt (Elt F) (Rect.unit (s := S2048x128) (k0_off2 k (BitVec.ofNat 32 r.val) (BitVec.ofNat 32 (8 * q.val))) S8x128.size (k0_off2_inb k r q)).toLoadRect X

/-- One of the eight stores of a trip of the scoring loop. -/
abbrev piece2 (v1 : Vec F S96x128 .bf16) (X : BufTy.Contents (Elt F) arg7.view.ty) (k : Fin k0_t2_loop.trips) (r : Fin 8) :
    View.Piece (Elt F) S64x128 .f32 :=
  ⟨Rect.unit (s := S64x128) (k0_off3 k (BitVec.ofNat 32 r.val)) S1x128.size (k0_off3_inb k r),
    scoreOf v1 (ld2 arg7 X k r 3) (ld2 arg7 X k r 0) (ld2 arg7 X k r 1) (ld2 arg7 X k r 2)⟩

set_option maxHeartbeats 4000000 in
/-- The stores of one trip of the scoring loop: eight items, each by the same function of its words. -/
theorem tripL2 (v1 : Vec F S96x128 .bf16) (X : BufTy.Contents (Elt F) arg7.view.ty) (k : Fin k0_t2_loop.trips) :
    tripL_k0_t2 (F := F) 𝒱 c bd i arg1 harg1 arg2 harg2 arg3 harg3 arg4 harg4 arg5 harg5 arg6 harg6 arg7 harg7 arg8 harg8 arg9 harg9 v1 X k
      = [piece2 arg7 v1 X k 7, piece2 arg7 v1 X k 6, piece2 arg7 v1 X k 5, piece2 arg7 v1 X k 4,
         piece2 arg7 v1 X k 3, piece2 arg7 v1 X k 2, piece2 arg7 v1 X k 1, piece2 arg7 v1 X k 0] := by
  unfold tripL_k0_t2 trip_k0_t2; rfl

/-- The words a trip of the pooling loop loads. -/
abbrev ld3 (X : BufTy.Contents (Elt F) arg7.view.ty) (k : Fin k0_t3_loop.trips) (r : Fin 8) (q : Fin 4) : Vec F S8x128 .i32 :=
  arg7.view.readAt (Elt F) (Rect.unit (s := S2048x128) (k0_off4 k (BitVec.ofNat 32 r.val) (BitVec.ofNat 32 (8 * q.val))) S8x128.size (k0_off4_inb k r q)).toLoadRect X

/-- The row of weights a trip of the pooling loop loads. -/
abbrev ldp (Y : BufTy.Contents (Elt F) arg9.view.ty) (k : Fin k0_t3_loop.trips) (r : Fin 8) : Vec F S1x128 .f32 :=
  arg9.view.readAt (Elt F) (Rect.unit (s := S64x128) (k0_off5 k (BitVec.ofNat 32 r.val)) S1x128.size (k0_off5_inb k r)).toLoadRect Y

/-- One of the eight items of a trip of the pooling loop. -/
abbrev step3 (X : BufTy.Contents (Elt F) arg7.view.ty) (Y : BufTy.Contents (Elt F) arg9.view.ty) (k : Fin k0_t3_loop.trips) (r : Fin 8)
    (acc : FVec F S32x128 .f32 × FVec F S32x128 .f32 × FVec F S32x128 .f32) :
    FVec F S32x128 .f32 × FVec F S32x128 .f32 × FVec F S32x128 .f32 :=
  poolOf (ldp arg9 Y k r) (ld3 arg7 X k r 3) (ld3 arg7 X k r 0) (ld3 arg7 X k r 1) (ld3 arg7 X k r 2) acc

set_option maxHeartbeats 4000000 in
/-- The result of one trip of the pooling loop: eight items, each by the same step. -/
theorem tripR3 (X : BufTy.Contents (Elt F) arg7.view.ty) (Y : BufTy.Contents (Elt F) arg9.view.ty) (k : Fin k0_t3_loop.trips)
    (acc : FVec F S32x128 .f32 × FVec F S32x128 .f32 × FVec F S32x128 .f32) :
    tripR_k0_t3 (F := F) 𝒱 c bd i arg1 harg1 arg2 harg2 arg3 harg3 arg4 harg4 arg5 harg5 arg6 harg6 arg7 harg7 arg8 harg8 arg9 harg9 X Y k acc
      = step3 arg7 arg9 X Y k 7 (step3 arg7 arg9 X Y k 6 (step3 arg7 arg9 X Y k 5 (step3 arg7 arg9 X Y k 4
          (step3 arg7 arg9 X Y k 3 (step3 arg7 arg9 X Y k 2 (step3 arg7 arg9 X Y k 1 (step3 arg7 arg9 X Y k 0 acc))))))) := by
  unfold tripR_k0_t3 trip_k0_t3; rfl

end

end Cert.KernelIdeal.Attend

end
-- ==== Proof.Passes.lean ====
/-
  What each of the three loops of the attention body leaves behind when it has run to its end: the transposed
  words, the rows of scores, the pooled accumulators.
-/
module

public import proofs.«01_k».proof.Proof.Trips
public import Idealize.ShloMosaic.Lib.Pointwise.Reshape

@[expose] public section

set_option maxRecDepth 16384

noncomputable section

namespace Cert.KernelIdeal.Attend

open Idealize.ShloMosaic Idealize.SL.Sem
open Cert.KernelIdeal Cert.KernelIdeal.Gen

variable {F : FTy → Type} [FloatOps F]

/-- Two stores through equal offsets, of equal payloads, are the same store. -/
theorem piece_congr {Val : EltTy → Type} {s : Shape} {e : EltTy} {off off' size : Fin s.rank → ℕ}
    (inb : ∀ a, off a + size a ≤ s.size a) (inb' : ∀ a, off' a + size a ≤ s.size a)
    (w w' : (⟨s.rank, size⟩ : Shape).Idx → Val e) (h : off = off') (hw : w = w') :
    (⟨Rect.unit off size inb, w⟩ : View.Piece Val s e) = ⟨Rect.unit off' size inb', w'⟩ := by
  subst h hw; rfl

/-- Each tile of 128 rows lies inside the block of gathered rows. -/
theorem tile_inb (i : Fin 16) : ∀ a, (![128 * i.val, 0] : Fin 2 → ℕ) a + S128x128.size a ≤ S2048x128.size a := by
  intro a
  have := i.isLt
  fin_cases a
  · show 128 * i.val + 128 ≤ 2048; omega
  · show 0 + 128 ≤ 128; omega

/-- The stored tile is the transpose of the loaded one. -/
theorem pay74_apply (v : Vec F S128x128 .i32) (y : S128x128.Idx) :
    k0_pay74 v y = v (ix2 (n0 := 128) (n1 := 128) (y 1) (y 0)) := by
  unfold k0_pay74
  rw [shapeCast_id]
  refine congrArg v (funext fun a => ?_)
  match a with | ⟨0, _⟩ => rfl | ⟨1, _⟩ => rfl

section
variable (𝒱 : Variants) (c : Dev nD) (bd : Option 𝒱.V) (i : grid0.Coords)
  (arg1 : Memref sig .tc .vmem S96x128 .bf16) (harg1 : arg1.IsWhole) (arg2 : Memref sig .tc .vmem S2048x128 .i32) (harg2 : arg2.IsWhole)
  (arg3 : Memref sig .tc .vmem S128x64 .i32) (harg3 : arg3.IsWhole) (arg4 : Memref sig .tc .vmem S96x128 .bf16) (harg4 : arg4.IsWhole)
  (arg5 : Memref sig .tc .vmem S64x128 .i32) (harg5 : arg5.IsWhole) (arg6 : Memref sig .tc .vmem S64x128 .f32) (harg6 : arg6.IsWhole)
  (arg7 : Memref sig .tc .vmem S2048x128 .i32) (harg7 : arg7.IsWhole) (arg8 : Memref sig .tc .vmem S64x128 .f32) (harg8 : arg8.IsWhole)
  (arg9 : Memref sig .tc .vmem S64x128 .f32) (harg9 : arg9.IsWhole)

/-! ## The transposing loop -/

/-- The stores of the first `K` trips of the transposing loop are tiles of 128 rows. -/
theorem pb1_tiles (X : BufTy.Contents (Elt F) arg2.view.ty) (K : ℕ) (hK : K ≤ 16) :
    pb_k0_t1 (F := F) 𝒱 c bd i arg1 harg1 arg2 harg2 arg3 harg3 arg4 harg4 arg5 harg5 arg6 harg6 arg7 harg7 arg8 harg8 arg9 harg9 X K
      = View.tilePieces (NT := 16) (s := S2048x128) S128x128.size (fun i => ![128 * i.val, 0]) tile_inb
          (fun i => k0_pay74 (VecWindow.window (arg2.view.read (Elt F) X) ![128 * i.val, 0] S128x128.size (tile_inb i))) K hK := by
  induction K with
  | zero => rfl
  | succ K ih =>
    have hT : k0_t1_loop.trips = 16 := by decide +kernel
    have h := pb_k0_t1_succ (F := F) 𝒱 c bd i arg1 harg1 arg2 harg2 arg3 harg3 arg4 harg4 arg5 harg5 arg6 harg6 arg7 harg7 arg8 harg8 arg9 harg9 X ⟨K, by omega⟩
    rw [tripL1] at h
    refine h.trans ?_
    rw [ih (by omega), View.tilePieces_succ]
    refine congrArg (· :: _) ?_
    have ho : k0_off1 (⟨K, by omega⟩ : Fin k0_t1_loop.trips) = ![128 * K, 0] := k0_off1_eq ⟨K, by omega⟩
    exact piece_congr (Val := Elt F) (s := S2048x128) (e := .i32) (size := S128x128.size) (k0_off1_inb _) (tile_inb _) _ _ ho
      (congrArg k0_pay74 (View.readAt_unit arg2.view X (k0_off1_inb _) ho (tile_inb ⟨K, hK⟩)))

/-- After the transposing loop the scratch reads as the transpose of the gathered rows. -/
theorem read1 (X : BufTy.Contents (Elt F) arg2.view.ty) (G : BufTy.Contents (Elt F) arg7.view.ty) :
    arg7.view.read (Elt F) (arg7.view.writes (Elt F) G
        (pb_k0_t1 (F := F) 𝒱 c bd i arg1 harg1 arg2 harg2 arg3 harg3 arg4 harg4 arg5 harg5 arg6 harg6 arg7 harg7 arg8 harg8 arg9 harg9 X 16))
      = transposed (arg2.view.read (Elt F) X) := by
  funext y
  have h0 : (y 0).val < 2048 := (y 0).isLt
  have h1 : (y 1).val < 128 := (y 1).isLt
  rw [pb1_tiles _ _ _ _ _ _ _ _ _ _ _ _ _ _ _ _ _ _ _ _ _ _ X 16 (Nat.le_refl _),
    View.read_tilePieces arg7.view G S128x128.size (fun i => ![128 * i.val, 0]) tile_inb _ 16 (Nat.le_refl _) y
      ⟨(y 0).val / 128, by omega⟩ (by show (y 0).val / 128 < 16; omega) (ix2 (n0 := 128) (n1 := 128) ⟨(y 0).val % 128, Nat.mod_lt _ (by decide)⟩ ⟨(y 1).val, h1⟩)
      (Fin.forall_fin_two.mpr ⟨by show (y 0).val = 128 * ((y 0).val / 128) + (y 0).val % 128; omega,
        by show (y 1).val = 0 + (y 1).val; omega⟩)
      (0 : Fin 2) (fun i' hi' => by
        have hne : i'.val ≠ (y 0).val / 128 := fun h => hi' (Fin.ext h)
        show (y 0).val < 128 * i'.val ∨ 128 * i'.val + 128 ≤ (y 0).val
        omega),
    pay74_apply]
  refine congrArg (arg2.view.read (Elt F) X) (funext fun a => Fin.ext ?_)
  match a with
  | ⟨0, _⟩ => show 128 * ((y 0).val / 128) + 1 * (y 1).val = 128 * ((y 0).val / 128) + (y 1).val; omega
  | ⟨1, _⟩ => show 0 + 1 * ((y 0).val % 128) = (y 0).val % 128; omega

/-! ## The scoring loop -/

/-- The eight words a trip of the scoring loop loads for an item are that item's words. -/
theorem ld2_eq (X : BufTy.Contents (Elt F) arg7.view.ty) (k : Fin k0_t2_loop.trips) (r : Fin 8) (q : Fin 4) (n : Fin 64) (hn : n.val = 8 * k.val + r.val) :
    ld2 arg7 X k r q = words (arg7.view.read (Elt F) X) n q := by
  have ho : k0_off2 k (BitVec.ofNat 32 r.val) (BitVec.ofNat 32 (8 * q.val)) = ![32 * n.val + 8 * q.val, 0] := by
    rw [k0_off2_eq k r q]
    refine funext fun a => ?_
    match a with
    | ⟨0, _⟩ => show 256 * k.val + 32 * r.val + 8 * q.val = 32 * n.val + 8 * q.val; omega
    | ⟨1, _⟩ => rfl
  exact View.readAt_unit arg7.view X (k0_off2_inb k r q) ho (words_inb n q)

/-- A store of the scoring loop is the item's row of scores. -/
theorem piece2_eq (v1 : Vec F S96x128 .bf16) (X : BufTy.Contents (Elt F) arg7.view.ty) (k : Fin k0_t2_loop.trips) (r : Fin 8) (n : Fin 64)
    (hn : n.val = 8 * k.val + r.val) :
    piece2 arg7 v1 X k r = ⟨Rect.unit (s := S64x128) ![n.val, 0] S1x128.size (row_inb n), scoreRow v1 (arg7.view.read (Elt F) X) n⟩ := by
  have ho : k0_off3 k (BitVec.ofNat 32 r.val) = ![n.val, 0] := by
    rw [k0_off3_eq k r, hn]
  refine piece_congr (Val := Elt F) (s := S64x128) (e := .f32) (size := S1x128.size) (k0_off3_inb k r) (row_inb n) _ _ ho ?_
  rw [ld2_eq arg7 X k r 3 n hn, ld2_eq arg7 X k r 0 n hn, ld2_eq arg7 X k r 1 n hn, ld2_eq arg7 X k r 2 n hn]
  rfl

/-- The stores of the first `K` trips of the scoring loop are one row per item. -/
theorem pb2_tiles (v1 : Vec F S96x128 .bf16) (X : BufTy.Contents (Elt F) arg7.view.ty) (K : ℕ) (hK : 8 * K ≤ 64) :
    pb_k0_t2 (F := F) 𝒱 c bd i arg1 harg1 arg2 harg2 arg3 harg3 arg4 harg4 arg5 harg5 arg6 harg6 arg7 harg7 arg8 harg8 arg9 harg9 v1 X K
      = View.tilePieces (NT := 64) (s := S64x128) S1x128.size (fun i => ![i.val, 0]) row_inb
          (fun n => scoreRow v1 (arg7.view.read (Elt F) X) n) (8 * K) hK := by
  induction K with
  | zero => rfl
  | succ K ih =>
    have hT : k0_t2_loop.trips = 8 := by decide +kernel
    have hk : K < k0_t2_loop.trips := by omega
    have h := pb_k0_t2_succ (F := F) 𝒱 c bd i arg1 harg1 arg2 harg2 arg3 harg3 arg4 harg4 arg5 harg5 arg6 harg6 arg7 harg7 arg8 harg8 arg9 harg9 v1 X ⟨K, hk⟩
    rw [tripL2] at h
    refine h.trans ?_
    rw [ih (by omega),
      piece2_eq arg7 v1 X ⟨K, hk⟩ 0 ⟨8 * K + 0, by omega⟩ rfl, piece2_eq arg7 v1 X ⟨K, hk⟩ 1 ⟨8 * K + 1, by omega⟩ rfl,
      piece2_eq arg7 v1 X ⟨K, hk⟩ 2 ⟨8 * K + 2, by omega⟩ rfl, piece2_eq arg7 v1 X ⟨K, hk⟩ 3 ⟨8 * K + 3, by omega⟩ rfl,
      piece2_eq arg7 v1 X ⟨K, hk⟩ 4 ⟨8 * K + 4, by omega⟩ rfl, piece2_eq arg7 v1 X ⟨K, hk⟩ 5 ⟨8 * K + 5, by omega⟩ rfl,
      piece2_eq arg7 v1 X ⟨K, hk⟩ 6 ⟨8 * K + 6, by omega⟩ rfl, piece2_eq arg7 v1 X ⟨K, hk⟩ 7 ⟨8 * K + 7, by omega⟩ rfl]
    rfl

/-- After the scoring loop the score scratch reads as the scores of all items. -/
theorem read2 (v1 : Vec F S96x128 .bf16) (X : BufTy.Contents (Elt F) arg7.view.ty) (G : BufTy.Contents (Elt F) arg8.view.ty) :
    arg8.view.read (Elt F) (arg8.view.writes (Elt F) G
        (pb_k0_t2 (F := F) 𝒱 c bd i arg1 harg1 arg2 harg2 arg3 harg3 arg4 harg4 arg5 harg5 arg6 harg6 arg7 harg7 arg8 harg8 arg9 harg9 v1 X 8))
      = scores v1 (arg7.view.read (Elt F) X) := by
  funext y
  have h0 : (y 0).val < 64 := (y 0).isLt
  have h1 : (y 1).val < 128 := (y 1).isLt
  rw [pb2_tiles _ _ _ _ _ _ _ _ _ _ _ _ _ _ _ _ _ _ _ _ _ _ v1 X 8 (Nat.le_refl _)]
  exact View.read_tilePieces arg8.view G S1x128.size (fun i => ![i.val, 0]) row_inb
      (fun n => scoreRow v1 (arg7.view.read (Elt F) X) n) (8 * 8) (Nat.le_refl _) y
      ⟨(y 0).val, h0⟩ h0 (ix2 (n0 := 1) (n1 := 128) (0 : Fin 1) ⟨(y 1).val, h1⟩)
      (Fin.forall_fin_two.mpr ⟨rfl, by show (y 1).val = 0 + (y 1).val; omega⟩)
      (0 : Fin 2) (fun i' hi' => by
        have hne : i'.val ≠ (y 0).val := fun h => hi' (Fin.ext h)
        show (y 0).val < i'.val ∨ i'.val + 1 ≤ (y 0).val
        omega)

/-! ## The pooling loop -/

/-- The eight words a trip of the pooling loop loads for an item are that item's words. -/
theorem ld3_eq (X : BufTy.Contents (Elt F) arg7.view.ty) (k : Fin k0_t3_loop.trips) (r : Fin 8) (q : Fin 4) (n : Fin 64) (hn : n.val = 8 * k.val + r.val) :
    ld3 arg7 X k r q = words (arg7.view.read (Elt F) X) n q := by
  have ho : k0_off4 k (BitVec.ofNat 32 r.val) (BitVec.ofNat 32 (8 * q.val)) = ![32 * n.val + 8 * q.val, 0] := by
    rw [k0_off4_eq k r q]
    refine funext fun a => ?_
    match a with
    | ⟨0, _⟩ => show 256 * k.val + 32 * r.val + 8 * q.val = 32 * n.val + 8 * q.val; omega
    | ⟨1, _⟩ => rfl
  exact View.readAt_unit arg7.view X (k0_off4_inb k r q) ho (words_inb n q)

/-- The row of weights a trip of the pooling loop loads for an item is that item's row. -/
theorem ldp_eq (Y : BufTy.Contents (Elt F) arg9.view.ty) (k : Fin k0_t3_loop.trips) (r : Fin 8) (n : Fin 64) (hn : n.val = 8 * k.val + r.val) :
    ldp arg9 Y k r = row (arg9.view.read (Elt F) Y) n := by
  have ho : k0_off5 k (BitVec.ofNat 32 r.val) = ![n.val, 0] := by rw [k0_off5_eq k r, hn]
  exact View.readAt_unit arg9.view Y (k0_off5_inb k r) ho (row_inb n)

/-- One item of a trip of the pooling loop is one step over the items. -/
theorem step3_eq (X : BufTy.Contents (Elt F) arg7.view.ty) (Y : BufTy.Contents (Elt F) arg9.view.ty) (k : Fin k0_t3_loop.trips) (r : Fin 8)
    (n : Fin 64) (hn : n.val = 8 * k.val + r.val) (acc : FVec F S32x128 .f32 × FVec F S32x128 .f32 × FVec F S32x128 .f32) :
    step3 arg7 arg9 X Y k r acc = poolStep (arg7.view.read (Elt F) X) (arg9.view.read (Elt F) Y) n acc := by
  unfold step3 poolStep
  rw [ldp_eq arg9 Y k r n hn, ld3_eq arg7 X k r 3 n hn, ld3_eq arg7 X k r 0 n hn, ld3_eq arg7 X k r 1 n hn, ld3_eq arg7 X k r 2 n hn]

/-- The accumulators after `K` trips of the pooling loop are those after `8 * K` items. -/
theorem st3 (X : BufTy.Contents (Elt F) arg7.view.ty) (Y : BufTy.Contents (Elt F) arg9.view.ty)
    (init : FVec F S32x128 .f32 × FVec F S32x128 .f32 × FVec F S32x128 .f32) (K : ℕ) (hK : 8 * K ≤ 64) :
    st_k0_t3 (F := F) 𝒱 c bd i arg1 harg1 arg2 harg2 arg3 harg3 arg4 harg4 arg5 harg5 arg6 harg6 arg7 harg7 arg8 harg8 arg9 harg9 X Y init K
      = pool (arg7.view.read (Elt F) X) (arg9.view.read (Elt F) Y) init (8 * K) hK := by
  induction K with
  | zero => rfl
  | succ K ih =>
    have hT : k0_t3_loop.trips = 8 := by decide +kernel
    have hk : K < k0_t3_loop.trips := by omega
    have h := st_k0_t3_succ (F := F) 𝒱 c bd i arg1 harg1 arg2 harg2 arg3 harg3 arg4 harg4 arg5 harg5 arg6 harg6 arg7 harg7 arg8 harg8 arg9 harg9 X Y init ⟨K, hk⟩
    rw [tripR3] at h
    refine h.trans ?_
    rw [ih (by omega),
      step3_eq arg7 arg9 X Y ⟨K, hk⟩ 0 ⟨8 * K + 0, by omega⟩ rfl, step3_eq arg7 arg9 X Y ⟨K, hk⟩ 1 ⟨8 * K + 1, by omega⟩ rfl,
      step3_eq arg7 arg9 X Y ⟨K, hk⟩ 2 ⟨8 * K + 2, by omega⟩ rfl, step3_eq arg7 arg9 X Y ⟨K, hk⟩ 3 ⟨8 * K + 3, by omega⟩ rfl,
      step3_eq arg7 arg9 X Y ⟨K, hk⟩ 4 ⟨8 * K + 4, by omega⟩ rfl, step3_eq arg7 arg9 X Y ⟨K, hk⟩ 5 ⟨8 * K + 5, by omega⟩ rfl,
      step3_eq arg7 arg9 X Y ⟨K, hk⟩ 6 ⟨8 * K + 6, by omega⟩ rfl, step3_eq arg7 arg9 X Y ⟨K, hk⟩ 7 ⟨8 * K + 7, by omega⟩ rfl]
    rfl

end

end Cert.KernelIdeal.Attend

end
-- ==== Proof.Body.lean ====
/-
  One run of the attention body over one block, with what it leaves in its three results named: functions of
  the block's features, gathered rows and positions alone.
-/
module

public import proofs.«01_k».proof.Proof.Passes
public import proofs.«01_k».proof.Proof.Gen.KernelIdeal.Launch
public import proofs.«01_k».proof.Proof.Gen.KernelIdeal.Points

@[expose] public section

set_option maxRecDepth 16384

noncomputable section

namespace Cert.KernelIdeal.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The attention weights of a block. -/
def attnOut (x0 : Vec F S96x128 .bf16) (x1 : Vec F S2048x128 .i32) : Vec F S64x128 .f32 :=
  k0_pay80 (scores x0 (transposed x1))

/-- The positions of a block, transposed. -/
def selOut (x2 : Vec F S128x64 .i32) : Vec F S64x128 .i32 := k0_pay81 x2

/-- The pooled embedding of a block. -/
def pooledOut (x0 : Vec F S96x128 .bf16) (x1 : Vec F S2048x128 .i32) : Vec F S96x128 .bf16 :=
  let acc := pool (transposed x1) (k0_pay82 (scores x0 (transposed x1))) (k0_pay83, k0_pay1, k0_pay2) 64 (Nat.le_refl _)
  k0_pay5 acc.1 acc.2.1 acc.2.2

set_option maxHeartbeats 2000000 in
/-- The body's triple: given a block's features `x0`, gathered rows `x1` and positions `x2`, whatever the results
and the scratch held, the body ends with the inputs as they were and the three results at the named functions. -/
theorem attend_run (c : Dev nD) (i : grid0.Coords) (arg1 : Memref sig .tc .vmem S96x128 .bf16) (harg1 : arg1.IsWhole) (arg2 : Memref sig .tc .vmem S2048x128 .i32) (harg2 : arg2.IsWhole) (arg3 : Memref sig .tc .vmem S128x64 .i32) (harg3 : arg3.IsWhole) (arg4 : Memref sig .tc .vmem S96x128 .bf16) (harg4 : arg4.IsWhole) (arg5 : Memref sig .tc .vmem S64x128 .i32) (harg5 : arg5.IsWhole) (arg6 : Memref sig .tc .vmem S64x128 .f32) (harg6 : arg6.IsWhole) (arg7 : Memref sig .tc .vmem S2048x128 .i32) (harg7 : arg7.IsWhole) (arg8 : Memref sig .tc .vmem S64x128 .f32) (harg8 : arg8.IsWhole) (arg9 : Memref sig .tc .vmem S64x128 .f32) (harg9 : arg9.IsWhole)
    (x0 : Vec F S96x128 .bf16) (x1 : Vec F S2048x128 .i32) (x2 : Vec F S128x64 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare (pooledOut x0 x1) ∗ owns (c : Thread nD τ) arg5 fullShare (selOut (F := F) x2) ∗ owns (c : Thread nD τ) arg6 fullShare (attnOut x0 x1) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_attend0 i arg1 harg1 arg2 harg2 arg3 harg3 arg4 harg4 arg5 harg5 arg6 harg6 arg7 harg7 arg8 harg8 arg9 harg9) K := by
    intro E K
    simp only [cc0_attend0_eq_skeleton]; unfold cc0_attend0_skel
    simp only [k0_part21_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec
    sl_step
    iapply Hk
    have hT1 : Scf.trips k0_t1_loop.lb k0_t1_loop.ub k0_t1_loop.st = 16 := by decide +kernel
    have hT2 : Scf.trips k0_t2_loop.lb k0_t2_loop.ub k0_t2_loop.st = 8 := by decide +kernel
    have hT3 : Scf.trips k0_t3_loop.lb k0_t3_loop.ub k0_t3_loop.st = 8 := by decide +kernel
    have hv8 : attend_run.sl.v8 c i arg1 harg1 arg2 harg2 arg3 harg3 arg4 harg4 arg5 harg5 arg6 harg6 arg7 harg7 arg8 harg8 arg9 harg9 x0 x1 fs0 fs1 = scores x0 (transposed x1) := by
      unfold attend_run.sl.v8
      rw [View.readAt_full, hT1, hT2, read2, read1, harg2.read_unread]
      rw [View.readAt_full, harg1.read_unread]
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      unfold attend_run.sl.HS2_1
      rw [View.read_writes_full, hT1, hT3, st3 _ _ _ _ _ _ _ _ _ _ _ _ _ _ _ _ _ _ _ _ _ _ _ _ _ 8 (Nat.le_refl _), read1, harg2.read_unread]
      rw [View.read_writes_full, hv8]
      rfl
    isplitl [H4]
    · iexists _; isplitr; swap; · iexact H4
      ipureintro
      unfold attend_run.sl.H4_1
      rw [View.read_writes_full, View.readAt_full, harg3.read_unread]
      rfl
    isplitl [H5]
    · iexists _; isplitr; swap; · iexact H5
      ipureintro
      unfold attend_run.sl.H5_1
      rw [View.read_writes_full]
      rw [hv8]
      rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Attend

end
-- ==== Proof.Point.lean ====
/-
  The attention body inside a pipeline: one point of the grid, for any of the four calls.
-/
module

public import proofs.«01_k».proof.Proof.Body
public import proofs.«01_k».proof.Proof.Gen.KernelIdeal.Regions

@[expose] public section

set_option maxRecDepth 16384

noncomputable section

namespace Cert.KernelIdeal.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- One grid point of any of the four calls. Whatever else is held (`Rb`, `Pg`, `Ow`) rides along; the staged inputs
stay as they are, the three staged results end at the values named in the body's triple, and the scratch buffers
are given back at some contents. -/
theorem attend_point (c : Dev nD) (i : grid0.Coords)
    (a1 : Memref sig .tc .vmem S96x128 .bf16) (h1 : a1.IsWhole) (a2 : Memref sig .tc .vmem S2048x128 .i32) (h2 : a2.IsWhole)
    (a3 : Memref sig .tc .vmem S128x64 .i32) (h3 : a3.IsWhole) (a4 : Memref sig .tc .vmem S96x128 .bf16) (h4 : a4.IsWhole)
    (a5 : Memref sig .tc .vmem S64x128 .i32) (h5 : a5.IsWhole) (a6 : Memref sig .tc .vmem S64x128 .f32) (h6 : a6.IsWhole)
    (a7 : Memref sig .tc .vmem S2048x128 .i32) (h7 : a7.IsWhole) (a8 : Memref sig .tc .vmem S64x128 .f32) (h8 : a8.IsWhole)
    (a9 : Memref sig .tc .vmem S64x128 .f32) (h9 : a9.IsWhole)
    (x0 : Vec F S96x128 .bf16) (x1 : Vec F S2048x128 .i32) (x2 : Vec F S128x64 .i32)
    (Rb Pg Ow : sProp 𝕄) {D0 D1 D2 D3 D4 D5 : Type}
    (d3 : D3 → Vec F S96x128 .bf16) (d4 : D4 → Vec F S64x128 .i32) (d5 : D5 → Vec F S64x128 .f32) :
    iprop(((iprop((∃ d, owns (c : Thread nD τ) a7 fullShare d) ∗ (∃ d, owns (c : Thread nD τ) a8 fullShare d) ∗ (∃ d, owns (c : Thread nD τ) a9 fullShare d)) ∗ Rb) ∗ Pg) ∗ Ow
        ∗ (∃ _d : D0, owns (c : Thread nD τ) a1 fullShare x0) ∗ (∃ _d : D1, owns (c : Thread nD τ) a2 fullShare x1) ∗ (∃ _d : D2, owns (c : Thread nD τ) a3 fullShare x2)
        ∗ (∃ d, owns (c : Thread nD τ) a4 fullShare (d3 d)) ∗ (∃ d, owns (c : Thread nD τ) a5 fullShare (d4 d)) ∗ (∃ d, owns (c : Thread nD τ) a6 fullShare (d5 d)))
      ⊢ wp frame (wpE (defs₀ (F := F)) Variants.none c none) Set.univ (cc0_attend0 i a1 h1 a2 h2 a3 h3 a4 h4 a5 h5 a6 h6 a7 h7 a8 h8 a9 h9)
        (fun _ => iprop(((iprop((∃ d, owns (c : Thread nD τ) a7 fullShare d) ∗ (∃ d, owns (c : Thread nD τ) a8 fullShare d) ∗ (∃ d, owns (c : Thread nD τ) a9 fullShare d)) ∗ Rb) ∗ Pg) ∗ Ow
          ∗ owns (c : Thread nD τ) a1 fullShare x0 ∗ owns (c : Thread nD τ) a2 fullShare x1 ∗ owns (c : Thread nD τ) a3 fullShare x2
          ∗ owns (c : Thread nD τ) a4 fullShare (pooledOut x0 x1) ∗ owns (c : Thread nD τ) a5 fullShare (selOut (F := F) x2) ∗ owns (c : Thread nD τ) a6 fullShare (attnOut x0 x1))) := by
  iintro ⟨⟨⟨⟨HS0, HS1, HS2⟩, Hr⟩, Hg⟩, Ho, ⟨%_, H0⟩, ⟨%_, H1⟩, ⟨%_, H2⟩, ⟨%_, H3⟩, ⟨%_, H4⟩, ⟨%_, H5⟩⟩
  iapply (attend_run c i a1 h1 a2 h2 a3 h3 a4 h4 a5 h5 a6 h6 a7 h7 a8 h8 a9 h9 x0 x1 x2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 Hr Hg]
  · isplitl [HS0 HS1 HS2 Hr]
    · isplitl [HS0 HS1 HS2]
      · isplitl [HS0]; · iexact HS0
        isplitl [HS1]; · iexact HS1
        iexact HS2
      iexact Hr
    iexact Hg
  isplitl [Ho]; · iexact Ho
  isplitl [H0]; · iexact H0
  isplitl [H1]; · iexact H1
  isplitl [H2]; · iexact H2
  isplitl [H3]; · iexact H3
  isplitl [H4]; · iexact H4
  iexact H5

/-- The second call runs the first call's body. -/
theorem attend1_eq (i : grid0.Coords) (a1 : Memref sig .tc .vmem S96x128 .bf16) (h1 : a1.IsWhole) (a2 : Memref sig .tc .vmem S2048x128 .i32) (h2 : a2.IsWhole)
    (a3 : Memref sig .tc .vmem S128x64 .i32) (h3 : a3.IsWhole) (a4 : Memref sig .tc .vmem S96x128 .bf16) (h4 : a4.IsWhole)
    (a5 : Memref sig .tc .vmem S64x128 .i32) (h5 : a5.IsWhole) (a6 : Memref sig .tc .vmem S64x128 .f32) (h6 : a6.IsWhole)
    (a7 : Memref sig .tc .vmem S2048x128 .i32) (h7 : a7.IsWhole) (a8 : Memref sig .tc .vmem S64x128 .f32) (h8 : a8.IsWhole)
    (a9 : Memref sig .tc .vmem S64x128 .f32) (h9 : a9.IsWhole) :
    cc1_attend1 (F := F) i a1 h1 a2 h2 a3 h3 a4 h4 a5 h5 a6 h6 a7 h7 a8 h8 a9 h9 = cc0_attend0 i a1 h1 a2 h2 a3 h3 a4 h4 a5 h5 a6 h6 a7 h7 a8 h8 a9 h9 := rfl

/-- The third call runs the first call's body. -/
theorem attend2_eq (i : grid0.Coords) (a1 : Memref sig .tc .vmem S96x128 .bf16) (h1 : a1.IsWhole) (a2 : Memref sig .tc .vmem S2048x128 .i32) (h2 : a2.IsWhole)
    (a3 : Memref sig .tc .vmem S128x64 .i32) (h3 : a3.IsWhole) (a4 : Memref sig .tc .vmem S96x128 .bf16) (h4 : a4.IsWhole)
    (a5 : Memref sig .tc .vmem S64x128 .i32) (h5 : a5.IsWhole) (a6 : Memref sig .tc .vmem S64x128 .f32) (h6 : a6.IsWhole)
    (a7 : Memref sig .tc .vmem S2048x128 .i32) (h7 : a7.IsWhole) (a8 : Memref sig .tc .vmem S64x128 .f32) (h8 : a8.IsWhole)
    (a9 : Memref sig .tc .vmem S64x128 .f32) (h9 : a9.IsWhole) :
    cc2_attend2 (F := F) i a1 h1 a2 h2 a3 h3 a4 h4 a5 h5 a6 h6 a7 h7 a8 h8 a9 h9 = cc0_attend0 i a1 h1 a2 h2 a3 h3 a4 h4 a5 h5 a6 h6 a7 h7 a8 h8 a9 h9 := rfl

/-- The fourth call runs the first call's body. -/
theorem attend3_eq (i : grid0.Coords) (a1 : Memref sig .tc .vmem S96x128 .bf16) (h1 : a1.IsWhole) (a2 : Memref sig .tc .vmem S2048x128 .i32) (h2 : a2.IsWhole)
    (a3 : Memref sig .tc .vmem S128x64 .i32) (h3 : a3.IsWhole) (a4 : Memref sig .tc .vmem S96x128 .bf16) (h4 : a4.IsWhole)
    (a5 : Memref sig .tc .vmem S64x128 .i32) (h5 : a5.IsWhole) (a6 : Memref sig .tc .vmem S64x128 .f32) (h6 : a6.IsWhole)
    (a7 : Memref sig .tc .vmem S2048x128 .i32) (h7 : a7.IsWhole) (a8 : Memref sig .tc .vmem S64x128 .f32) (h8 : a8.IsWhole)
    (a9 : Memref sig .tc .vmem S64x128 .f32) (h9 : a9.IsWhole) :
    cc3_attend3 (F := F) i a1 h1 a2 h2 a3 h3 a4 h4 a5 h5 a6 h6 a7 h7 a8 h8 a9 h9 = cc0_attend0 i a1 h1 a2 h2 a3 h3 a4 h4 a5 h5 a6 h6 a7 h7 a8 h8 a9 h9 := rfl

end Cert.KernelIdeal.Attend

end
-- ==== Proof.Region0.lean ====
/-
  The pipeline of attention call 0: its proof data, with what it leaves in its three results named, and the body's
  obligation at every grid point.
-/
module

public import proofs.«01_k».proof.Proof.Point

@[expose] public section

set_option maxRecDepth 16384

noncomputable section

namespace Cert.KernelIdeal.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

/-! ## Call 0 -/

section Call0

variable (V : Valuation τ sig (Elt F))

/-- Window `w`'s block at point `t` of call 0, read off its array at the contents `V`. -/
def iblk0 (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- The proof data of call 0 entered at the contents `V`: the inputs' blocks stay, the results' blocks are the
pooled embedding, the positions and the attention weights of the point's three input blocks. -/
def dat0 (c : Dev nD) : Dat τ (Elt F) Unit ℕ (UR sig nD τ) ℕ cfg0 c where
  A w := V (Proc.devRef .tc (Pipeline.arrRef spec0 w))
  after w t := match w with
    | ⟨0, _⟩ => iblk0 V 0 t
    | ⟨1, _⟩ => iblk0 V 1 t
    | ⟨2, _⟩ => iblk0 V 2 t
    | ⟨3, _⟩ => pooledOut (iblk0 V 0 t) (iblk0 V 1 t)
    | ⟨4, _⟩ => selOut (F := F) (iblk0 V 2 t)
    | ⟨5, _⟩ => attnOut (iblk0 V 0 t) (iblk0 V 1 t)
  Φ _ := Pipeline.ΦA spec0 c
  q _ := fullShare
  owed _ := 0

/-- The proof data's arrays are the contents at the entry. -/
theorem A0_eq (c : Dev nD) (w : Fin cfg0.W) : (dat0 V c).A w = V (Proc.devRef .tc (Pipeline.arrRef spec0 w)) := by dsimp only [dat0]

/-- An input's staging buffer holds its block at every point. -/
theorem before0_0 (c : Dev nD) (t : Fin cfg0.N) (d) : (dat0 V c).before 0 t d = iblk0 V 0 t :=
  ((dat0 V c).before_in_eq_fetched 0 rfl (fun _ => rfl) (fun _ _ _ => rfl) (fun t => by dsimp only [dat0]; rfl) t d).trans (by dsimp only [dat0]; rfl)
/-- Before each grid point of call 0, window 1 holds its block of the gathered rows. -/
theorem before0_1 (c : Dev nD) (t : Fin cfg0.N) (d) : (dat0 V c).before 1 t d = iblk0 V 1 t :=
  ((dat0 V c).before_in_eq_fetched 1 rfl (fun _ => rfl) (fun _ _ _ => rfl) (fun t => by dsimp only [dat0]; rfl) t d).trans (by dsimp only [dat0]; rfl)
/-- Before each grid point of call 0, window 2 holds its block of the selected positions. -/
theorem before0_2 (c : Dev nD) (t : Fin cfg0.N) (d) : (dat0 V c).before 2 t d = iblk0 V 2 t :=
  ((dat0 V c).before_in_eq_fetched 2 rfl (fun _ => rfl) (fun _ _ _ => rfl) (fun t => by dsimp only [dat0]; rfl) t d).trans (by dsimp only [dat0]; rfl)

/-- The invariant: the call's three scratch buffers at some contents, the other scoped buffers, the generator register. -/
theorem Phi0_eq (c : Dev nD) :
    (Pipeline.ΦA spec0 c : sProp 𝕄)
      = iprop((iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d))
          ∗ Pipeline.scopedRestBut (Ix := Unit) (Name := ℕ) (U := UR sig nD τ) (Lvl := ℕ) (Val := Elt F) spec0 c [cc0_scratch0, cc0_scratch1, cc0_scratch2]) ∗ ∃ r, prngReg c r) := by
  unfold Pipeline.ΦA
  rw [scopedRest0_split]
  simp only [owns_whole]

/-- What the body of call 0 is called with at point `t`, window by window. -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d)))

/-- What the body of call 0 returns at point `t`. -/
def bodyPost0 (c : Dev nD) (t : Fin cfg0.N) : sProp 𝕄 :=
  iprop((dat0 V c).Φ t.succ ∗ (dat0 V c).owesAt () t.succ
    ∗ owns (c : Thread nD τ) (win0_0.stage (cfg0.slots t 0)) fullShare ((dat0 V c).after 0 t)
    ∗ owns (c : Thread nD τ) (win0_1.stage (cfg0.slots t 1)) fullShare ((dat0 V c).after 1 t)
    ∗ owns (c : Thread nD τ) (win0_2.stage (cfg0.slots t 2)) fullShare ((dat0 V c).after 2 t)
    ∗ owns (c : Thread nD τ) (win0_3.stage (cfg0.slots t 3)) fullShare ((dat0 V c).after 3 t)
    ∗ owns (c : Thread nD τ) (win0_4.stage (cfg0.slots t 4)) fullShare ((dat0 V c).after 4 t)
    ∗ owns (c : Thread nD τ) (win0_5.stage (cfg0.slots t 5)) fullShare ((dat0 V c).after 5 t))

/-- The body of call 0 at any point. -/
theorem sound0 (c : Dev nD) (t : Fin cfg0.N) :
    bodyPre0 V c t ⊢ wp frame (wpE (defs₀ (F := F)) Variants.none c none) Set.univ (bodyAt0 t) (fun _ => bodyPost0 V c t) := by
  unfold bodyPre0 bodyPost0
  simp only [before0_0, before0_1, before0_2]
  rw [show (dat0 V c).Φ t.succ = (dat0 V c).Φ t.castSucc from rfl,
    show (dat0 V c).owesAt () t.succ = (dat0 V c).owesAt () t.castSucc from rfl,
    show (dat0 V c).Φ t.castSucc = Pipeline.ΦA spec0 c from rfl, Phi0_eq]
  exact attend_point c (grid0.coords t) _ _ _ _ _ _ _ _ _ _ _ _ _ _ _ _ _ _ (iblk0 V 0 t) (iblk0 V 1 t) (iblk0 V 2 t) _ _ _ _ _ _

/-- The body's obligation at every point of call 0. -/
theorem obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound0 V c t) rfl .rfl fun _ => .rfl

end Call0

end Cert.KernelIdeal.Attend

end
-- ==== Proof.Region1.lean ====
/-
  The pipeline of attention call 1: its proof data, with what it leaves in its three results named, and the body's
  obligation at every grid point.
-/
module

public import proofs.«01_k».proof.Proof.Point

@[expose] public section

set_option maxRecDepth 16384

noncomputable section

namespace Cert.KernelIdeal.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

/-! ## Call 1 -/

section Call1

variable (V : Valuation τ sig (Elt F))

/-- Window `w`'s block at point `t` of call 1, read off its array at the contents `V`. -/
def iblk1 (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- The proof data of call 1 entered at the contents `V`: the inputs' blocks stay, the results' blocks are the
pooled embedding, the positions and the attention weights of the point's three input blocks. -/
def dat1 (c : Dev nD) : Dat τ (Elt F) Unit ℕ (UR sig nD τ) ℕ cfg1 c where
  A w := V (Proc.devRef .tc (Pipeline.arrRef spec1 w))
  after w t := match w with
    | ⟨0, _⟩ => iblk1 V 0 t
    | ⟨1, _⟩ => iblk1 V 1 t
    | ⟨2, _⟩ => iblk1 V 2 t
    | ⟨3, _⟩ => pooledOut (iblk1 V 0 t) (iblk1 V 1 t)
    | ⟨4, _⟩ => selOut (F := F) (iblk1 V 2 t)
    | ⟨5, _⟩ => attnOut (iblk1 V 0 t) (iblk1 V 1 t)
  Φ _ := Pipeline.ΦA spec1 c
  q _ := fullShare
  owed _ := 0

/-- The proof data's arrays are the contents at the entry. -/
theorem A1_eq (c : Dev nD) (w : Fin cfg1.W) : (dat1 V c).A w = V (Proc.devRef .tc (Pipeline.arrRef spec1 w)) := by dsimp only [dat1]

/-- An input's staging buffer holds its block at every point. -/
theorem before1_0 (c : Dev nD) (t : Fin cfg1.N) (d) : (dat1 V c).before 0 t d = iblk1 V 0 t :=
  ((dat1 V c).before_in_eq_fetched 0 rfl (fun _ => rfl) (fun _ _ _ => rfl) (fun t => by dsimp only [dat1]; rfl) t d).trans (by dsimp only [dat1]; rfl)
/-- Before each grid point of call 1, window 1 holds its block of the gathered rows. -/
theorem before1_1 (c : Dev nD) (t : Fin cfg1.N) (d) : (dat1 V c).before 1 t d = iblk1 V 1 t :=
  ((dat1 V c).before_in_eq_fetched 1 rfl (fun _ => rfl) (fun _ _ _ => rfl) (fun t => by dsimp only [dat1]; rfl) t d).trans (by dsimp only [dat1]; rfl)
/-- Before each grid point of call 1, window 2 holds its block of the selected positions. -/
theorem before1_2 (c : Dev nD) (t : Fin cfg1.N) (d) : (dat1 V c).before 2 t d = iblk1 V 2 t :=
  ((dat1 V c).before_in_eq_fetched 2 rfl (fun _ => rfl) (fun _ _ _ => rfl) (fun t => by dsimp only [dat1]; rfl) t d).trans (by dsimp only [dat1]; rfl)

/-- The invariant: the call's three scratch buffers at some contents, the other scoped buffers, the generator register. -/
theorem Phi1_eq (c : Dev nD) :
    (Pipeline.ΦA spec1 c : sProp 𝕄)
      = iprop((iprop((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d))
          ∗ Pipeline.scopedRestBut (Ix := Unit) (Name := ℕ) (U := UR sig nD τ) (Lvl := ℕ) (Val := Elt F) spec1 c [cc1_scratch0, cc1_scratch1, cc1_scratch2]) ∗ ∃ r, prngReg c r) := by
  unfold Pipeline.ΦA
  rw [scopedRest1_split]
  simp only [owns_whole]

/-- What the body of call 1 is called with at point `t`, window by window. -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d)))

/-- What the body of call 1 returns at point `t`. -/
def bodyPost1 (c : Dev nD) (t : Fin cfg1.N) : sProp 𝕄 :=
  iprop((dat1 V c).Φ t.succ ∗ (dat1 V c).owesAt () t.succ
    ∗ owns (c : Thread nD τ) (win1_0.stage (cfg1.slots t 0)) fullShare ((dat1 V c).after 0 t)
    ∗ owns (c : Thread nD τ) (win1_1.stage (cfg1.slots t 1)) fullShare ((dat1 V c).after 1 t)
    ∗ owns (c : Thread nD τ) (win1_2.stage (cfg1.slots t 2)) fullShare ((dat1 V c).after 2 t)
    ∗ owns (c : Thread nD τ) (win1_3.stage (cfg1.slots t 3)) fullShare ((dat1 V c).after 3 t)
    ∗ owns (c : Thread nD τ) (win1_4.stage (cfg1.slots t 4)) fullShare ((dat1 V c).after 4 t)
    ∗ owns (c : Thread nD τ) (win1_5.stage (cfg1.slots t 5)) fullShare ((dat1 V c).after 5 t))

/-- The body of call 1 at any point. -/
theorem sound1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1_0, before1_1, before1_2]
  rw [show (dat1 V c).Φ t.succ = (dat1 V c).Φ t.castSucc from rfl,
    show (dat1 V c).owesAt () t.succ = (dat1 V c).owesAt () t.castSucc from rfl,
    show (dat1 V c).Φ t.castSucc = Pipeline.ΦA spec1 c from rfl, Phi1_eq]
  show _ ⊢ wp frame _ Set.univ (cc1_attend1 (F := F) (grid1.coords t) _ _ _ _ _ _ _ _ _ _ _ _ _ _ _ _ _ _) _
  rw [attend1_eq]
  exact attend_point c (grid1.coords t) _ _ _ _ _ _ _ _ _ _ _ _ _ _ _ _ _ _ (iblk1 V 0 t) (iblk1 V 1 t) (iblk1 V 2 t) _ _ _ _ _ _

/-- The body's obligation at every point of call 1. -/
theorem obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact triple_restated (sound1 V c t) rfl .rfl fun _ => .rfl

end Call1

end Cert.KernelIdeal.Attend

end
-- ==== Proof.Region2.lean ====
/-
  The pipeline of attention call 2: its proof data, with what it leaves in its three results named, and the body's
  obligation at every grid point.
-/
module

public import proofs.«01_k».proof.Proof.Point

@[expose] public section

set_option maxRecDepth 16384

noncomputable section

namespace Cert.KernelIdeal.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

/-! ## Call 2 -/

section Call2

variable (V : Valuation τ sig (Elt F))

/-- Window `w`'s block at point `t` of call 2, read off its array at the contents `V`. -/
def iblk2 (w : Fin cfg2.W) (t : Fin cfg2.N) : ((cfg2.win w).xblock (cfg2.grid.coords t)).Idx → Elt F (cfg2.win w).elt :=
  ((cfg2.win w).blk t).view.read (Elt F) (V (Proc.devRef .tc (Pipeline.arrRef spec2 w)))

/-- The proof data of call 2 entered at the contents `V`: the inputs' blocks stay, the results' blocks are the
pooled embedding, the positions and the attention weights of the point's three input blocks. -/
def dat2 (c : Dev nD) : Dat τ (Elt F) Unit ℕ (UR sig nD τ) ℕ cfg2 c where
  A w := V (Proc.devRef .tc (Pipeline.arrRef spec2 w))
  after w t := match w with
    | ⟨0, _⟩ => iblk2 V 0 t
    | ⟨1, _⟩ => iblk2 V 1 t
    | ⟨2, _⟩ => iblk2 V 2 t
    | ⟨3, _⟩ => pooledOut (iblk2 V 0 t) (iblk2 V 1 t)
    | ⟨4, _⟩ => selOut (F := F) (iblk2 V 2 t)
    | ⟨5, _⟩ => attnOut (iblk2 V 0 t) (iblk2 V 1 t)
  Φ _ := Pipeline.ΦA spec2 c
  q _ := fullShare
  owed _ := 0

/-- The proof data's arrays are the contents at the entry. -/
theorem A2_eq (c : Dev nD) (w : Fin cfg2.W) : (dat2 V c).A w = V (Proc.devRef .tc (Pipeline.arrRef spec2 w)) := by dsimp only [dat2]

/-- An input's staging buffer holds its block at every point. -/
theorem before2_0 (c : Dev nD) (t : Fin cfg2.N) (d) : (dat2 V c).before 0 t d = iblk2 V 0 t :=
  ((dat2 V c).before_in_eq_fetched 0 rfl (fun _ => rfl) (fun _ _ _ => rfl) (fun t => by dsimp only [dat2]; rfl) t d).trans (by dsimp only [dat2]; rfl)
/-- Before each grid point of call 2, window 1 holds its block of the gathered rows. -/
theorem before2_1 (c : Dev nD) (t : Fin cfg2.N) (d) : (dat2 V c).before 1 t d = iblk2 V 1 t :=
  ((dat2 V c).before_in_eq_fetched 1 rfl (fun _ => rfl) (fun _ _ _ => rfl) (fun t => by dsimp only [dat2]; rfl) t d).trans (by dsimp only [dat2]; rfl)
/-- Before each grid point of call 2, window 2 holds its block of the selected positions. -/
theorem before2_2 (c : Dev nD) (t : Fin cfg2.N) (d) : (dat2 V c).before 2 t d = iblk2 V 2 t :=
  ((dat2 V c).before_in_eq_fetched 2 rfl (fun _ => rfl) (fun _ _ _ => rfl) (fun t => by dsimp only [dat2]; rfl) t d).trans (by dsimp only [dat2]; rfl)

/-- The invariant: the call's three scratch buffers at some contents, the other scoped buffers, the generator register. -/
theorem Phi2_eq (c : Dev nD) :
    (Pipeline.ΦA spec2 c : sProp 𝕄)
      = iprop((iprop((∃ d, owns (c : Thread nD τ) (Memref.whole cc2_scratch0) fullShare d) ∗ (∃ d, owns (c : Thread nD τ) (Memref.whole cc2_scratch1) fullShare d) ∗ (∃ d, owns (c : Thread nD τ) (Memref.whole cc2_scratch2) fullShare d))
          ∗ Pipeline.scopedRestBut (Ix := Unit) (Name := ℕ) (U := UR sig nD τ) (Lvl := ℕ) (Val := Elt F) spec2 c [cc2_scratch0, cc2_scratch1, cc2_scratch2]) ∗ ∃ r, prngReg c r) := by
  unfold Pipeline.ΦA
  rw [scopedRest2_split]
  simp only [owns_whole]

/-- What the body of call 2 is called with at point `t`, window by window. -/
def bodyPre2 (c : Dev nD) (t : Fin cfg2.N) : sProp 𝕄 :=
  iprop((dat2 V c).Φ t.castSucc ∗ (dat2 V c).owesAt () t.castSucc
    ∗ (∃ d, owns (c : Thread nD τ) (win2_0.stage (cfg2.slots t 0)) fullShare ((dat2 V c).before 0 t d))
    ∗ (∃ d, owns (c : Thread nD τ) (win2_1.stage (cfg2.slots t 1)) fullShare ((dat2 V c).before 1 t d))
    ∗ (∃ d, owns (c : Thread nD τ) (win2_2.stage (cfg2.slots t 2)) fullShare ((dat2 V c).before 2 t d))
    ∗ (∃ d, owns (c : Thread nD τ) (win2_3.stage (cfg2.slots t 3)) fullShare ((dat2 V c).before 3 t d))
    ∗ (∃ d, owns (c : Thread nD τ) (win2_4.stage (cfg2.slots t 4)) fullShare ((dat2 V c).before 4 t d))
    ∗ (∃ d, owns (c : Thread nD τ) (win2_5.stage (cfg2.slots t 5)) fullShare ((dat2 V c).before 5 t d)))

/-- What the body of call 2 returns at point `t`. -/
def bodyPost2 (c : Dev nD) (t : Fin cfg2.N) : sProp 𝕄 :=
  iprop((dat2 V c).Φ t.succ ∗ (dat2 V c).owesAt () t.succ
    ∗ owns (c : Thread nD τ) (win2_0.stage (cfg2.slots t 0)) fullShare ((dat2 V c).after 0 t)
    ∗ owns (c : Thread nD τ) (win2_1.stage (cfg2.slots t 1)) fullShare ((dat2 V c).after 1 t)
    ∗ owns (c : Thread nD τ) (win2_2.stage (cfg2.slots t 2)) fullShare ((dat2 V c).after 2 t)
    ∗ owns (c : Thread nD τ) (win2_3.stage (cfg2.slots t 3)) fullShare ((dat2 V c).after 3 t)
    ∗ owns (c : Thread nD τ) (win2_4.stage (cfg2.slots t 4)) fullShare ((dat2 V c).after 4 t)
    ∗ owns (c : Thread nD τ) (win2_5.stage (cfg2.slots t 5)) fullShare ((dat2 V c).after 5 t))

/-- The body of call 2 at any point. -/
theorem sound2 (c : Dev nD) (t : Fin cfg2.N) :
    bodyPre2 V c t ⊢ wp frame (wpE (defs₀ (F := F)) Variants.none c none) Set.univ (bodyAt2 t) (fun _ => bodyPost2 V c t) := by
  unfold bodyPre2 bodyPost2
  simp only [before2_0, before2_1, before2_2]
  rw [show (dat2 V c).Φ t.succ = (dat2 V c).Φ t.castSucc from rfl,
    show (dat2 V c).owesAt () t.succ = (dat2 V c).owesAt () t.castSucc from rfl,
    show (dat2 V c).Φ t.castSucc = Pipeline.ΦA spec2 c from rfl, Phi2_eq]
  show _ ⊢ wp frame _ Set.univ (cc2_attend2 (F := F) (grid2.coords t) _ _ _ _ _ _ _ _ _ _ _ _ _ _ _ _ _ _) _
  rw [attend2_eq]
  exact attend_point c (grid2.coords t) _ _ _ _ _ _ _ _ _ _ _ _ _ _ _ _ _ _ (iblk2 V 0 t) (iblk2 V 1 t) (iblk2 V 2 t) _ _ _ _ _ _

/-- The body's obligation at every point of call 2. -/
theorem obligation2 (c : Dev nD) : BodyObligation (dat2 (F := F) V c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  exact triple_restated (sound2 V c t) rfl .rfl fun _ => .rfl

end Call2

end Cert.KernelIdeal.Attend

end
-- ==== Proof.Region3.lean ====
/-
  The pipeline of attention call 3: its proof data, with what it leaves in its three results named, and the body's
  obligation at every grid point.
-/
module

public import proofs.«01_k».proof.Proof.Point

@[expose] public section

set_option maxRecDepth 16384

noncomputable section

namespace Cert.KernelIdeal.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F]

local notation "𝕄" => MT nD τ sig Unit (Elt F) ℕ (UR sig nD τ) ℕ

/-! ## Call 3 -/

section Call3

variable (V : Valuation τ sig (Elt F))

/-- Window `w`'s block at point `t` of call 3, read off its array at the contents `V`. -/
def iblk3 (w : Fin cfg3.W) (t : Fin cfg3.N) : ((cfg3.win w).xblock (cfg3.grid.coords t)).Idx → Elt F (cfg3.win w).elt :=
  ((cfg3.win w).blk t).view.read (Elt F) (V (Proc.devRef .tc (Pipeline.arrRef spec3 w)))

/-- The proof data of call 3 entered at the contents `V`: the inputs' blocks stay, the results' blocks are the
pooled embedding, the positions and the attention weights of the point's three input blocks. -/
def dat3 (c : Dev nD) : Dat τ (Elt F) Unit ℕ (UR sig nD τ) ℕ cfg3 c where
  A w := V (Proc.devRef .tc (Pipeline.arrRef spec3 w))
  after w t := match w with
    | ⟨0, _⟩ => iblk3 V 0 t
    | ⟨1, _⟩ => iblk3 V 1 t
    | ⟨2, _⟩ => iblk3 V 2 t
    | ⟨3, _⟩ => pooledOut (iblk3 V 0 t) (iblk3 V 1 t)
    | ⟨4, _⟩ => selOut (F := F) (iblk3 V 2 t)
    | ⟨5, _⟩ => attnOut (iblk3 V 0 t) (iblk3 V 1 t)
  Φ _ := Pipeline.ΦA spec3 c
  q _ := fullShare
  owed _ := 0

/-- The proof data's arrays are the contents at the entry. -/
theorem A3_eq (c : Dev nD) (w : Fin cfg3.W) : (dat3 V c).A w = V (Proc.devRef .tc (Pipeline.arrRef spec3 w)) := by dsimp only [dat3]

/-- An input's staging buffer holds its block at every point. -/
theorem before3_0 (c : Dev nD) (t : Fin cfg3.N) (d) : (dat3 V c).before 0 t d = iblk3 V 0 t :=
  ((dat3 V c).before_in_eq_fetched 0 rfl (fun _ => rfl) (fun _ _ _ => rfl) (fun t => by dsimp only [dat3]; rfl) t d).trans (by dsimp only [dat3]; rfl)
/-- Before each grid point of call 3, window 1 holds its block of the gathered rows. -/
theorem before3_1 (c : Dev nD) (t : Fin cfg3.N) (d) : (dat3 V c).before 1 t d = iblk3 V 1 t :=
  ((dat3 V c).before_in_eq_fetched 1 rfl (fun _ => rfl) (fun _ _ _ => rfl) (fun t => by dsimp only [dat3]; rfl) t d).trans (by dsimp only [dat3]; rfl)
/-- Before each grid point of call 3, window 2 holds its block of the selected positions. -/
theorem before3_2 (c : Dev nD) (t : Fin cfg3.N) (d) : (dat3 V c).before 2 t d = iblk3 V 2 t :=
  ((dat3 V c).before_in_eq_fetched 2 rfl (fun _ => rfl) (fun _ _ _ => rfl) (fun t => by dsimp only [dat3]; rfl) t d).trans (by dsimp only [dat3]; rfl)

/-- The invariant: the call's three scratch buffers at some contents, the other scoped buffers, the generator register. -/
theorem Phi3_eq (c : Dev nD) :
    (Pipeline.ΦA spec3 c : sProp 𝕄)
      = iprop((iprop((∃ d, owns (c : Thread nD τ) (Memref.whole cc3_scratch0) fullShare d) ∗ (∃ d, owns (c : Thread nD τ) (Memref.whole cc3_scratch1) fullShare d) ∗ (∃ d, owns (c : Thread nD τ) (Memref.whole cc3_scratch2) fullShare d))
          ∗ Pipeline.scopedRestBut (Ix := Unit) (Name := ℕ) (U := UR sig nD τ) (Lvl := ℕ) (Val := Elt F) spec3 c [cc3_scratch0, cc3_scratch1, cc3_scratch2]) ∗ ∃ r, prngReg c r) := by
  unfold Pipeline.ΦA
  rw [scopedRest3_split]
  simp only [owns_whole]

/-- What the body of call 3 is called with at point `t`, window by window. -/
def bodyPre3 (c : Dev nD) (t : Fin cfg3.N) : sProp 𝕄 :=
  iprop((dat3 V c).Φ t.castSucc ∗ (dat3 V c).owesAt () t.castSucc
    ∗ (∃ d, owns (c : Thread nD τ) (win3_0.stage (cfg3.slots t 0)) fullShare ((dat3 V c).before 0 t d))
    ∗ (∃ d, owns (c : Thread nD τ) (win3_1.stage (cfg3.slots t 1)) fullShare ((dat3 V c).before 1 t d))
    ∗ (∃ d, owns (c : Thread nD τ) (win3_2.stage (cfg3.slots t 2)) fullShare ((dat3 V c).before 2 t d))
    ∗ (∃ d, owns (c : Thread nD τ) (win3_3.stage (cfg3.slots t 3)) fullShare ((dat3 V c).before 3 t d))
    ∗ (∃ d, owns (c : Thread nD τ) (win3_4.stage (cfg3.slots t 4)) fullShare ((dat3 V c).before 4 t d))
    ∗ (∃ d, owns (c : Thread nD τ) (win3_5.stage (cfg3.slots t 5)) fullShare ((dat3 V c).before 5 t d)))

/-- What the body of call 3 returns at point `t`. -/
def bodyPost3 (c : Dev nD) (t : Fin cfg3.N) : sProp 𝕄 :=
  iprop((dat3 V c).Φ t.succ ∗ (dat3 V c).owesAt () t.succ
    ∗ owns (c : Thread nD τ) (win3_0.stage (cfg3.slots t 0)) fullShare ((dat3 V c).after 0 t)
    ∗ owns (c : Thread nD τ) (win3_1.stage (cfg3.slots t 1)) fullShare ((dat3 V c).after 1 t)
    ∗ owns (c : Thread nD τ) (win3_2.stage (cfg3.slots t 2)) fullShare ((dat3 V c).after 2 t)
    ∗ owns (c : Thread nD τ) (win3_3.stage (cfg3.slots t 3)) fullShare ((dat3 V c).after 3 t)
    ∗ owns (c : Thread nD τ) (win3_4.stage (cfg3.slots t 4)) fullShare ((dat3 V c).after 4 t)
    ∗ owns (c : Thread nD τ) (win3_5.stage (cfg3.slots t 5)) fullShare ((dat3 V c).after 5 t))

/-- The body of call 3 at any point. -/
theorem sound3 (c : Dev nD) (t : Fin cfg3.N) :
    bodyPre3 V c t ⊢ wp frame (wpE (defs₀ (F := F)) Variants.none c none) Set.univ (bodyAt3 t) (fun _ => bodyPost3 V c t) := by
  unfold bodyPre3 bodyPost3
  simp only [before3_0, before3_1, before3_2]
  rw [show (dat3 V c).Φ t.succ = (dat3 V c).Φ t.castSucc from rfl,
    show (dat3 V c).owesAt () t.succ = (dat3 V c).owesAt () t.castSucc from rfl,
    show (dat3 V c).Φ t.castSucc = Pipeline.ΦA spec3 c from rfl, Phi3_eq]
  show _ ⊢ wp frame _ Set.univ (cc3_attend3 (F := F) (grid3.coords t) _ _ _ _ _ _ _ _ _ _ _ _ _ _ _ _ _ _) _
  rw [attend3_eq]
  exact attend_point c (grid3.coords t) _ _ _ _ _ _ _ _ _ _ _ _ _ _ _ _ _ _ (iblk3 V 0 t) (iblk3 V 1 t) (iblk3 V 2 t) _ _ _ _ _ _

/-- The body's obligation at every point of call 3. -/
theorem obligation3 (c : Dev nD) : BodyObligation (dat3 (F := F) V c) (defs₀ (F := F)) Variants.none () Set.univ := fun t => by
  rw [bigSep_W3, bigSep_W3, show defs₀ (F := F) .tc cfg3.body (cfg3.bodyArgs t (cfg3.slots t)) = bodyAt3 t from by unfold defs₀; rw [Defs.onTc_tc]]
  exact triple_restated (sound3 V c t) rfl .rfl fun _ => .rfl

end Call3

end Cert.KernelIdeal.Attend

end
-- ==== Proof.Run.lean ====
/-
  The whole program: four attention calls between host operations. Every run ends, with every array at named
  contents and every semaphore counter at zero.
-/
module

public import proofs.«01_k».proof.Proof.Region0
public import proofs.«01_k».proof.Proof.Region1
public import proofs.«01_k».proof.Proof.Region2
public import proofs.«01_k».proof.Proof.Region3
public import Idealize.ShloMosaic.Lib.Pipeline.RegionArraysS

@[expose] public section

set_option maxRecDepth 16384

noncomputable section

namespace Cert.KernelIdeal.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the calls leave -/

/-- What the calls leave, the first call's results alone filled in. -/
def left0 : Outs (F := F) := fun J r c => match J with
  | 2 => afterRegion (dat0 (V1 m c) c) (V1 m c) (Proc.devRef .tc r)
  | _ => m ((c : Thread nD τ).loc r)
/-- What the calls leave, the first two calls' results filled in. -/
def left1 : Outs (F := F) := fun J r c => match J with
  | 4 => afterRegion (dat1 (V3 m (left0 m) c) c) (V3 m (left0 m) c) (Proc.devRef .tc r)
  | J => left0 m J r c
/-- What the calls leave, the first three calls' results filled in. -/
def left2 : Outs (F := F) := fun J r c => match J with
  | 6 => afterRegion (dat2 (V5 m (left1 m) c) c) (V5 m (left1 m) c) (Proc.devRef .tc r)
  | J => left1 m J r c
/-- What the four calls leave in their results. -/
def left : Outs (F := F) := fun J r c => match J with
  | 8 => afterRegion (dat3 (V7 m (left2 m) c) c) (V7 m (left2 m) c) (Proc.devRef .tc r)
  | J => left2 m J r c

/-- The four calls' proof data, each entered at the contents the ones before it left. -/
def pdats : (p : Fin 4) → (c : Dev nD) → Dat τ (Elt F) Unit ℕ (UR sig nD τ) ℕ (cfgs p) c
  | ⟨0, _⟩ => fun c => dat0 (V1 m c) c
  | ⟨1, _⟩ => fun c => dat1 (V3 m (left m) c) c
  | ⟨2, _⟩ => fun c => dat2 (V5 m (left m) c) c
  | ⟨3, _⟩ => fun c => dat3 (V7 m (left m) c) c

/-- A valuation that differs from `V` at three buffers only is `V` updated there. -/
theorem update_three {V A : Valuation τ sig (Elt F)} {r0 r1 r2 : Ref sig .tc}
    (h : ∀ b : DevRef τ sig, b ≠ Proc.devRef .tc r0 → b ≠ Proc.devRef .tc r1 → b ≠ Proc.devRef .tc r2 → A b = V b) :
    A = Function.update (Function.update (Function.update V (Proc.devRef .tc r0) (A (Proc.devRef .tc r0))) (Proc.devRef .tc r1) (A (Proc.devRef .tc r1))) (Proc.devRef .tc r2) (A (Proc.devRef .tc r2)) := by
  funext b
  by_cases h2 : b = Proc.devRef .tc r2
  · subst h2; rw [Function.update_self]
  rw [Function.update_of_ne h2]
  by_cases h1 : b = Proc.devRef .tc r1
  · subst h1; rw [Function.update_self]
  rw [Function.update_of_ne h1]
  by_cases h0 : b = Proc.devRef .tc r0
  · subst h0; rw [Function.update_self]
  rw [Function.update_of_ne h0]
  exact h b h0 h1 h2

/-- A call changes its output arrays only. -/
theorem afterRegion_same {cfg : Cfg sig Λ₀} {c : Dev nD} (dat : Dat τ (Elt F) Unit ℕ (UR sig nD τ) ℕ cfg c) (V : Valuation τ sig (Elt F))
    (hinj : Function.Injective (arrRef cfg.spec)) (hA : ∀ w, dat.A w = V (Proc.devRef .tc (arrRef cfg.spec w)))
    (b : DevRef τ sig) (h : ∀ w, (cfg.win w).isOut = true → b ≠ Proc.devRef .tc (arrRef cfg.spec w)) : afterRegion dat V b = V b := by
  by_cases hb : ∃ w, b = Proc.devRef .tc (arrRef cfg.spec w)
  · obtain ⟨w, rfl⟩ := hb
    rw [afterRegion_arr dat V hinj w, dat.arrAt_in w (Bool.eq_false_iff.mpr fun ho => h w ho rfl), hA]
  · unfold afterRegion
    rw [dif_neg hb]

/-- What call 0 leaves is the next contents. -/
theorem after_call0 (c : Dev nD) : afterRegion (dat0 (V1 m c) c) (V1 m c) = V2 m (left m) c :=
  update_three (r0 := main_v1_0) (r1 := main_v1_1) (r2 := main_v1_2) fun b h0 h1 h2 =>
    afterRegion_same (dat0 (V1 m c) c) (V1 m c) launch0.win.arr_inj (A0_eq _ c) b fun w hw => by
      fin_cases w
      · exact absurd hw (by decide)
      · exact absurd hw (by decide)
      · exact absurd hw (by decide)
      · exact h0
      · exact h1
      · exact h2

/-- What call 1 leaves is the next contents. -/
theorem after_call1 (c : Dev nD) : afterRegion (dat1 (V3 m (left m) c) c) (V3 m (left m) c) = V4 m (left m) c :=
  update_three (r0 := main_v3_0) (r1 := main_v3_1) (r2 := main_v3_2) fun b h0 h1 h2 =>
    afterRegion_same (dat1 (V3 m (left m) c) c) (V3 m (left m) c) launch1.win.arr_inj (A1_eq _ c) b fun w hw => by
      fin_cases w
      · exact absurd hw (by decide)
      · exact absurd hw (by decide)
      · exact absurd hw (by decide)
      · exact h0
      · exact h1
      · exact h2

/-- What call 2 leaves is the next contents. -/
theorem after_call2 (c : Dev nD) : afterRegion (dat2 (V5 m (left m) c) c) (V5 m (left m) c) = V6 m (left m) c :=
  update_three (r0 := main_v5_0) (r1 := main_v5_1) (r2 := main_v5_2) fun b h0 h1 h2 =>
    afterRegion_same (dat2 (V5 m (left m) c) c) (V5 m (left m) c) launch2.win.arr_inj (A2_eq _ c) b fun w hw => by
      fin_cases w
      · exact absurd hw (by decide)
      · exact absurd hw (by decide)
      · exact absurd hw (by decide)
      · exact h0
      · exact h1
      · exact h2

/-- What call 3 leaves is the next contents. -/
theorem after_call3 (c : Dev nD) : afterRegion (dat3 (V7 m (left m) c) c) (V7 m (left m) c) = V8 m (left m) c :=
  update_three (r0 := main_v7_0) (r1 := main_v7_1) (r2 := main_v7_2) fun b h0 h1 h2 =>
    afterRegion_same (dat3 (V7 m (left m) c) c) (V7 m (left m) c) launch3.win.arr_inj (A3_eq _ c) b fun w hw => by
      fin_cases w
      · exact absurd hw (by decide)
      · exact absurd hw (by decide)
      · exact absurd hw (by decide)
      · exact h0
      · exact h1
      · exact h2

/-! ## The calls as segments -/

/-- Each semaphore of a TensorCore has the one level. -/
def levels : GSem nD τ sig → Finset Unit := fun g => if g.1.2 = .tc then {()} else ∅

/-- Beside the buffers: the core owes nothing, and holds its generator register. -/
def beside (c : Dev nD) : sProp 𝕄 :=
  iprop((∃ W, owes (c : Thread nD τ) (0 : CellTallies nD τ sig Unit) W) ∗ (∃ r, prngReg c r) ∗ emp)

/-- Nothing is owed, so the one level suffices. -/
theorem levels_cut (p : Fin 4) : LevelCut (pcfgs (F := F)) adm () levels (fun _ _ => 0) p (D := 0) (fun _ => (0 : ℕ)) where
  hι c w s := by simp [levels]
  hιb c w s := le_refl _
  hD c g i h := absurd h (by simp)

section Segment

variable {pd : (p : Fin 4) → (c : Dev nD) → Dat τ (Elt F) Unit ℕ (UR sig nD τ) ℕ (cfgs p) c} {p : Fin 4} (kit : LaunchFacts (nD := nD) (τ := τ) cfgs p)
  (hbody : ∀ c, BodyObligation (pd p c) (defs₀ (F := F)) Variants.none () Set.univ) (howed : ∀ c t, (pd p c).owed t = 0)
  (hrec : ∀ c, (pd p c).recorded 0 = Set.univ) (hshare : ∀ c w, (pd p c).share w = fullShare) (hΦ : ∀ c t, (pd p c).Φ t = ΦA (cfgs p).spec c)
  (W : Dev nD → Valuation τ sig (Elt F)) (hW : ∀ c w, (pd p c).A w = W c (Proc.devRef .tc (arrRef (cfgs p).spec w)))

/-- A call as a segment entered with the unscoped buffers at `W`. -/
def callSeg : RegionSeg (pcfgs (F := F)) adm pd () defs₀ Variants.none levels (fun _ _ => 0) p :=
  RegionSeg.ofHeldIn (pcfgs (F := F)) adm pd () defs₀ Variants.none levels (fun _ _ => 0) p (D := 0) (ucRefs τ sig)
    (fun c => iprop(∃ r, prngReg c r)) (fun c => iprop(∃ r, prngReg c r)) kit.toP rfl
    (fun c => (hbody c).loose) howed hrec hshare (fun c => .of_eq (hΦ c _).symm) (fun c => .of_eq (hΦ c _))
    (fun _ => 0) (levels_cut p) (fun _ => iprop(emp)) W hW

/-- It is entered from the unscoped buffers at `W`. -/
theorem callSeg_pre (c : Dev nD) : iprop(StableHlo.held (c : Thread nD τ) (ucRefs τ sig) (W c) ∗ beside c)
    ⊢ (callSeg kit hbody howed hrec hshare hΦ W hW).pre c :=
  RegionSeg.ofHeldIn_pre (pcs := pcfgs (F := F)) (a := adm) (pdats := pd) (ι := ()) (defs₀ := defs₀) (𝒱₀ := Variants.none) (L := levels)
    (lv := fun _ _ => 0) (p := p) (D := 0) (arrRefs_sub_ucRefs _ kit.win.arr_unscoped) (X := fun c => iprop(∃ r, prngReg c r))
    (Y := fun c => iprop(∃ r, prngReg c r)) (kit := kit.toP) (hK := rfl) (hbody := fun c => (hbody c).loose) (howed := howed) (hrec := hrec)
    (hshare := hshare) (hin := fun c => .of_eq (hΦ c _).symm) (hout := fun c => .of_eq (hΦ c _)) (b := fun _ => 0) (hcut := levels_cut p)
    (R := fun _ => iprop(emp)) (W := W) (hW := hW) c

/-- It is left with the unscoped buffers at `W` changed at the call's arrays. -/
theorem callSeg_post (c : Dev nD) : (callSeg kit hbody howed hrec hshare hΦ W hW).post c
    ⊢ iprop(StableHlo.held (c : Thread nD τ) (ucRefs τ sig) (afterRegion (pd p c) (W c)) ∗ beside c) :=
  RegionSeg.ofHeldIn_post (pcs := pcfgs (F := F)) (a := adm) (pdats := pd) (ι := ()) (defs₀ := defs₀) (𝒱₀ := Variants.none) (L := levels)
    (lv := fun _ _ => 0) (p := p) (D := 0) (arrRefs_sub_ucRefs _ kit.win.arr_unscoped) (X := fun c => iprop(∃ r, prngReg c r))
    (Y := fun c => iprop(∃ r, prngReg c r)) (kit := kit.toP) (hK := rfl) (hbody := fun c => (hbody c).loose) (howed := howed) (hrec := hrec)
    (hshare := hshare) (hin := fun c => .of_eq (hΦ c _).symm) (hout := fun c => .of_eq (hΦ c _)) (b := fun _ => 0) (hcut := levels_cut p)
    (R := fun _ => iprop(emp)) (W := W) (hW := hW) c

end Segment

/-- Call 0 as a segment, entered from the contents before it and left at the contents after it. -/
def region0 : RegionSeg (pcfgs (F := F)) adm (pdats m) () defs₀ Variants.none levels (fun _ _ => 0) 0 :=
  callSeg (pd := pdats m) (p := 0) launch0 (fun c => obligation0 (V1 m c) c) (fun _ _ => rfl) (fun _ => rfl)
    (fun c => (dat0 (V1 m c) c).share_full fun _ => rfl) (fun _ _ => rfl) (fun c => V1 m c) (fun c w => A0_eq (V1 m c) c w)
/-- What is held before call 0 gives the call its precondition. -/
theorem region0_pre (c : Dev nD) : iprop(StableHlo.held (c : Thread nD τ) (ucRefs τ sig) (V1 m c) ∗ beside c) ⊢ (region0 m).pre c :=
  callSeg_pre (pd := pdats m) (p := 0) launch0 (fun c => obligation0 (V1 m c) c) (fun _ _ => rfl) (fun _ => rfl)
    (fun c => (dat0 (V1 m c) c).share_full fun _ => rfl) (fun _ _ => rfl) (fun c => V1 m c) (fun c w => A0_eq (V1 m c) c w) c
/-- The postcondition of call 0 gives back everything held, at the contents after it. -/
theorem region0_post (c : Dev nD) : (region0 m).post c ⊢ iprop(StableHlo.held (c : Thread nD τ) (ucRefs τ sig) (V2 m (left m) c) ∗ beside c) :=
  (callSeg_post (pd := pdats m) (p := 0) launch0 (fun c => obligation0 (V1 m c) c) (fun _ _ => rfl) (fun _ => rfl)
    (fun c => (dat0 (V1 m c) c).share_full fun _ => rfl) (fun _ _ => rfl) (fun c => V1 m c) (fun c w => A0_eq (V1 m c) c w) c).trans
    (sep_mono (.of_eq (congrArg (StableHlo.held (c : Thread nD τ) (ucRefs τ sig)) (after_call0 m c))) .rfl)

/-- Call 1 as a segment, entered from the contents before it and left at the contents after it. -/
def region1 : RegionSeg (pcfgs (F := F)) adm (pdats m) () defs₀ Variants.none levels (fun _ _ => 0) 1 :=
  callSeg (pd := pdats m) (p := 1) launch1 (fun c => obligation1 (V3 m (left m) c) c) (fun _ _ => rfl) (fun _ => rfl)
    (fun c => (dat1 (V3 m (left m) c) c).share_full fun _ => rfl) (fun _ _ => rfl) (fun c => V3 m (left m) c) (fun c w => A1_eq (V3 m (left m) c) c w)
/-- What is held before call 1 gives the call its precondition. -/
theorem region1_pre (c : Dev nD) : iprop(StableHlo.held (c : Thread nD τ) (ucRefs τ sig) (V3 m (left m) c) ∗ beside c) ⊢ (region1 m).pre c :=
  callSeg_pre (pd := pdats m) (p := 1) launch1 (fun c => obligation1 (V3 m (left m) c) c) (fun _ _ => rfl) (fun _ => rfl)
    (fun c => (dat1 (V3 m (left m) c) c).share_full fun _ => rfl) (fun _ _ => rfl) (fun c => V3 m (left m) c) (fun c w => A1_eq (V3 m (left m) c) c w) c
/-- The postcondition of call 1 gives back everything held, at the contents after it. -/
theorem region1_post (c : Dev nD) : (region1 m).post c ⊢ iprop(StableHlo.held (c : Thread nD τ) (ucRefs τ sig) (V4 m (left m) c) ∗ beside c) :=
  (callSeg_post (pd := pdats m) (p := 1) launch1 (fun c => obligation1 (V3 m (left m) c) c) (fun _ _ => rfl) (fun _ => rfl)
    (fun c => (dat1 (V3 m (left m) c) c).share_full fun _ => rfl) (fun _ _ => rfl) (fun c => V3 m (left m) c) (fun c w => A1_eq (V3 m (left m) c) c w) c).trans
    (sep_mono (.of_eq (congrArg (StableHlo.held (c : Thread nD τ) (ucRefs τ sig)) (after_call1 m c))) .rfl)

/-- Call 2 as a segment, entered from the contents before it and left at the contents after it. -/
def region2 : RegionSeg (pcfgs (F := F)) adm (pdats m) () defs₀ Variants.none levels (fun _ _ => 0) 2 :=
  callSeg (pd := pdats m) (p := 2) launch2 (fun c => obligation2 (V5 m (left m) c) c) (fun _ _ => rfl) (fun _ => rfl)
    (fun c => (dat2 (V5 m (left m) c) c).share_full fun _ => rfl) (fun _ _ => rfl) (fun c => V5 m (left m) c) (fun c w => A2_eq (V5 m (left m) c) c w)
/-- What is held before call 2 gives the call its precondition. -/
theorem region2_pre (c : Dev nD) : iprop(StableHlo.held (c : Thread nD τ) (ucRefs τ sig) (V5 m (left m) c) ∗ beside c) ⊢ (region2 m).pre c :=
  callSeg_pre (pd := pdats m) (p := 2) launch2 (fun c => obligation2 (V5 m (left m) c) c) (fun _ _ => rfl) (fun _ => rfl)
    (fun c => (dat2 (V5 m (left m) c) c).share_full fun _ => rfl) (fun _ _ => rfl) (fun c => V5 m (left m) c) (fun c w => A2_eq (V5 m (left m) c) c w) c
/-- The postcondition of call 2 gives back everything held, at the contents after it. -/
theorem region2_post (c : Dev nD) : (region2 m).post c ⊢ iprop(StableHlo.held (c : Thread nD τ) (ucRefs τ sig) (V6 m (left m) c) ∗ beside c) :=
  (callSeg_post (pd := pdats m) (p := 2) launch2 (fun c => obligation2 (V5 m (left m) c) c) (fun _ _ => rfl) (fun _ => rfl)
    (fun c => (dat2 (V5 m (left m) c) c).share_full fun _ => rfl) (fun _ _ => rfl) (fun c => V5 m (left m) c) (fun c w => A2_eq (V5 m (left m) c) c w) c).trans
    (sep_mono (.of_eq (congrArg (StableHlo.held (c : Thread nD τ) (ucRefs τ sig)) (after_call2 m c))) .rfl)

/-- Call 3 as a segment, entered from the contents before it and left at the contents after it. -/
def region3 : RegionSeg (pcfgs (F := F)) adm (pdats m) () defs₀ Variants.none levels (fun _ _ => 0) 3 :=
  callSeg (pd := pdats m) (p := 3) launch3 (fun c => obligation3 (V7 m (left m) c) c) (fun _ _ => rfl) (fun _ => rfl)
    (fun c => (dat3 (V7 m (left m) c) c).share_full fun _ => rfl) (fun _ _ => rfl) (fun c => V7 m (left m) c) (fun c w => A3_eq (V7 m (left m) c) c w)
/-- What is held before call 3 gives the call its precondition. -/
theorem region3_pre (c : Dev nD) : iprop(StableHlo.held (c : Thread nD τ) (ucRefs τ sig) (V7 m (left m) c) ∗ beside c) ⊢ (region3 m).pre c :=
  callSeg_pre (pd := pdats m) (p := 3) launch3 (fun c => obligation3 (V7 m (left m) c) c) (fun _ _ => rfl) (fun _ => rfl)
    (fun c => (dat3 (V7 m (left m) c) c).share_full fun _ => rfl) (fun _ _ => rfl) (fun c => V7 m (left m) c) (fun c w => A3_eq (V7 m (left m) c) c w) c
/-- The postcondition of call 3 gives back everything held, at the contents after it. -/
theorem region3_post (c : Dev nD) : (region3 m).post c ⊢ iprop(StableHlo.held (c : Thread nD τ) (ucRefs τ sig) (V8 m (left m) c) ∗ beside c) :=
  (callSeg_post (pd := pdats m) (p := 3) launch3 (fun c => obligation3 (V7 m (left m) c) c) (fun _ _ => rfl) (fun _ => rfl)
    (fun c => (dat3 (V7 m (left m) c) c).share_full fun _ => rfl) (fun _ _ => rfl) (fun c => V7 m (left m) c) (fun c w => A3_eq (V7 m (left m) c) c w) c).trans
    (sep_mono (.of_eq (congrArg (StableHlo.held (c : Thread nD τ) (ucRefs τ sig)) (after_call3 m c))) .rfl)

/-! ## The run -/

-- the kit's implicit arguments are found by unifying its conclusion with this one, which takes unfolding
-- plain definitions in a metavariable's type
set_option backward.isDefEq.respectTransparency.types false in
/-- Every run of the program from memory `m` with zero counters ends; every array is then at the last of the named
contents, and every semaphore counter is zero. -/
theorem run_all : θ_run defs (onTc (τ := τ) (main (F := F))) ⟨m, fun _ => 0, ρ⟩ (fun r =>
    (∀ c : Dev nD, ∀ b ∈ ucRefs τ sig, r.2.mem ((c : Thread nD τ).1, b) = V9 m (left m) c b) ∧ r.2.sem = fun _ => 0) := by
  refine Pipeline.θ_run_regions_kit_dev_sems (pcfgs (F := F)) adm (pdats m) () cellOf_inj emb₁ defs₀ Variants.none levels (fun _ _ => 0) m ρ main
    (segs m (left m) Variants.none levels (fun _ _ => 0) (fun _ => beside) () (pdats m) (region0 m) (region1 m) (region2 m) (region3 m))
    (fun c Q => by
      rewrite [main_chain c, Seg.run_eq_chain,
        show (segs m (left m) Variants.none levels (fun _ _ => 0) (fun _ => beside) () (pdats m) (region0 m) (region1 m) (region2 m) (region3 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      dsimp (config := { failIfUnchanged := false }) only
      exact .rfl)
    (fun c => by simp only [segs, Seg.pipes_host, Seg.pipes_region, Seg.pipes_nil]; decide)
    (fun _ => 0) (fun g hg => by simp [levels, hg]) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ beside c))
    (Tₙ := fun c => StableHlo.held (c : Thread nD τ) (Pipeline.ucRefs τ sig) (V9 m (left m) c))
    (hch := fun c => ⟨.rfl,
      region0_pre m c, region0_post m c,
      region1_pre m c, region1_post m c,
      region2_pre m c, region2_post m c,
      region3_pre m c, region3_post m c,
      sep_mono .rfl (by unfold beside; iintro ⟨HO, -, -⟩; iexact HO)⟩)
    (hinit := ?_) (QY := fun c s => ∀ b ∈ ucRefs τ sig, s.mem ((c : Thread nD τ).1, b) = V9 m (left m) c b)
    (hfin := fun c s' => ?_) (hQ := fun _ h hz => ⟨h, funext fun g => hz g (.inr (regions_no_unscoped g.2))⟩)
  · -- the cells at launch; nothing else is dealt
    iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: the buffers at `V0`, the core owing nothing and its generator register
    refine initEach levels (fun _ _ => 0) fun c => ?_
    rw [← Pipeline.unscopedBufs_held (Ix := Unit) (Name := ℕ) (U := UR sig nD τ) (Lvl := ℕ) c (V0 m c)]
    unfold beside
    iintro ⟨⟨Hh, -, HO, -, Hp, -⟩, -⟩
    imodintro
    isplitl [Hh]; · iexact Hh
    isplitl [HO]; · iexists ∅; iexact HO
    isplitl [Hp]; · iexists _; iexact Hp
    iempintro
  · -- the end: every array read off the last contents
    unfold StableHlo.held
    iintro ⟨Hh, HSI⟩
    ihave Hr := (pointsTo_read_all (Pipeline.ucRefs τ sig) (fun b => ((c : Thread nD τ).1, b)) (V9 m (left m) c) s') $$ [Hh HSI]
    · isplitl [Hh] <;> iassumption
    icases Hr with ⟨%h, HSI⟩
    imodintro
    isplitr
    · ipureintro; exact h
    · iexact HSI

/-- Every run ends with the arguments unchanged and every semaphore counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c _ (devRef_mem_ucRefs rfl)).trans (V9_main_arg0 m (left m) c),
     (h.1 c _ (devRef_mem_ucRefs rfl)).trans (V9_main_arg1 m (left m) c),
     (h.1 c _ (devRef_mem_ucRefs rfl)).trans (V9_main_arg2 m (left m) c),
     (h.1 c _ (devRef_mem_ucRefs rfl)).trans (V9_main_arg3 m (left m) c),
     (h.1 c _ (devRef_mem_ucRefs rfl)).trans (V9_main_arg4 m (left m) c),
     (h.1 c _ (devRef_mem_ucRefs rfl)).trans (V9_main_arg5 m (left m) c)⟩, h.2⟩) (run_all m ρ)

end Cert.KernelIdeal.Attend

end
-- ==== Proof.Bits.Trips.lean ====
/-
  What the three loops of the attention body compute, at any float interpretation.

  One block of the grid handles 128 batch rows.  The first loop transposes the gathered rows into a scratch
  array whose column is the batch row and whose row `32 * k + word` is a word of the row gathered for item `k`.
  The second loop writes one row of scores per item, and the third accumulates the pooled embedding.  Each
  theorem here names what one trip does, and then what the whole loop leaves behind, by functions of the
  arrays alone.
-/
module

public import proofs.«01_k».proof.Proof.Gen.Kernel.Loops
public import Idealize.ShloMosaic.Lib.VecWindow
public import Idealize.ShloMosaic.Lib.WritesUnit
public import Idealize.ShloMosaic.Lib.Pointwise.Index

@[expose] public section

set_option maxRecDepth 16384

noncomputable section

namespace Cert.Kernel.Attend

open Idealize.ShloMosaic Idealize.SL.Sem
open Cert.Kernel Cert.Kernel.Gen

variable {F : FTy → Type} [FloatOps F]

/-! ## The functions -/

/-- The row of 128 scores of one item, from the features `x` and the item's words: its scales `sc` and its codes
`a`, `b`, `d` (thirty-two codes each). -/
def scoreOf (x : Vec F S96x128 .bf16) (sc a b d : Vec F S8x128 .i32) : FVec F S1x128 .f32 :=
  k0_pay18 (k0_pay78 x) (k0_pay15 sc) (k0_pay16 (k0_pay76 x) sc a) (k0_pay17 (k0_pay77 x) sc b) d

/-- One item added to the three accumulators: `p` is the item's row of attention weights. -/
def poolOf (p : Vec F S1x128 .f32) (sc a b d : Vec F S8x128 .i32)
    (acc : FVec F S32x128 .f32 × FVec F S32x128 .f32 × FVec F S32x128 .f32) :
    FVec F S32x128 .f32 × FVec F S32x128 .f32 × FVec F S32x128 .f32 :=
  (k0_pay41 acc.1 sc p a, k0_pay42 acc.2.1 sc p b, k0_pay44 acc.2.2 (k0_pay40 sc p) (k0_pay43 d))

/-- Each item's group of eight words lies inside the transposed words. -/
theorem words_inb (n : Fin 64) (q : Fin 4) : ∀ a, (![32 * n.val + 8 * q.val, 0] : Fin 2 → ℕ) a + S8x128.size a ≤ S2048x128.size a := by
  intro a
  have := n.isLt; have := q.isLt
  fin_cases a
  · show 32 * n.val + 8 * q.val + 8 ≤ 2048; omega
  · show 0 + 128 ≤ 128; omega

/-- The `q`-th group of eight words of item `n`, for all 128 batch rows. -/
def words (w : Vec F S2048x128 .i32) (n : Fin 64) (q : Fin 4) : Vec F S8x128 .i32 :=
  VecWindow.window w ![32 * n.val + 8 * q.val, 0] S8x128.size (words_inb n q)

/-- Each item's row lies inside the score and weight arrays. -/
theorem row_inb (n : Fin 64) : ∀ a, (![n.val, 0] : Fin 2 → ℕ) a + S1x128.size a ≤ S64x128.size a := by
  intro a
  have := n.isLt
  fin_cases a
  · show n.val + 1 ≤ 64; omega
  · show 0 + 128 ≤ 128; omega

/-- Row `n` of the attention weights. -/
def row (p : Vec F S64x128 .f32) (n : Fin 64) : Vec F S1x128 .f32 :=
  VecWindow.window p ![n.val, 0] S1x128.size (row_inb n)

/-- The scores of item `n`, out of the transposed words `w`. -/
def scoreRow (x : Vec F S96x128 .bf16) (w : Vec F S2048x128 .i32) (n : Fin 64) : FVec F S1x128 .f32 :=
  scoreOf x (words w n 3) (words w n 0) (words w n 1) (words w n 2)

/-- Item `n` added to the accumulators. -/
def poolStep (w : Vec F S2048x128 .i32) (p : Vec F S64x128 .f32) (n : Fin 64)
    (acc : FVec F S32x128 .f32 × FVec F S32x128 .f32 × FVec F S32x128 .f32) :
    FVec F S32x128 .f32 × FVec F S32x128 .f32 × FVec F S32x128 .f32 :=
  poolOf (row p n) (words w n 3) (words w n 0) (words w n 1) (words w n 2) acc

/-- The accumulators after the first `k` items. -/
def pool (w : Vec F S2048x128 .i32) (p : Vec F S64x128 .f32)
    (init : FVec F S32x128 .f32 × FVec F S32x128 .f32 × FVec F S32x128 .f32) :
    (k : ℕ) → k ≤ 64 → FVec F S32x128 .f32 × FVec F S32x128 .f32 × FVec F S32x128 .f32
  | 0, _ => init
  | k + 1, h => poolStep w p ⟨k, h⟩ (pool w p init k (Nat.le_of_succ_le h))

/-- The transpose in tiles of 128 rows: entry `(r, lane)` is the word at row `128 * (r / 128) + lane` and
column `r % 128`. -/
def transposed (x1 : Vec F S2048x128 .i32) : Vec F S2048x128 .i32 := fun j =>
  x1 (ix2 ⟨128 * ((j 0).val / 128) + (j 1).val, by
    have h0 : (j 0).val < 2048 := (j 0).isLt
    have h1 : (j 1).val < 128 := (j 1).isLt
    omega⟩ ⟨(j 0).val % 128, Nat.mod_lt _ (by decide)⟩)

/-- The scores of all items: row `n` is `scoreRow x w n`. -/
def scores (x : Vec F S96x128 .bf16) (w : Vec F S2048x128 .i32) : Vec F S64x128 .f32 := fun j =>
  scoreRow x w ⟨(j 0).val, (j 0).isLt⟩ (ix2 (0 : Fin 1) ⟨(j 1).val, (j 1).isLt⟩)

/-! ## One trip of each loop -/

section
variable (𝒱 : Variants) (c : Dev nD) (bd : Option 𝒱.V) (i : grid0.Coords)
  (arg1 : Memref sig .tc .vmem S96x128 .bf16) (harg1 : arg1.IsWhole) (arg2 : Memref sig .tc .vmem S2048x128 .i32) (harg2 : arg2.IsWhole)
  (arg3 : Memref sig .tc .vmem S128x64 .i32) (harg3 : arg3.IsWhole) (arg4 : Memref sig .tc .vmem S96x128 .bf16) (harg4 : arg4.IsWhole)
  (arg5 : Memref sig .tc .vmem S64x128 .i32) (harg5 : arg5.IsWhole) (arg6 : Memref sig .tc .vmem S64x128 .f32) (harg6 : arg6.IsWhole)
  (arg7 : Memref sig .tc .vmem S2048x128 .i32) (harg7 : arg7.IsWhole) (arg8 : Memref sig .tc .vmem S64x128 .f32) (harg8 : arg8.IsWhole)
  (arg9 : Memref sig .tc .vmem S64x128 .f32) (harg9 : arg9.IsWhole)

/-- The store of one trip of the transposing loop. -/
theorem tripL1 (X : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 arg8 harg8 arg9 harg9 X k
      = [⟨Rect.unit (s := S2048x128) (k0_off1 k) S128x128.size (k0_off1_inb k),
          k0_pay74 (arg2.view.readAt (Elt F) (Rect.unit (s := S2048x128) (k0_off1 k) S128x128.size (k0_off1_inb k)).toLoadRect X)⟩] := by
  unfold tripL_k0_t1 trip_k0_t1; rfl

/-- The words a trip of the scoring loop loads. -/
abbrev ld2 (X : BufTy.Contents (Elt F) arg7.view.ty) (k : Fin k0_t2_loop.trips) (r : Fin 8) (q : Fin 4) : Vec F S8x128 .i32 :=
  arg7.view.readAt (Elt F) (Rect.unit (s := S2048x128) (k0_off2 k (BitVec.ofNat 32 r.val) (BitVec.ofNat 32 (8 * q.val))) S8x128.size (k0_off2_inb k r q)).toLoadRect X

/-- One of the eight stores of a trip of the scoring loop. -/
abbrev piece2 (v1 : Vec F S96x128 .bf16) (X : BufTy.Contents (Elt F) arg7.view.ty) (k : Fin k0_t2_loop.trips) (r : Fin 8) :
    View.Piece (Elt F) S64x128 .f32 :=
  ⟨Rect.unit (s := S64x128) (k0_off3 k (BitVec.ofNat 32 r.val)) S1x128.size (k0_off3_inb k r),
    scoreOf v1 (ld2 arg7 X k r 3) (ld2 arg7 X k r 0) (ld2 arg7 X k r 1) (ld2 arg7 X k r 2)⟩

set_option maxHeartbeats 4000000 in
/-- The stores of one trip of the scoring loop: eight items, each by the same function of its words. -/
theorem tripL2 (v1 : Vec F S96x128 .bf16) (X : BufTy.Contents (Elt F) arg7.view.ty) (k : Fin k0_t2_loop.trips) :
    tripL_k0_t2 (F := F) 𝒱 c bd i arg1 harg1 arg2 harg2 arg3 harg3 arg4 harg4 arg5 harg5 arg6 harg6 arg7 harg7 arg8 harg8 arg9 harg9 v1 X k
      = [piece2 arg7 v1 X k 7, piece2 arg7 v1 X k 6, piece2 arg7 v1 X k 5, piece2 arg7 v1 X k 4,
         piece2 arg7 v1 X k 3, piece2 arg7 v1 X k 2, piece2 arg7 v1 X k 1, piece2 arg7 v1 X k 0] := by
  unfold tripL_k0_t2 trip_k0_t2; rfl

/-- The words a trip of the pooling loop loads. -/
abbrev ld3 (X : BufTy.Contents (Elt F) arg7.view.ty) (k : Fin k0_t3_loop.trips) (r : Fin 8) (q : Fin 4) : Vec F S8x128 .i32 :=
  arg7.view.readAt (Elt F) (Rect.unit (s := S2048x128) (k0_off4 k (BitVec.ofNat 32 r.val) (BitVec.ofNat 32 (8 * q.val))) S8x128.size (k0_off4_inb k r q)).toLoadRect X

/-- The row of weights a trip of the pooling loop loads. -/
abbrev ldp (Y : BufTy.Contents (Elt F) arg9.view.ty) (k : Fin k0_t3_loop.trips) (r : Fin 8) : Vec F S1x128 .f32 :=
  arg9.view.readAt (Elt F) (Rect.unit (s := S64x128) (k0_off5 k (BitVec.ofNat 32 r.val)) S1x128.size (k0_off5_inb k r)).toLoadRect Y

/-- One of the eight items of a trip of the pooling loop. -/
abbrev step3 (X : BufTy.Contents (Elt F) arg7.view.ty) (Y : BufTy.Contents (Elt F) arg9.view.ty) (k : Fin k0_t3_loop.trips) (r : Fin 8)
    (acc : FVec F S32x128 .f32 × FVec F S32x128 .f32 × FVec F S32x128 .f32) :
    FVec F S32x128 .f32 × FVec F S32x128 .f32 × FVec F S32x128 .f32 :=
  poolOf (ldp arg9 Y k r) (ld3 arg7 X k r 3) (ld3 arg7 X k r 0) (ld3 arg7 X k r 1) (ld3 arg7 X k r 2) acc

set_option maxHeartbeats 4000000 in
/-- The result of one trip of the pooling loop: eight items, each by the same step. -/
theorem tripR3 (X : BufTy.Contents (Elt F) arg7.view.ty) (Y : BufTy.Contents (Elt F) arg9.view.ty) (k : Fin k0_t3_loop.trips)
    (acc : FVec F S32x128 .f32 × FVec F S32x128 .f32 × FVec F S32x128 .f32) :
    tripR_k0_t3 (F := F) 𝒱 c bd i arg1 harg1 arg2 harg2 arg3 harg3 arg4 harg4 arg5 harg5 arg6 harg6 arg7 harg7 arg8 harg8 arg9 harg9 X Y k acc
      = step3 arg7 arg9 X Y k 7 (step3 arg7 arg9 X Y k 6 (step3 arg7 arg9 X Y k 5 (step3 arg7 arg9 X Y k 4
          (step3 arg7 arg9 X Y k 3 (step3 arg7 arg9 X Y k 2 (step3 arg7 arg9 X Y k 1 (step3 arg7 arg9 X Y k 0 acc))))))) := by
  unfold tripR_k0_t3 trip_k0_t3; rfl

end

end Cert.Kernel.Attend

end
-- ==== Proof.Bits.Passes.lean ====
/-
  What each of the three loops of the attention body leaves behind when it has run to its end: the transposed
  words, the rows of scores, the pooled accumulators.
-/
module

public import proofs.«01_k».proof.Proof.Bits.Trips
public import Idealize.ShloMosaic.Lib.Pointwise.Reshape

@[expose] public section

set_option maxRecDepth 16384

noncomputable section

namespace Cert.Kernel.Attend

open Idealize.ShloMosaic Idealize.SL.Sem
open Cert.Kernel Cert.Kernel.Gen

variable {F : FTy → Type} [FloatOps F]

/-- Two stores through equal offsets, of equal payloads, are the same store. -/
theorem piece_congr {Val : EltTy → Type} {s : Shape} {e : EltTy} {off off' size : Fin s.rank → ℕ}
    (inb : ∀ a, off a + size a ≤ s.size a) (inb' : ∀ a, off' a + size a ≤ s.size a)
    (w w' : (⟨s.rank, size⟩ : Shape).Idx → Val e) (h : off = off') (hw : w = w') :
    (⟨Rect.unit off size inb, w⟩ : View.Piece Val s e) = ⟨Rect.unit off' size inb', w'⟩ := by
  subst h hw; rfl

/-- Each tile of 128 rows lies inside the block of gathered rows. -/
theorem tile_inb (i : Fin 16) : ∀ a, (![128 * i.val, 0] : Fin 2 → ℕ) a + S128x128.size a ≤ S2048x128.size a := by
  intro a
  have := i.isLt
  fin_cases a
  · show 128 * i.val + 128 ≤ 2048; omega
  · show 0 + 128 ≤ 128; omega

/-- The stored tile is the transpose of the loaded one. -/
theorem pay74_apply (v : Vec F S128x128 .i32) (y : S128x128.Idx) :
    k0_pay74 v y = v (ix2 (n0 := 128) (n1 := 128) (y 1) (y 0)) := by
  unfold k0_pay74
  rw [shapeCast_id]
  refine congrArg v (funext fun a => ?_)
  match a with | ⟨0, _⟩ => rfl | ⟨1, _⟩ => rfl

section
variable (𝒱 : Variants) (c : Dev nD) (bd : Option 𝒱.V) (i : grid0.Coords)
  (arg1 : Memref sig .tc .vmem S96x128 .bf16) (harg1 : arg1.IsWhole) (arg2 : Memref sig .tc .vmem S2048x128 .i32) (harg2 : arg2.IsWhole)
  (arg3 : Memref sig .tc .vmem S128x64 .i32) (harg3 : arg3.IsWhole) (arg4 : Memref sig .tc .vmem S96x128 .bf16) (harg4 : arg4.IsWhole)
  (arg5 : Memref sig .tc .vmem S64x128 .i32) (harg5 : arg5.IsWhole) (arg6 : Memref sig .tc .vmem S64x128 .f32) (harg6 : arg6.IsWhole)
  (arg7 : Memref sig .tc .vmem S2048x128 .i32) (harg7 : arg7.IsWhole) (arg8 : Memref sig .tc .vmem S64x128 .f32) (harg8 : arg8.IsWhole)
  (arg9 : Memref sig .tc .vmem S64x128 .f32) (harg9 : arg9.IsWhole)

/-! ## The transposing loop -/

/-- The stores of the first `K` trips of the transposing loop are tiles of 128 rows. -/
theorem pb1_tiles (X : BufTy.Contents (Elt F) arg2.view.ty) (K : ℕ) (hK : K ≤ 16) :
    pb_k0_t1 (F := F) 𝒱 c bd i arg1 harg1 arg2 harg2 arg3 harg3 arg4 harg4 arg5 harg5 arg6 harg6 arg7 harg7 arg8 harg8 arg9 harg9 X K
      = View.tilePieces (NT := 16) (s := S2048x128) S128x128.size (fun i => ![128 * i.val, 0]) tile_inb
          (fun i => k0_pay74 (VecWindow.window (arg2.view.read (Elt F) X) ![128 * i.val, 0] S128x128.size (tile_inb i))) K hK := by
  induction K with
  | zero => rfl
  | succ K ih =>
    have hT : k0_t1_loop.trips = 16 := by decide +kernel
    have h := pb_k0_t1_succ (F := F) 𝒱 c bd i arg1 harg1 arg2 harg2 arg3 harg3 arg4 harg4 arg5 harg5 arg6 harg6 arg7 harg7 arg8 harg8 arg9 harg9 X ⟨K, by omega⟩
    rw [tripL1] at h
    refine h.trans ?_
    rw [ih (by omega), View.tilePieces_succ]
    refine congrArg (· :: _) ?_
    have ho : k0_off1 (⟨K, by omega⟩ : Fin k0_t1_loop.trips) = ![128 * K, 0] := k0_off1_eq ⟨K, by omega⟩
    exact piece_congr (Val := Elt F) (s := S2048x128) (e := .i32) (size := S128x128.size) (k0_off1_inb _) (tile_inb _) _ _ ho
      (congrArg k0_pay74 (View.readAt_unit arg2.view X (k0_off1_inb _) ho (tile_inb ⟨K, hK⟩)))

/-- After the transposing loop the scratch reads as the transpose of the gathered rows. -/
theorem read1 (X : BufTy.Contents (Elt F) arg2.view.ty) (G : BufTy.Contents (Elt F) arg7.view.ty) :
    arg7.view.read (Elt F) (arg7.view.writes (Elt F) G
        (pb_k0_t1 (F := F) 𝒱 c bd i arg1 harg1 arg2 harg2 arg3 harg3 arg4 harg4 arg5 harg5 arg6 harg6 arg7 harg7 arg8 harg8 arg9 harg9 X 16))
      = transposed (arg2.view.read (Elt F) X) := by
  funext y
  have h0 : (y 0).val < 2048 := (y 0).isLt
  have h1 : (y 1).val < 128 := (y 1).isLt
  rw [pb1_tiles _ _ _ _ _ _ _ _ _ _ _ _ _ _ _ _ _ _ _ _ _ _ X 16 (Nat.le_refl _),
    View.read_tilePieces arg7.view G S128x128.size (fun i => ![128 * i.val, 0]) tile_inb _ 16 (Nat.le_refl _) y
      ⟨(y 0).val / 128, by omega⟩ (by show (y 0).val / 128 < 16; omega) (ix2 (n0 := 128) (n1 := 128) ⟨(y 0).val % 128, Nat.mod_lt _ (by decide)⟩ ⟨(y 1).val, h1⟩)
      (Fin.forall_fin_two.mpr ⟨by show (y 0).val = 128 * ((y 0).val / 128) + (y 0).val % 128; omega,
        by show (y 1).val = 0 + (y 1).val; omega⟩)
      (0 : Fin 2) (fun i' hi' => by
        have hne : i'.val ≠ (y 0).val / 128 := fun h => hi' (Fin.ext h)
        show (y 0).val < 128 * i'.val ∨ 128 * i'.val + 128 ≤ (y 0).val
        omega),
    pay74_apply]
  refine congrArg (arg2.view.read (Elt F) X) (funext fun a => Fin.ext ?_)
  match a with
  | ⟨0, _⟩ => show 128 * ((y 0).val / 128) + 1 * (y 1).val = 128 * ((y 0).val / 128) + (y 1).val; omega
  | ⟨1, _⟩ => show 0 + 1 * ((y 0).val % 128) = (y 0).val % 128; omega

/-! ## The scoring loop -/

/-- The eight words a trip of the scoring loop loads for an item are that item's words. -/
theorem ld2_eq (X : BufTy.Contents (Elt F) arg7.view.ty) (k : Fin k0_t2_loop.trips) (r : Fin 8) (q : Fin 4) (n : Fin 64) (hn : n.val = 8 * k.val + r.val) :
    ld2 arg7 X k r q = words (arg7.view.read (Elt F) X) n q := by
  have ho : k0_off2 k (BitVec.ofNat 32 r.val) (BitVec.ofNat 32 (8 * q.val)) = ![32 * n.val + 8 * q.val, 0] := by
    rw [k0_off2_eq k r q]
    refine funext fun a => ?_
    match a with
    | ⟨0, _⟩ => show 256 * k.val + 32 * r.val + 8 * q.val = 32 * n.val + 8 * q.val; omega
    | ⟨1, _⟩ => rfl
  exact View.readAt_unit arg7.view X (k0_off2_inb k r q) ho (words_inb n q)

/-- A store of the scoring loop is the item's row of scores. -/
theorem piece2_eq (v1 : Vec F S96x128 .bf16) (X : BufTy.Contents (Elt F) arg7.view.ty) (k : Fin k0_t2_loop.trips) (r : Fin 8) (n : Fin 64)
    (hn : n.val = 8 * k.val + r.val) :
    piece2 arg7 v1 X k r = ⟨Rect.unit (s := S64x128) ![n.val, 0] S1x128.size (row_inb n), scoreRow v1 (arg7.view.read (Elt F) X) n⟩ := by
  have ho : k0_off3 k (BitVec.ofNat 32 r.val) = ![n.val, 0] := by
    rw [k0_off3_eq k r, hn]
  refine piece_congr (Val := Elt F) (s := S64x128) (e := .f32) (size := S1x128.size) (k0_off3_inb k r) (row_inb n) _ _ ho ?_
  rw [ld2_eq arg7 X k r 3 n hn, ld2_eq arg7 X k r 0 n hn, ld2_eq arg7 X k r 1 n hn, ld2_eq arg7 X k r 2 n hn]
  rfl

/-- The stores of the first `K` trips of the scoring loop are one row per item. -/
theorem pb2_tiles (v1 : Vec F S96x128 .bf16) (X : BufTy.Contents (Elt F) arg7.view.ty) (K : ℕ) (hK : 8 * K ≤ 64) :
    pb_k0_t2 (F := F) 𝒱 c bd i arg1 harg1 arg2 harg2 arg3 harg3 arg4 harg4 arg5 harg5 arg6 harg6 arg7 harg7 arg8 harg8 arg9 harg9 v1 X K
      = View.tilePieces (NT := 64) (s := S64x128) S1x128.size (fun i => ![i.val, 0]) row_inb
          (fun n => scoreRow v1 (arg7.view.read (Elt F) X) n) (8 * K) hK := by
  induction K with
  | zero => rfl
  | succ K ih =>
    have hT : k0_t2_loop.trips = 8 := by decide +kernel
    have hk : K < k0_t2_loop.trips := by omega
    have h := pb_k0_t2_succ (F := F) 𝒱 c bd i arg1 harg1 arg2 harg2 arg3 harg3 arg4 harg4 arg5 harg5 arg6 harg6 arg7 harg7 arg8 harg8 arg9 harg9 v1 X ⟨K, hk⟩
    rw [tripL2] at h
    refine h.trans ?_
    rw [ih (by omega),
      piece2_eq arg7 v1 X ⟨K, hk⟩ 0 ⟨8 * K + 0, by omega⟩ rfl, piece2_eq arg7 v1 X ⟨K, hk⟩ 1 ⟨8 * K + 1, by omega⟩ rfl,
      piece2_eq arg7 v1 X ⟨K, hk⟩ 2 ⟨8 * K + 2, by omega⟩ rfl, piece2_eq arg7 v1 X ⟨K, hk⟩ 3 ⟨8 * K + 3, by omega⟩ rfl,
      piece2_eq arg7 v1 X ⟨K, hk⟩ 4 ⟨8 * K + 4, by omega⟩ rfl, piece2_eq arg7 v1 X ⟨K, hk⟩ 5 ⟨8 * K + 5, by omega⟩ rfl,
      piece2_eq arg7 v1 X ⟨K, hk⟩ 6 ⟨8 * K + 6, by omega⟩ rfl, piece2_eq arg7 v1 X ⟨K, hk⟩ 7 ⟨8 * K + 7, by omega⟩ rfl]
    rfl

/-- After the scoring loop the score scratch reads as the scores of all items. -/
theorem read2 (v1 : Vec F S96x128 .bf16) (X : BufTy.Contents (Elt F) arg7.view.ty) (G : BufTy.Contents (Elt F) arg8.view.ty) :
    arg8.view.read (Elt F) (arg8.view.writes (Elt F) G
        (pb_k0_t2 (F := F) 𝒱 c bd i arg1 harg1 arg2 harg2 arg3 harg3 arg4 harg4 arg5 harg5 arg6 harg6 arg7 harg7 arg8 harg8 arg9 harg9 v1 X 8))
      = scores v1 (arg7.view.read (Elt F) X) := by
  funext y
  have h0 : (y 0).val < 64 := (y 0).isLt
  have h1 : (y 1).val < 128 := (y 1).isLt
  rw [pb2_tiles _ _ _ _ _ _ _ _ _ _ _ _ _ _ _ _ _ _ _ _ _ _ v1 X 8 (Nat.le_refl _)]
  exact View.read_tilePieces arg8.view G S1x128.size (fun i => ![i.val, 0]) row_inb
      (fun n => scoreRow v1 (arg7.view.read (Elt F) X) n) (8 * 8) (Nat.le_refl _) y
      ⟨(y 0).val, h0⟩ h0 (ix2 (n0 := 1) (n1 := 128) (0 : Fin 1) ⟨(y 1).val, h1⟩)
      (Fin.forall_fin_two.mpr ⟨rfl, by show (y 1).val = 0 + (y 1).val; omega⟩)
      (0 : Fin 2) (fun i' hi' => by
        have hne : i'.val ≠ (y 0).val := fun h => hi' (Fin.ext h)
        show (y 0).val < i'.val ∨ i'.val + 1 ≤ (y 0).val
        omega)

/-! ## The pooling loop -/

/-- The eight words a trip of the pooling loop loads for an item are that item's words. -/
theorem ld3_eq (X : BufTy.Contents (Elt F) arg7.view.ty) (k : Fin k0_t3_loop.trips) (r : Fin 8) (q : Fin 4) (n : Fin 64) (hn : n.val = 8 * k.val + r.val) :
    ld3 arg7 X k r q = words (arg7.view.read (Elt F) X) n q := by
  have ho : k0_off4 k (BitVec.ofNat 32 r.val) (BitVec.ofNat 32 (8 * q.val)) = ![32 * n.val + 8 * q.val, 0] := by
    rw [k0_off4_eq k r q]
    refine funext fun a => ?_
    match a with
    | ⟨0, _⟩ => show 256 * k.val + 32 * r.val + 8 * q.val = 32 * n.val + 8 * q.val; omega
    | ⟨1, _⟩ => rfl
  exact View.readAt_unit arg7.view X (k0_off4_inb k r q) ho (words_inb n q)

/-- The row of weights a trip of the pooling loop loads for an item is that item's row. -/
theorem ldp_eq (Y : BufTy.Contents (Elt F) arg9.view.ty) (k : Fin k0_t3_loop.trips) (r : Fin 8) (n : Fin 64) (hn : n.val = 8 * k.val + r.val) :
    ldp arg9 Y k r = row (arg9.view.read (Elt F) Y) n := by
  have ho : k0_off5 k (BitVec.ofNat 32 r.val) = ![n.val, 0] := by rw [k0_off5_eq k r, hn]
  exact View.readAt_unit arg9.view Y (k0_off5_inb k r) ho (row_inb n)

/-- One item of a trip of the pooling loop is one step over the items. -/
theorem step3_eq (X : BufTy.Contents (Elt F) arg7.view.ty) (Y : BufTy.Contents (Elt F) arg9.view.ty) (k : Fin k0_t3_loop.trips) (r : Fin 8)
    (n : Fin 64) (hn : n.val = 8 * k.val + r.val) (acc : FVec F S32x128 .f32 × FVec F S32x128 .f32 × FVec F S32x128 .f32) :
    step3 arg7 arg9 X Y k r acc = poolStep (arg7.view.read (Elt F) X) (arg9.view.read (Elt F) Y) n acc := by
  unfold step3 poolStep
  rw [ldp_eq arg9 Y k r n hn, ld3_eq arg7 X k r 3 n hn, ld3_eq arg7 X k r 0 n hn, ld3_eq arg7 X k r 1 n hn, ld3_eq arg7 X k r 2 n hn]

/-- The accumulators after `K` trips of the pooling loop are those after `8 * K` items. -/
theorem st3 (X : BufTy.Contents (Elt F) arg7.view.ty) (Y : BufTy.Contents (Elt F) arg9.view.ty)
    (init : FVec F S32x128 .f32 × FVec F S32x128 .f32 × FVec F S32x128 .f32) (K : ℕ) (hK : 8 * K ≤ 64) :
    st_k0_t3 (F := F) 𝒱 c bd i arg1 harg1 arg2 harg2 arg3 harg3 arg4 harg4 arg5 harg5 arg6 harg6 arg7 harg7 arg8 harg8 arg9 harg9 X Y init K
      = pool (arg7.view.read (Elt F) X) (arg9.view.read (Elt F) Y) init (8 * K) hK := by
  induction K with
  | zero => rfl
  | succ K ih =>
    have hT : k0_t3_loop.trips = 8 := by decide +kernel
    have hk : K < k0_t3_loop.trips := by omega
    have h := st_k0_t3_succ (F := F) 𝒱 c bd i arg1 harg1 arg2 harg2 arg3 harg3 arg4 harg4 arg5 harg5 arg6 harg6 arg7 harg7 arg8 harg8 arg9 harg9 X Y init ⟨K, hk⟩
    rw [tripR3] at h
    refine h.trans ?_
    rw [ih (by omega),
      step3_eq arg7 arg9 X Y ⟨K, hk⟩ 0 ⟨8 * K + 0, by omega⟩ rfl, step3_eq arg7 arg9 X Y ⟨K, hk⟩ 1 ⟨8 * K + 1, by omega⟩ rfl,
      step3_eq arg7 arg9 X Y ⟨K, hk⟩ 2 ⟨8 * K + 2, by omega⟩ rfl, step3_eq arg7 arg9 X Y ⟨K, hk⟩ 3 ⟨8 * K + 3, by omega⟩ rfl,
      step3_eq arg7 arg9 X Y ⟨K, hk⟩ 4 ⟨8 * K + 4, by omega⟩ rfl, step3_eq arg7 arg9 X Y ⟨K, hk⟩ 5 ⟨8 * K + 5, by omega⟩ rfl,
      step3_eq arg7 arg9 X Y ⟨K, hk⟩ 6 ⟨8 * K + 6, by omega⟩ rfl, step3_eq arg7 arg9 X Y ⟨K, hk⟩ 7 ⟨8 * K + 7, by omega⟩ rfl]
    rfl

end

end Cert.Kernel.Attend

end
-- ==== Proof.Bits.Body.lean ====
/-
  One run of the attention body over one block, with what it leaves in its three results named: functions of
  the block's features, gathered rows and positions alone.
-/
module

public import proofs.«01_k».proof.Proof.Bits.Passes
public import proofs.«01_k».proof.Proof.Gen.Kernel.Launch
public import proofs.«01_k».proof.Proof.Gen.Kernel.Points

@[expose] public section

set_option maxRecDepth 16384

noncomputable section

namespace Cert.Kernel.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- The attention weights of a block. -/
def attnOut (x0 : Vec F S96x128 .bf16) (x1 : Vec F S2048x128 .i32) : Vec F S64x128 .f32 :=
  k0_pay80 (scores x0 (transposed x1))

/-- The positions of a block, transposed. -/
def selOut (x2 : Vec F S128x64 .i32) : Vec F S64x128 .i32 := k0_pay81 x2

/-- The pooled embedding of a block. -/
def pooledOut (x0 : Vec F S96x128 .bf16) (x1 : Vec F S2048x128 .i32) : Vec F S96x128 .bf16 :=
  let acc := pool (transposed x1) (k0_pay82 (scores x0 (transposed x1))) (k0_pay83, k0_pay1, k0_pay2) 64 (Nat.le_refl _)
  k0_pay5 acc.1 acc.2.1 acc.2.2

set_option maxHeartbeats 2000000 in
/-- The body's triple: given a block's features `x0`, gathered rows `x1` and positions `x2`, whatever the results
and the scratch held, the body ends with the inputs as they were and the three results at the named functions. -/
theorem attend_run (c : Dev nD) (i : grid0.Coords) (arg1 : Memref sig .tc .vmem S96x128 .bf16) (harg1 : arg1.IsWhole) (arg2 : Memref sig .tc .vmem S2048x128 .i32) (harg2 : arg2.IsWhole) (arg3 : Memref sig .tc .vmem S128x64 .i32) (harg3 : arg3.IsWhole) (arg4 : Memref sig .tc .vmem S96x128 .bf16) (harg4 : arg4.IsWhole) (arg5 : Memref sig .tc .vmem S64x128 .i32) (harg5 : arg5.IsWhole) (arg6 : Memref sig .tc .vmem S64x128 .f32) (harg6 : arg6.IsWhole) (arg7 : Memref sig .tc .vmem S2048x128 .i32) (harg7 : arg7.IsWhole) (arg8 : Memref sig .tc .vmem S64x128 .f32) (harg8 : arg8.IsWhole) (arg9 : Memref sig .tc .vmem S64x128 .f32) (harg9 : arg9.IsWhole)
    (x0 : Vec F S96x128 .bf16) (x1 : Vec F S2048x128 .i32) (x2 : Vec F S128x64 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare (pooledOut x0 x1) ∗ owns (c : Thread nD τ) arg5 fullShare (selOut (F := F) x2) ∗ owns (c : Thread nD τ) arg6 fullShare (attnOut x0 x1) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_attend0 i arg1 harg1 arg2 harg2 arg3 harg3 arg4 harg4 arg5 harg5 arg6 harg6 arg7 harg7 arg8 harg8 arg9 harg9) K := by
    intro E K
    simp only [cc0_attend0_eq_skeleton]; unfold cc0_attend0_skel
    simp only [k0_part21_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec
    sl_step
    iapply Hk
    have hT1 : Scf.trips k0_t1_loop.lb k0_t1_loop.ub k0_t1_loop.st = 16 := by decide +kernel
    have hT2 : Scf.trips k0_t2_loop.lb k0_t2_loop.ub k0_t2_loop.st = 8 := by decide +kernel
    have hT3 : Scf.trips k0_t3_loop.lb k0_t3_loop.ub k0_t3_loop.st = 8 := by decide +kernel
    have hv8 : attend_run.sl.v8 c i arg1 harg1 arg2 harg2 arg3 harg3 arg4 harg4 arg5 harg5 arg6 harg6 arg7 harg7 arg8 harg8 arg9 harg9 x0 x1 fs0 fs1 = scores x0 (transposed x1) := by
      unfold attend_run.sl.v8
      rw [View.readAt_full, hT1, hT2, read2, read1, harg2.read_unread]
      rw [View.readAt_full, harg1.read_unread]
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      unfold attend_run.sl.HS2_1
      rw [View.read_writes_full, hT1, hT3, st3 _ _ _ _ _ _ _ _ _ _ _ _ _ _ _ _ _ _ _ _ _ _ _ _ _ 8 (Nat.le_refl _), read1, harg2.read_unread]
      rw [View.read_writes_full, hv8]
      rfl
    isplitl [H4]
    · iexists _; isplitr; swap; · iexact H4
      ipureintro
      unfold attend_run.sl.H4_1
      rw [View.read_writes_full, View.readAt_full, harg3.read_unread]
      rfl
    isplitl [H5]
    · iexists _; isplitr; swap; · iexact H5
      ipureintro
      unfold attend_run.sl.H5_1
      rw [View.read_writes_full]
      rw [hv8]
      rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Attend

end
-- ==== Proof.Bits.Point.lean ====
/-
  The attention body inside a pipeline: one point of the grid, for any of the four calls.
-/
module

public import proofs.«01_k».proof.Proof.Bits.Body
public import proofs.«01_k».proof.Proof.Gen.Kernel.Regions

@[expose] public section

set_option maxRecDepth 16384

noncomputable section

namespace Cert.Kernel.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- One grid point of any of the four calls. Whatever else is held (`Rb`, `Pg`, `Ow`) rides along; the staged inputs
stay as they are, the three staged results end at the values named in the body's triple, and the scratch buffers
are given back at some contents. -/
theorem attend_point (c : Dev nD) (i : grid0.Coords)
    (a1 : Memref sig .tc .vmem S96x128 .bf16) (h1 : a1.IsWhole) (a2 : Memref sig .tc .vmem S2048x128 .i32) (h2 : a2.IsWhole)
    (a3 : Memref sig .tc .vmem S128x64 .i32) (h3 : a3.IsWhole) (a4 : Memref sig .tc .vmem S96x128 .bf16) (h4 : a4.IsWhole)
    (a5 : Memref sig .tc .vmem S64x128 .i32) (h5 : a5.IsWhole) (a6 : Memref sig .tc .vmem S64x128 .f32) (h6 : a6.IsWhole)
    (a7 : Memref sig .tc .vmem S2048x128 .i32) (h7 : a7.IsWhole) (a8 : Memref sig .tc .vmem S64x128 .f32) (h8 : a8.IsWhole)
    (a9 : Memref sig .tc .vmem S64x128 .f32) (h9 : a9.IsWhole)
    (x0 : Vec F S96x128 .bf16) (x1 : Vec F S2048x128 .i32) (x2 : Vec F S128x64 .i32)
    (Rb Pg Ow : sProp 𝕄) {D0 D1 D2 D3 D4 D5 : Type}
    (d3 : D3 → Vec F S96x128 .bf16) (d4 : D4 → Vec F S64x128 .i32) (d5 : D5 → Vec F S64x128 .f32) :
    iprop(((iprop((∃ d, owns (c : Thread nD τ) a7 fullShare d) ∗ (∃ d, owns (c : Thread nD τ) a8 fullShare d) ∗ (∃ d, owns (c : Thread nD τ) a9 fullShare d)) ∗ Rb) ∗ Pg) ∗ Ow
        ∗ (∃ _d : D0, owns (c : Thread nD τ) a1 fullShare x0) ∗ (∃ _d : D1, owns (c : Thread nD τ) a2 fullShare x1) ∗ (∃ _d : D2, owns (c : Thread nD τ) a3 fullShare x2)
        ∗ (∃ d, owns (c : Thread nD τ) a4 fullShare (d3 d)) ∗ (∃ d, owns (c : Thread nD τ) a5 fullShare (d4 d)) ∗ (∃ d, owns (c : Thread nD τ) a6 fullShare (d5 d)))
      ⊢ wp frame (wpE (defs₀ (F := F)) Variants.none c none) Set.univ (cc0_attend0 i a1 h1 a2 h2 a3 h3 a4 h4 a5 h5 a6 h6 a7 h7 a8 h8 a9 h9)
        (fun _ => iprop(((iprop((∃ d, owns (c : Thread nD τ) a7 fullShare d) ∗ (∃ d, owns (c : Thread nD τ) a8 fullShare d) ∗ (∃ d, owns (c : Thread nD τ) a9 fullShare d)) ∗ Rb) ∗ Pg) ∗ Ow
          ∗ owns (c : Thread nD τ) a1 fullShare x0 ∗ owns (c : Thread nD τ) a2 fullShare x1 ∗ owns (c : Thread nD τ) a3 fullShare x2
          ∗ owns (c : Thread nD τ) a4 fullShare (pooledOut x0 x1) ∗ owns (c : Thread nD τ) a5 fullShare (selOut (F := F) x2) ∗ owns (c : Thread nD τ) a6 fullShare (attnOut x0 x1))) := by
  iintro ⟨⟨⟨⟨HS0, HS1, HS2⟩, Hr⟩, Hg⟩, Ho, ⟨%_, H0⟩, ⟨%_, H1⟩, ⟨%_, H2⟩, ⟨%_, H3⟩, ⟨%_, H4⟩, ⟨%_, H5⟩⟩
  iapply (attend_run c i a1 h1 a2 h2 a3 h3 a4 h4 a5 h5 a6 h6 a7 h7 a8 h8 a9 h9 x0 x1 x2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 Hr Hg]
  · isplitl [HS0 HS1 HS2 Hr]
    · isplitl [HS0 HS1 HS2]
      · isplitl [HS0]; · iexact HS0
        isplitl [HS1]; · iexact HS1
        iexact HS2
      iexact Hr
    iexact Hg
  isplitl [Ho]; · iexact Ho
  isplitl [H0]; · iexact H0
  isplitl [H1]; · iexact H1
  isplitl [H2]; · iexact H2
  isplitl [H3]; · iexact H3
  isplitl [H4]; · iexact H4
  iexact H5

/-- The second call runs the first call's body. -/
theorem attend1_eq (i : grid0.Coords) (a1 : Memref sig .tc .vmem S96x128 .bf16) (h1 : a1.IsWhole) (a2 : Memref sig .tc .vmem S2048x128 .i32) (h2 : a2.IsWhole)
    (a3 : Memref sig .tc .vmem S128x64 .i32) (h3 : a3.IsWhole) (a4 : Memref sig .tc .vmem S96x128 .bf16) (h4 : a4.IsWhole)
    (a5 : Memref sig .tc .vmem S64x128 .i32) (h5 : a5.IsWhole) (a6 : Memref sig .tc .vmem S64x128 .f32) (h6 : a6.IsWhole)
    (a7 : Memref sig .tc .vmem S2048x128 .i32) (h7 : a7.IsWhole) (a8 : Memref sig .tc .vmem S64x128 .f32) (h8 : a8.IsWhole)
    (a9 : Memref sig .tc .vmem S64x128 .f32) (h9 : a9.IsWhole) :
    cc1_attend1 (F := F) i a1 h1 a2 h2 a3 h3 a4 h4 a5 h5 a6 h6 a7 h7 a8 h8 a9 h9 = cc0_attend0 i a1 h1 a2 h2 a3 h3 a4 h4 a5 h5 a6 h6 a7 h7 a8 h8 a9 h9 := rfl

/-- The third call runs the first call's body. -/
theorem attend2_eq (i : grid0.Coords) (a1 : Memref sig .tc .vmem S96x128 .bf16) (h1 : a1.IsWhole) (a2 : Memref sig .tc .vmem S2048x128 .i32) (h2 : a2.IsWhole)
    (a3 : Memref sig .tc .vmem S128x64 .i32) (h3 : a3.IsWhole) (a4 : Memref sig .tc .vmem S96x128 .bf16) (h4 : a4.IsWhole)
    (a5 : Memref sig .tc .vmem S64x128 .i32) (h5 : a5.IsWhole) (a6 : Memref sig .tc .vmem S64x128 .f32) (h6 : a6.IsWhole)
    (a7 : Memref sig .tc .vmem S2048x128 .i32) (h7 : a7.IsWhole) (a8 : Memref sig .tc .vmem S64x128 .f32) (h8 : a8.IsWhole)
    (a9 : Memref sig .tc .vmem S64x128 .f32) (h9 : a9.IsWhole) :
    cc2_attend2 (F := F) i a1 h1 a2 h2 a3 h3 a4 h4 a5 h5 a6 h6 a7 h7 a8 h8 a9 h9 = cc0_attend0 i a1 h1 a2 h2 a3 h3 a4 h4 a5 h5 a6 h6 a7 h7 a8 h8 a9 h9 := rfl

/-- The fourth call runs the first call's body. -/
theorem attend3_eq (i : grid0.Coords) (a1 : Memref sig .tc .vmem S96x128 .bf16) (h1 : a1.IsWhole) (a2 : Memref sig .tc .vmem S2048x128 .i32) (h2 : a2.IsWhole)
    (a3 : Memref sig .tc .vmem S128x64 .i32) (h3 : a3.IsWhole) (a4 : Memref sig .tc .vmem S96x128 .bf16) (h4 : a4.IsWhole)
    (a5 : Memref sig .tc .vmem S64x128 .i32) (h5 : a5.IsWhole) (a6 : Memref sig .tc .vmem S64x128 .f32) (h6 : a6.IsWhole)
    (a7 : Memref sig .tc .vmem S2048x128 .i32) (h7 : a7.IsWhole) (a8 : Memref sig .tc .vmem S64x128 .f32) (h8 : a8.IsWhole)
    (a9 : Memref sig .tc .vmem S64x128 .f32) (h9 : a9.IsWhole) :
    cc3_attend3 (F := F) i a1 h1 a2 h2 a3 h3 a4 h4 a5 h5 a6 h6 a7 h7 a8 h8 a9 h9 = cc0_attend0 i a1 h1 a2 h2 a3 h3 a4 h4 a5 h5 a6 h6 a7 h7 a8 h8 a9 h9 := rfl

end Cert.Kernel.Attend

end
-- ==== Proof.Bits.Region0.lean ====
/-
  The pipeline of attention call 0: its proof data, with what it leaves in its three results named, and the body's
  obligation at every grid point.
-/
module

public import proofs.«01_k».proof.Proof.Bits.Point

@[expose] public section

set_option maxRecDepth 16384

noncomputable section

namespace Cert.Kernel.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

/-! ## Call 0 -/

section Call0

variable (V : Valuation τ sig (Elt F))

/-- Window `w`'s block at point `t` of call 0, read off its array at the contents `V`. -/
def iblk0 (w : Fin cfg0.W) (t : Fin cfg0.N) : ((cfg0.win w).xblock (cfg0.grid.coords t)).Idx → Elt F (cfg0.win w).elt :=
  ((cfg0.win w).blk t).view.read (Elt F) (V (Proc.devRef .tc (Pipeline.arrRef spec0 w)))

/-- The proof data of call 0 entered at the contents `V`: the inputs' blocks stay, the results' blocks are the
pooled embedding, the positions and the attention weights of the point's three input blocks. -/
def dat0 (c : Dev nD) : Dat τ (Elt F) Unit ℕ (UR sig nD τ) ℕ cfg0 c where
  A w := V (Proc.devRef .tc (Pipeline.arrRef spec0 w))
  after w t := match w with
    | ⟨0, _⟩ => iblk0 V 0 t
    | ⟨1, _⟩ => iblk0 V 1 t
    | ⟨2, _⟩ => iblk0 V 2 t
    | ⟨3, _⟩ => pooledOut (iblk0 V 0 t) (iblk0 V 1 t)
    | ⟨4, _⟩ => selOut (F := F) (iblk0 V 2 t)
    | ⟨5, _⟩ => attnOut (iblk0 V 0 t) (iblk0 V 1 t)
  Φ _ := Pipeline.ΦA spec0 c
  q _ := fullShare
  owed _ := 0

/-- The proof data's arrays are the contents at the entry. -/
theorem A0_eq (c : Dev nD) (w : Fin cfg0.W) : (dat0 V c).A w = V (Proc.devRef .tc (Pipeline.arrRef spec0 w)) := by dsimp only [dat0]

/-- An input's staging buffer holds its block at every point. -/
theorem before0_0 (c : Dev nD) (t : Fin cfg0.N) (d) : (dat0 V c).before 0 t d = iblk0 V 0 t :=
  ((dat0 V c).before_in_eq_fetched 0 rfl (fun _ => rfl) (fun _ _ _ => rfl) (fun t => by dsimp only [dat0]; rfl) t d).trans (by dsimp only [dat0]; rfl)
/-- Before each grid point of call 0, window 1 holds its block of the gathered rows. -/
theorem before0_1 (c : Dev nD) (t : Fin cfg0.N) (d) : (dat0 V c).before 1 t d = iblk0 V 1 t :=
  ((dat0 V c).before_in_eq_fetched 1 rfl (fun _ => rfl) (fun _ _ _ => rfl) (fun t => by dsimp only [dat0]; rfl) t d).trans (by dsimp only [dat0]; rfl)
/-- Before each grid point of call 0, window 2 holds its block of the selected positions. -/
theorem before0_2 (c : Dev nD) (t : Fin cfg0.N) (d) : (dat0 V c).before 2 t d = iblk0 V 2 t :=
  ((dat0 V c).before_in_eq_fetched 2 rfl (fun _ => rfl) (fun _ _ _ => rfl) (fun t => by dsimp only [dat0]; rfl) t d).trans (by dsimp only [dat0]; rfl)

/-- The invariant: the call's three scratch buffers at some contents, the other scoped buffers, the generator register. -/
theorem Phi0_eq (c : Dev nD) :
    (Pipeline.ΦA spec0 c : sProp 𝕄)
      = iprop((iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d))
          ∗ Pipeline.scopedRestBut (Ix := Unit) (Name := ℕ) (U := UR sig nD τ) (Lvl := ℕ) (Val := Elt F) spec0 c [cc0_scratch0, cc0_scratch1, cc0_scratch2]) ∗ ∃ r, prngReg c r) := by
  unfold Pipeline.ΦA
  rw [scopedRest0_split]
  simp only [owns_whole]

/-- What the body of call 0 is called with at point `t`, window by window. -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d)))

/-- What the body of call 0 returns at point `t`. -/
def bodyPost0 (c : Dev nD) (t : Fin cfg0.N) : sProp 𝕄 :=
  iprop((dat0 V c).Φ t.succ ∗ (dat0 V c).owesAt () t.succ
    ∗ owns (c : Thread nD τ) (win0_0.stage (cfg0.slots t 0)) fullShare ((dat0 V c).after 0 t)
    ∗ owns (c : Thread nD τ) (win0_1.stage (cfg0.slots t 1)) fullShare ((dat0 V c).after 1 t)
    ∗ owns (c : Thread nD τ) (win0_2.stage (cfg0.slots t 2)) fullShare ((dat0 V c).after 2 t)
    ∗ owns (c : Thread nD τ) (win0_3.stage (cfg0.slots t 3)) fullShare ((dat0 V c).after 3 t)
    ∗ owns (c : Thread nD τ) (win0_4.stage (cfg0.slots t 4)) fullShare ((dat0 V c).after 4 t)
    ∗ owns (c : Thread nD τ) (win0_5.stage (cfg0.slots t 5)) fullShare ((dat0 V c).after 5 t))

/-- The body of call 0 at any point. -/
theorem sound0 (c : Dev nD) (t : Fin cfg0.N) :
    bodyPre0 V c t ⊢ wp frame (wpE (defs₀ (F := F)) Variants.none c none) Set.univ (bodyAt0 t) (fun _ => bodyPost0 V c t) := by
  unfold bodyPre0 bodyPost0
  simp only [before0_0, before0_1, before0_2]
  rw [show (dat0 V c).Φ t.succ = (dat0 V c).Φ t.castSucc from rfl,
    show (dat0 V c).owesAt () t.succ = (dat0 V c).owesAt () t.castSucc from rfl,
    show (dat0 V c).Φ t.castSucc = Pipeline.ΦA spec0 c from rfl, Phi0_eq]
  exact attend_point c (grid0.coords t) _ _ _ _ _ _ _ _ _ _ _ _ _ _ _ _ _ _ (iblk0 V 0 t) (iblk0 V 1 t) (iblk0 V 2 t) _ _ _ _ _ _

/-- The body's obligation at every point of call 0. -/
theorem obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound0 V c t) rfl .rfl fun _ => .rfl

end Call0

end Cert.Kernel.Attend

end
-- ==== Proof.Bits.Region1.lean ====
/-
  The pipeline of attention call 1: its proof data, with what it leaves in its three results named, and the body's
  obligation at every grid point.
-/
module

public import proofs.«01_k».proof.Proof.Bits.Point

@[expose] public section

set_option maxRecDepth 16384

noncomputable section

namespace Cert.Kernel.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

/-! ## Call 1 -/

section Call1

variable (V : Valuation τ sig (Elt F))

/-- Window `w`'s block at point `t` of call 1, read off its array at the contents `V`. -/
def iblk1 (w : Fin cfg1.W) (t : Fin cfg1.N) : ((cfg1.win w).xblock (cfg1.grid.coords t)).Idx → Elt F (cfg1.win w).elt :=
  ((cfg1.win w).blk t).view.read (Elt F) (V (Proc.devRef .tc (Pipeline.arrRef spec1 w)))

/-- The proof data of call 1 entered at the contents `V`: the inputs' blocks stay, the results' blocks are the
pooled embedding, the positions and the attention weights of the point's three input blocks. -/
def dat1 (c : Dev nD) : Dat τ (Elt F) Unit ℕ (UR sig nD τ) ℕ cfg1 c where
  A w := V (Proc.devRef .tc (Pipeline.arrRef spec1 w))
  after w t := match w with
    | ⟨0, _⟩ => iblk1 V 0 t
    | ⟨1, _⟩ => iblk1 V 1 t
    | ⟨2, _⟩ => iblk1 V 2 t
    | ⟨3, _⟩ => pooledOut (iblk1 V 0 t) (iblk1 V 1 t)
    | ⟨4, _⟩ => selOut (F := F) (iblk1 V 2 t)
    | ⟨5, _⟩ => attnOut (iblk1 V 0 t) (iblk1 V 1 t)
  Φ _ := Pipeline.ΦA spec1 c
  q _ := fullShare
  owed _ := 0

/-- The proof data's arrays are the contents at the entry. -/
theorem A1_eq (c : Dev nD) (w : Fin cfg1.W) : (dat1 V c).A w = V (Proc.devRef .tc (Pipeline.arrRef spec1 w)) := by dsimp only [dat1]

/-- An input's staging buffer holds its block at every point. -/
theorem before1_0 (c : Dev nD) (t : Fin cfg1.N) (d) : (dat1 V c).before 0 t d = iblk1 V 0 t :=
  ((dat1 V c).before_in_eq_fetched 0 rfl (fun _ => rfl) (fun _ _ _ => rfl) (fun t => by dsimp only [dat1]; rfl) t d).trans (by dsimp only [dat1]; rfl)
/-- Before each grid point of call 1, window 1 holds its block of the gathered rows. -/
theorem before1_1 (c : Dev nD) (t : Fin cfg1.N) (d) : (dat1 V c).before 1 t d = iblk1 V 1 t :=
  ((dat1 V c).before_in_eq_fetched 1 rfl (fun _ => rfl) (fun _ _ _ => rfl) (fun t => by dsimp only [dat1]; rfl) t d).trans (by dsimp only [dat1]; rfl)
/-- Before each grid point of call 1, window 2 holds its block of the selected positions. -/
theorem before1_2 (c : Dev nD) (t : Fin cfg1.N) (d) : (dat1 V c).before 2 t d = iblk1 V 2 t :=
  ((dat1 V c).before_in_eq_fetched 2 rfl (fun _ => rfl) (fun _ _ _ => rfl) (fun t => by dsimp only [dat1]; rfl) t d).trans (by dsimp only [dat1]; rfl)

/-- The invariant: the call's three scratch buffers at some contents, the other scoped buffers, the generator register. -/
theorem Phi1_eq (c : Dev nD) :
    (Pipeline.ΦA spec1 c : sProp 𝕄)
      = iprop((iprop((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d))
          ∗ Pipeline.scopedRestBut (Ix := Unit) (Name := ℕ) (U := UR sig nD τ) (Lvl := ℕ) (Val := Elt F) spec1 c [cc1_scratch0, cc1_scratch1, cc1_scratch2]) ∗ ∃ r, prngReg c r) := by
  unfold Pipeline.ΦA
  rw [scopedRest1_split]
  simp only [owns_whole]

/-- What the body of call 1 is called with at point `t`, window by window. -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d)))

/-- What the body of call 1 returns at point `t`. -/
def bodyPost1 (c : Dev nD) (t : Fin cfg1.N) : sProp 𝕄 :=
  iprop((dat1 V c).Φ t.succ ∗ (dat1 V c).owesAt () t.succ
    ∗ owns (c : Thread nD τ) (win1_0.stage (cfg1.slots t 0)) fullShare ((dat1 V c).after 0 t)
    ∗ owns (c : Thread nD τ) (win1_1.stage (cfg1.slots t 1)) fullShare ((dat1 V c).after 1 t)
    ∗ owns (c : Thread nD τ) (win1_2.stage (cfg1.slots t 2)) fullShare ((dat1 V c).after 2 t)
    ∗ owns (c : Thread nD τ) (win1_3.stage (cfg1.slots t 3)) fullShare ((dat1 V c).after 3 t)
    ∗ owns (c : Thread nD τ) (win1_4.stage (cfg1.slots t 4)) fullShare ((dat1 V c).after 4 t)
    ∗ owns (c : Thread nD τ) (win1_5.stage (cfg1.slots t 5)) fullShare ((dat1 V c).after 5 t))

/-- The body of call 1 at any point. -/
theorem sound1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1_0, before1_1, before1_2]
  rw [show (dat1 V c).Φ t.succ = (dat1 V c).Φ t.castSucc from rfl,
    show (dat1 V c).owesAt () t.succ = (dat1 V c).owesAt () t.castSucc from rfl,
    show (dat1 V c).Φ t.castSucc = Pipeline.ΦA spec1 c from rfl, Phi1_eq]
  show _ ⊢ wp frame _ Set.univ (cc1_attend1 (F := F) (grid1.coords t) _ _ _ _ _ _ _ _ _ _ _ _ _ _ _ _ _ _) _
  rw [attend1_eq]
  exact attend_point c (grid1.coords t) _ _ _ _ _ _ _ _ _ _ _ _ _ _ _ _ _ _ (iblk1 V 0 t) (iblk1 V 1 t) (iblk1 V 2 t) _ _ _ _ _ _

/-- The body's obligation at every point of call 1. -/
theorem obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact triple_restated (sound1 V c t) rfl .rfl fun _ => .rfl

end Call1

end Cert.Kernel.Attend

end
-- ==== Proof.Bits.Region2.lean ====
/-
  The pipeline of attention call 2: its proof data, with what it leaves in its three results named, and the body's
  obligation at every grid point.
-/
module

public import proofs.«01_k».proof.Proof.Bits.Point

@[expose] public section

set_option maxRecDepth 16384

noncomputable section

namespace Cert.Kernel.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

/-! ## Call 2 -/

section Call2

variable (V : Valuation τ sig (Elt F))

/-- Window `w`'s block at point `t` of call 2, read off its array at the contents `V`. -/
def iblk2 (w : Fin cfg2.W) (t : Fin cfg2.N) : ((cfg2.win w).xblock (cfg2.grid.coords t)).Idx → Elt F (cfg2.win w).elt :=
  ((cfg2.win w).blk t).view.read (Elt F) (V (Proc.devRef .tc (Pipeline.arrRef spec2 w)))

/-- The proof data of call 2 entered at the contents `V`: the inputs' blocks stay, the results' blocks are the
pooled embedding, the positions and the attention weights of the point's three input blocks. -/
def dat2 (c : Dev nD) : Dat τ (Elt F) Unit ℕ (UR sig nD τ) ℕ cfg2 c where
  A w := V (Proc.devRef .tc (Pipeline.arrRef spec2 w))
  after w t := match w with
    | ⟨0, _⟩ => iblk2 V 0 t
    | ⟨1, _⟩ => iblk2 V 1 t
    | ⟨2, _⟩ => iblk2 V 2 t
    | ⟨3, _⟩ => pooledOut (iblk2 V 0 t) (iblk2 V 1 t)
    | ⟨4, _⟩ => selOut (F := F) (iblk2 V 2 t)
    | ⟨5, _⟩ => attnOut (iblk2 V 0 t) (iblk2 V 1 t)
  Φ _ := Pipeline.ΦA spec2 c
  q _ := fullShare
  owed _ := 0

/-- The proof data's arrays are the contents at the entry. -/
theorem A2_eq (c : Dev nD) (w : Fin cfg2.W) : (dat2 V c).A w = V (Proc.devRef .tc (Pipeline.arrRef spec2 w)) := by dsimp only [dat2]

/-- An input's staging buffer holds its block at every point. -/
theorem before2_0 (c : Dev nD) (t : Fin cfg2.N) (d) : (dat2 V c).before 0 t d = iblk2 V 0 t :=
  ((dat2 V c).before_in_eq_fetched 0 rfl (fun _ => rfl) (fun _ _ _ => rfl) (fun t => by dsimp only [dat2]; rfl) t d).trans (by dsimp only [dat2]; rfl)
/-- Before each grid point of call 2, window 1 holds its block of the gathered rows. -/
theorem before2_1 (c : Dev nD) (t : Fin cfg2.N) (d) : (dat2 V c).before 1 t d = iblk2 V 1 t :=
  ((dat2 V c).before_in_eq_fetched 1 rfl (fun _ => rfl) (fun _ _ _ => rfl) (fun t => by dsimp only [dat2]; rfl) t d).trans (by dsimp only [dat2]; rfl)
/-- Before each grid point of call 2, window 2 holds its block of the selected positions. -/
theorem before2_2 (c : Dev nD) (t : Fin cfg2.N) (d) : (dat2 V c).before 2 t d = iblk2 V 2 t :=
  ((dat2 V c).before_in_eq_fetched 2 rfl (fun _ => rfl) (fun _ _ _ => rfl) (fun t => by dsimp only [dat2]; rfl) t d).trans (by dsimp only [dat2]; rfl)

/-- The invariant: the call's three scratch buffers at some contents, the other scoped buffers, the generator register. -/
theorem Phi2_eq (c : Dev nD) :
    (Pipeline.ΦA spec2 c : sProp 𝕄)
      = iprop((iprop((∃ d, owns (c : Thread nD τ) (Memref.whole cc2_scratch0) fullShare d) ∗ (∃ d, owns (c : Thread nD τ) (Memref.whole cc2_scratch1) fullShare d) ∗ (∃ d, owns (c : Thread nD τ) (Memref.whole cc2_scratch2) fullShare d))
          ∗ Pipeline.scopedRestBut (Ix := Unit) (Name := ℕ) (U := UR sig nD τ) (Lvl := ℕ) (Val := Elt F) spec2 c [cc2_scratch0, cc2_scratch1, cc2_scratch2]) ∗ ∃ r, prngReg c r) := by
  unfold Pipeline.ΦA
  rw [scopedRest2_split]
  simp only [owns_whole]

/-- What the body of call 2 is called with at point `t`, window by window. -/
def bodyPre2 (c : Dev nD) (t : Fin cfg2.N) : sProp 𝕄 :=
  iprop((dat2 V c).Φ t.castSucc ∗ (dat2 V c).owesAt () t.castSucc
    ∗ (∃ d, owns (c : Thread nD τ) (win2_0.stage (cfg2.slots t 0)) fullShare ((dat2 V c).before 0 t d))
    ∗ (∃ d, owns (c : Thread nD τ) (win2_1.stage (cfg2.slots t 1)) fullShare ((dat2 V c).before 1 t d))
    ∗ (∃ d, owns (c : Thread nD τ) (win2_2.stage (cfg2.slots t 2)) fullShare ((dat2 V c).before 2 t d))
    ∗ (∃ d, owns (c : Thread nD τ) (win2_3.stage (cfg2.slots t 3)) fullShare ((dat2 V c).before 3 t d))
    ∗ (∃ d, owns (c : Thread nD τ) (win2_4.stage (cfg2.slots t 4)) fullShare ((dat2 V c).before 4 t d))
    ∗ (∃ d, owns (c : Thread nD τ) (win2_5.stage (cfg2.slots t 5)) fullShare ((dat2 V c).before 5 t d)))

/-- What the body of call 2 returns at point `t`. -/
def bodyPost2 (c : Dev nD) (t : Fin cfg2.N) : sProp 𝕄 :=
  iprop((dat2 V c).Φ t.succ ∗ (dat2 V c).owesAt () t.succ
    ∗ owns (c : Thread nD τ) (win2_0.stage (cfg2.slots t 0)) fullShare ((dat2 V c).after 0 t)
    ∗ owns (c : Thread nD τ) (win2_1.stage (cfg2.slots t 1)) fullShare ((dat2 V c).after 1 t)
    ∗ owns (c : Thread nD τ) (win2_2.stage (cfg2.slots t 2)) fullShare ((dat2 V c).after 2 t)
    ∗ owns (c : Thread nD τ) (win2_3.stage (cfg2.slots t 3)) fullShare ((dat2 V c).after 3 t)
    ∗ owns (c : Thread nD τ) (win2_4.stage (cfg2.slots t 4)) fullShare ((dat2 V c).after 4 t)
    ∗ owns (c : Thread nD τ) (win2_5.stage (cfg2.slots t 5)) fullShare ((dat2 V c).after 5 t))

/-- The body of call 2 at any point. -/
theorem sound2 (c : Dev nD) (t : Fin cfg2.N) :
    bodyPre2 V c t ⊢ wp frame (wpE (defs₀ (F := F)) Variants.none c none) Set.univ (bodyAt2 t) (fun _ => bodyPost2 V c t) := by
  unfold bodyPre2 bodyPost2
  simp only [before2_0, before2_1, before2_2]
  rw [show (dat2 V c).Φ t.succ = (dat2 V c).Φ t.castSucc from rfl,
    show (dat2 V c).owesAt () t.succ = (dat2 V c).owesAt () t.castSucc from rfl,
    show (dat2 V c).Φ t.castSucc = Pipeline.ΦA spec2 c from rfl, Phi2_eq]
  show _ ⊢ wp frame _ Set.univ (cc2_attend2 (F := F) (grid2.coords t) _ _ _ _ _ _ _ _ _ _ _ _ _ _ _ _ _ _) _
  rw [attend2_eq]
  exact attend_point c (grid2.coords t) _ _ _ _ _ _ _ _ _ _ _ _ _ _ _ _ _ _ (iblk2 V 0 t) (iblk2 V 1 t) (iblk2 V 2 t) _ _ _ _ _ _

/-- The body's obligation at every point of call 2. -/
theorem obligation2 (c : Dev nD) : BodyObligation (dat2 (F := F) V c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  exact triple_restated (sound2 V c t) rfl .rfl fun _ => .rfl

end Call2

end Cert.Kernel.Attend

end
-- ==== Proof.Bits.Region3.lean ====
/-
  The pipeline of attention call 3: its proof data, with what it leaves in its three results named, and the body's
  obligation at every grid point.
-/
module

public import proofs.«01_k».proof.Proof.Bits.Point

@[expose] public section

set_option maxRecDepth 16384

noncomputable section

namespace Cert.Kernel.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel Cert.Kernel.Gen

variable {F : FTy → Type} [FloatOps F]

local notation "𝕄" => MT nD τ sig Unit (Elt F) ℕ (UR sig nD τ) ℕ

/-! ## Call 3 -/

section Call3

variable (V : Valuation τ sig (Elt F))

/-- Window `w`'s block at point `t` of call 3, read off its array at the contents `V`. -/
def iblk3 (w : Fin cfg3.W) (t : Fin cfg3.N) : ((cfg3.win w).xblock (cfg3.grid.coords t)).Idx → Elt F (cfg3.win w).elt :=
  ((cfg3.win w).blk t).view.read (Elt F) (V (Proc.devRef .tc (Pipeline.arrRef spec3 w)))

/-- The proof data of call 3 entered at the contents `V`: the inputs' blocks stay, the results' blocks are the
pooled embedding, the positions and the attention weights of the point's three input blocks. -/
def dat3 (c : Dev nD) : Dat τ (Elt F) Unit ℕ (UR sig nD τ) ℕ cfg3 c where
  A w := V (Proc.devRef .tc (Pipeline.arrRef spec3 w))
  after w t := match w with
    | ⟨0, _⟩ => iblk3 V 0 t
    | ⟨1, _⟩ => iblk3 V 1 t
    | ⟨2, _⟩ => iblk3 V 2 t
    | ⟨3, _⟩ => pooledOut (iblk3 V 0 t) (iblk3 V 1 t)
    | ⟨4, _⟩ => selOut (F := F) (iblk3 V 2 t)
    | ⟨5, _⟩ => attnOut (iblk3 V 0 t) (iblk3 V 1 t)
  Φ _ := Pipeline.ΦA spec3 c
  q _ := fullShare
  owed _ := 0

/-- The proof data's arrays are the contents at the entry. -/
theorem A3_eq (c : Dev nD) (w : Fin cfg3.W) : (dat3 V c).A w = V (Proc.devRef .tc (Pipeline.arrRef spec3 w)) := by dsimp only [dat3]

/-- An input's staging buffer holds its block at every point. -/
theorem before3_0 (c : Dev nD) (t : Fin cfg3.N) (d) : (dat3 V c).before 0 t d = iblk3 V 0 t :=
  ((dat3 V c).before_in_eq_fetched 0 rfl (fun _ => rfl) (fun _ _ _ => rfl) (fun t => by dsimp only [dat3]; rfl) t d).trans (by dsimp only [dat3]; rfl)
/-- Before each grid point of call 3, window 1 holds its block of the gathered rows. -/
theorem before3_1 (c : Dev nD) (t : Fin cfg3.N) (d) : (dat3 V c).before 1 t d = iblk3 V 1 t :=
  ((dat3 V c).before_in_eq_fetched 1 rfl (fun _ => rfl) (fun _ _ _ => rfl) (fun t => by dsimp only [dat3]; rfl) t d).trans (by dsimp only [dat3]; rfl)
/-- Before each grid point of call 3, window 2 holds its block of the selected positions. -/
theorem before3_2 (c : Dev nD) (t : Fin cfg3.N) (d) : (dat3 V c).before 2 t d = iblk3 V 2 t :=
  ((dat3 V c).before_in_eq_fetched 2 rfl (fun _ => rfl) (fun _ _ _ => rfl) (fun t => by dsimp only [dat3]; rfl) t d).trans (by dsimp only [dat3]; rfl)

/-- The invariant: the call's three scratch buffers at some contents, the other scoped buffers, the generator register. -/
theorem Phi3_eq (c : Dev nD) :
    (Pipeline.ΦA spec3 c : sProp 𝕄)
      = iprop((iprop((∃ d, owns (c : Thread nD τ) (Memref.whole cc3_scratch0) fullShare d) ∗ (∃ d, owns (c : Thread nD τ) (Memref.whole cc3_scratch1) fullShare d) ∗ (∃ d, owns (c : Thread nD τ) (Memref.whole cc3_scratch2) fullShare d))
          ∗ Pipeline.scopedRestBut (Ix := Unit) (Name := ℕ) (U := UR sig nD τ) (Lvl := ℕ) (Val := Elt F) spec3 c [cc3_scratch0, cc3_scratch1, cc3_scratch2]) ∗ ∃ r, prngReg c r) := by
  unfold Pipeline.ΦA
  rw [scopedRest3_split]
  simp only [owns_whole]

/-- What the body of call 3 is called with at point `t`, window by window. -/
def bodyPre3 (c : Dev nD) (t : Fin cfg3.N) : sProp 𝕄 :=
  iprop((dat3 V c).Φ t.castSucc ∗ (dat3 V c).owesAt () t.castSucc
    ∗ (∃ d, owns (c : Thread nD τ) (win3_0.stage (cfg3.slots t 0)) fullShare ((dat3 V c).before 0 t d))
    ∗ (∃ d, owns (c : Thread nD τ) (win3_1.stage (cfg3.slots t 1)) fullShare ((dat3 V c).before 1 t d))
    ∗ (∃ d, owns (c : Thread nD τ) (win3_2.stage (cfg3.slots t 2)) fullShare ((dat3 V c).before 2 t d))
    ∗ (∃ d, owns (c : Thread nD τ) (win3_3.stage (cfg3.slots t 3)) fullShare ((dat3 V c).before 3 t d))
    ∗ (∃ d, owns (c : Thread nD τ) (win3_4.stage (cfg3.slots t 4)) fullShare ((dat3 V c).before 4 t d))
    ∗ (∃ d, owns (c : Thread nD τ) (win3_5.stage (cfg3.slots t 5)) fullShare ((dat3 V c).before 5 t d)))

/-- What the body of call 3 returns at point `t`. -/
def bodyPost3 (c : Dev nD) (t : Fin cfg3.N) : sProp 𝕄 :=
  iprop((dat3 V c).Φ t.succ ∗ (dat3 V c).owesAt () t.succ
    ∗ owns (c : Thread nD τ) (win3_0.stage (cfg3.slots t 0)) fullShare ((dat3 V c).after 0 t)
    ∗ owns (c : Thread nD τ) (win3_1.stage (cfg3.slots t 1)) fullShare ((dat3 V c).after 1 t)
    ∗ owns (c : Thread nD τ) (win3_2.stage (cfg3.slots t 2)) fullShare ((dat3 V c).after 2 t)
    ∗ owns (c : Thread nD τ) (win3_3.stage (cfg3.slots t 3)) fullShare ((dat3 V c).after 3 t)
    ∗ owns (c : Thread nD τ) (win3_4.stage (cfg3.slots t 4)) fullShare ((dat3 V c).after 4 t)
    ∗ owns (c : Thread nD τ) (win3_5.stage (cfg3.slots t 5)) fullShare ((dat3 V c).after 5 t))

/-- The body of call 3 at any point. -/
theorem sound3 (c : Dev nD) (t : Fin cfg3.N) :
    bodyPre3 V c t ⊢ wp frame (wpE (defs₀ (F := F)) Variants.none c none) Set.univ (bodyAt3 t) (fun _ => bodyPost3 V c t) := by
  unfold bodyPre3 bodyPost3
  simp only [before3_0, before3_1, before3_2]
  rw [show (dat3 V c).Φ t.succ = (dat3 V c).Φ t.castSucc from rfl,
    show (dat3 V c).owesAt () t.succ = (dat3 V c).owesAt () t.castSucc from rfl,
    show (dat3 V c).Φ t.castSucc = Pipeline.ΦA spec3 c from rfl, Phi3_eq]
  show _ ⊢ wp frame _ Set.univ (cc3_attend3 (F := F) (grid3.coords t) _ _ _ _ _ _ _ _ _ _ _ _ _ _ _ _ _ _) _
  rw [attend3_eq]
  exact attend_point c (grid3.coords t) _ _ _ _ _ _ _ _ _ _ _ _ _ _ _ _ _ _ (iblk3 V 0 t) (iblk3 V 1 t) (iblk3 V 2 t) _ _ _ _ _ _

/-- The body's obligation at every point of call 3. -/
theorem obligation3 (c : Dev nD) : BodyObligation (dat3 (F := F) V c) (defs₀ (F := F)) Variants.none () Set.univ := fun t => by
  rw [bigSep_W3, bigSep_W3, show defs₀ (F := F) .tc cfg3.body (cfg3.bodyArgs t (cfg3.slots t)) = bodyAt3 t from by unfold defs₀; rw [Defs.onTc_tc]]
  exact triple_restated (sound3 V c t) rfl .rfl fun _ => .rfl

end Call3

end Cert.Kernel.Attend

end
-- ==== Proof.Bits.Run.lean ====
/-
  The whole program: four attention calls between host operations. Every run ends, with every array at named
  contents and every semaphore counter at zero.
-/
module

public import proofs.«01_k».proof.Proof.Bits.Region0
public import proofs.«01_k».proof.Proof.Bits.Region1
public import proofs.«01_k».proof.Proof.Bits.Region2
public import proofs.«01_k».proof.Proof.Bits.Region3
public import Idealize.ShloMosaic.Lib.Pipeline.RegionArraysS

@[expose] public section

set_option maxRecDepth 16384

noncomputable section

namespace Cert.Kernel.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the calls leave -/

/-- What the calls leave, the first call's results alone filled in. -/
def left0 : Outs (F := F) := fun J r c => match J with
  | 2 => afterRegion (dat0 (V1 m c) c) (V1 m c) (Proc.devRef .tc r)
  | _ => m ((c : Thread nD τ).loc r)
/-- What the calls leave, the first two calls' results filled in. -/
def left1 : Outs (F := F) := fun J r c => match J with
  | 4 => afterRegion (dat1 (V3 m (left0 m) c) c) (V3 m (left0 m) c) (Proc.devRef .tc r)
  | J => left0 m J r c
/-- What the calls leave, the first three calls' results filled in. -/
def left2 : Outs (F := F) := fun J r c => match J with
  | 6 => afterRegion (dat2 (V5 m (left1 m) c) c) (V5 m (left1 m) c) (Proc.devRef .tc r)
  | J => left1 m J r c
/-- What the four calls leave in their results. -/
def left : Outs (F := F) := fun J r c => match J with
  | 8 => afterRegion (dat3 (V7 m (left2 m) c) c) (V7 m (left2 m) c) (Proc.devRef .tc r)
  | J => left2 m J r c

/-- The four calls' proof data, each entered at the contents the ones before it left. -/
def pdats : (p : Fin 4) → (c : Dev nD) → Dat τ (Elt F) Unit ℕ (UR sig nD τ) ℕ (cfgs p) c
  | ⟨0, _⟩ => fun c => dat0 (V1 m c) c
  | ⟨1, _⟩ => fun c => dat1 (V3 m (left m) c) c
  | ⟨2, _⟩ => fun c => dat2 (V5 m (left m) c) c
  | ⟨3, _⟩ => fun c => dat3 (V7 m (left m) c) c

/-- A valuation that differs from `V` at three buffers only is `V` updated there. -/
theorem update_three {V A : Valuation τ sig (Elt F)} {r0 r1 r2 : Ref sig .tc}
    (h : ∀ b : DevRef τ sig, b ≠ Proc.devRef .tc r0 → b ≠ Proc.devRef .tc r1 → b ≠ Proc.devRef .tc r2 → A b = V b) :
    A = Function.update (Function.update (Function.update V (Proc.devRef .tc r0) (A (Proc.devRef .tc r0))) (Proc.devRef .tc r1) (A (Proc.devRef .tc r1))) (Proc.devRef .tc r2) (A (Proc.devRef .tc r2)) := by
  funext b
  by_cases h2 : b = Proc.devRef .tc r2
  · subst h2; rw [Function.update_self]
  rw [Function.update_of_ne h2]
  by_cases h1 : b = Proc.devRef .tc r1
  · subst h1; rw [Function.update_self]
  rw [Function.update_of_ne h1]
  by_cases h0 : b = Proc.devRef .tc r0
  · subst h0; rw [Function.update_self]
  rw [Function.update_of_ne h0]
  exact h b h0 h1 h2

/-- A call changes its output arrays only. -/
theorem afterRegion_same {cfg : Cfg sig Λ₀} {c : Dev nD} (dat : Dat τ (Elt F) Unit ℕ (UR sig nD τ) ℕ cfg c) (V : Valuation τ sig (Elt F))
    (hinj : Function.Injective (arrRef cfg.spec)) (hA : ∀ w, dat.A w = V (Proc.devRef .tc (arrRef cfg.spec w)))
    (b : DevRef τ sig) (h : ∀ w, (cfg.win w).isOut = true → b ≠ Proc.devRef .tc (arrRef cfg.spec w)) : afterRegion dat V b = V b := by
  by_cases hb : ∃ w, b = Proc.devRef .tc (arrRef cfg.spec w)
  · obtain ⟨w, rfl⟩ := hb
    rw [afterRegion_arr dat V hinj w, dat.arrAt_in w (Bool.eq_false_iff.mpr fun ho => h w ho rfl), hA]
  · unfold afterRegion
    rw [dif_neg hb]

/-- What call 0 leaves is the next contents. -/
theorem after_call0 (c : Dev nD) : afterRegion (dat0 (V1 m c) c) (V1 m c) = V2 m (left m) c :=
  update_three (r0 := main_v1_0) (r1 := main_v1_1) (r2 := main_v1_2) fun b h0 h1 h2 =>
    afterRegion_same (dat0 (V1 m c) c) (V1 m c) launch0.win.arr_inj (A0_eq _ c) b fun w hw => by
      fin_cases w
      · exact absurd hw (by decide)
      · exact absurd hw (by decide)
      · exact absurd hw (by decide)
      · exact h0
      · exact h1
      · exact h2

/-- What call 1 leaves is the next contents. -/
theorem after_call1 (c : Dev nD) : afterRegion (dat1 (V3 m (left m) c) c) (V3 m (left m) c) = V4 m (left m) c :=
  update_three (r0 := main_v3_0) (r1 := main_v3_1) (r2 := main_v3_2) fun b h0 h1 h2 =>
    afterRegion_same (dat1 (V3 m (left m) c) c) (V3 m (left m) c) launch1.win.arr_inj (A1_eq _ c) b fun w hw => by
      fin_cases w
      · exact absurd hw (by decide)
      · exact absurd hw (by decide)
      · exact absurd hw (by decide)
      · exact h0
      · exact h1
      · exact h2

/-- What call 2 leaves is the next contents. -/
theorem after_call2 (c : Dev nD) : afterRegion (dat2 (V5 m (left m) c) c) (V5 m (left m) c) = V6 m (left m) c :=
  update_three (r0 := main_v5_0) (r1 := main_v5_1) (r2 := main_v5_2) fun b h0 h1 h2 =>
    afterRegion_same (dat2 (V5 m (left m) c) c) (V5 m (left m) c) launch2.win.arr_inj (A2_eq _ c) b fun w hw => by
      fin_cases w
      · exact absurd hw (by decide)
      · exact absurd hw (by decide)
      · exact absurd hw (by decide)
      · exact h0
      · exact h1
      · exact h2

/-- What call 3 leaves is the next contents. -/
theorem after_call3 (c : Dev nD) : afterRegion (dat3 (V7 m (left m) c) c) (V7 m (left m) c) = V8 m (left m) c :=
  update_three (r0 := main_v7_0) (r1 := main_v7_1) (r2 := main_v7_2) fun b h0 h1 h2 =>
    afterRegion_same (dat3 (V7 m (left m) c) c) (V7 m (left m) c) launch3.win.arr_inj (A3_eq _ c) b fun w hw => by
      fin_cases w
      · exact absurd hw (by decide)
      · exact absurd hw (by decide)
      · exact absurd hw (by decide)
      · exact h0
      · exact h1
      · exact h2

/-! ## The calls as segments -/

/-- Each semaphore of a TensorCore has the one level. -/
def levels : GSem nD τ sig → Finset Unit := fun g => if g.1.2 = .tc then {()} else ∅

/-- Beside the buffers: the core owes nothing, and holds its generator register. -/
def beside (c : Dev nD) : sProp 𝕄 :=
  iprop((∃ W, owes (c : Thread nD τ) (0 : CellTallies nD τ sig Unit) W) ∗ (∃ r, prngReg c r) ∗ emp)

/-- Nothing is owed, so the one level suffices. -/
theorem levels_cut (p : Fin 4) : LevelCut (pcfgs (F := F)) adm () levels (fun _ _ => 0) p (D := 0) (fun _ => (0 : ℕ)) where
  hι c w s := by simp [levels]
  hιb c w s := le_refl _
  hD c g i h := absurd h (by simp)

section Segment

variable {pd : (p : Fin 4) → (c : Dev nD) → Dat τ (Elt F) Unit ℕ (UR sig nD τ) ℕ (cfgs p) c} {p : Fin 4} (kit : LaunchFacts (nD := nD) (τ := τ) cfgs p)
  (hbody : ∀ c, BodyObligation (pd p c) (defs₀ (F := F)) Variants.none () Set.univ) (howed : ∀ c t, (pd p c).owed t = 0)
  (hrec : ∀ c, (pd p c).recorded 0 = Set.univ) (hshare : ∀ c w, (pd p c).share w = fullShare) (hΦ : ∀ c t, (pd p c).Φ t = ΦA (cfgs p).spec c)
  (W : Dev nD → Valuation τ sig (Elt F)) (hW : ∀ c w, (pd p c).A w = W c (Proc.devRef .tc (arrRef (cfgs p).spec w)))

/-- A call as a segment entered with the unscoped buffers at `W`. -/
def callSeg : RegionSeg (pcfgs (F := F)) adm pd () defs₀ Variants.none levels (fun _ _ => 0) p :=
  RegionSeg.ofHeldIn (pcfgs (F := F)) adm pd () defs₀ Variants.none levels (fun _ _ => 0) p (D := 0) (ucRefs τ sig)
    (fun c => iprop(∃ r, prngReg c r)) (fun c => iprop(∃ r, prngReg c r)) kit.toP rfl
    (fun c => (hbody c).loose) howed hrec hshare (fun c => .of_eq (hΦ c _).symm) (fun c => .of_eq (hΦ c _))
    (fun _ => 0) (levels_cut p) (fun _ => iprop(emp)) W hW

/-- It is entered from the unscoped buffers at `W`. -/
theorem callSeg_pre (c : Dev nD) : iprop(StableHlo.held (c : Thread nD τ) (ucRefs τ sig) (W c) ∗ beside c)
    ⊢ (callSeg kit hbody howed hrec hshare hΦ W hW).pre c :=
  RegionSeg.ofHeldIn_pre (pcs := pcfgs (F := F)) (a := adm) (pdats := pd) (ι := ()) (defs₀ := defs₀) (𝒱₀ := Variants.none) (L := levels)
    (lv := fun _ _ => 0) (p := p) (D := 0) (arrRefs_sub_ucRefs _ kit.win.arr_unscoped) (X := fun c => iprop(∃ r, prngReg c r))
    (Y := fun c => iprop(∃ r, prngReg c r)) (kit := kit.toP) (hK := rfl) (hbody := fun c => (hbody c).loose) (howed := howed) (hrec := hrec)
    (hshare := hshare) (hin := fun c => .of_eq (hΦ c _).symm) (hout := fun c => .of_eq (hΦ c _)) (b := fun _ => 0) (hcut := levels_cut p)
    (R := fun _ => iprop(emp)) (W := W) (hW := hW) c

/-- It is left with the unscoped buffers at `W` changed at the call's arrays. -/
theorem callSeg_post (c : Dev nD) : (callSeg kit hbody howed hrec hshare hΦ W hW).post c
    ⊢ iprop(StableHlo.held (c : Thread nD τ) (ucRefs τ sig) (afterRegion (pd p c) (W c)) ∗ beside c) :=
  RegionSeg.ofHeldIn_post (pcs := pcfgs (F := F)) (a := adm) (pdats := pd) (ι := ()) (defs₀ := defs₀) (𝒱₀ := Variants.none) (L := levels)
    (lv := fun _ _ => 0) (p := p) (D := 0) (arrRefs_sub_ucRefs _ kit.win.arr_unscoped) (X := fun c => iprop(∃ r, prngReg c r))
    (Y := fun c => iprop(∃ r, prngReg c r)) (kit := kit.toP) (hK := rfl) (hbody := fun c => (hbody c).loose) (howed := howed) (hrec := hrec)
    (hshare := hshare) (hin := fun c => .of_eq (hΦ c _).symm) (hout := fun c => .of_eq (hΦ c _)) (b := fun _ => 0) (hcut := levels_cut p)
    (R := fun _ => iprop(emp)) (W := W) (hW := hW) c

end Segment

/-- Call 0 as a segment, entered from the contents before it and left at the contents after it. -/
def region0 : RegionSeg (pcfgs (F := F)) adm (pdats m) () defs₀ Variants.none levels (fun _ _ => 0) 0 :=
  callSeg (pd := pdats m) (p := 0) launch0 (fun c => obligation0 (V1 m c) c) (fun _ _ => rfl) (fun _ => rfl)
    (fun c => (dat0 (V1 m c) c).share_full fun _ => rfl) (fun _ _ => rfl) (fun c => V1 m c) (fun c w => A0_eq (V1 m c) c w)
/-- What is held before call 0 gives the call its precondition. -/
theorem region0_pre (c : Dev nD) : iprop(StableHlo.held (c : Thread nD τ) (ucRefs τ sig) (V1 m c) ∗ beside c) ⊢ (region0 m).pre c :=
  callSeg_pre (pd := pdats m) (p := 0) launch0 (fun c => obligation0 (V1 m c) c) (fun _ _ => rfl) (fun _ => rfl)
    (fun c => (dat0 (V1 m c) c).share_full fun _ => rfl) (fun _ _ => rfl) (fun c => V1 m c) (fun c w => A0_eq (V1 m c) c w) c
/-- The postcondition of call 0 gives back everything held, at the contents after it. -/
theorem region0_post (c : Dev nD) : (region0 m).post c ⊢ iprop(StableHlo.held (c : Thread nD τ) (ucRefs τ sig) (V2 m (left m) c) ∗ beside c) :=
  (callSeg_post (pd := pdats m) (p := 0) launch0 (fun c => obligation0 (V1 m c) c) (fun _ _ => rfl) (fun _ => rfl)
    (fun c => (dat0 (V1 m c) c).share_full fun _ => rfl) (fun _ _ => rfl) (fun c => V1 m c) (fun c w => A0_eq (V1 m c) c w) c).trans
    (sep_mono (.of_eq (congrArg (StableHlo.held (c : Thread nD τ) (ucRefs τ sig)) (after_call0 m c))) .rfl)

/-- Call 1 as a segment, entered from the contents before it and left at the contents after it. -/
def region1 : RegionSeg (pcfgs (F := F)) adm (pdats m) () defs₀ Variants.none levels (fun _ _ => 0) 1 :=
  callSeg (pd := pdats m) (p := 1) launch1 (fun c => obligation1 (V3 m (left m) c) c) (fun _ _ => rfl) (fun _ => rfl)
    (fun c => (dat1 (V3 m (left m) c) c).share_full fun _ => rfl) (fun _ _ => rfl) (fun c => V3 m (left m) c) (fun c w => A1_eq (V3 m (left m) c) c w)
/-- What is held before call 1 gives the call its precondition. -/
theorem region1_pre (c : Dev nD) : iprop(StableHlo.held (c : Thread nD τ) (ucRefs τ sig) (V3 m (left m) c) ∗ beside c) ⊢ (region1 m).pre c :=
  callSeg_pre (pd := pdats m) (p := 1) launch1 (fun c => obligation1 (V3 m (left m) c) c) (fun _ _ => rfl) (fun _ => rfl)
    (fun c => (dat1 (V3 m (left m) c) c).share_full fun _ => rfl) (fun _ _ => rfl) (fun c => V3 m (left m) c) (fun c w => A1_eq (V3 m (left m) c) c w) c
/-- The postcondition of call 1 gives back everything held, at the contents after it. -/
theorem region1_post (c : Dev nD) : (region1 m).post c ⊢ iprop(StableHlo.held (c : Thread nD τ) (ucRefs τ sig) (V4 m (left m) c) ∗ beside c) :=
  (callSeg_post (pd := pdats m) (p := 1) launch1 (fun c => obligation1 (V3 m (left m) c) c) (fun _ _ => rfl) (fun _ => rfl)
    (fun c => (dat1 (V3 m (left m) c) c).share_full fun _ => rfl) (fun _ _ => rfl) (fun c => V3 m (left m) c) (fun c w => A1_eq (V3 m (left m) c) c w) c).trans
    (sep_mono (.of_eq (congrArg (StableHlo.held (c : Thread nD τ) (ucRefs τ sig)) (after_call1 m c))) .rfl)

/-- Call 2 as a segment, entered from the contents before it and left at the contents after it. -/
def region2 : RegionSeg (pcfgs (F := F)) adm (pdats m) () defs₀ Variants.none levels (fun _ _ => 0) 2 :=
  callSeg (pd := pdats m) (p := 2) launch2 (fun c => obligation2 (V5 m (left m) c) c) (fun _ _ => rfl) (fun _ => rfl)
    (fun c => (dat2 (V5 m (left m) c) c).share_full fun _ => rfl) (fun _ _ => rfl) (fun c => V5 m (left m) c) (fun c w => A2_eq (V5 m (left m) c) c w)
/-- What is held before call 2 gives the call its precondition. -/
theorem region2_pre (c : Dev nD) : iprop(StableHlo.held (c : Thread nD τ) (ucRefs τ sig) (V5 m (left m) c) ∗ beside c) ⊢ (region2 m).pre c :=
  callSeg_pre (pd := pdats m) (p := 2) launch2 (fun c => obligation2 (V5 m (left m) c) c) (fun _ _ => rfl) (fun _ => rfl)
    (fun c => (dat2 (V5 m (left m) c) c).share_full fun _ => rfl) (fun _ _ => rfl) (fun c => V5 m (left m) c) (fun c w => A2_eq (V5 m (left m) c) c w) c
/-- The postcondition of call 2 gives back everything held, at the contents after it. -/
theorem region2_post (c : Dev nD) : (region2 m).post c ⊢ iprop(StableHlo.held (c : Thread nD τ) (ucRefs τ sig) (V6 m (left m) c) ∗ beside c) :=
  (callSeg_post (pd := pdats m) (p := 2) launch2 (fun c => obligation2 (V5 m (left m) c) c) (fun _ _ => rfl) (fun _ => rfl)
    (fun c => (dat2 (V5 m (left m) c) c).share_full fun _ => rfl) (fun _ _ => rfl) (fun c => V5 m (left m) c) (fun c w => A2_eq (V5 m (left m) c) c w) c).trans
    (sep_mono (.of_eq (congrArg (StableHlo.held (c : Thread nD τ) (ucRefs τ sig)) (after_call2 m c))) .rfl)

/-- Call 3 as a segment, entered from the contents before it and left at the contents after it. -/
def region3 : RegionSeg (pcfgs (F := F)) adm (pdats m) () defs₀ Variants.none levels (fun _ _ => 0) 3 :=
  callSeg (pd := pdats m) (p := 3) launch3 (fun c => obligation3 (V7 m (left m) c) c) (fun _ _ => rfl) (fun _ => rfl)
    (fun c => (dat3 (V7 m (left m) c) c).share_full fun _ => rfl) (fun _ _ => rfl) (fun c => V7 m (left m) c) (fun c w => A3_eq (V7 m (left m) c) c w)
/-- What is held before call 3 gives the call its precondition. -/
theorem region3_pre (c : Dev nD) : iprop(StableHlo.held (c : Thread nD τ) (ucRefs τ sig) (V7 m (left m) c) ∗ beside c) ⊢ (region3 m).pre c :=
  callSeg_pre (pd := pdats m) (p := 3) launch3 (fun c => obligation3 (V7 m (left m) c) c) (fun _ _ => rfl) (fun _ => rfl)
    (fun c => (dat3 (V7 m (left m) c) c).share_full fun _ => rfl) (fun _ _ => rfl) (fun c => V7 m (left m) c) (fun c w => A3_eq (V7 m (left m) c) c w) c
/-- The postcondition of call 3 gives back everything held, at the contents after it. -/
theorem region3_post (c : Dev nD) : (region3 m).post c ⊢ iprop(StableHlo.held (c : Thread nD τ) (ucRefs τ sig) (V8 m (left m) c) ∗ beside c) :=
  (callSeg_post (pd := pdats m) (p := 3) launch3 (fun c => obligation3 (V7 m (left m) c) c) (fun _ _ => rfl) (fun _ => rfl)
    (fun c => (dat3 (V7 m (left m) c) c).share_full fun _ => rfl) (fun _ _ => rfl) (fun c => V7 m (left m) c) (fun c w => A3_eq (V7 m (left m) c) c w) c).trans
    (sep_mono (.of_eq (congrArg (StableHlo.held (c : Thread nD τ) (ucRefs τ sig)) (after_call3 m c))) .rfl)

/-! ## The run -/

-- the kit's implicit arguments are found by unifying its conclusion with this one, which takes unfolding
-- plain definitions in a metavariable's type
set_option backward.isDefEq.respectTransparency.types false in
/-- Every run of the program from memory `m` with zero counters ends; every array is then at the last of the named
contents, and every semaphore counter is zero. -/
theorem run_all : θ_run defs (onTc (τ := τ) (main (F := F))) ⟨m, fun _ => 0, ρ⟩ (fun r =>
    (∀ c : Dev nD, ∀ b ∈ ucRefs τ sig, r.2.mem ((c : Thread nD τ).1, b) = V9 m (left m) c b) ∧ r.2.sem = fun _ => 0) := by
  refine Pipeline.θ_run_regions_kit_dev_sems (pcfgs (F := F)) adm (pdats m) () cellOf_inj emb₁ defs₀ Variants.none levels (fun _ _ => 0) m ρ main
    (segs m (left m) Variants.none levels (fun _ _ => 0) (fun _ => beside) () (pdats m) (region0 m) (region1 m) (region2 m) (region3 m))
    (fun c Q => by
      rewrite [main_chain c, Seg.run_eq_chain,
        show (segs m (left m) Variants.none levels (fun _ _ => 0) (fun _ => beside) () (pdats m) (region0 m) (region1 m) (region2 m) (region3 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      dsimp (config := { failIfUnchanged := false }) only
      exact .rfl)
    (fun c => by simp only [segs, Seg.pipes_host, Seg.pipes_region, Seg.pipes_nil]; decide)
    (fun _ => 0) (fun g hg => by simp [levels, hg]) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ beside c))
    (Tₙ := fun c => StableHlo.held (c : Thread nD τ) (Pipeline.ucRefs τ sig) (V9 m (left m) c))
    (hch := fun c => ⟨.rfl,
      region0_pre m c, region0_post m c,
      region1_pre m c, region1_post m c,
      region2_pre m c, region2_post m c,
      region3_pre m c, region3_post m c,
      sep_mono .rfl (by unfold beside; iintro ⟨HO, -, -⟩; iexact HO)⟩)
    (hinit := ?_) (QY := fun c s => ∀ b ∈ ucRefs τ sig, s.mem ((c : Thread nD τ).1, b) = V9 m (left m) c b)
    (hfin := fun c s' => ?_) (hQ := fun _ h hz => ⟨h, funext fun g => hz g (.inr (regions_no_unscoped g.2))⟩)
  · -- the cells at launch; nothing else is dealt
    iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: the buffers at `V0`, the core owing nothing and its generator register
    refine initEach levels (fun _ _ => 0) fun c => ?_
    rw [← Pipeline.unscopedBufs_held (Ix := Unit) (Name := ℕ) (U := UR sig nD τ) (Lvl := ℕ) c (V0 m c)]
    unfold beside
    iintro ⟨⟨Hh, -, HO, -, Hp, -⟩, -⟩
    imodintro
    isplitl [Hh]; · iexact Hh
    isplitl [HO]; · iexists ∅; iexact HO
    isplitl [Hp]; · iexists _; iexact Hp
    iempintro
  · -- the end: every array read off the last contents
    unfold StableHlo.held
    iintro ⟨Hh, HSI⟩
    ihave Hr := (pointsTo_read_all (Pipeline.ucRefs τ sig) (fun b => ((c : Thread nD τ).1, b)) (V9 m (left m) c) s') $$ [Hh HSI]
    · isplitl [Hh] <;> iassumption
    icases Hr with ⟨%h, HSI⟩
    imodintro
    isplitr
    · ipureintro; exact h
    · iexact HSI

/-- Every run ends with the arguments unchanged and every semaphore counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c _ (devRef_mem_ucRefs rfl)).trans (V9_main_arg0 m (left m) c),
     (h.1 c _ (devRef_mem_ucRefs rfl)).trans (V9_main_arg1 m (left m) c),
     (h.1 c _ (devRef_mem_ucRefs rfl)).trans (V9_main_arg2 m (left m) c),
     (h.1 c _ (devRef_mem_ucRefs rfl)).trans (V9_main_arg3 m (left m) c),
     (h.1 c _ (devRef_mem_ucRefs rfl)).trans (V9_main_arg4 m (left m) c),
     (h.1 c _ (devRef_mem_ucRefs rfl)).trans (V9_main_arg5 m (left m) c)⟩, h.2⟩) (run_all m ρ)

end Cert.Kernel.Attend

end
-- ==== Proof.ValueBytes.lean ====
/-
  Reading the packed words over the extended reals.

  A gathered row is thirty-two words: twenty-four words of four codes each, three words of scales, and padding.
  This file names the code held by one byte of a word and the scale held by a word, and reads the kernel's
  narrowing of a block of words to bytes at an index.
-/
module

public import proofs.«01_k».proof.Proof.Trips
public import Idealize.ShloMosaic.Lib.BitcastFour
public import Idealize.ShloMosaic.Lib.Pointwise

@[expose] public section

set_option maxRecDepth 16384

noncomputable section

namespace Cert.KernelIdeal.Attend

open Idealize.ShloMosaic Idealize.SL.Sem
open Cert.KernelIdeal Cert.KernelIdeal.Gen

/-- The code held by byte `q` of a word. -/
def codeOf (v : BitVec 32) (q : ℕ) : EReal := Ideal.ofBits .fp8e4m3 (v.extractLsb' (8 * q) 8)

/-- The scale held by a word. -/
def scaleOf (v : BitVec 32) : EReal := Ideal.ofBits .f32 v

/-- The words gathered for the 64 items of one batch row. -/
abbrev Rows : Type := Fin 64 → Fin 32 → BitVec 32

/-- The code of item `n` at feature `d`: byte `d % 4` of word `d / 4`. -/
def codeAt (W : Rows) (n : Fin 64) (d : Fin 96) : EReal :=
  codeOf (W n ⟨d.val / 4, by have := d.isLt; omega⟩) (d.val % 4)

/-- The scale of block `i` of item `n`: word `24 + i`. -/
def scaleAt (W : Rows) (n : Fin 64) (i : Fin 3) : EReal :=
  scaleOf (W n ⟨24 + i.val, by have := i.isLt; omega⟩)

/-- The key of item `n` at feature `d`: its code times the scale of its block of 32 features. -/
def keyAt (W : Rows) (n : Fin 64) (d : Fin 96) : EReal :=
  codeAt W n d * scaleAt W n ⟨d.val / 32, by have := d.isLt; omega⟩

/-- The score of item `n`: the sum over the features of the feature times the key. -/
def scoreAt (X : Fin 96 → EReal) (W : Rows) (n : Fin 64) : EReal := ∑ d, X d * keyAt W n d

/-- The softmax over the items of scores times the score scale. -/
def softmaxAt (s : Fin 64 → EReal) (n : Fin 64) : EReal :=
  Ideal.div
    (Ideal.exp (s n * Ideal.ofBits .f32 0x3DD105EC#32
      - Finset.fold max (Ideal.ofBits .f32 0xFF800000#32) (fun k => s k * Ideal.ofBits .f32 0x3DD105EC#32) Finset.univ))
    (∑ q, Ideal.exp (s q * Ideal.ofBits .f32 0x3DD105EC#32
      - Finset.fold max (Ideal.ofBits .f32 0xFF800000#32) (fun k => s k * Ideal.ofBits .f32 0x3DD105EC#32) Finset.univ))

/-- The attention weight of item `n`. -/
def attnAt (X : Fin 96 → EReal) (W : Rows) (n : Fin 64) : EReal := softmaxAt (scoreAt X W) n

/-- The pooled embedding at feature `d`: the sum over the items of the weight times the key. -/
def pooledAt (X : Fin 96 → EReal) (W : Rows) (d : Fin 96) : EReal := ∑ n, attnAt X W n * keyAt W n d

/-- The scale `s` is nonnegative and finite. -/
def Nonneg (s : EReal) : Prop := 0 ≤ s ∧ s ≠ ⊤

/-- A nonnegative finite scale distributes over a sum of four products. -/
theorem distrib4 {s : EReal} (hs : Nonneg s) (a b c d : EReal) :
    (a + b + (c + d)) * s = a * s + b * s + (c * s + d * s) := by
  simp only [EReal.right_distrib_of_nonneg_of_ne_top hs.1 hs.2]

/-- Words narrowed to bytes: row `p` of the bytes is byte `p % 4` of row `p / 4` of the words. -/
theorem bytes_apply (w : S8x128.Idx → BitVec 32) (h : S8x128.Bitcasts 32 S32x128 8) (p : Fin 32) (l : Fin 128) :
    bitcast S32x128 8 w h (ix2 p l)
      = (w (ix2 (⟨p.val / 4, by have := p.isLt; omega⟩ : Fin 8) l)).extractLsb' (8 * (p.val % 4)) 8 := by
  apply BitVec.eq_of_getLsbD_eq
  intro q hq
  have hr : S32x128.row (ix2 p l) = p.val := rfl
  rw [bitcast_getLsbD w h (ix2 p l) q hq (by decide), BitVec.getLsbD_extractLsb']
  have e1 : (p.val * 8 + q) / 32 = p.val / 4 := by omega
  have e2 : (p.val * 8 + q) % 32 = 8 * (p.val % 4) + q := by omega
  have e3 : decide (q < 8) = true := by simpa using hq
  rw [e3, Bool.true_and]
  have : h.srcIdx (ix2 p l) ((S32x128.row (ix2 p l) * 8 + q) / 32) (fun a ha => (Nat.div_lt_iff_lt_mul (by decide)).2 (h.pos_lt _ q hq a ha))
      = ix2 (⟨p.val / 4, by have := p.isLt; omega⟩ : Fin 8) l := by
    funext a
    apply Fin.ext
    fin_cases a
    · exact e1
    · rfl
  rw [this, hr, e2]

/-- A group of words of an item, read at an index. -/
theorem words_apply (w : Vec Ideal S2048x128 .i32) (n : Fin 64) (q : Fin 4) (r : Fin 8) (l : Fin 128) :
    words (F := Ideal) w n q (ix2 r l)
      = w (ix2 (⟨32 * n.val + 8 * q.val + r.val, by have := n.isLt; have := q.isLt; have := r.isLt; omega⟩ : Fin 2048) l) := by
  show w _ = w _
  congr 1
  funext a
  apply Fin.ext
  fin_cases a
  · show 32 * n.val + 8 * q.val + 1 * r.val = _
    simp
  · show 0 + 1 * l.val = l.val
    simp

/-- A row of the weights, read at an index. -/
theorem row_apply (p : Vec Ideal S64x128 .f32) (n : Fin 64) (l : Fin 128) :
    row (F := Ideal) p n (ix2 0 l) = p (ix2 n l) := by
  show p _ = p _
  congr 1
  funext a
  apply Fin.ext
  fin_cases a
  · show n.val + 1 * 0 = n.val
    simp
  · show 0 + 1 * l.val = l.val
    simp

/-- The words of the items of the batch row in lane `l`. -/
def rowsOf (w : Vec Ideal S2048x128 .i32) (l : Fin 128) : Rows := fun n r =>
  w (ix2 (⟨32 * n.val + r.val, by have := n.isLt; have := r.isLt; omega⟩ : Fin 2048) l)

/-- The `i`-th group of eight words of an item holds the codes of its features `32 * i` to `32 * i + 31`. -/
theorem codes_apply (w : Vec Ideal S2048x128 .i32) (n : Fin 64) (i : Fin 3) (q : Fin 4) (hq : q.val = i.val)
    (h : S8x128.Bitcasts 32 S32x128 8) (p : Fin 32) (l : Fin 128) (d : Fin 96) (hd : d.val = 32 * i.val + p.val) :
    Ideal.ofBits .fp8e4m3 (bitcast S32x128 8 (words (F := Ideal) w n q) h (ix2 p l)) = codeAt (rowsOf w l) n d := by
  rw [bytes_apply, words_apply]
  unfold codeAt codeOf rowsOf
  have e1 : d.val % 4 = p.val % 4 := by omega
  have e2 : 32 * n.val + 8 * q.val + p.val / 4 = 32 * n.val + d.val / 4 := by omega
  simp only [e1, e2]

/-- The fourth group of eight words of an item begins with its three scales. -/
theorem scales_apply (w : Vec Ideal S2048x128 .i32) (n : Fin 64) (i : Fin 3) (r : Fin 8) (hr : r.val = i.val) (l : Fin 128) :
    Ideal.ofBits .f32 (words (F := Ideal) w n 3 (ix2 r l)) = scaleAt (rowsOf w l) n i := by
  rw [words_apply]
  unfold scaleAt scaleOf rowsOf
  have e2 : 32 * n.val + 8 * (3 : Fin 4).val + r.val = 32 * n.val + (24 + i.val) := by
    have : (3 : Fin 4).val = 3 := rfl
    omega
  simp only [e2]

end Cert.KernelIdeal.Attend

end
-- ==== Proof.ValueBlock.lean ====
/-
  What one block of the kernel computes over the extended reals.

  The body scores an item by adding eight rows of partial sums, one row per residue of the feature modulo eight, with
  each block of 32 features scaled after its products are added.  Here that sum is shown to be the sum over
  the 96 features of the feature times the key, for finite nonnegative scales, and the pooling loop's result to be the sum
  over the items of the weight times the key.
-/
module

public import proofs.«01_k».proof.Proof.ValueBytes
public import proofs.«01_k».proof.Proof.Body

@[expose] public section

set_option maxRecDepth 16384

noncomputable section

namespace Cert.KernelIdeal.Attend

open Idealize.ShloMosaic Idealize.SL.Sem
open Cert.KernelIdeal Cert.KernelIdeal.Gen

/-- A sum over 96 features, collected by the residue of the feature modulo eight. -/
theorem sum_by_residue (G : Fin 96 → EReal) :
    ∑ d, G d = ∑ r : Fin 8, ∑ i : Fin 3, ∑ j : Fin 4,
      G ⟨32 * i.val + (8 * j.val + r.val), by have := i.isLt; have := j.isLt; have := r.isLt; omega⟩ := by
  rw [Finset.sum_comm]
  simp_rw [Finset.sum_comm (s := (Finset.univ : Finset (Fin 8)))]
  rw [← Fintype.sum_prod_type', ← Fintype.sum_prod_type']
  refine (Fintype.sum_equiv
    (⟨fun q => ⟨32 * q.1.1.val + (8 * q.1.2.val + q.2.val), by have := q.1.1.isLt; have := q.1.2.isLt; have := q.2.isLt; omega⟩,
      fun d => ((⟨d.val / 32, by have := d.isLt; omega⟩, ⟨d.val % 32 / 8, by have := d.isLt; omega⟩), ⟨d.val % 8, by omega⟩),
      fun q => by
        obtain ⟨⟨i, j⟩, r⟩ := q
        have := i.isLt; have := j.isLt; have := r.isLt
        simp only [Prod.mk.injEq, Fin.ext_iff]
        omega,
      fun d => by
        have := d.isLt
        simp only [Fin.ext_iff]
        omega⟩ : (Fin 3 × Fin 4) × Fin 8 ≃ Fin 96) _ G fun q => rfl).symm

/-- One block's share of a score, in the order in which the body adds it: scaling after adding is adding the scaled
products. -/
theorem share (X : Fin 96 → EReal) (W : Rows) (n : Fin 64) (i : Fin 3) (hs : Nonneg (scaleAt W n i)) (r : Fin 8)
    (d0 d1 d2 d3 : Fin 96) (h0 : d0.val = 32 * i.val + (8 * 0 + r.val)) (h1 : d1.val = 32 * i.val + (8 * 1 + r.val))
    (h2 : d2.val = 32 * i.val + (8 * 2 + r.val)) (h3 : d3.val = 32 * i.val + (8 * 3 + r.val)) :
    (codeAt W n d0 * X d0 + codeAt W n d1 * X d1 + (codeAt W n d2 * X d2 + codeAt W n d3 * X d3)) * scaleAt W n i
      = ∑ j : Fin 4, X ⟨32 * i.val + (8 * j.val + r.val), by have := i.isLt; have := j.isLt; have := r.isLt; omega⟩
          * keyAt W n ⟨32 * i.val + (8 * j.val + r.val), by have := i.isLt; have := j.isLt; have := r.isLt; omega⟩ := by
  have key (d : Fin 96) (j : Fin 4) (h : d.val = 32 * i.val + (8 * j.val + r.val)) :
      codeAt W n d * X d * scaleAt W n i
        = X ⟨32 * i.val + (8 * j.val + r.val), by have := i.isLt; have := j.isLt; have := r.isLt; omega⟩
          * keyAt W n ⟨32 * i.val + (8 * j.val + r.val), by have := i.isLt; have := j.isLt; have := r.isLt; omega⟩ := by
    have e : d = ⟨32 * i.val + (8 * j.val + r.val), by have := i.isLt; have := j.isLt; have := r.isLt; omega⟩ := Fin.ext h
    rw [← e]
    unfold keyAt
    have e3 : (⟨d.val / 32, by have := d.isLt; omega⟩ : Fin 3) = i :=
      Fin.ext (by have := j.isLt; have := r.isLt; simp only; omega)
    rw [e3]
    rw [mul_comm (codeAt W n _) (X _), mul_assoc]
  rw [distrib4 hs, key d0 0 h0, key d1 1 h1, key d2 2 h2, key d3 3 h3]
  simp only [Fin.sum_univ_four, add_assoc]

/-- The score row of an item is the plain score, before the score scale. -/
theorem scoreRow_apply (x : Vec Ideal S96x128 .bf16) (w : Vec Ideal S2048x128 .i32) (n : Fin 64) (l : Fin 128)
    (hs : ∀ i, Nonneg (scaleAt (rowsOf w l) n i)) :
    scoreRow (F := Ideal) x w n (ix2 0 l) = scoreAt (fun d => x (ix2 d l)) (rowsOf w l) n := by
  unfold scoreRow
  pointwise [scoreOf, k0_pay18, k0_pay17, k0_pay16, k0_pay15, k0_pay78, k0_pay77, k0_pay76, k0_pay75]
  unfold scoreAt
  rw [sum_by_residue]
  refine Finset.sum_congr rfl fun r _ => ?_
  have hr := r.isLt
  rw [Fin.sum_univ_three,
    codes_apply w n 0 0 rfl _ _ l ⟨r.val, by omega⟩ (by simp),
    codes_apply w n 0 0 rfl _ _ l ⟨8 + r.val, by omega⟩ (by simp),
    codes_apply w n 0 0 rfl _ _ l ⟨16 + r.val, by omega⟩ (by simp),
    codes_apply w n 0 0 rfl _ _ l ⟨24 + r.val, by omega⟩ (by simp),
    codes_apply w n 1 1 rfl _ _ l ⟨32 + r.val, by omega⟩ (by simp),
    codes_apply w n 1 1 rfl _ _ l ⟨32 + (8 + r.val), by omega⟩ (by simp),
    codes_apply w n 1 1 rfl _ _ l ⟨32 + (16 + r.val), by omega⟩ (by simp),
    codes_apply w n 1 1 rfl _ _ l ⟨32 + (24 + r.val), by omega⟩ (by simp),
    codes_apply w n 2 2 rfl _ _ l ⟨64 + r.val, by omega⟩ (by simp),
    codes_apply w n 2 2 rfl _ _ l ⟨64 + (8 + r.val), by omega⟩ (by simp),
    codes_apply w n 2 2 rfl _ _ l ⟨64 + (16 + r.val), by omega⟩ (by simp),
    codes_apply w n 2 2 rfl _ _ l ⟨64 + (24 + r.val), by omega⟩ (by simp),
    scales_apply w n 0 0 rfl, scales_apply w n 1 1 rfl, scales_apply w n 2 2 rfl]
  refine congrArg₂ (· + ·) (congrArg₂ (· + ·) ?_ ?_) ?_
  · exact share (fun d => x (ix2 d l)) (rowsOf w l) n 0 (hs 0) r _ _ _ _ (by simp) (by simp) (by simp) (by simp)
  · exact share (fun d => x (ix2 d l)) (rowsOf w l) n 1 (hs 1) r _ _ _ _ (by simp) (by simp) (by simp) (by simp)
  · exact share (fun d => x (ix2 d l)) (rowsOf w l) n 2 (hs 2) r _ _ _ _ (by simp) (by simp) (by simp) (by simp)

/-- The attention weights that a block writes. -/
theorem attn_apply (x : Vec Ideal S96x128 .bf16) (w : Vec Ideal S2048x128 .i32) (n : Fin 64) (l : Fin 128)
    (hs : ∀ n i, Nonneg (scaleAt (rowsOf w l) n i)) :
    k0_pay80 (F := Ideal) (scores (F := Ideal) x w) (ix2 n l) = attnAt (fun d => x (ix2 d l)) (rowsOf w l) n := by
  have e (k : Fin 64) : scores (F := Ideal) x w (ix2 k l) = scoreAt (fun d => x (ix2 d l)) (rowsOf w l) k :=
    scoreRow_apply x w k l (hs k)
  pointwise [k0_pay80]
  simp only [e]
  rfl

/-- The weights that the pooling loop reads are the weights written. -/
theorem pay82_apply (s : Vec Ideal S64x128 .f32) (n : Fin 64) (l : Fin 128) :
    k0_pay82 (F := Ideal) s (ix2 n l) = k0_pay80 (F := Ideal) s (ix2 n l) := by
  pointwise [k0_pay82]

/-- The accumulator of block `i`. -/
def part (i : Fin 3) (acc : FVec Ideal S32x128 .f32 × FVec Ideal S32x128 .f32 × FVec Ideal S32x128 .f32) : FVec Ideal S32x128 .f32 :=
  match i with
  | 0 => acc.1
  | 1 => acc.2.1
  | 2 => acc.2.2

/-- What one item adds to an accumulator. -/
theorem poolStep_apply (w : Vec Ideal S2048x128 .i32) (p : Vec Ideal S64x128 .f32) (n : Fin 64)
    (acc : FVec Ideal S32x128 .f32 × FVec Ideal S32x128 .f32 × FVec Ideal S32x128 .f32) (i : Fin 3) (r : Fin 32) (l : Fin 128)
    (d : Fin 96) (hd : d.val = 32 * i.val + r.val) :
    part i (poolStep (F := Ideal) w p n acc) (ix2 r l) = part i acc (ix2 r l) + p (ix2 n l) * keyAt (rowsOf w l) n d := by
  have hk : keyAt (rowsOf w l) n d = codeAt (rowsOf w l) n d * scaleAt (rowsOf w l) n i := by
    unfold keyAt
    congr 2
    exact Fin.ext (by have := r.isLt; simp only; omega)
  have hm : p (ix2 n l) * keyAt (rowsOf w l) n d = codeAt (rowsOf w l) n d * (scaleAt (rowsOf w l) n i * p (ix2 n l)) := by
    rw [hk, mul_comm, mul_assoc]
  rw [hm]
  match i, hd with
  | 0, hd =>
    show k0_pay41 (F := Ideal) acc.1 _ _ _ (ix2 r l) = acc.1 (ix2 r l) + _
    pointwise [k0_pay41, k0_pay40]
    rw [codes_apply w n 0 0 rfl _ r l d hd, scales_apply w n 0 0 rfl, row_apply]
  | 1, hd =>
    show k0_pay42 (F := Ideal) acc.2.1 _ _ _ (ix2 r l) = acc.2.1 (ix2 r l) + _
    pointwise [k0_pay42, k0_pay40]
    rw [codes_apply w n 1 1 rfl _ r l d hd, scales_apply w n 1 1 rfl, row_apply]
  | 2, hd =>
    show k0_pay44 (F := Ideal) acc.2.2 _ _ (ix2 r l) = acc.2.2 (ix2 r l) + _
    pointwise [k0_pay44, k0_pay43, k0_pay40]
    rw [codes_apply w n 2 2 rfl _ r l d hd, scales_apply w n 2 2 rfl, row_apply]

/-- An accumulator after `k` items. -/
theorem pool_apply (w : Vec Ideal S2048x128 .i32) (p : Vec Ideal S64x128 .f32)
    (init : FVec Ideal S32x128 .f32 × FVec Ideal S32x128 .f32 × FVec Ideal S32x128 .f32) (i : Fin 3) (r : Fin 32) (l : Fin 128)
    (d : Fin 96) (hd : d.val = 32 * i.val + r.val) (k : ℕ) (h : k ≤ 64) :
    part i (pool (F := Ideal) w p init k h) (ix2 r l)
      = part i init (ix2 r l) + ∑ n : Fin k, p (ix2 (⟨n.val, by have := n.isLt; omega⟩ : Fin 64) l) * keyAt (rowsOf w l) ⟨n.val, by have := n.isLt; omega⟩ d := by
  induction k with
  | zero => simp [pool]
  | succ k ih =>
    rw [pool, poolStep_apply w p ⟨k, h⟩ _ i r l d hd, ih (Nat.le_of_succ_le h), Fin.sum_univ_castSucc, add_assoc]
    rfl

/-- The pooled embedding that a block writes. -/
theorem pooledOut_apply (x0 : Vec Ideal S96x128 .bf16) (x1 : Vec Ideal S2048x128 .i32) (d : Fin 96) (l : Fin 128)
    (hs : ∀ n i, Nonneg (scaleAt (rowsOf (transposed (F := Ideal) x1) l) n i)) :
    pooledOut (F := Ideal) x0 x1 (ix2 d l) = pooledAt (fun d => x0 (ix2 d l)) (rowsOf (transposed (F := Ideal) x1) l) d := by
  have hd := d.isLt
  have main (i : Fin 3) (r : Fin 32) (e : d.val = 32 * i.val + r.val) :
      part i (pool (F := Ideal) (transposed x1) (k0_pay82 (scores x0 (transposed x1))) (k0_pay83, k0_pay1, k0_pay2) 64 (Nat.le_refl 64)) (ix2 r l)
        = pooledAt (fun d => x0 (ix2 d l)) (rowsOf (transposed (F := Ideal) x1) l) d := by
    rw [pool_apply _ _ _ i r l d e 64]
    have z : part i (k0_pay83 (F := Ideal), k0_pay1 (F := Ideal), k0_pay2 (F := Ideal)) (ix2 r l) = 0 := by
      match i with
      | 0 => show k0_pay83 (F := Ideal) (ix2 r l) = 0; pointwise [k0_pay83]
      | 1 => show k0_pay1 (F := Ideal) (ix2 r l) = 0; pointwise [k0_pay1]
      | 2 => show k0_pay2 (F := Ideal) (ix2 r l) = 0; pointwise [k0_pay2]
    rw [z, zero_add]
    unfold pooledAt
    refine Finset.sum_congr rfl fun n _ => ?_
    rw [pay82_apply, attn_apply x0 (transposed x1) _ l hs]
  unfold pooledOut
  pointwise [k0_pay5]
  split
  · exact main 0 ⟨d.val, by omega⟩ (by simp)
  · split
    · exact main 1 ⟨d.val - 32, by omega⟩ (by simp; omega)
    · exact main 2 ⟨d.val - 32 - 32, by omega⟩ (by simp; omega)

end Cert.KernelIdeal.Attend

end
-- ==== Proof.ValueShares.lean ====
/-
  The three results of an attention call as functions of whole arrays, and the step from one block to the array.

  Call `p` handles the 768 batch rows from `768 * p` on, in six blocks of 128.  Its gathered rows hold, for block `b`, quad
  `k` and lane `l`, at row `2048 * b + 128 * k + l`, the thirty-two words of items `4 * k` to `4 * k + 3`.
-/
module

public import proofs.«01_k».proof.Proof.ValueBlock

@[expose] public section

set_option maxRecDepth 16384

noncomputable section

namespace Cert.KernelIdeal.Attend

open Idealize.ShloMosaic Idealize.SL.Sem
open Cert.KernelIdeal Cert.KernelIdeal.Gen

/-- The words gathered for batch row `b` of a call's 768. -/
def gathered (rows : Vec Ideal S12288x128 .i32) (b : Fin 768) : Rows := fun n r =>
  rows (ix2 (⟨2048 * (b.val / 128) + 128 * (n.val / 4) + b.val % 128, by have := b.isLt; have := n.isLt; omega⟩ : Fin 12288)
    (⟨32 * (n.val % 4) + r.val, by have := r.isLt; omega⟩ : Fin 128))

/-- The batch row `b` of call `p`, among all. -/
def batch (p : Fin 4) (b : Fin 768) : Fin 3072 := ⟨768 * p.val + b.val, by have := p.isLt; have := b.isLt; omega⟩

/-- The pooled embeddings of call `p`, from the transposed features and the call's gathered rows. -/
def pooledOf (p : Fin 4) (x : Vec Ideal S96x3072 .bf16) (rows : Vec Ideal S12288x128 .i32) : Vec Ideal S96x768 .bf16 := fun i =>
  pooledAt (fun d => x (ix2 d (batch p (i 1)))) (gathered rows (i 1)) (i 0)

/-- The attention weights of call `p`. -/
def attnOf (p : Fin 4) (x : Vec Ideal S96x3072 .bf16) (rows : Vec Ideal S12288x128 .i32) : Vec Ideal S64x768 .f32 := fun i =>
  attnAt (fun d => x (ix2 d (batch p (i 1)))) (gathered rows (i 1)) (i 0)

/-- The selected positions of call `p`. -/
def selOf (p : Fin 4) (pos : Vec Ideal S3072x64 .i32) : Vec Ideal S64x768 .i32 := fun i =>
  pos (ix2 (batch p (i 1)) (i 0))

/-- Every scale in a call's gathered rows is nonnegative and finite. -/
def ScalesOk (rows : Vec Ideal S12288x128 .i32) : Prop := ∀ b n i, Nonneg (scaleAt (gathered rows b) n i)

section
variable (p : Fin 4) (t : Fin 6)

/-- The batch row in lane `l` of block `t`, among a call's 768. -/
def lane (t : Fin 6) (l : Fin 128) : Fin 768 := ⟨128 * t.val + l.val, by have := t.isLt; have := l.isLt; omega⟩

variable (x : Vec Ideal S96x3072 .bf16) (rows : Vec Ideal S12288x128 .i32) (pos : Vec Ideal S3072x64 .i32)
  (x0 : Vec Ideal S96x128 .bf16) (x1 : Vec Ideal S2048x128 .i32) (x2 : Vec Ideal S128x64 .i32)

/-- The transposed block of gathered rows holds the words gathered for each lane. -/
theorem rowsOf_transposed (h1 : ∀ (r : Fin 2048) (l : Fin 128), x1 (ix2 r l) = rows (ix2 (⟨2048 * t.val + r.val, by have := t.isLt; have := r.isLt; omega⟩ : Fin 12288) l))
    (l : Fin 128) : rowsOf (transposed (F := Ideal) x1) l = gathered rows (lane t l) := by
  funext n r
  have hn := n.isLt; have hr := r.isLt; have hl := l.isLt; have ht := t.isLt
  unfold rowsOf transposed
  rw [h1]
  unfold gathered lane
  refine congrArg rows (congrArg₂ ix2 (Fin.ext ?_) (Fin.ext ?_))
  · show 2048 * t.val + (128 * ((32 * n.val + r.val) / 128) + l.val)
      = 2048 * ((128 * t.val + l.val) / 128) + 128 * (n.val / 4) + (128 * t.val + l.val) % 128
    omega
  · show (32 * n.val + r.val) % 128 = 32 * (n.val % 4) + r.val
    omega

variable (h0 : ∀ (d : Fin 96) (l : Fin 128), x0 (ix2 d l) = x (ix2 d (batch p (lane t l))))
  (h1 : ∀ (r : Fin 2048) (l : Fin 128), x1 (ix2 r l) = rows (ix2 (⟨2048 * t.val + r.val, by have := t.isLt; have := r.isLt; omega⟩ : Fin 12288) l))
  (h2 : ∀ (l : Fin 128) (n : Fin 64), x2 (ix2 l n) = pos (ix2 (batch p (lane t l)) n))
  (hs : ScalesOk rows)

include h0 h1 hs in
/-- A block of pooled embeddings is the block of the whole. -/
theorem pooled_block (d : Fin 96) (l : Fin 128) : pooledOut (F := Ideal) x0 x1 (ix2 d l) = pooledOf p x rows (ix2 d (lane t l)) := by
  have e := rowsOf_transposed t rows x1 h1 l
  rw [pooledOut_apply x0 x1 d l (by rw [e]; exact hs _), e]
  simp only [h0]
  rfl

include h0 h1 hs in
/-- A block of attention weights is the block of the whole. -/
theorem attn_block (n : Fin 64) (l : Fin 128) : attnOut (F := Ideal) x0 x1 (ix2 n l) = attnOf p x rows (ix2 n (lane t l)) := by
  have e := rowsOf_transposed t rows x1 h1 l
  unfold attnOut
  rw [attn_apply x0 _ n l (by rw [e]; exact hs _), e]
  simp only [h0]
  rfl

include h2 in
/-- A block of positions is the block of the whole. -/
theorem sel_block (n : Fin 64) (l : Fin 128) : selOut (F := Ideal) x2 (ix2 n l) = selOf p pos (ix2 n (lane t l)) := by
  unfold selOut
  pointwise [k0_pay81]
  exact h2 l n

end

end Cert.KernelIdeal.Attend

end
-- ==== Proof.ValueArrays.lean ====
/-
  The arrays that each attention call leaves, entered at any contents, as functions of the arrays that it reads.
-/
module

public import proofs.«01_k».proof.Proof.ValueShares
public import proofs.«01_k».proof.Proof.Run
public import Idealize.ShloMosaic.Lib.Pipeline.ValueKit

@[expose] public section

set_option maxRecDepth 16384

noncomputable section

namespace Cert.KernelIdeal.Attend

open Idealize.ShloMosaic Idealize.ShloMosaic.TcCoe Idealize.SL.Sem
open Idealize.ShloMosaic.Pipeline (Dat)
open Cert.KernelIdeal Cert.KernelIdeal.Gen

variable (V : Valuation τ sig (Elt Ideal)) (c : Dev nD)

/-! ## Call 0 -/

/-- The block indices of call 0. -/
theorem index0 : ∀ t : Fin cfg0.N, win0_0.index t = ![0, t.val] ∧ win0_1.index t = ![t.val, 0] ∧ win0_2.index t = ![t.val, 0]
    ∧ win0_3.index t = ![0, t.val] ∧ win0_4.index t = ![0, t.val] ∧ win0_5.index t = ![0, t.val] :=
  (by decide +kernel : ∀ t : Fin grid0.N, _)

/-- The blocks of call 0's three inputs, read off their arrays. -/
theorem read0_0 (t : Fin cfg0.N) (d : Fin 96) (l : Fin 128) :
    iblk0 V 0 t (ix2 d l) = V (Proc.devRef .tc main_v0) (ix2 d (batch 0 (lane t l))) := by
  blk_ext [iblk0, batch, lane, index0 t]

/-- The block of call 0's gathered rows, read off its array. -/
theorem read0_1 (t : Fin cfg0.N) (r : Fin 2048) (l : Fin 128) :
    iblk0 V 1 t (ix2 r l) = V (Proc.devRef .tc main_arg1) (ix2 (⟨2048 * t.val + r.val, by have := t.isLt; have := r.isLt; change t.val < 6 at *; omega⟩ : Fin 12288) l) := by
  blk_ext [iblk0, batch, lane, index0 t]

/-- The block of call 0's selected positions, read off its array. -/
theorem read0_2 (t : Fin cfg0.N) (l : Fin 128) (n : Fin 64) :
    iblk0 V 2 t (ix2 l n) = V (Proc.devRef .tc main_arg5) (ix2 (batch 0 (lane t l)) n) := by
  blk_ext [iblk0, batch, lane, index0 t]

/-- Where a block of call 0's results sits in its array. -/
theorem place0 (t : Fin cfg0.N) (d : Fin 96) (n : Fin 64) (l : Fin 128) :
    (win0_3.blk t).view.emb (ix2 d l) = ix2 d (lane t l) ∧ (win0_4.blk t).view.emb (ix2 n l) = ix2 n (lane t l)
      ∧ (win0_5.blk t).view.emb (ix2 n l) = ix2 n (lane t l) := by
  refine ⟨?_, ?_, ?_⟩ <;> blk_ext [lane, index0 t]

/-- The pooled embeddings that call 0 leaves. -/
theorem pooled0 (hs : ScalesOk (V (Proc.devRef .tc main_arg1))) :
    (dat0 V c).arrAt 3 cfg0.N = pooledOf 0 (V (Proc.devRef .tc main_v0)) (V (Proc.devRef .tc main_arg1)) := by
  refine (dat0 V c).arrAt_eq_of_covers 3 _ (by decide +kernel) fun t hf y => ?_
  blk_simp
  obtain ⟨d, l, rfl⟩ : ∃ (d : Fin 96) (l : Fin 128), y = ix2 d l := ⟨y 0, y 1, eq_ix2 y⟩
  rw [(place0 t d 0 l).1]
  exact pooled_block 0 t _ _ _ _ (read0_0 V t) (read0_1 V t) hs d l

/-- The positions that call 0 leaves. -/
theorem sel0 :
    (dat0 V c).arrAt 4 cfg0.N = selOf 0 (V (Proc.devRef .tc main_arg5)) := by
  refine (dat0 V c).arrAt_eq_of_covers 4 _ (by decide +kernel) fun t hf y => ?_
  blk_simp
  obtain ⟨n, l, rfl⟩ : ∃ (n : Fin 64) (l : Fin 128), y = ix2 n l := ⟨y 0, y 1, eq_ix2 y⟩
  rw [(place0 t 0 n l).2.1]
  exact sel_block 0 t _ _ (read0_2 V t) n l

/-- The attention weights that call 0 leaves. -/
theorem attn0 (hs : ScalesOk (V (Proc.devRef .tc main_arg1))) :
    (dat0 V c).arrAt 5 cfg0.N = attnOf 0 (V (Proc.devRef .tc main_v0)) (V (Proc.devRef .tc main_arg1)) := by
  refine (dat0 V c).arrAt_eq_of_covers 5 _ (by decide +kernel) fun t hf y => ?_
  blk_simp
  obtain ⟨n, l, rfl⟩ : ∃ (n : Fin 64) (l : Fin 128), y = ix2 n l := ⟨y 0, y 1, eq_ix2 y⟩
  rw [(place0 t 0 n l).2.2]
  exact attn_block 0 t _ _ _ _ (read0_0 V t) (read0_1 V t) hs n l

/-! ## Call 1 -/

/-- The block indices of call 1. -/
theorem index1 : ∀ t : Fin cfg1.N, win1_0.index t = ![0, 6 + t.val] ∧ win1_1.index t = ![t.val, 0] ∧ win1_2.index t = ![6 + t.val, 0]
    ∧ win1_3.index t = ![0, t.val] ∧ win1_4.index t = ![0, t.val] ∧ win1_5.index t = ![0, t.val] :=
  (by decide +kernel : ∀ t : Fin grid1.N, _)

/-- The blocks of call 1's three inputs, read off their arrays. -/
theorem read1_0 (t : Fin cfg1.N) (d : Fin 96) (l : Fin 128) :
    iblk1 V 0 t (ix2 d l) = V (Proc.devRef .tc main_v2) (ix2 d (batch 1 (lane t l))) := by
  blk_ext [iblk1, batch, lane, index1 t]

/-- The block of call 1's gathered rows, read off its array. -/
theorem read1_1 (t : Fin cfg1.N) (r : Fin 2048) (l : Fin 128) :
    iblk1 V 1 t (ix2 r l) = V (Proc.devRef .tc main_arg2) (ix2 (⟨2048 * t.val + r.val, by have := t.isLt; have := r.isLt; change t.val < 6 at *; omega⟩ : Fin 12288) l) := by
  blk_ext [iblk1, batch, lane, index1 t]

/-- The block of call 1's selected positions, read off its array. -/
theorem read1_2 (t : Fin cfg1.N) (l : Fin 128) (n : Fin 64) :
    iblk1 V 2 t (ix2 l n) = V (Proc.devRef .tc main_arg5) (ix2 (batch 1 (lane t l)) n) := by
  blk_ext [iblk1, batch, lane, index1 t]

/-- Where a block of call 1's results sits in its array. -/
theorem place1 (t : Fin cfg1.N) (d : Fin 96) (n : Fin 64) (l : Fin 128) :
    (win1_3.blk t).view.emb (ix2 d l) = ix2 d (lane t l) ∧ (win1_4.blk t).view.emb (ix2 n l) = ix2 n (lane t l)
      ∧ (win1_5.blk t).view.emb (ix2 n l) = ix2 n (lane t l) := by
  refine ⟨?_, ?_, ?_⟩ <;> blk_ext [lane, index1 t]

/-- The pooled embeddings that call 1 leaves. -/
theorem pooled1 (hs : ScalesOk (V (Proc.devRef .tc main_arg2))) :
    (dat1 V c).arrAt 3 cfg1.N = pooledOf 1 (V (Proc.devRef .tc main_v2)) (V (Proc.devRef .tc main_arg2)) := by
  refine (dat1 V c).arrAt_eq_of_covers 3 _ (by decide +kernel) fun t hf y => ?_
  blk_simp
  obtain ⟨d, l, rfl⟩ : ∃ (d : Fin 96) (l : Fin 128), y = ix2 d l := ⟨y 0, y 1, eq_ix2 y⟩
  rw [(place1 t d 0 l).1]
  exact pooled_block 1 t _ _ _ _ (read1_0 V t) (read1_1 V t) hs d l

/-- The positions that call 1 leaves. -/
theorem sel1 :
    (dat1 V c).arrAt 4 cfg1.N = selOf 1 (V (Proc.devRef .tc main_arg5)) := by
  refine (dat1 V c).arrAt_eq_of_covers 4 _ (by decide +kernel) fun t hf y => ?_
  blk_simp
  obtain ⟨n, l, rfl⟩ : ∃ (n : Fin 64) (l : Fin 128), y = ix2 n l := ⟨y 0, y 1, eq_ix2 y⟩
  rw [(place1 t 0 n l).2.1]
  exact sel_block 1 t _ _ (read1_2 V t) n l

/-- The attention weights that call 1 leaves. -/
theorem attn1 (hs : ScalesOk (V (Proc.devRef .tc main_arg2))) :
    (dat1 V c).arrAt 5 cfg1.N = attnOf 1 (V (Proc.devRef .tc main_v2)) (V (Proc.devRef .tc main_arg2)) := by
  refine (dat1 V c).arrAt_eq_of_covers 5 _ (by decide +kernel) fun t hf y => ?_
  blk_simp
  obtain ⟨n, l, rfl⟩ : ∃ (n : Fin 64) (l : Fin 128), y = ix2 n l := ⟨y 0, y 1, eq_ix2 y⟩
  rw [(place1 t 0 n l).2.2]
  exact attn_block 1 t _ _ _ _ (read1_0 V t) (read1_1 V t) hs n l

/-! ## Call 2 -/

/-- The block indices of call 2. -/
theorem index2 : ∀ t : Fin cfg2.N, win2_0.index t = ![0, 12 + t.val] ∧ win2_1.index t = ![t.val, 0] ∧ win2_2.index t = ![12 + t.val, 0]
    ∧ win2_3.index t = ![0, t.val] ∧ win2_4.index t = ![0, t.val] ∧ win2_5.index t = ![0, t.val] :=
  (by decide +kernel : ∀ t : Fin grid2.N, _)

/-- The blocks of call 2's three inputs, read off their arrays. -/
theorem read2_0 (t : Fin cfg2.N) (d : Fin 96) (l : Fin 128) :
    iblk2 V 0 t (ix2 d l) = V (Proc.devRef .tc main_v4) (ix2 d (batch 2 (lane t l))) := by
  blk_ext [iblk2, batch, lane, index2 t]

/-- The block of call 2's gathered rows, read off its array. -/
theorem read2_1 (t : Fin cfg2.N) (r : Fin 2048) (l : Fin 128) :
    iblk2 V 1 t (ix2 r l) = V (Proc.devRef .tc main_arg3) (ix2 (⟨2048 * t.val + r.val, by have := t.isLt; have := r.isLt; change t.val < 6 at *; omega⟩ : Fin 12288) l) := by
  blk_ext [iblk2, batch, lane, index2 t]

/-- The block of call 2's selected positions, read off its array. -/
theorem read2_2 (t : Fin cfg2.N) (l : Fin 128) (n : Fin 64) :
    iblk2 V 2 t (ix2 l n) = V (Proc.devRef .tc main_arg5) (ix2 (batch 2 (lane t l)) n) := by
  blk_ext [iblk2, batch, lane, index2 t]

/-- Where a block of call 2's results sits in its array. -/
theorem place2 (t : Fin cfg2.N) (d : Fin 96) (n : Fin 64) (l : Fin 128) :
    (win2_3.blk t).view.emb (ix2 d l) = ix2 d (lane t l) ∧ (win2_4.blk t).view.emb (ix2 n l) = ix2 n (lane t l)
      ∧ (win2_5.blk t).view.emb (ix2 n l) = ix2 n (lane t l) := by
  refine ⟨?_, ?_, ?_⟩ <;> blk_ext [lane, index2 t]

/-- The pooled embeddings that call 2 leaves. -/
theorem pooled2 (hs : ScalesOk (V (Proc.devRef .tc main_arg3))) :
    (dat2 V c).arrAt 3 cfg2.N = pooledOf 2 (V (Proc.devRef .tc main_v4)) (V (Proc.devRef .tc main_arg3)) := by
  refine (dat2 V c).arrAt_eq_of_covers 3 _ (by decide +kernel) fun t hf y => ?_
  blk_simp
  obtain ⟨d, l, rfl⟩ : ∃ (d : Fin 96) (l : Fin 128), y = ix2 d l := ⟨y 0, y 1, eq_ix2 y⟩
  rw [(place2 t d 0 l).1]
  exact pooled_block 2 t _ _ _ _ (read2_0 V t) (read2_1 V t) hs d l

/-- The positions that call 2 leaves. -/
theorem sel2 :
    (dat2 V c).arrAt 4 cfg2.N = selOf 2 (V (Proc.devRef .tc main_arg5)) := by
  refine (dat2 V c).arrAt_eq_of_covers 4 _ (by decide +kernel) fun t hf y => ?_
  blk_simp
  obtain ⟨n, l, rfl⟩ : ∃ (n : Fin 64) (l : Fin 128), y = ix2 n l := ⟨y 0, y 1, eq_ix2 y⟩
  rw [(place2 t 0 n l).2.1]
  exact sel_block 2 t _ _ (read2_2 V t) n l

/-- The attention weights that call 2 leaves. -/
theorem attn2 (hs : ScalesOk (V (Proc.devRef .tc main_arg3))) :
    (dat2 V c).arrAt 5 cfg2.N = attnOf 2 (V (Proc.devRef .tc main_v4)) (V (Proc.devRef .tc main_arg3)) := by
  refine (dat2 V c).arrAt_eq_of_covers 5 _ (by decide +kernel) fun t hf y => ?_
  blk_simp
  obtain ⟨n, l, rfl⟩ : ∃ (n : Fin 64) (l : Fin 128), y = ix2 n l := ⟨y 0, y 1, eq_ix2 y⟩
  rw [(place2 t 0 n l).2.2]
  exact attn_block 2 t _ _ _ _ (read2_0 V t) (read2_1 V t) hs n l

/-! ## Call 3 -/

/-- The block indices of call 3. -/
theorem index3 : ∀ t : Fin cfg3.N, win3_0.index t = ![0, 18 + t.val] ∧ win3_1.index t = ![t.val, 0] ∧ win3_2.index t = ![18 + t.val, 0]
    ∧ win3_3.index t = ![0, t.val] ∧ win3_4.index t = ![0, t.val] ∧ win3_5.index t = ![0, t.val] :=
  (by decide +kernel : ∀ t : Fin grid3.N, _)

/-- The blocks of call 3's three inputs, read off their arrays. -/
theorem read3_0 (t : Fin cfg3.N) (d : Fin 96) (l : Fin 128) :
    iblk3 V 0 t (ix2 d l) = V (Proc.devRef .tc main_v6) (ix2 d (batch 3 (lane t l))) := by
  blk_ext [iblk3, batch, lane, index3 t]

/-- The block of call 3's gathered rows, read off its array. -/
theorem read3_1 (t : Fin cfg3.N) (r : Fin 2048) (l : Fin 128) :
    iblk3 V 1 t (ix2 r l) = V (Proc.devRef .tc main_arg4) (ix2 (⟨2048 * t.val + r.val, by have := t.isLt; have := r.isLt; change t.val < 6 at *; omega⟩ : Fin 12288) l) := by
  blk_ext [iblk3, batch, lane, index3 t]

/-- The block of call 3's selected positions, read off its array. -/
theorem read3_2 (t : Fin cfg3.N) (l : Fin 128) (n : Fin 64) :
    iblk3 V 2 t (ix2 l n) = V (Proc.devRef .tc main_arg5) (ix2 (batch 3 (lane t l)) n) := by
  blk_ext [iblk3, batch, lane, index3 t]

/-- Where a block of call 3's results sits in its array. -/
theorem place3 (t : Fin cfg3.N) (d : Fin 96) (n : Fin 64) (l : Fin 128) :
    (win3_3.blk t).view.emb (ix2 d l) = ix2 d (lane t l) ∧ (win3_4.blk t).view.emb (ix2 n l) = ix2 n (lane t l)
      ∧ (win3_5.blk t).view.emb (ix2 n l) = ix2 n (lane t l) := by
  refine ⟨?_, ?_, ?_⟩ <;> blk_ext [lane, index3 t]

/-- The pooled embeddings that call 3 leaves. -/
theorem pooled3 (hs : ScalesOk (V (Proc.devRef .tc main_arg4))) :
    (dat3 V c).arrAt 3 cfg3.N = pooledOf 3 (V (Proc.devRef .tc main_v6)) (V (Proc.devRef .tc main_arg4)) := by
  refine (dat3 V c).arrAt_eq_of_covers 3 _ (by decide +kernel) fun t hf y => ?_
  blk_simp
  obtain ⟨d, l, rfl⟩ : ∃ (d : Fin 96) (l : Fin 128), y = ix2 d l := ⟨y 0, y 1, eq_ix2 y⟩
  rw [(place3 t d 0 l).1]
  exact pooled_block 3 t _ _ _ _ (read3_0 V t) (read3_1 V t) hs d l

/-- The positions that call 3 leaves. -/
theorem sel3 :
    (dat3 V c).arrAt 4 cfg3.N = selOf 3 (V (Proc.devRef .tc main_arg5)) := by
  refine (dat3 V c).arrAt_eq_of_covers 4 _ (by decide +kernel) fun t hf y => ?_
  blk_simp
  obtain ⟨n, l, rfl⟩ : ∃ (n : Fin 64) (l : Fin 128), y = ix2 n l := ⟨y 0, y 1, eq_ix2 y⟩
  rw [(place3 t 0 n l).2.1]
  exact sel_block 3 t _ _ (read3_2 V t) n l

/-- The attention weights that call 3 leaves. -/
theorem attn3 (hs : ScalesOk (V (Proc.devRef .tc main_arg4))) :
    (dat3 V c).arrAt 5 cfg3.N = attnOf 3 (V (Proc.devRef .tc main_v6)) (V (Proc.devRef .tc main_arg4)) := by
  refine (dat3 V c).arrAt_eq_of_covers 5 _ (by decide +kernel) fun t hf y => ?_
  blk_simp
  obtain ⟨n, l, rfl⟩ : ∃ (n : Fin 64) (l : Fin 128), y = ix2 n l := ⟨y 0, y 1, eq_ix2 y⟩
  rw [(place3 t 0 n l).2.2]
  exact attn_block 3 t _ _ _ _ (read3_0 V t) (read3_1 V t) hs n l

end Cert.KernelIdeal.Attend

end
-- ==== Proof.ValueKernel.lean ====
/-
  The three results of the whole program as functions of its arguments.
-/
module

public import proofs.«01_k».proof.Proof.ValueArrays
public import Idealize.ShloMosaic.Lib.StableHlo.ReadAt

@[expose] public section

set_option maxRecDepth 16384

noncomputable section

namespace Cert.KernelIdeal.Attend

open Idealize.ShloMosaic Idealize.ShloMosaic.TcCoe Idealize.SL.Sem
open Idealize.ShloMosaic.Pipeline Idealize.ShloMosaic.Rounds
open Cert.KernelIdeal Cert.KernelIdeal.Gen

/-- The words gathered for batch row `b` of all 3072. -/
def itemRows (rows : Fin 4 → Vec Ideal S12288x128 .i32) (b : Fin 3072) : Rows :=
  gathered (rows ⟨b.val / 768, by have := b.isLt; omega⟩) ⟨b.val % 768, Nat.mod_lt _ (by decide)⟩

/-- The pooled embeddings of all batch rows. -/
def pooledAll (x : Vec Ideal S3072x96 .bf16) (rows : Fin 4 → Vec Ideal S12288x128 .i32) : Vec Ideal S3072x96 .bf16 := fun i =>
  pooledAt (fun d => x (ix2 (i 0) d)) (itemRows rows (i 0)) (i 1)

/-- The attention weights of all batch rows. -/
def attnAll (x : Vec Ideal S3072x96 .bf16) (rows : Fin 4 → Vec Ideal S12288x128 .i32) : Vec Ideal S3072x64 .f32 := fun i =>
  attnAt (fun d => x (ix2 (i 0) d)) (itemRows rows (i 0)) (i 1)

/-- The transposed features. -/
def turned (x : Vec Ideal S3072x96 .bf16) : Vec Ideal S96x3072 .bf16 := fun i => x (ix2 (i 1) (i 0))

/-- A call's pooled embeddings are its share of all. -/
theorem pooledOf_at (x : Vec Ideal S3072x96 .bf16) (rows : Fin 4 → Vec Ideal S12288x128 .i32) (p : Fin 4) (b : Fin 3072) (q : Fin 768)
    (h : b.val = 768 * p.val + q.val) (d : Fin 96) :
    pooledOf p (turned x) (rows p) (ix2 d q) = pooledAll x rows (ix2 b d) := by
  have hq := q.isLt
  have e0 : batch p q = b := Fin.ext h.symm
  have e1 : (⟨b.val / 768, by have := b.isLt; omega⟩ : Fin 4) = p := Fin.ext (by simp only; omega)
  have e2 : (⟨b.val % 768, Nat.mod_lt _ (by decide)⟩ : Fin 768) = q := Fin.ext (by simp only; omega)
  show pooledAt (fun d => x (ix2 (batch p q) d)) (gathered (rows p) q) d = pooledAt (fun d => x (ix2 b d)) (itemRows rows b) d
  unfold itemRows
  rw [e0, e1, e2]

/-- A call's attention weights are its share of all. -/
theorem attnOf_at (x : Vec Ideal S3072x96 .bf16) (rows : Fin 4 → Vec Ideal S12288x128 .i32) (p : Fin 4) (b : Fin 3072) (q : Fin 768)
    (h : b.val = 768 * p.val + q.val) (n : Fin 64) :
    attnOf p (turned x) (rows p) (ix2 n q) = attnAll x rows (ix2 b n) := by
  have hq := q.isLt
  have e0 : batch p q = b := Fin.ext h.symm
  have e1 : (⟨b.val / 768, by have := b.isLt; omega⟩ : Fin 4) = p := Fin.ext (by simp only; omega)
  have e2 : (⟨b.val % 768, Nat.mod_lt _ (by decide)⟩ : Fin 768) = q := Fin.ext (by simp only; omega)
  show attnAt (fun d => x (ix2 (batch p q) d)) (gathered (rows p) q) n = attnAt (fun d => x (ix2 b d)) (itemRows rows b) n
  unfold itemRows
  rw [e0, e1, e2]

/-- A call's positions are its share of all. -/
theorem selOf_at (pos : Vec Ideal S3072x64 .i32) (p : Fin 4) (b : Fin 3072) (q : Fin 768)
    (h : b.val = 768 * p.val + q.val) (n : Fin 64) : selOf p pos (ix2 n q) = pos (ix2 b n) := by
  have e0 : batch p q = b := Fin.ext h.symm
  show pos (ix2 (batch p q) n) = _
  rw [e0]

/-! ## The host operations -/

section
variable (V : Valuation τ sig (Elt Ideal)) (x : Vec Ideal S3072x96 .bf16) (rows : Fin 4 → Vec Ideal S12288x128 .i32) (pos : Vec Ideal S3072x64 .i32)

/-- The features are transposed before call 0. -/
theorem head0 : StableHlo.after hostOps0 V (Proc.devRef .tc main_v0) = turned (V (Proc.devRef .tc main_arg0)) := by
  funext i
  obtain ⟨d, b, rfl⟩ : ∃ (d : Fin 96) (b : Fin 3072), i = ix2 d b := ⟨i 0, i 1, eq_ix2 i⟩
  after_reads_at
  rfl
/-- The features are transposed before call 1. -/
theorem head1 : StableHlo.after hostOps1 V (Proc.devRef .tc main_v2) = turned (V (Proc.devRef .tc main_arg0)) := by
  funext i
  obtain ⟨d, b, rfl⟩ : ∃ (d : Fin 96) (b : Fin 3072), i = ix2 d b := ⟨i 0, i 1, eq_ix2 i⟩
  after_reads_at
  rfl
/-- The features are transposed before call 2. -/
theorem head2 : StableHlo.after hostOps2 V (Proc.devRef .tc main_v4) = turned (V (Proc.devRef .tc main_arg0)) := by
  funext i
  obtain ⟨d, b, rfl⟩ : ∃ (d : Fin 96) (b : Fin 3072), i = ix2 d b := ⟨i 0, i 1, eq_ix2 i⟩
  after_reads_at
  rfl
/-- The features are transposed before call 3. -/
theorem head3 : StableHlo.after hostOps3 V (Proc.devRef .tc main_v6) = turned (V (Proc.devRef .tc main_arg0)) := by
  funext i
  obtain ⟨d, b, rfl⟩ : ∃ (d : Fin 96) (b : Fin 3072), i = ix2 d b := ⟨i 0, i 1, eq_ix2 i⟩
  after_reads_at
  rfl

/-- The calls' pooled embeddings are laid side by side and transposed. -/
theorem tail_pooled (h0 : V (Proc.devRef .tc main_v1_0) = pooledOf 0 (turned x) (rows 0))
    (h1 : V (Proc.devRef .tc main_v3_0) = pooledOf 1 (turned x) (rows 1)) (h2 : V (Proc.devRef .tc main_v5_0) = pooledOf 2 (turned x) (rows 2))
    (h3 : V (Proc.devRef .tc main_v7_0) = pooledOf 3 (turned x) (rows 3)) :
    StableHlo.after hostOps4 V (Proc.devRef .tc main_v9) = pooledAll x rows := by
  funext i
  obtain ⟨b, d, rfl⟩ : ∃ (b : Fin 3072) (d : Fin 96), i = ix2 b d := ⟨i 0, i 1, eq_ix2 i⟩
  have hb := b.isLt
  after_reads_at
  split
  · exact (congrFun h0 _).trans (pooledOf_at x rows 0 b _ (by simp) d)
  split
  · exact (congrFun h1 _).trans (pooledOf_at x rows 1 b _ (by simp; omega) d)
  split
  · exact (congrFun h2 _).trans (pooledOf_at x rows 2 b _ (by simp; omega) d)
  · exact (congrFun h3 _).trans (pooledOf_at x rows 3 b _ (by simp; omega) d)

/-- The calls' positions are laid side by side and transposed. -/
theorem tail_sel (h0 : V (Proc.devRef .tc main_v1_1) = selOf 0 pos) (h1 : V (Proc.devRef .tc main_v3_1) = selOf 1 pos)
    (h2 : V (Proc.devRef .tc main_v5_1) = selOf 2 pos) (h3 : V (Proc.devRef .tc main_v7_1) = selOf 3 pos) :
    StableHlo.after hostOps4 V (Proc.devRef .tc main_v11) = pos := by
  funext i
  obtain ⟨b, n, rfl⟩ : ∃ (b : Fin 3072) (n : Fin 64), i = ix2 b n := ⟨i 0, i 1, eq_ix2 i⟩
  have hb := b.isLt
  after_reads_at
  split
  · exact (congrFun h0 _).trans (selOf_at pos 0 b _ (by simp) n)
  split
  · exact (congrFun h1 _).trans (selOf_at pos 1 b _ (by simp; omega) n)
  split
  · exact (congrFun h2 _).trans (selOf_at pos 2 b _ (by simp; omega) n)
  · exact (congrFun h3 _).trans (selOf_at pos 3 b _ (by simp; omega) n)

/-- The calls' attention weights are laid side by side and transposed. -/
theorem tail_attn (h0 : V (Proc.devRef .tc main_v1_2) = attnOf 0 (turned x) (rows 0))
    (h1 : V (Proc.devRef .tc main_v3_2) = attnOf 1 (turned x) (rows 1)) (h2 : V (Proc.devRef .tc main_v5_2) = attnOf 2 (turned x) (rows 2))
    (h3 : V (Proc.devRef .tc main_v7_2) = attnOf 3 (turned x) (rows 3)) :
    StableHlo.after hostOps4 V (Proc.devRef .tc main_v13) = attnAll x rows := by
  funext i
  obtain ⟨b, n, rfl⟩ : ∃ (b : Fin 3072) (n : Fin 64), i = ix2 b n := ⟨i 0, i 1, eq_ix2 i⟩
  have hb := b.isLt
  after_reads_at
  split
  · exact (congrFun h0 _).trans (attnOf_at x rows 0 b _ (by simp) n)
  split
  · exact (congrFun h1 _).trans (attnOf_at x rows 1 b _ (by simp; omega) n)
  split
  · exact (congrFun h2 _).trans (attnOf_at x rows 2 b _ (by simp; omega) n)
  · exact (congrFun h3 _).trans (attnOf_at x rows 3 b _ (by simp; omega) n)

end

/-! ## The whole program -/

section
variable (m : (ℓ : Loc nD τ sig) → Buf (Elt Ideal) ℓ) (c : Dev nD)

/-- The features, as launched. -/
abbrev features : Vec Ideal S3072x96 .bf16 := m ((c : Thread nD τ).loc main_arg0)

/-- The gathered rows of the four calls, as launched. -/
def rowsAll : Fin 4 → Vec Ideal S12288x128 .i32
  | 0 => m ((c : Thread nD τ).loc main_arg1)
  | 1 => m ((c : Thread nD τ).loc main_arg2)
  | 2 => m ((c : Thread nD τ).loc main_arg3)
  | 3 => m ((c : Thread nD τ).loc main_arg4)

/-- The selected positions, as launched. -/
abbrev positions : Vec Ideal S3072x64 .i32 := m ((c : Thread nD τ).loc main_arg5)

/-- Every scale in the gathered rows is nonnegative and finite. -/
def AllOk : Prop := ∀ p, ScalesOk (rowsAll m c p)

/-- What call 0 reads, as launched. -/
theorem reads0 : V1 m c main_v0 = turned (features m c) ∧ V1 m c main_arg1 = rowsAll m c 0 ∧ V1 m c main_arg5 = positions m c :=
  ⟨head0 _, V1_of m c main_arg1 (by decide), V1_of m c main_arg5 (by decide)⟩

variable (o : Outs (F := Ideal))

/-- A buffer that neither stretch of host operations nor call 0 writes reaches call 1 as launched. -/
theorem same3 (r : Ref sig .tc) (h1 : r ∉ hostOps0_W) (h2 : r ∉ ([main_v1_0, main_v1_1, main_v1_2] : List (Ref sig .tc)))
    (h3 : r ∉ hostOps1_W) : V3 m o c r = m ((c : Thread nD τ).loc r) :=
  (V3_of m o c r h3).trans <| (V2_of m o c r h2).trans <| V1_of m c r h1

/-- The same up to call 2. -/
theorem same5 (r : Ref sig .tc) (h1 : r ∉ hostOps0_W) (h2 : r ∉ ([main_v1_0, main_v1_1, main_v1_2] : List (Ref sig .tc)))
    (h3 : r ∉ hostOps1_W) (h4 : r ∉ ([main_v3_0, main_v3_1, main_v3_2] : List (Ref sig .tc))) (h5 : r ∉ hostOps2_W) :
    V5 m o c r = m ((c : Thread nD τ).loc r) :=
  (V5_of m o c r h5).trans <| (V4_of m o c r h4).trans <| same3 m c o r h1 h2 h3

/-- The same up to call 3. -/
theorem same7 (r : Ref sig .tc) (h1 : r ∉ hostOps0_W) (h2 : r ∉ ([main_v1_0, main_v1_1, main_v1_2] : List (Ref sig .tc)))
    (h3 : r ∉ hostOps1_W) (h4 : r ∉ ([main_v3_0, main_v3_1, main_v3_2] : List (Ref sig .tc))) (h5 : r ∉ hostOps2_W)
    (h6 : r ∉ ([main_v5_0, main_v5_1, main_v5_2] : List (Ref sig .tc))) (h7 : r ∉ hostOps3_W) :
    V7 m o c r = m ((c : Thread nD τ).loc r) :=
  (V7_of m o c r h7).trans <| (V6_of m o c r h6).trans <| same5 m c o r h1 h2 h3 h4 h5

/-- What call 1 reads. -/
theorem reads1 : V3 m o c main_v2 = turned (features m c) ∧ V3 m o c main_arg2 = rowsAll m c 1 ∧ V3 m o c main_arg5 = positions m c :=
  ⟨(head1 _).trans (congrArg turned ((V2_of m o c main_arg0 (by decide)).trans (V1_of m c main_arg0 (by decide)))),
    same3 m c o main_arg2 (by decide) (by decide) (by decide), same3 m c o main_arg5 (by decide) (by decide) (by decide)⟩

/-- What call 2 reads. -/
theorem reads2 : V5 m o c main_v4 = turned (features m c) ∧ V5 m o c main_arg3 = rowsAll m c 2 ∧ V5 m o c main_arg5 = positions m c :=
  ⟨(head2 _).trans (congrArg turned ((V4_of m o c main_arg0 (by decide)).trans (same3 m c o main_arg0 (by decide) (by decide) (by decide)))),
    same5 m c o main_arg3 (by decide) (by decide) (by decide) (by decide) (by decide),
    same5 m c o main_arg5 (by decide) (by decide) (by decide) (by decide) (by decide)⟩

/-- What call 3 reads. -/
theorem reads3 : V7 m o c main_v6 = turned (features m c) ∧ V7 m o c main_arg4 = rowsAll m c 3 ∧ V7 m o c main_arg5 = positions m c :=
  ⟨(head3 _).trans (congrArg turned ((V6_of m o c main_arg0 (by decide)).trans (same5 m c o main_arg0 (by decide) (by decide) (by decide) (by decide) (by decide)))),
    same7 m c o main_arg4 (by decide) (by decide) (by decide) (by decide) (by decide) (by decide) (by decide),
    same7 m c o main_arg5 (by decide) (by decide) (by decide) (by decide) (by decide) (by decide) (by decide)⟩

end

section
variable (m : (ℓ : Loc nD τ sig) → Buf (Elt Ideal) ℓ) (c : Dev nD) (hs : AllOk m c)

include hs in
/-- The results of call 0. -/
theorem results0 : V2 m (left m) c main_v1_0 = pooledOf 0 (turned (features m c)) (rowsAll m c 0)
    ∧ V2 m (left m) c main_v1_1 = selOf 0 (positions m c) ∧ V2 m (left m) c main_v1_2 = attnOf 0 (turned (features m c)) (rowsAll m c 0) := by
  obtain ⟨e0, e1, e2⟩ := reads0 m c
  have arr (w : Fin cfg0.W) : V2 m (left m) c (Pipeline.arrRef spec0 w) = (dat0 (V1 m c) c).arrAt w cfg0.N := by
    rw [← after_call0 m c]
    exact Pipeline.afterRegion_arr (dat0 (V1 m c) c) (V1 m c) launch0.win.arr_inj w
  refine ⟨(arr 3).trans ?_, (arr 4).trans ?_, (arr 5).trans ?_⟩
  · rw [← e0, ← e1]; exact pooled0 _ c (by rw [e1]; exact hs 0)
  · rw [← e2]; exact sel0 _ c
  · rw [← e0, ← e1]; exact attn0 _ c (by rw [e1]; exact hs 0)

include hs in
/-- The results of call 1. -/
theorem results1 : V4 m (left m) c main_v3_0 = pooledOf 1 (turned (features m c)) (rowsAll m c 1)
    ∧ V4 m (left m) c main_v3_1 = selOf 1 (positions m c) ∧ V4 m (left m) c main_v3_2 = attnOf 1 (turned (features m c)) (rowsAll m c 1) := by
  obtain ⟨e0, e1, e2⟩ := reads1 m c (left m)
  have arr (w : Fin cfg1.W) : V4 m (left m) c (Pipeline.arrRef spec1 w) = (dat1 (V3 m (left m) c) c).arrAt w cfg1.N := by
    rw [← after_call1 m c]
    exact Pipeline.afterRegion_arr (dat1 (V3 m (left m) c) c) (V3 m (left m) c) launch1.win.arr_inj w
  refine ⟨(arr 3).trans ?_, (arr 4).trans ?_, (arr 5).trans ?_⟩
  · rw [← e0, ← e1]; exact pooled1 _ c (by rw [e1]; exact hs 1)
  · rw [← e2]; exact sel1 _ c
  · rw [← e0, ← e1]; exact attn1 _ c (by rw [e1]; exact hs 1)

include hs in
/-- The results of call 2. -/
theorem results2 : V6 m (left m) c main_v5_0 = pooledOf 2 (turned (features m c)) (rowsAll m c 2)
    ∧ V6 m (left m) c main_v5_1 = selOf 2 (positions m c) ∧ V6 m (left m) c main_v5_2 = attnOf 2 (turned (features m c)) (rowsAll m c 2) := by
  obtain ⟨e0, e1, e2⟩ := reads2 m c (left m)
  have arr (w : Fin cfg2.W) : V6 m (left m) c (Pipeline.arrRef spec2 w) = (dat2 (V5 m (left m) c) c).arrAt w cfg2.N := by
    rw [← after_call2 m c]
    exact Pipeline.afterRegion_arr (dat2 (V5 m (left m) c) c) (V5 m (left m) c) launch2.win.arr_inj w
  refine ⟨(arr 3).trans ?_, (arr 4).trans ?_, (arr 5).trans ?_⟩
  · rw [← e0, ← e1]; exact pooled2 _ c (by rw [e1]; exact hs 2)
  · rw [← e2]; exact sel2 _ c
  · rw [← e0, ← e1]; exact attn2 _ c (by rw [e1]; exact hs 2)

include hs in
/-- The results of call 3. -/
theorem results3 : V8 m (left m) c main_v7_0 = pooledOf 3 (turned (features m c)) (rowsAll m c 3)
    ∧ V8 m (left m) c main_v7_1 = selOf 3 (positions m c) ∧ V8 m (left m) c main_v7_2 = attnOf 3 (turned (features m c)) (rowsAll m c 3) := by
  obtain ⟨e0, e1, e2⟩ := reads3 m c (left m)
  have arr (w : Fin cfg3.W) : V8 m (left m) c (Pipeline.arrRef spec3 w) = (dat3 (V7 m (left m) c) c).arrAt w cfg3.N := by
    rw [← after_call3 m c]
    exact Pipeline.afterRegion_arr (dat3 (V7 m (left m) c) c) (V7 m (left m) c) launch3.win.arr_inj w
  refine ⟨(arr 3).trans ?_, (arr 4).trans ?_, (arr 5).trans ?_⟩
  · rw [← e0, ← e1]; exact pooled3 _ c (by rw [e1]; exact hs 3)
  · rw [← e2]; exact sel3 _ c
  · rw [← e0, ← e1]; exact attn3 _ c (by rw [e1]; exact hs 3)

/-- A result of call 0 is still there after call 3. -/
theorem kept0 (r : Ref sig .tc) (h3 : r ∉ hostOps1_W) (h4 : r ∉ ([main_v3_0, main_v3_1, main_v3_2] : List (Ref sig .tc)))
    (h5 : r ∉ hostOps2_W) (h6 : r ∉ ([main_v5_0, main_v5_1, main_v5_2] : List (Ref sig .tc))) (h7 : r ∉ hostOps3_W)
    (h8 : r ∉ ([main_v7_0, main_v7_1, main_v7_2] : List (Ref sig .tc))) : V8 m (left m) c r = V2 m (left m) c r :=
  (V8_of m (left m) c r h8).trans <| (V7_of m (left m) c r h7).trans <| (V6_of m (left m) c r h6).trans <|
    (V5_of m (left m) c r h5).trans <| (V4_of m (left m) c r h4).trans <| V3_of m (left m) c r h3

/-- A result of call 1 is still there after call 3. -/
theorem kept1 (r : Ref sig .tc) (h5 : r ∉ hostOps2_W) (h6 : r ∉ ([main_v5_0, main_v5_1, main_v5_2] : List (Ref sig .tc)))
    (h7 : r ∉ hostOps3_W) (h8 : r ∉ ([main_v7_0, main_v7_1, main_v7_2] : List (Ref sig .tc))) : V8 m (left m) c r = V4 m (left m) c r :=
  (V8_of m (left m) c r h8).trans <| (V7_of m (left m) c r h7).trans <| (V6_of m (left m) c r h6).trans <| V5_of m (left m) c r h5

/-- A result of call 2 is still there after call 3. -/
theorem kept2 (r : Ref sig .tc) (h7 : r ∉ hostOps3_W) (h8 : r ∉ ([main_v7_0, main_v7_1, main_v7_2] : List (Ref sig .tc))) :
    V8 m (left m) c r = V6 m (left m) c r :=
  (V8_of m (left m) c r h8).trans <| V7_of m (left m) c r h7

include hs in
/-- The program's first result: every batch row's pooled embedding. -/
theorem pooled_all : V9 m (left m) c main_v9 = pooledAll (features m c) (rowsAll m c) :=
  tail_pooled (V8 m (left m) c) _ _
    ((kept0 m c main_v1_0 (by decide) (by decide) (by decide) (by decide) (by decide) (by decide)).trans (results0 m c hs).1)
    ((kept1 m c main_v3_0 (by decide) (by decide) (by decide) (by decide)).trans (results1 m c hs).1)
    ((kept2 m c main_v5_0 (by decide) (by decide)).trans (results2 m c hs).1) (results3 m c hs).1

include hs in
/-- The program's second result: the selected positions. -/
theorem sel_all : V9 m (left m) c main_v11 = positions m c :=
  tail_sel (V8 m (left m) c) _
    ((kept0 m c main_v1_1 (by decide) (by decide) (by decide) (by decide) (by decide) (by decide)).trans (results0 m c hs).2.1)
    ((kept1 m c main_v3_1 (by decide) (by decide) (by decide) (by decide)).trans (results1 m c hs).2.1)
    ((kept2 m c main_v5_1 (by decide) (by decide)).trans (results2 m c hs).2.1) (results3 m c hs).2.1

include hs in
/-- The program's third result: every batch row's attention weights. -/
theorem attn_all : V9 m (left m) c main_v13 = attnAll (features m c) (rowsAll m c) :=
  tail_attn (V8 m (left m) c) _ _
    ((kept0 m c main_v1_2 (by decide) (by decide) (by decide) (by decide) (by decide) (by decide)).trans (results0 m c hs).2.2)
    ((kept1 m c main_v3_2 (by decide) (by decide) (by decide) (by decide)).trans (results1 m c hs).2.2)
    ((kept2 m c main_v5_2 (by decide) (by decide)).trans (results2 m c hs).2.2) (results3 m c hs).2.2

/-- Every run of the program, when every scale is nonnegative and finite: it ends with the pooled embeddings, the
selected positions and the attention weights in its results and its arguments as launched. -/
theorem run_values (m : (ℓ : Loc nD τ sig) → Buf (Elt Ideal) ℓ) (ρ : Dev nD → PrngReg) (hs : ∀ c, AllOk m c) :
    θ_run defs (onTc (τ := τ) (main (F := Ideal))) ⟨m, fun _ => 0, ρ⟩ (fun r => ∀ c : Dev nD,
      r.2.mem ((c.tc : Thread nD τ).loc main_v9) = pooledAll (features m c) (rowsAll m c)
      ∧ r.2.mem ((c.tc : Thread nD τ).loc main_v11) = positions m c
      ∧ r.2.mem ((c.tc : Thread nD τ).loc main_v13) = attnAll (features m c) (rowsAll m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h.1 c _ (devRef_mem_ucRefs rfl)).trans (pooled_all m c (hs c)), (h.1 c _ (devRef_mem_ucRefs rfl)).trans (sel_all m c (hs c)),
     (h.1 c _ (devRef_mem_ucRefs rfl)).trans (attn_all m c (hs c)),
     (h.1 c _ (devRef_mem_ucRefs rfl)).trans (V9_main_arg0 m (left m) c),
     (h.1 c _ (devRef_mem_ucRefs rfl)).trans (V9_main_arg1 m (left m) c),
     (h.1 c _ (devRef_mem_ucRefs rfl)).trans (V9_main_arg2 m (left m) c),
     (h.1 c _ (devRef_mem_ucRefs rfl)).trans (V9_main_arg3 m (left m) c),
     (h.1 c _ (devRef_mem_ucRefs rfl)).trans (V9_main_arg4 m (left m) c),
     (h.1 c _ (devRef_mem_ucRefs rfl)).trans (V9_main_arg5 m (left m) c)⟩) (run_all m ρ)

end

end Cert.KernelIdeal.Attend

end
-- ==== Proof.ValueBody.lean ====
/-
  The reference's host layout and its body's arithmetic, read at one index.
-/
module

public import proofs.«01_k».proof.Proof.ValueKernel
public import proofs.«01_k».proof.Proof.Gen.ReferenceIdeal.Value
public import Idealize.ShloMosaic.Lib.Pointwise
public import Idealize.ShloMosaic.Lib.BitcastConvert
public import Idealize.ShloMosaic.Lib.Pipeline.ValueKit

@[expose] public section

set_option maxRecDepth 16384

noncomputable section

namespace Cert.ReferenceIdeal.Attend

open Idealize.ShloMosaic Idealize.ShloMosaic.TcCoe Idealize.SL.Sem
open Idealize.ShloMosaic.Pipeline Idealize.ShloMosaic.Rounds
open Cert.ReferenceIdeal Cert.ReferenceIdeal.Gen
open Cert.KernelIdeal.Attend (Rows codeAt scaleAt keyAt scoreAt softmaxAt attnAt pooledAt gathered itemRows pooledAll attnAll)

/-! ## The body's arithmetic at one index -/

section
variable (codes : Vec Ideal S3072x64x96 .fp8e4m3) (scales : Vec Ideal S3072x64x96 .f32) (x : Vec Ideal S3072x1x96 .bf16)

/-- The scaled dot product of batch row `b` with item `n`, before the temperature. -/
def dots (b : Fin 3072) (n : Fin 64) : EReal :=
  ∑ d : Fin 96, (x (ix3 b 0 d) : EReal) * ((codes (ix3 b n d) : EReal) * (scales (ix3 b n d) : EReal))

/-- The attention weights of the body are the softmax of the scaled dot products. -/
theorem weights_apply (b : Fin 3072) (n : Fin 64) :
    k0_pay2 (F := Ideal) codes scales x (ix2 b n) = softmaxAt (dots codes scales x b) n := by
  pointwise [k0_pay2, k0_pay1]
  rfl

/-- The pooled embeddings of the body. -/
theorem mean_apply (b : Fin 3072) (d : Fin 96) :
    k0_pay3 (F := Ideal) codes scales x (ix2 b d)
      = ∑ n, softmaxAt (dots codes scales x b) n * ((codes (ix3 b n d) : EReal) * (scales (ix3 b n d) : EReal)) := by
  pointwise [k0_pay3, k0_pay1]
  simp only [weights_apply]

/-- When the body reads the features, the codes and the scales, its weights are the attention weights. -/
theorem weights_at (X : Vec Ideal S3072x96 .bf16) (rows : Fin 4 → Vec Ideal S12288x128 .i32) (hx : ∀ b d, x (ix3 b 0 d) = X (ix2 b d))
    (hc : ∀ b n d, codes (ix3 b n d) = codeAt (itemRows rows b) n d)
    (hs : ∀ b n d, scales (ix3 b n d) = scaleAt (itemRows rows b) n ⟨d.val / 32, by have := d.isLt; omega⟩) (b : Fin 3072) (n : Fin 64) :
    k0_pay2 (F := Ideal) codes scales x (ix2 b n) = attnAll X rows (ix2 b n) := by
  rw [weights_apply]
  have e : dots codes scales x b = scoreAt (fun d => X (ix2 b d)) (itemRows rows b) := by
    funext n
    exact Finset.sum_congr rfl fun d _ => by rw [hx, hc, hs]; rfl
  rw [e]
  rfl

/-- When the body reads the features, the codes and the scales, its means are the pooled embeddings. -/
theorem mean_at (X : Vec Ideal S3072x96 .bf16) (rows : Fin 4 → Vec Ideal S12288x128 .i32) (hx : ∀ b d, x (ix3 b 0 d) = X (ix2 b d))
    (hc : ∀ b n d, codes (ix3 b n d) = codeAt (itemRows rows b) n d)
    (hs : ∀ b n d, scales (ix3 b n d) = scaleAt (itemRows rows b) n ⟨d.val / 32, by have := d.isLt; omega⟩) (b : Fin 3072) (d : Fin 96) :
    k0_pay3 (F := Ideal) codes scales x (ix2 b d) = pooledAll X rows (ix2 b d) := by
  have e (n : Fin 64) : softmaxAt (dots codes scales x b) n = attnAt (fun d => X (ix2 b d)) (itemRows rows b) n :=
    (weights_apply codes scales x b n).symm.trans (weights_at codes scales x X rows hx hc hs b n)
  rw [mean_apply]
  show _ = ∑ n, attnAt (fun d => X (ix2 b d)) (itemRows rows b) n * keyAt (itemRows rows b) n d
  exact Finset.sum_congr rfl fun n _ => by rw [e, hc, hs]; rfl

end

/-! ## The host's layout at one index -/

/-- Where the word at batch row `b`, item `n`, place `w` lies in the row arrays. -/
theorem row_of (rows : Fin 4 → Vec Ideal S12288x128 .i32) (p : Fin 4) (b : Fin 3072) (n : Fin 64) (w : Fin 32) (r : Fin 12288) (l : Fin 128)
    (hp : b.val / 768 = p.val) (hr : r.val = 2048 * (b.val % 768 / 128) + 128 * (n.val / 4) + b.val % 768 % 128)
    (hl : l.val = n.val % 4 * 32 + w.val) : rows p (ix2 r l) = itemRows rows b n w := by
  have hb := b.isLt
  have ep : (⟨b.val / 768, by omega⟩ : Fin 4) = p := Fin.ext hp
  have er : r = ⟨2048 * (b.val % 768 / 128) + 128 * (n.val / 4) + b.val % 768 % 128, by have := n.isLt; omega⟩ := Fin.ext hr
  have el : l = ⟨32 * (n.val % 4) + w.val, by have := w.isLt; omega⟩ := Fin.ext (by rw [hl]; simp only; omega)
  unfold itemRows gathered
  rw [ep, er, el]

/-- The rows laid out as one word per batch row, item and place. -/
def words (rows : Fin 4 → Vec Ideal S12288x128 .i32) : Vec Ideal S3072x64x32 .i32 :=
  shapeCast S3072x64x32 (transpose S24x128x16x4x32 [0, 2, 1, 3, 4] (shapeCast S24x16x128x4x32
    (concatenate S49152x128 0 [⟨S12288x128, rows 0⟩, ⟨S12288x128, rows 1⟩, ⟨S12288x128, rows 2⟩, ⟨S12288x128, rows 3⟩]
      concatenates_S12288x128_S12288x128_S12288x128_S12288x128_S49152x128_d0)
    shapeCasts_S49152x128_S24x16x128x4x32) transposes_S24x16x128x4x32_S24x128x16x4x32_0_2_1_3_4) shapeCasts_S24x128x16x4x32_S3072x64x32

/-- They are the words gathered for each batch row. -/
theorem words_apply (rows : Fin 4 → Vec Ideal S12288x128 .i32) (b : Fin 3072) (n : Fin 64) (w : Fin 32) :
    words rows (ix3 b n w) = itemRows rows b n w := by
  have hb := b.isLt
  have hn := n.isLt
  pointwise [words]
  split
  · exact row_of rows 0 b n w ⟨_, _⟩ ⟨_, _⟩ (by simp; omega) (by simp only; omega) rfl
  split
  · exact row_of rows 1 b n w ⟨_, _⟩ ⟨_, _⟩ (by simp; omega) (by simp only; omega) rfl
  split
  · exact row_of rows 2 b n w ⟨_, _⟩ ⟨_, _⟩ (by simp; omega) (by simp only; omega) rfl
  · exact row_of rows 3 b n w ⟨_, _⟩ ⟨_, _⟩ (by simp; omega) (by simp only; omega) rfl

/-- The codes: the bytes of the first 24 words. -/
def codesOf (x : Vec Ideal S3072x64x32 .i32) : Vec Ideal S3072x64x96 .fp8e4m3 :=
  shapeCast S3072x64x96 (bitcastToFloat (F := Ideal) .fp8e4m3 (Host.bitcastConvertNarrow S3072x64x24x4 8
    (extractStridedSlice S3072x64x24 ![0, 0, 0] x slices_S3072x64x32_S3072x64x24_0_0_0) splits_S3072x64x24_w32_S3072x64x24x4_w8))
    shapeCasts_S3072x64x24x4_S3072x64x96

/-- The code of feature `d` is byte `d % 4` of word `d / 4`. -/
theorem codesOf_apply (x : Vec Ideal S3072x64x32 .i32) (b : Fin 3072) (n : Fin 64) (d : Fin 96) :
    codesOf x (ix3 b n d) = codeAt (fun n w => x (ix3 b n w)) n d := by
  pointwise [codesOf]
  show _ = Ideal.ofBits .fp8e4m3 (BitVec.extractLsb' (8 * (d.val % 4)) 8 (x (ix3 b n ⟨d.val / 4, by have := d.isLt; omega⟩)))
  rw [Nat.mul_comm 8]

/-- The scales: the next three words, each for 32 features. -/
def scalesOf (x : Vec Ideal S3072x64x32 .i32) : Vec Ideal S3072x64x96 .f32 :=
  shapeCast S3072x64x96 (broadcastInDim S3072x64x3x32 ![0, 1, 2] bcast_S3072x64x3_S3072x64x3x32_0_1_2
    (bitcastToFloat (F := Ideal) .f32 (extractStridedSlice S3072x64x3 ![0, 0, 24] x slices_S3072x64x32_S3072x64x3_0_0_24)))
    shapeCasts_S3072x64x3x32_S3072x64x96

/-- The scale of feature `d` is word `24 + d / 32`. -/
theorem scalesOf_apply (x : Vec Ideal S3072x64x32 .i32) (b : Fin 3072) (n : Fin 64) (d : Fin 96) :
    scalesOf x (ix3 b n d) = scaleAt (fun n w => x (ix3 b n w)) n ⟨d.val / 32, by have := d.isLt; omega⟩ := by
  pointwise [scalesOf]
  rfl

end Cert.ReferenceIdeal.Attend

end
-- ==== Proof.ValueReference.lean ====
/-
  The two computed results of the reference as functions of its arguments.
-/
module

public import proofs.«01_k».proof.Proof.ValueBody
public import proofs.«01_k».proof.Proof.Gen.ReferenceIdeal.Value
public import Idealize.ShloMosaic.Lib.Pointwise
public import Idealize.ShloMosaic.Lib.Pipeline.ValueKit

@[expose] public section

set_option maxRecDepth 16384

noncomputable section

namespace Cert.ReferenceIdeal.Attend

open Idealize.ShloMosaic Idealize.ShloMosaic.TcCoe Idealize.SL.Sem
open Idealize.ShloMosaic.Pipeline Idealize.ShloMosaic.Rounds
open Cert.ReferenceIdeal Cert.ReferenceIdeal.Gen
open Cert.KernelIdeal.Attend (Rows codeAt scaleAt keyAt scoreAt softmaxAt attnAt pooledAt gathered itemRows pooledAll attnAll)

/-! ## What the body reads -/

section
variable (m : (ℓ : Loc nD τ sig) → Buf (Elt Ideal) ℓ) (c : Dev nD)

/-- The gathered rows, as launched. -/
def rowsAll : Fin 4 → Vec Ideal S12288x128 .i32
  | 0 => m ((c : Thread nD τ).loc main_arg1)
  | 1 => m ((c : Thread nD τ).loc main_arg2)
  | 2 => m ((c : Thread nD τ).loc main_arg3)
  | 3 => m ((c : Thread nD τ).loc main_arg4)

/-- The features the body reads. -/
theorem entry_x (b : Fin 3072) (d : Fin 96) :
    V m c main_v11 (ix3 b 0 d) = m ((c : Thread nD τ).loc main_arg0) (ix2 b d) := by
  show StableHlo.after hostOps0 (fun b => m (c, b)) (Proc.devRef .tc main_v11) (ix3 b 0 d) = _
  after_reads_at

/-- The codes the body reads. -/
theorem entry_codes : V m c main_v6 = codesOf (words (rowsAll m c)) := by
  entry_read
  rfl

/-- The scales the body reads. -/
theorem entry_scales : V m c main_v10 = scalesOf (words (rowsAll m c)) := by
  entry_read
  rfl

/-- The code of batch row `b`, item `n`, feature `d`. -/
theorem entry_code (b : Fin 3072) (n : Fin 64) (d : Fin 96) :
    V m c main_v6 (ix3 b n d) = codeAt (itemRows (rowsAll m c) b) n d :=
  (congrFun (entry_codes m c) _).trans <| (codesOf_apply _ b n d).trans <|
    congrArg (fun W => codeAt W n d) (funext fun n => funext fun w => words_apply _ b n w)

/-- The scale of batch row `b`, item `n`, feature `d`. -/
theorem entry_scale (b : Fin 3072) (n : Fin 64) (d : Fin 96) :
    V m c main_v10 (ix3 b n d) = scaleAt (itemRows (rowsAll m c) b) n ⟨d.val / 32, by have := d.isLt; omega⟩ :=
  (congrFun (entry_scales m c) _).trans <| (scalesOf_apply _ b n d).trans <|
    congrArg (fun W => scaleAt W n _) (funext fun n => funext fun w => words_apply _ b n w)

/-- The body has one block of each array. -/
theorem index : ∀ t : Fin cfg0.N, win0_0.index t = ![0, 0, 0] ∧ win0_1.index t = ![0, 0, 0] ∧ win0_2.index t = ![0, 0, 0]
    ∧ win0_3.index t = ![0, 0] ∧ win0_4.index t = ![0, 0] :=
  (by decide +kernel : ∀ t : Fin grid0.N, _)

/-- The blocks of the body's inputs, read off their arrays. -/
theorem read_x (t : Fin cfg0.N) (b : Fin 3072) (d : Fin 96) :
    iblk m c 0 t (ix3 b 0 d) = m ((c : Thread nD τ).loc main_arg0) (ix2 b d) :=
  (show iblk m c 0 t (ix3 b 0 d) = V m c main_v11 (ix3 b 0 d) by blk_ext [iblk, index t]).trans (entry_x m c b d)
/-- The block of the codes, read at one index. -/
theorem read_code (t : Fin cfg0.N) (b : Fin 3072) (n : Fin 64) (d : Fin 96) :
    iblk m c 1 t (ix3 b n d) = codeAt (itemRows (rowsAll m c) b) n d :=
  (show iblk m c 1 t (ix3 b n d) = V m c main_v6 (ix3 b n d) by blk_ext [iblk, index t]).trans (entry_code m c b n d)
/-- The block of the scales, read at one index. -/
theorem read_scale (t : Fin cfg0.N) (b : Fin 3072) (n : Fin 64) (d : Fin 96) :
    iblk m c 2 t (ix3 b n d) = scaleAt (itemRows (rowsAll m c) b) n ⟨d.val / 32, by have := d.isLt; omega⟩ :=
  (show iblk m c 2 t (ix3 b n d) = V m c main_v10 (ix3 b n d) by blk_ext [iblk, index t]).trans (entry_scale m c b n d)

/-- Where a block of the results sits in its array. -/
theorem place (t : Fin cfg0.N) (b : Fin 3072) (n : Fin 64) (d : Fin 96) :
    (win0_3.blk t).view.emb (ix2 b d) = ix2 b d ∧ (win0_4.blk t).view.emb (ix2 b n) = ix2 b n := by
  refine ⟨?_, ?_⟩ <;> blk_ext [index t]

/-- The pooled embeddings that the reference leaves. -/
theorem pooled_ref : (dats m 0 c).arrAt 3 cfg0.N = pooledAll (m ((c : Thread nD τ).loc main_arg0)) (rowsAll m c) := by
  refine (dats m 0 c).arrAt_eq_of_covers 3 _ (by decide +kernel) fun t hf y => ?_
  blk_simp
  obtain ⟨b, d, rfl⟩ : ∃ (b : Fin 3072) (d : Fin 96), y = ix2 b d := ⟨y 0, y 1, eq_ix2 y⟩
  rw [(place t b 0 d).1, after0_3]
  frame_out
  exact mean_at _ _ _ _ _ (read_x m c t) (read_code m c t) (read_scale m c t) b d

/-- The attention weights that the reference leaves. -/
theorem attn_ref : (dats m 0 c).arrAt 4 cfg0.N = attnAll (m ((c : Thread nD τ).loc main_arg0)) (rowsAll m c) := by
  refine (dats m 0 c).arrAt_eq_of_covers 4 _ (by decide +kernel) fun t hf y => ?_
  blk_simp
  obtain ⟨b, n, rfl⟩ : ∃ (b : Fin 3072) (n : Fin 64), y = ix2 b n := ⟨y 0, y 1, eq_ix2 y⟩
  rw [(place t b n 0).2, after0_4]
  frame_out
  exact weights_at _ _ _ _ _ (read_x m c t) (read_code m c t) (read_scale m c t) b n

end

end Cert.ReferenceIdeal.Attend
-- ==== Proof.ValuePre.lean ====
/-
  The precondition read at one scale: every scale is nonnegative and finite.
-/
module

public import proofs.«01_k».proof.Proof.ValueKernel
public import proofs.«01_k».proof.Defs
public import Idealize.ShloMosaic.Lib.Pointwise
public import Idealize.ShloMosaic.Lib.Tactic.WordOmega

@[expose] public section

set_option maxRecDepth 16384

noncomputable section

namespace Cert.Pre_scales_nonneg

/-- The precondition's shape relations hold. -/
theorem facts : Facts where
  bcast_S_S12288x128 := by decide

end Cert.Pre_scales_nonneg

namespace Cert.KernelIdeal.Attend

open Idealize.ShloMosaic Idealize.ShloMosaic.TcCoe Idealize.SL.Sem
open Cert.KernelIdeal Cert.KernelIdeal.Gen

/-- A word below the infinity's pattern and without sign bit denotes a nonnegative finite number. -/
theorem scaleOf_nonneg (v : BitVec 32) (h : v.toNat < 0x7F800000) : Nonneg (scaleOf v) := by
  have hneg : (v.extractLsb' 31 1 == 1#1) = false := by
    have : v.extractLsb' 31 1 = 0#1 := by
      apply BitVec.eq_of_toNat_eq
      simp [BitVec.extractLsb'_toNat, Nat.shiftRight_eq_div_pow]
      omega
    rw [this]; rfl
  have hex : (v.extractLsb' 23 8).toNat ≠ 255 := by
    simp [BitVec.extractLsb'_toNat, Nat.shiftRight_eq_div_pow]
    omega
  show 0 ≤ Ideal.ieee 8 23 v ∧ Ideal.ieee 8 23 v ≠ ⊤
  unfold Ideal.ieee
  simp only [show (8 + 23 : ℕ) = 31 from rfl, hneg]
  rw [if_neg (by simpa using hex)]
  split
  · exact ⟨EReal.coe_nonneg.2 (by simp), EReal.coe_ne_top _⟩
  · exact ⟨EReal.coe_nonneg.2 (by simp; positivity), EReal.coe_ne_top _⟩

/-- At a scale's column the precondition asks for its two comparisons. -/
theorem column (l : Fin 128) (hl : 24 ≤ l.val % 32 ∧ l.val % 32 ≤ 26) :
    IntOp.andi (IntOp.cmpi .sge (IntOp.andi (BitVec.ofNat 32 l.val) 31#32) 24#32)
      (IntOp.cmpi .sle (IntOp.andi (BitVec.ofNat 32 l.val) 31#32) 26#32) = 1#1 := by
  revert l
  decide +kernel

/-- Both operands of a conjunction that is one are one. -/
theorem both (a b : BitVec 1) (h : IntOp.andi a b = 1#1) : a = 1#1 ∧ b = 1#1 := by
  revert a b
  decide

/-- A word that passes the two comparisons is below the infinity's pattern. -/
theorem below (a : BitVec 1) (v : BitVec 32) (ha : a = 1#1)
    (h : IntOp.ori (~~~a) (IntOp.andi (IntOp.cmpi .sge v 0#32) (IntOp.cmpi .slt v 2139095040#32)) = 1#1) : v.toNat < 2139095040 := by
  subst ha
  have h' : IntOp.andi (IntOp.cmpi .sge v 0#32) (IntOp.cmpi .slt v 2139095040#32) = 1#1 := by
    revert h
    generalize IntOp.andi (IntOp.cmpi .sge v 0#32) (IntOp.cmpi .slt v 2139095040#32) = z
    revert z
    decide
  obtain ⟨h0, h1⟩ := both _ _ h'
  have ofBool (z : Bool) (hz : BitVec.ofBool z = 1#1) : z = true := by revert z; decide
  have e0 : (0#32).toInt ≤ v.toInt := BitVec.sle_iff_toInt_le.1 (ofBool _ (by simpa [IntOp.cmpi] using h0))
  have e1 : v.toInt < (2139095040#32).toInt := BitVec.slt_iff_toInt_lt.1 (ofBool _ (by simpa [IntOp.cmpi] using h1))
  have c0 : (0#32).toInt = 0 := by decide
  have c1 : (2139095040#32).toInt = 2139095040 := by decide
  have hv := v.isLt
  have d := BitVec.toInt_eq_toNat_cond v
  split at d <;> omega

/-- The precondition at one word. -/
theorem pre_at [Cert.Pre_scales_nonneg.Facts] (x : Vec Ideal S3072x96 .bf16) (r0 r1 r2 r3 : Vec Ideal S12288x128 .i32) (pos : Vec Ideal S3072x64 .i32)
    (h : Cert.Pre_scales_nonneg.fn (F := Ideal) x r0 r1 r2 r3 pos = fun _ => 1#1) (r : Fin 12288) (l : Fin 128) (hl : 24 ≤ l.val % 32 ∧ l.val % 32 ≤ 26) :
    (r0 (ix2 r l)).toNat < 2139095040 ∧ (r1 (ix2 r l)).toNat < 2139095040 ∧ (r2 (ix2 r l)).toNat < 2139095040 ∧ (r3 (ix2 r l)).toNat < 2139095040 := by
  have e := congrFun h (ix2 r l)
  revert e
  pointwise [Cert.Pre_scales_nonneg.fn, Cert.Pre_scales_nonneg.fn_part1, Cert.Pre_scales_nonneg.fn_part2]
  intro e
  obtain ⟨e, e3⟩ := both _ _ e
  obtain ⟨e, e2⟩ := both _ _ e
  obtain ⟨e0, e1⟩ := both _ _ e
  exact ⟨below _ _ (column l hl) e0, below _ _ (column l hl) e1, below _ _ (column l hl) e2, below _ _ (column l hl) e3⟩

/-- The precondition gives nonnegative finite scales in the gathered rows of all four calls. -/
theorem allOk [inst : Cert.Pre_scales_nonneg.Facts] (m : (ℓ : Loc nD τ sig) → Buf (Elt Ideal) ℓ) (h : Cert.Pre_KernelIdeal_scales_nonneg m) (c : Dev nD) :
    AllOk m c := by
  intro p b n i
  have hb := b.isLt
  have hn := n.isLt
  have hi := i.isLt
  have key := pre_at _ _ _ _ _ _ (h c) ⟨2048 * (b.val / 128) + 128 * (n.val / 4) + b.val % 128, by omega⟩
    ⟨32 * (n.val % 4) + (24 + i.val), by omega⟩ (by simp only; omega)
  match p with
  | 0 => exact scaleOf_nonneg _ key.1
  | 1 => exact scaleOf_nonneg _ key.2.1
  | 2 => exact scaleOf_nonneg _ key.2.2.1
  | 3 => exact scaleOf_nonneg _ key.2.2.2

end Cert.KernelIdeal.Attend

end
-- ==== Proof.Dist.Bytes.lean ====
/-
  Arithmetic on words of four bytes: the packed distances, the counting of bytes at most a level, and counts of
  positions. Nothing here speaks of the program.
-/
module

public import Idealize.ShloMosaic.Lib.PackedFields
public import Idealize.ShloMosaic.Lib.WordArith
public import Idealize.ShloMosaic.Lib.WordSum

@[expose] public section

namespace Cert.Distances.Hamming

open Idealize.ShloMosaic
open Idealize.ShloMosaic.PackedFields (field field_eq_div testBit_field field_addi)

/-- Byte `b` of a word. -/
abbrev byte (b : ℕ) (x : BitVec 32) : ℕ := field 8 b x.toNat

/-- The four bytes of a word, as quotients and remainders. -/
theorem byte_div (x : BitVec 32) :
    byte 0 x = x.toNat % 256 ∧ byte 1 x = x.toNat / 256 % 256 ∧ byte 2 x = x.toNat / 65536 % 256 ∧ byte 3 x = x.toNat / 16777216 % 256 := by
  refine ⟨?_, ?_, ?_, ?_⟩ <;> simp [byte, field_eq_div]

/-- A byte is less than 256. -/
theorem byte_lt (b : ℕ) (x : BitVec 32) : byte b x < 256 := by
  unfold byte; rw [field_eq_div]; exact Nat.mod_lt _ (by decide)

/-- A word is its bytes, each at its place. -/
theorem toNat_bytes (x : BitVec 32) : x.toNat = byte 0 x + 256 * byte 1 x + 65536 * byte 2 x + 16777216 * byte 3 x := by
  obtain ⟨e0, e1, e2, e3⟩ := byte_div x
  have hl := x.isLt
  rw [e0, e1, e2, e3]
  omega

/-- A word put together from four bytes has these bytes. -/
theorem bytes_eq (x : BitVec 32) (a0 a1 a2 a3 : ℕ) (h0 : a0 < 256) (h1 : a1 < 256) (h2 : a2 < 256) (h3 : a3 < 256)
    (h : x.toNat = a0 + 256 * a1 + 65536 * a2 + 16777216 * a3) : byte 0 x = a0 ∧ byte 1 x = a1 ∧ byte 2 x = a2 ∧ byte 3 x = a3 := by
  have hx := toNat_bytes x
  have := byte_lt 0 x; have := byte_lt 1 x; have := byte_lt 2 x; have := byte_lt 3 x
  generalize byte 0 x = b0 at *; generalize byte 1 x = b1 at *; generalize byte 2 x = b2 at *; generalize byte 3 x = b3 at *
  omega

/-- Bytes at most 127, taken from bytes at least 128 that do not exceed 192: no byte borrows. -/
theorem byte_subi (mid : ℕ) (hm : mid ≤ 64) (c w : BitVec 32) (hc : c.toNat = (mid + 128) * 16843009)
    (hw : ∀ b < 4, byte b w ≤ 127) (b : ℕ) (hb : b < 4) : byte b (IntOp.subi c w) = mid + 128 - byte b w := by
  have h0 := hw 0 (by decide); have h1 := hw 1 (by decide); have h2 := hw 2 (by decide); have h3 := hw 3 (by decide)
  have hx := toNat_bytes w
  have hs : (IntOp.subi c w).toNat = (mid + 128 - byte 0 w) + 256 * (mid + 128 - byte 1 w) + 65536 * (mid + 128 - byte 2 w) + 16777216 * (mid + 128 - byte 3 w) := by
    unfold IntOp.subi
    rw [BitVec.toNat_sub, hc, hx]
    generalize byte 0 w = b0 at *; generalize byte 1 w = b1 at *; generalize byte 2 w = b2 at *; generalize byte 3 w = b3 at *
    omega
  obtain ⟨f0, f1, f2, f3⟩ := bytes_eq _ _ _ _ _ (by omega) (by omega) (by omega) (by omega) hs
  obtain rfl | rfl | rfl | rfl : b = 0 ∨ b = 1 ∨ b = 2 ∨ b = 3 := by omega
  exacts [f0, f1, f2, f3]

/-- The top bit of each byte, moved to the byte's foot. -/
theorem byte_top (u : ArithUnit) (x : BitVec 32) (b : ℕ) (hb : b < 4) :
    byte b (IntOp.shrui u (IntOp.andi x 2155905152#32) 7#32) = byte b x / 128 := by
  have hs : (IntOp.shrui u (IntOp.andi x 2155905152#32) 7#32).toNat = (x.toNat &&& 2155905152) >>> 7 := by
    unfold IntOp.shrui IntOp.andi
    rw [if_pos (by decide)]
    simp [BitVec.toNat_ushiftRight, BitVec.toNat_and]
  unfold byte
  rw [hs]
  refine Nat.eq_of_testBit_eq fun j => ?_
  rw [testBit_field, show field 8 b x.toNat / 128 = field 8 b x.toNat >>> 7 from by rw [Nat.shiftRight_eq_div_pow], Nat.testBit_shiftRight, Nat.testBit_shiftRight,
    testBit_field, Nat.testBit_and]
  by_cases hj : j = 0
  · subst hj
    obtain rfl | rfl | rfl | rfl : b = 0 ∨ b = 1 ∨ b = 2 ∨ b = 3 := by omega
    all_goals simp (decide := true)
  · by_cases h8 : j < 8
    · have hz : Nat.testBit 2155905152 (7 + (8 * b + j)) = false := by
        have : ∀ b < 4, ∀ j < 8, j ≠ 0 → Nat.testBit 2155905152 (7 + (8 * b + j)) = false := by decide
        exact this b hb j h8 hj
      rw [hz, show decide (7 + j < 8) = false from by simp; omega]
      simp
    · rw [show decide (j < 8) = false from by simpa using h8, show decide (7 + j < 8) = false from by simp; omega]
      simp

/-- One step of the counting, in byte `b`: one more if the byte is at most the level. -/
theorem byte_step (u : ArithUnit) (mid : ℕ) (hm : mid ≤ 64) (c w acc : BitVec 32) (hc : c.toNat = (mid + 128) * 16843009)
    (hw : ∀ b < 4, byte b w ≤ 127) (ha : ∀ b < 4, byte b acc < 255) (b : ℕ) (hb : b < 4) :
    byte b (IntOp.addi acc (IntOp.shrui u (IntOp.andi (IntOp.subi c w) 2155905152#32) 7#32)) = byte b acc + if byte b w ≤ mid then 1 else 0 := by
  have hd : ∀ b < 4, byte b (IntOp.shrui u (IntOp.andi (IntOp.subi c w) 2155905152#32) 7#32) = if byte b w ≤ mid then 1 else 0 := by
    intro b hb
    rw [byte_top u _ b hb, byte_subi mid hm c w hc hw b hb]
    have := hw b hb
    split <;> omega
  unfold byte
  rw [field_addi (N := 32) (w := 8) (n := 4) rfl _ _ (fun k hk => by
    have h1 := ha k hk
    have h2 := hd k hk
    unfold byte at h1 h2
    rw [h2]; split <;> omega) b hb]
  exact congrArg _ (hd b hb)

/-- Byte `b` of a word, taken out as the kernel takes it: shifted to the foot and cut to eight bits. -/
theorem toNat_byte (u : ArithUnit) (x s : BitVec 32) (b : ℕ) (hb : b < 4) (hs : s.toNat = 8 * b) :
    (IntOp.andi (IntOp.shrui u x s) 255#32).toNat = byte b x := by
  unfold IntOp.shrui IntOp.andi
  rw [if_pos (by omega)]
  show (x >>> s.toNat &&& 255#32).toNat = _
  rw [BitVec.toNat_and, BitVec.toNat_ushiftRight, hs]
  show x.toNat >>> (8 * b) &&& 2 ^ 8 - 1 = _
  rw [Nat.and_two_pow_sub_one_eq_mod]
  rfl

/-- Four distances packed in a word, each at most 127: the word's value. -/
theorem toNat_pack (u : ArithUnit) (d0 d1 d2 d3 : BitVec 32) (h0 : d0.toNat ≤ 127) (h1 : d1.toNat ≤ 127) (h2 : d2.toNat ≤ 127) (h3 : d3.toNat ≤ 127) :
    (IntOp.ori (IntOp.ori (IntOp.ori d0 (IntOp.shli u d1 8#32)) (IntOp.shli u d2 16#32)) (IntOp.shli u d3 24#32)).toNat
      = d0.toNat + 256 * d1.toNat + 65536 * d2.toNat + 16777216 * d3.toNat := by
  have e : ∀ (a d : BitVec 32) (k : ℕ) (s : BitVec 32), s.toNat = k → k ≤ 24 → d.toNat ≤ 127 → a.toNat < 2 ^ k →
      (IntOp.ori a (IntOp.shli u d s)).toNat = a.toNat + 2 ^ k * d.toNat := by
    intro a d k s hs hk hd ha
    unfold IntOp.shli IntOp.ori
    rw [if_pos (by omega)]
    show (a ||| d <<< s.toNat).toNat = _
    have hp : 2 ^ k ≤ 2 ^ 24 := Nat.pow_le_pow_right (by decide) hk
    have hm : 2 ^ k * d.toNat < 2 ^ 32 := by
      calc 2 ^ k * d.toNat ≤ 2 ^ 24 * 127 := Nat.mul_le_mul hp hd
        _ < 2 ^ 32 := by decide
    rw [BitVec.toNat_or, BitVec.toNat_shiftLeft, hs, Nat.shiftLeft_eq, Nat.mul_comm, Nat.mod_eq_of_lt hm, Nat.or_comm, Nat.mul_comm, ← Nat.shiftLeft_eq,
      ← Nat.shiftLeft_add_eq_or_of_lt ha, Nat.shiftLeft_eq]
    ring
  have a1 := e d0 d1 8 8#32 rfl (by decide) h1 (by omega)
  have a2 := e _ d2 16 16#32 rfl (by decide) h2 (by rw [a1]; omega)
  have a3 := e _ d3 24 24#32 rfl (by decide) h3 (by rw [a2, a1]; omega)
  rw [a3, a2, a1]
  rfl

/-- The bytes of such a word are the four distances. -/
theorem byte_pack (u : ArithUnit) (d0 d1 d2 d3 : BitVec 32) (h0 : d0.toNat ≤ 127) (h1 : d1.toNat ≤ 127) (h2 : d2.toNat ≤ 127) (h3 : d3.toNat ≤ 127) :
    byte 0 (IntOp.ori (IntOp.ori (IntOp.ori d0 (IntOp.shli u d1 8#32)) (IntOp.shli u d2 16#32)) (IntOp.shli u d3 24#32)) = d0.toNat ∧
    byte 1 (IntOp.ori (IntOp.ori (IntOp.ori d0 (IntOp.shli u d1 8#32)) (IntOp.shli u d2 16#32)) (IntOp.shli u d3 24#32)) = d1.toNat ∧
    byte 2 (IntOp.ori (IntOp.ori (IntOp.ori d0 (IntOp.shli u d1 8#32)) (IntOp.shli u d2 16#32)) (IntOp.shli u d3 24#32)) = d2.toNat ∧
    byte 3 (IntOp.ori (IntOp.ori (IntOp.ori d0 (IntOp.shli u d1 8#32)) (IntOp.shli u d2 16#32)) (IntOp.shli u d3 24#32)) = d3.toNat :=
  bytes_eq _ _ _ _ _ (by omega) (by omega) (by omega) (by omega) (toNat_pack u d0 d1 d2 d3 h0 h1 h2 h3)

/-! ### Sums over ranges -/

/-- A sum over `a * b` numbers, in `a` runs of `b`. -/
theorem sum_range_mul (a b : ℕ) (f : ℕ → ℕ) : ∑ k ∈ Finset.range (a * b), f k = ∑ i ∈ Finset.range a, ∑ j ∈ Finset.range b, f (b * i + j) := by
  induction a with
  | zero => simp
  | succ a ih => rw [Finset.sum_range_succ, ← ih, Nat.succ_mul, Finset.sum_range_add, Nat.mul_comm b a]

/-! ### The least level that reaches 64 -/

/-- A level is the least of the levels 0 to 63 whose count reaches 64, or 64 when none does. -/
structure IsThr (cnt : ℕ → ℕ) (T : ℕ) : Prop where
  le : T ≤ 64
  below : ∀ t < T, cnt t < 64
  reached : T < 64 → 64 ≤ cnt T

/-- There is only one such level. -/
theorem IsThr.unique {cnt : ℕ → ℕ} {T T' : ℕ} (h : IsThr cnt T) (h' : IsThr cnt T') : T = T' := by
  rcases Nat.lt_trichotomy T T' with hl | he | hl
  · have := h'.below T hl
    have := h.reached (lt_of_lt_of_le hl h'.le)
    omega
  · exact he
  · have := h.below T' hl
    have := h'.reached (lt_of_lt_of_le hl h.le)
    omega

/-- The interval of a bisection for that level: it lies inside, and the interval is short. -/
structure Bracket (cnt : ℕ → ℕ) (lo hi d : ℕ) : Prop where
  hi_le : hi ≤ 64
  lo_le : lo ≤ hi + 1
  crossed : lo = hi + 1 → hi = 64
  below : ∀ t < lo, t < 64 → cnt t < 64
  reached : hi < 64 → 64 ≤ cnt hi
  short : hi ≤ lo + d

/-- The bisection begins with all the levels. -/
theorem Bracket.start (cnt : ℕ → ℕ) : Bracket cnt 0 64 64 :=
  ⟨by omega, by omega, by omega, by omega, by omega, by omega⟩

/-- The middle of the interval is one of the levels. -/
theorem Bracket.mid_le {cnt : ℕ → ℕ} {lo hi d : ℕ} (h : Bracket cnt lo hi d) : (lo + hi) / 2 ≤ 64 := by
  have := h.hi_le; have := h.lo_le; omega

/-- One step of the bisection, by the count at the middle. -/
theorem Bracket.step {cnt : ℕ → ℕ} (hmono : ∀ s t, s ≤ t → cnt s ≤ cnt t) {lo hi d : ℕ} (h : Bracket cnt lo hi d) :
    Bracket cnt (if 64 ≤ cnt ((lo + hi) / 2) then lo else (lo + hi) / 2 + 1) (if 64 ≤ cnt ((lo + hi) / 2) then (lo + hi) / 2 else hi) (d / 2) := by
  obtain ⟨h1, h2, h3, h4, h5, h6⟩ := h
  by_cases hc : 64 ≤ cnt ((lo + hi) / 2)
  · rw [if_pos hc, if_pos hc]
    refine ⟨by omega, by omega, by omega, h4, fun _ => hc, by omega⟩
  · rw [if_neg hc, if_neg hc]
    refine ⟨h1, by omega, ?_, ?_, h5, by omega⟩
    · intro he
      by_contra hn
      have h7 := h5 (by omega)
      have h8 : (lo + hi) / 2 = hi := by omega
      rw [h8] at hc
      exact hc h7
    · intro t ht _
      have := hmono t ((lo + hi) / 2) (by omega)
      omega

/-- After seven halvings the upper end is the level looked for. -/
theorem Bracket.done {cnt : ℕ → ℕ} {lo hi : ℕ} (h : Bracket cnt lo hi 0) : IsThr cnt hi :=
  ⟨h.hi_le, fun t ht => h.below t (by have := h.short; omega) (by have := h.hi_le; omega), h.reached⟩

end Cert.Distances.Hamming
-- ==== Proof.Dist.Plain.lean ====
/-
  The distances, their packing and their counts, as plain functions of the three arguments: the queries' signatures,
  the items' signatures, the lengths.
-/
module

public import proofs.«01_k».proof.Proof.Dist.Bytes
public import Idealize.ShloMosaic.Lib.Pointwise

@[expose] public section

namespace Cert.Distances.Hamming

open Idealize.ShloMosaic

/-- The queries' signatures: two words a batch row. -/
abbrev Queries := (⟨2, ![3072, 2]⟩ : Shape).Idx → BitVec 32
/-- The items' signatures: two words an item. -/
abbrev Items := (⟨3, ![3072, 4096, 2]⟩ : Shape).Idx → BitVec 32
/-- The lengths: one a batch row. -/
abbrev Lens := (⟨1, ![3072]⟩ : Shape).Idx → BitVec 32

/-- The distance of item `p` of batch row `r` (positions beyond the last wrap round): the number of bits in which the
item's signature differs from the query's, or 127 from the row's length on. -/
def dist (q : Queries) (h : Items) (n : Lens) (r : Fin 3072) (p : ℕ) : BitVec 32 :=
  if (BitVec.ofNat 32 p).slt (n (ix1 (n0 := 3072) r)) then
    IntOp.addi (IntOp.ctpop (IntOp.xori (h (ix3 (n0 := 3072) (n1 := 4096) (n2 := 2) r ⟨p % 4096, Nat.mod_lt _ (by decide)⟩ 0)) (q (ix2 (n0 := 3072) (n1 := 2) r 0))))
      (IntOp.ctpop (IntOp.xori (h (ix3 (n0 := 3072) (n1 := 4096) (n2 := 2) r ⟨p % 4096, Nat.mod_lt _ (by decide)⟩ 1)) (q (ix2 (n0 := 3072) (n1 := 2) r 1))))
  else 127#32

/-- A distance is at most 127. -/
theorem dist_le (q : Queries) (h : Items) (n : Lens) (r : Fin 3072) (p : ℕ) : (dist q h n r p).toNat ≤ 127 := by
  unfold dist
  split
  · generalize IntOp.xori (h (ix3 (n0 := 3072) (n1 := 4096) (n2 := 2) r ⟨p % 4096, Nat.mod_lt _ (by decide)⟩ 0)) (q (ix2 (n0 := 3072) (n1 := 2) r 0)) = x
    generalize IntOp.xori (h (ix3 (n0 := 3072) (n1 := 4096) (n2 := 2) r ⟨p % 4096, Nat.mod_lt _ (by decide)⟩ 1)) (q (ix2 (n0 := 3072) (n1 := 2) r 1)) = y
    have hx := WordArith.toNat_ctpop_le x
    have hy := WordArith.toNat_ctpop_le y
    show (IntOp.ctpop x + IntOp.ctpop y).toNat ≤ 127
    rw [BitVec.toNat_add]
    exact (Nat.mod_le _ _).trans (by omega)
  · decide

/-- Four distances in one word. -/
def packed (q : Queries) (h : Items) (n : Lens) (r : Fin 3072) (s l : ℕ) : BitVec 32 :=
  IntOp.ori (IntOp.ori (IntOp.ori (dist q h n r (512 * s + l)) (IntOp.shli .vector (dist q h n r (512 * s + 128 + l)) 8#32))
    (IntOp.shli .vector (dist q h n r (512 * s + 256 + l)) 16#32)) (IntOp.shli .vector (dist q h n r (512 * s + 384 + l)) 24#32)

/-- All the words: eight rows of 128 to a batch row. -/
def wordsOf (q : Queries) (h : Items) (n : Lens) : (⟨2, ![24576, 128]⟩ : Shape).Idx → BitVec 32 := fun y =>
  packed q h n ⟨(y 0).val / 8, by have h0 : (y 0).val < 24576 := (y 0).isLt; omega⟩ ((y 0).val % 8) (y 1).val

/-- How many items of a batch row are at most a level away. -/
def count (q : Queries) (h : Items) (n : Lens) (r : Fin 3072) (t : ℕ) : ℕ :=
  ∑ p ∈ Finset.range 4096, if (dist q h n r p).toNat ≤ t then 1 else 0

/-- The four bytes of a packed word are its four distances. -/
theorem packed_bytes (q : Queries) (h : Items) (n : Lens) (r : Fin 3072) (s l : ℕ) :
    byte 0 (packed q h n r s l) = (dist q h n r (512 * s + l)).toNat ∧ byte 1 (packed q h n r s l) = (dist q h n r (512 * s + 128 + l)).toNat
      ∧ byte 2 (packed q h n r s l) = (dist q h n r (512 * s + 256 + l)).toNat ∧ byte 3 (packed q h n r s l) = (dist q h n r (512 * s + 384 + l)).toNat :=
  byte_pack .vector _ _ _ _ (dist_le ..) (dist_le ..) (dist_le ..) (dist_le ..)

/-- Every byte of a packed word is at most 127. -/
theorem packed_le (q : Queries) (h : Items) (n : Lens) (r : Fin 3072) (s l : ℕ) : ∀ b < 4, byte b (packed q h n r s l) ≤ 127 := by
  obtain ⟨e0, e1, e2, e3⟩ := packed_bytes q h n r s l
  intro b hb
  obtain rfl | rfl | rfl | rfl : b = 0 ∨ b = 1 ∨ b = 2 ∨ b = 3 := by omega
  · rw [e0]; exact dist_le ..
  · rw [e1]; exact dist_le ..
  · rw [e2]; exact dist_le ..
  · rw [e3]; exact dist_le ..

/-- The bytes of a row's 1024 words, counted, are its 4096 items, counted. -/
theorem count_eq (q : Queries) (h : Items) (n : Lens) (r : Fin 3072) (t : ℕ) (f : ℕ → BitVec 32)
    (hf : ∀ R < 1024, f R = packed q h n r (R / 128) (R % 128)) :
    ∑ R ∈ Finset.range 1024, ((if byte 0 (f R) ≤ t then 1 else 0) + (if byte 1 (f R) ≤ t then 1 else 0) + (if byte 2 (f R) ≤ t then 1 else 0)
      + (if byte 3 (f R) ≤ t then 1 else 0)) = count q h n r t := by
  unfold count
  rw [show (1024 : ℕ) = 8 * 128 from rfl, sum_range_mul 8 128, show (4096 : ℕ) = 8 * (4 * 128) from rfl, sum_range_mul 8 (4 * 128)]
  refine Finset.sum_congr rfl fun s hs => ?_
  rw [sum_range_mul 4 128, Finset.sum_comm]
  refine Finset.sum_congr rfl fun l hl => ?_
  have hs' := Finset.mem_range.1 hs
  have hl' := Finset.mem_range.1 hl
  rw [hf _ (by omega), show (128 * s + l) / 128 = s from by omega, show (128 * s + l) % 128 = l from by omega]
  obtain ⟨e0, e1, e2, e3⟩ := packed_bytes q h n r s l
  rw [e0, e1, e2, e3]
  simp only [Finset.sum_range_succ, Finset.sum_range_zero, Nat.zero_add]
  rw [show 4 * 128 * s + (128 * 0 + l) = 512 * s + l from by omega, show 4 * 128 * s + (128 * 1 + l) = 512 * s + 128 + l from by omega,
    show 4 * 128 * s + (128 * 2 + l) = 512 * s + 256 + l from by omega, show 4 * 128 * s + (128 * 3 + l) = 512 * s + 384 + l from by omega]

end Cert.Distances.Hamming
-- ==== Proof.Dist.Search.lean ====
/-
  The search over distance levels in the `distances` kernel as a counted loop: seven steps, each running the
  counting loop over the transposed words and narrowing the interval of levels.
-/
module

public import proofs.«01_k».proof.Proof.Gen.Distances.Loops
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.Distances.Hamming

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Distances Cert.Distances.Gen

variable {F : FTy → Type} [FloatOps F]

local notation "𝕄" => MT nD τ sig Unit (Elt F) ℕ (UR sig nD τ) ℕ

/-- One step of the search, at any interval `acc`: the transposed words stay as they are, and the step's result is
the function this definition carries. -/
@[irreducible] def trip2 (𝒱 : Variants) (c : Dev nD) (bd : Option 𝒱.V) (i : grid0.Coords) (arg1 : Memref sig .tc .smem S6144 .i32) (harg1 : arg1.IsWhole) (arg2 : Memref sig .tc .smem S3072 .i32) (harg2 : arg2.IsWhole) (arg3 : Memref sig .tc .vmem S8192x128 .i32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1024x128 .i32) (harg6 : arg6.IsWhole) (X : BufTy.Contents (Elt F) arg6.view.ty) (k : Fin k0_t2_loop.trips) :
    { R : IVec S1x128 32 × IVec S1x128 32 → IVec S1x128 32 × IVec S1x128 32 // ∀ (E : Set ℕ) (acc : IVec S1x128 32 × IVec S1x128 32),
      ((arg6.view.loc (c : Thread nD τ) ↦[arg6.view.set]{fullShare} X) : sProp 𝕄)
      ⊢ wp frame (wpE (defs₀ (F := F)) 𝒱 (c : Thread nD τ) bd) E (k0_t2_body (F := F) i arg1 harg1 arg2 harg2 arg3 harg3 arg4 harg4 arg5 harg5 arg6 harg6 k acc)
          (fun yld => iprop(⌜yld = R acc⌝ ∗ (arg6.view.loc (c : Thread nD τ) ↦[arg6.view.set]{fullShare} X))) } := by
  refine ⟨?_, fun E acc => ?run⟩
  case run =>
    unfold k0_t2_body; simp only [k0_part15_eq_skeleton, k0_part16_eq_skeleton]
    iintro HR
    sl_exec
    sl_step
    sl_close

/-- The interval after one step, from the interval `prev` before it. -/
@[irreducible] def step2 (𝒱 : Variants) (c : Dev nD) (bd : Option 𝒱.V) (i : grid0.Coords) (arg1 : Memref sig .tc .smem S6144 .i32) (harg1 : arg1.IsWhole) (arg2 : Memref sig .tc .smem S3072 .i32) (harg2 : arg2.IsWhole) (arg3 : Memref sig .tc .vmem S8192x128 .i32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1024x128 .i32) (harg6 : arg6.IsWhole) (X : BufTy.Contents (Elt F) arg6.view.ty) (k : ℕ) (prev : IVec S1x128 32 × IVec S1x128 32) : IVec S1x128 32 × IVec S1x128 32 :=
  if h : k < k0_t2_loop.trips then (trip2 (F := F) 𝒱 c bd i arg1 harg1 arg2 harg2 arg3 harg3 arg4 harg4 arg5 harg5 arg6 harg6 X ⟨k, h⟩).1 prev else prev

/-- The interval before step `k`, from the interval `init` at the start. -/
def st2 (𝒱 : Variants) (c : Dev nD) (bd : Option 𝒱.V) (i : grid0.Coords) (arg1 : Memref sig .tc .smem S6144 .i32) (harg1 : arg1.IsWhole) (arg2 : Memref sig .tc .smem S3072 .i32) (harg2 : arg2.IsWhole) (arg3 : Memref sig .tc .vmem S8192x128 .i32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1024x128 .i32) (harg6 : arg6.IsWhole) (X : BufTy.Contents (Elt F) arg6.view.ty) (init : IVec S1x128 32 × IVec S1x128 32) : ℕ → IVec S1x128 32 × IVec S1x128 32
  | 0 => init
  | k + 1 => step2 (F := F) 𝒱 c bd i arg1 harg1 arg2 harg2 arg3 harg3 arg4 harg4 arg5 harg5 arg6 harg6 X k (st2 𝒱 c bd i arg1 harg1 arg2 harg2 arg3 harg3 arg4 harg4 arg5 harg5 arg6 harg6 X init k)

/-- One more step of the search. -/
theorem st2_succ (𝒱 : Variants) (c : Dev nD) (bd : Option 𝒱.V) (i : grid0.Coords) (arg1 : Memref sig .tc .smem S6144 .i32) (harg1 : arg1.IsWhole) (arg2 : Memref sig .tc .smem S3072 .i32) (harg2 : arg2.IsWhole) (arg3 : Memref sig .tc .vmem S8192x128 .i32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1024x128 .i32) (harg6 : arg6.IsWhole) (X : BufTy.Contents (Elt F) arg6.view.ty) (init : IVec S1x128 32 × IVec S1x128 32) (k : Fin k0_t2_loop.trips) :
    st2 (F := F) 𝒱 c bd i arg1 harg1 arg2 harg2 arg3 harg3 arg4 harg4 arg5 harg5 arg6 harg6 X init (k.val + 1) = (trip2 (F := F) 𝒱 c bd i arg1 harg1 arg2 harg2 arg3 harg3 arg4 harg4 arg5 harg5 arg6 harg6 X k).1 (st2 (F := F) 𝒱 c bd i arg1 harg1 arg2 harg2 arg3 harg3 arg4 harg4 arg5 harg5 arg6 harg6 X init k.val) := by
  rw [st2.eq_2]; unfold step2; exact dif_pos k.isLt

set_option warn.classDefReducibility false in
/-- The search by its invariant: before step `k` the transposed words are untouched and the interval is `st2 … k`. -/
@[sl_loop] def loopInv2 (𝒱 : Variants) (c : Dev nD) (bd : Option 𝒱.V) (E : Set ℕ) (i : grid0.Coords) (arg1 : Memref sig .tc .smem S6144 .i32) (harg1 : arg1.IsWhole) (arg2 : Memref sig .tc .smem S3072 .i32) (harg2 : arg2.IsWhole) (arg3 : Memref sig .tc .vmem S8192x128 .i32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1024x128 .i32) (harg6 : arg6.IsWhole) (X : BufTy.Contents (Elt F) arg6.view.ty) (init : IVec S1x128 32 × IVec S1x128 32) :
    LoopInvTy_k0_t2 (F := F) Unit ℕ (UR sig nD τ) ℕ 𝒱 c bd E i arg1 harg1 arg2 harg2 arg3 harg3 arg4 harg4 arg5 harg5 arg6 harg6 init where
  inv k acc := iprop((arg6.view.loc (c : Thread nD τ) ↦[arg6.view.set]{fullShare} X) ∗ ⌜acc = st2 (F := F) 𝒱 c bd i arg1 harg1 arg2 harg2 arg3 harg3 arg4 harg4 arg5 harg5 arg6 harg6 X init k⌝)
  step k acc := by
    iintro ⟨HR, %hacc⟩
    subst hacc
    iapply (wp_wand_r Idealize.ShloMosaic.frame (wpE (defs₀ (F := F)) 𝒱 (c : Thread nD τ) bd) E)
    isplitl [HR]
    · iapply ((trip2 (F := F) 𝒱 c bd i arg1 harg1 arg2 harg2 arg3 harg3 arg4 harg4 arg5 harg5 arg6 harg6 X k).2 E (st2 (F := F) 𝒱 c bd i arg1 harg1 arg2 harg2 arg3 harg3 arg4 harg4 arg5 harg5 arg6 harg6 X init k))
      iexact HR
    · iintro %yld ⟨%hres, HR⟩
      isplitl [HR]; · iexact HR
      simp only [st2_succ]
      ipureintro; rw [hres]

end Cert.Distances.Hamming

end
-- ==== Proof.Dist.Trips.lean ====
/-
  One trip of each loop of the `distances` kernel, as a function of what it loads.  The first loop packs the
  Hamming distances of four batch rows per trip; the counting loop adds sixteen groups of words per trip to its
  byte counters; the search narrows its interval by one count.
-/
module

public import proofs.«01_k».proof.Proof.Dist.Search
public import Idealize.ShloMosaic.Lib.VecWindow
public import Idealize.ShloMosaic.Lib.WritesUnit
public import Idealize.ShloMosaic.Lib.Pointwise.Index

@[expose] public section

set_option maxRecDepth 16384

noncomputable section

namespace Cert.Distances.Hamming

open Idealize.ShloMosaic Idealize.SL.Sem
open Cert.Distances Cert.Distances.Gen

variable {F : FTy → Type} [FloatOps F]

/-! ## The functions -/

/-- One byte of the packed words: the distance of 8 × 128 items to the query `(qa, qb)`, with 127 at and past
position `n - off`. -/
def distOf (n qa qb off : BitVec 32) (a b : Vec F S8x128 .i32) : IVec S8x128 32 :=
  select (cmpi .slt k0_pay46 (broadcast S8x128 (Scalar.subi n off)))
    (addi (ctpop (xori (shapeCast S8x128 a shapeCasts_S8x128_S8x128 : IVec S8x128 32) (broadcast S8x128 qa)))
      (ctpop (xori (shapeCast S8x128 b shapeCasts_S8x128_S8x128 : IVec S8x128 32) (broadcast S8x128 qb))))
    (broadcast S8x128 127#32)

/-- The packed words of one batch row: four distances per word. -/
def rowOf (n qa qb : BitVec 32) (a b : Fin 4 → Vec F S8x128 .i32) : IVec S8x128 32 :=
  ori (ori (ori (distOf n qa qb 0#32 (a 0) (b 0))
    (shli (distOf n qa qb 128#32 (a 1) (b 1)) (broadcast S8x128 8#32)))
    (shli (distOf n qa qb 256#32 (a 2) (b 2)) (broadcast S8x128 16#32)))
    (shli (distOf n qa qb 384#32 (a 3) (b 3)) (broadcast S8x128 24#32))

/-- One group of words `w` counted into `acc`: each byte of `acc` grows by one where the byte of `w` is at most
the byte of `cmp` less 128. -/
def countOf (cmp acc : IVec S8x128 32) (w : Vec F S8x128 .i32) : IVec S8x128 32 :=
  addi acc (shrui (andi (subi cmp w) (broadcast S8x128 2155905152#32)) (broadcast S8x128 7#32))

section
variable (𝒱 : Variants) (c : Dev nD) (bd : Option 𝒱.V) (i : grid0.Coords) (arg1 : Memref sig .tc .smem S6144 .i32) (harg1 : arg1.IsWhole) (arg2 : Memref sig .tc .smem S3072 .i32) (harg2 : arg2.IsWhole) (arg3 : Memref sig .tc .vmem S8192x128 .i32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1024x128 .i32) (harg6 : arg6.IsWhole)

/-- The first word of a query, loaded by the packing loop. -/
abbrev ldq0 (X : BufTy.Contents (Elt F) arg1.view.ty) (k : Fin k0_t1_loop.trips) (r : Fin 4) : BitVec 32 :=
  arg1.view.readAt (Elt F) (Rect.unit (s := S6144) (k0_off1 i k (BitVec.ofNat 32 r.val)) S1.size (k0_off1_inb i k r)).toLoadRect X (Shape.Idx.first (numel1_S1.symm ▸ Nat.one_pos))

/-- The second word of a query, loaded by the packing loop. -/
abbrev ldq1 (X : BufTy.Contents (Elt F) arg1.view.ty) (k : Fin k0_t1_loop.trips) (r : Fin 4) : BitVec 32 :=
  arg1.view.readAt (Elt F) (Rect.unit (s := S6144) (k0_off2 i k (BitVec.ofNat 32 r.val)) S1.size (k0_off2_inb i k r)).toLoadRect X (Shape.Idx.first (numel1_S1.symm ▸ Nat.one_pos))

/-- The length of a history, loaded by the packing loop. -/
abbrev ldn (X : BufTy.Contents (Elt F) arg2.view.ty) (k : Fin k0_t1_loop.trips) (r : Fin 4) : BitVec 32 :=
  arg2.view.readAt (Elt F) (Rect.unit (s := S3072) (k0_off3 i k (BitVec.ofNat 32 r.val)) S1.size (k0_off3_inb i k r)).toLoadRect X (Shape.Idx.first (numel1_S1.symm ▸ Nat.one_pos))

/-- The first signature words of 8 × 128 items, loaded by the packing loop. -/
abbrev lda (X : BufTy.Contents (Elt F) arg3.view.ty) (k : Fin k0_t1_loop.trips) (r b : Fin 4) : Vec F S8x128 .i32 :=
  arg3.view.readAt (Elt F) (⟨k0_off4 k (BitVec.ofNat 32 r.val) (BitVec.ofNat 32 (2 * b.val)), S8x128.size, ![8, 1], k0_off4_inb k r b⟩ : LoadRect S8192x128) X

/-- The second signature words of 8 × 128 items, loaded by the packing loop. -/
abbrev ldb (X : BufTy.Contents (Elt F) arg3.view.ty) (k : Fin k0_t1_loop.trips) (r b : Fin 4) : Vec F S8x128 .i32 :=
  arg3.view.readAt (Elt F) (⟨k0_off5 k (BitVec.ofNat 32 r.val) (BitVec.ofNat 32 (2 * b.val)), S8x128.size, ![8, 1], k0_off5_inb k r b⟩ : LoadRect S8192x128) X

/-- One of the four stores of a trip of the packing loop. -/
abbrev piece1 (X1 : BufTy.Contents (Elt F) arg1.view.ty) (X2 : BufTy.Contents (Elt F) arg2.view.ty) (X3 : BufTy.Contents (Elt F) arg3.view.ty)
    (k : Fin k0_t1_loop.trips) (r : Fin 4) : View.Piece (Elt F) S1024x128 .i32 :=
  ⟨Rect.unit (s := S1024x128) (k0_off6 k (BitVec.ofNat 32 r.val)) S8x128.size (k0_off6_inb k r),
    rowOf (F := F) (ldn i arg2 X2 k r) (ldq0 i arg1 X1 k r) (ldq1 i arg1 X1 k r) (fun b => lda arg3 X3 k r b) (fun b => ldb arg3 X3 k r b)⟩

set_option maxHeartbeats 4000000 in
/-- The stores of one trip of the packing loop: four batch rows, each by the same function of what it loads. -/
theorem tripL1 (v0 : BitVec 32) (X1 : BufTy.Contents (Elt F) arg1.view.ty) (X2 : BufTy.Contents (Elt F) arg2.view.ty) (X3 : BufTy.Contents (Elt F) arg3.view.ty)
    (k : Fin k0_t1_loop.trips) :
    tripL_k0_t1 (F := F) 𝒱 c bd i arg1 harg1 arg2 harg2 arg3 harg3 arg4 harg4 arg5 harg5 arg6 harg6 v0 X1 X2 X3 k
      = [piece1 i arg1 arg2 arg3 X1 X2 X3 k 3, piece1 i arg1 arg2 arg3 X1 X2 X3 k 2, piece1 i arg1 arg2 arg3 X1 X2 X3 k 1, piece1 i arg1 arg2 arg3 X1 X2 X3 k 0] := by
  unfold tripL_k0_t1 trip_k0_t1; rfl

/-- A group of words loaded by the counting loop. -/
abbrev ldw (X : BufTy.Contents (Elt F) arg6.view.ty) (k : Fin k0_t3_loop.trips) (r : Fin 16) : Vec F S8x128 .i32 :=
  arg6.view.readAt (Elt F) (Rect.unit (s := S1024x128) (k0_off7 k (BitVec.ofNat 32 (8 * r.val))) S8x128.size (k0_off7_inb k r)).toLoadRect X

set_option maxHeartbeats 4000000 in
/-- The result of one trip of the counting loop: sixteen groups, the `r`-th into counter `r % 4`. -/
theorem tripR3 (c0 c1 : BitVec 32) (k2 : Fin k0_t2_loop.trips) (lo hi : IVec S1x128 32) (X : BufTy.Contents (Elt F) arg6.view.ty) (k : Fin k0_t3_loop.trips)
    (acc : IVec S8x128 32 × IVec S8x128 32 × IVec S8x128 32 × IVec S8x128 32) :
    tripR_k0_t3 (F := F) 𝒱 c bd i arg1 harg1 arg2 harg2 arg3 harg3 arg4 harg4 arg5 harg5 arg6 harg6 c0 c1 k2 lo hi X k acc
      = (countOf (k0_pay39 lo hi) (countOf (k0_pay39 lo hi) (countOf (k0_pay39 lo hi) (countOf (k0_pay39 lo hi) acc.1 (ldw arg6 X k 0)) (ldw arg6 X k 4)) (ldw arg6 X k 8)) (ldw arg6 X k 12),
         countOf (k0_pay39 lo hi) (countOf (k0_pay39 lo hi) (countOf (k0_pay39 lo hi) (countOf (k0_pay39 lo hi) acc.2.1 (ldw arg6 X k 1)) (ldw arg6 X k 5)) (ldw arg6 X k 9)) (ldw arg6 X k 13),
         countOf (k0_pay39 lo hi) (countOf (k0_pay39 lo hi) (countOf (k0_pay39 lo hi) (countOf (k0_pay39 lo hi) acc.2.2.1 (ldw arg6 X k 2)) (ldw arg6 X k 6)) (ldw arg6 X k 10)) (ldw arg6 X k 14),
         countOf (k0_pay39 lo hi) (countOf (k0_pay39 lo hi) (countOf (k0_pay39 lo hi) (countOf (k0_pay39 lo hi) acc.2.2.2 (ldw arg6 X k 3)) (ldw arg6 X k 7)) (ldw arg6 X k 11)) (ldw arg6 X k 15)) := by
  unfold tripR_k0_t3 trip_k0_t3; rfl

/-- The interval after one step of the search whose counters ended at `T`. -/
def narrow (T : IVec S8x128 32 × IVec S8x128 32 × IVec S8x128 32 × IVec S8x128 32) (acc : IVec S1x128 32 × IVec S1x128 32) : IVec S1x128 32 × IVec S1x128 32 :=
  (k0_pay59 acc.1 (k0_pay38 acc.1 acc.2) T.2.2.2 (k0_pay45 T.2.1 T.2.2.1 T.2.2.2 (k0_pay43 T.1 T.2.1) (k0_pay44 T.2.1) 255#32) 16#32,
   k0_pay60 acc.2 (k0_pay38 acc.1 acc.2) T.2.2.2 (k0_pay45 T.2.1 T.2.2.1 T.2.2.2 (k0_pay43 T.1 T.2.1) (k0_pay44 T.2.1) 255#32) 16#32)

set_option maxHeartbeats 4000000 in
/-- The result of one step of the search: the interval narrowed by the counters the counting loop ends with. -/
theorem tripR2 (X : BufTy.Contents (Elt F) arg6.view.ty) (k : Fin k0_t2_loop.trips) (acc : IVec S1x128 32 × IVec S1x128 32) :
    (trip2 (F := F) 𝒱 c bd i arg1 harg1 arg2 harg2 arg3 harg3 arg4 harg4 arg5 harg5 arg6 harg6 X k).1 acc
      = narrow (st_k0_t3 (F := F) 𝒱 c bd i arg1 harg1 arg2 harg2 arg3 harg3 arg4 harg4 arg5 harg5 arg6 harg6 0#32 1#32 k acc.1 acc.2 X (k0_pay40, k0_pay40, k0_pay40, k0_pay40) (Scf.trips k0_t3_loop.lb k0_t3_loop.ub k0_t3_loop.st)) acc := by
  unfold trip2; rfl

end

end Cert.Distances.Hamming

end
-- ==== Proof.Dist.Passes.lean ====
/-
  What each loop of the `distances` kernel leaves behind when it has run to its end: the packed words of 128 batch
  rows, their transpose, the byte counters, the interval of the search.
-/
module

public import proofs.«01_k».proof.Proof.Dist.Trips
public import Idealize.ShloMosaic.Lib.Pointwise.Reshape

@[expose] public section

set_option maxRecDepth 16384

noncomputable section

namespace Cert.Distances.Hamming

open Idealize.ShloMosaic Idealize.SL.Sem
open Cert.Distances Cert.Distances.Gen

variable {F : FTy → Type} [FloatOps F]

/-- Two stores through equal offsets, of equal payloads, are the same store. -/
theorem piece_congr {Val : EltTy → Type} {s : Shape} {e : EltTy} {off off' size : Fin s.rank → ℕ}
    (inb : ∀ a, off a + size a ≤ s.size a) (inb' : ∀ a, off' a + size a ≤ s.size a)
    (w w' : (⟨s.rank, size⟩ : Shape).Idx → Val e) (h : off = off') (hw : w = w') :
    (⟨Rect.unit off size inb, w⟩ : View.Piece Val s e) = ⟨Rect.unit off' size inb', w'⟩ := by
  subst h hw; rfl

/-! ## The functions -/

/-- Each batch row's group of eight rows of words lies inside the block. -/
theorem row_inb (n : Fin 128) : ∀ a, (![8 * n.val, 0] : Fin 2 → ℕ) a + S8x128.size a ≤ S1024x128.size a := by
  intro a
  have := n.isLt
  fin_cases a
  · show 8 * n.val + 8 ≤ 1024; omega
  · show 0 + 128 ≤ 128; omega

/-- The grid has 24 points. -/
theorem point_lt (i : grid0.Coords) : (i 0).val < 24 := (i 0).isLt

/-- Word `e` (0 or 1) of the signature of the items in byte `b` of batch row `n`'s words. -/
def sigWords (x3 : Vec F S8192x128 .i32) (n : Fin 128) (b : Fin 4) (e : Fin 2) : Vec F S8x128 .i32 := fun y =>
  x3 (ix2 (n0 := 8192) (n1 := 128) ⟨64 * n.val + 2 * b.val + e.val + 8 * (y 0).val, by
    have h0 : (y 0).val < 8 := (y 0).isLt
    omega⟩ ⟨(y 1).val, (y 1).isLt⟩)

/-- The packed words of batch row `n` of grid point `i`, out of the queries `x1`, the lengths `x2` and the point's
signatures `x3`. -/
def rowWords (i : grid0.Coords) (x1 : Vec F S6144 .i32) (x2 : Vec F S3072 .i32) (x3 : Vec F S8192x128 .i32) (n : Fin 128) : IVec S8x128 32 :=
  rowOf (F := F) (x2 (ix1 (n0 := 3072) ⟨128 * (i 0).val + n.val, by have := point_lt i; omega⟩))
    (x1 (ix1 (n0 := 6144) ⟨256 * (i 0).val + n.val, by have := point_lt i; omega⟩))
    (x1 (ix1 (n0 := 6144) ⟨256 * (i 0).val + n.val + 128, by have := point_lt i; omega⟩))
    (fun b => sigWords x3 n b 0) (fun b => sigWords x3 n b 1)

/-- The packed words of all 128 batch rows of grid point `i`, eight rows of words to a batch row. -/
def blockWords (i : grid0.Coords) (x1 : Vec F S6144 .i32) (x2 : Vec F S3072 .i32) (x3 : Vec F S8192x128 .i32) : Vec F S1024x128 .i32 := fun y =>
  rowWords (F := F) i x1 x2 x3 ⟨(y 0).val / 8, by have h0 : (y 0).val < 1024 := (y 0).isLt; omega⟩
    (ix2 (n0 := 8) (n1 := 128) ⟨(y 0).val % 8, Nat.mod_lt _ (by decide)⟩ ⟨(y 1).val, (y 1).isLt⟩)

/-- The words with the batch row in the lane: entry `(128 * s + l, r)` is word `l` of row `s` of batch row `r`. -/
def transposed (x4 : Vec F S1024x128 .i32) : Vec F S1024x128 .i32 := fun j =>
  x4 (ix2 (n0 := 1024) (n1 := 128) ⟨8 * (j 1).val + (j 0).val / 128, by
    have h0 : (j 0).val < 1024 := (j 0).isLt
    have h1 : (j 1).val < 128 := (j 1).isLt
    omega⟩ ⟨(j 0).val % 128, Nat.mod_lt _ (by decide)⟩)

/-- Group `g` of eight rows of the transposed words. -/
def group (w : Vec F S1024x128 .i32) (g : Fin 128) : Vec F S8x128 .i32 :=
  VecWindow.window w ![8 * g.val, 0] S8x128.size (row_inb g)

/-- Counter `m` after its first `n` groups: it takes every fourth group from the `m`-th on. -/
def counter (w : Vec F S1024x128 .i32) (cmp : IVec S8x128 32) (m : Fin 4) : (n : ℕ) → n ≤ 32 → IVec S8x128 32
  | 0, _ => k0_pay40
  | n + 1, h => countOf (F := F) cmp (counter w cmp m n (Nat.le_of_succ_le h)) (group w ⟨4 * n + m.val, by omega⟩)

/-- The four counters after `n` groups each. -/
def counters (w : Vec F S1024x128 .i32) (cmp : IVec S8x128 32) (n : ℕ) (h : n ≤ 32) : IVec S8x128 32 × IVec S8x128 32 × IVec S8x128 32 × IVec S8x128 32 :=
  (counter w cmp 0 n h, counter w cmp 1 n h, counter w cmp 2 n h, counter w cmp 3 n h)

/-- The interval of levels after `k` steps of the search. -/
def search (w : Vec F S1024x128 .i32) : ℕ → IVec S1x128 32 × IVec S1x128 32
  | 0 => (k0_pay56, k0_pay57)
  | k + 1 => narrow (counters w (k0_pay39 (search w k).1 (search w k).2) 32 (Nat.le_refl _)) (search w k)

section
variable (𝒱 : Variants) (c : Dev nD) (bd : Option 𝒱.V) (i : grid0.Coords) (arg1 : Memref sig .tc .smem S6144 .i32) (harg1 : arg1.IsWhole) (arg2 : Memref sig .tc .smem S3072 .i32) (harg2 : arg2.IsWhole) (arg3 : Memref sig .tc .vmem S8192x128 .i32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1024x128 .i32) (harg6 : arg6.IsWhole)

/-! ## The packing loop -/

/-- A store of the packing loop is the packed words of one batch row. -/
theorem piece1_eq (X1 : BufTy.Contents (Elt F) arg1.view.ty) (X2 : BufTy.Contents (Elt F) arg2.view.ty) (X3 : BufTy.Contents (Elt F) arg3.view.ty)
    (k : Fin k0_t1_loop.trips) (r : Fin 4) (n : Fin 128) (hn : n.val = 4 * k.val + r.val) :
    piece1 i arg1 arg2 arg3 X1 X2 X3 k r = ⟨Rect.unit (s := S1024x128) ![8 * n.val, 0] S8x128.size (row_inb n),
      rowWords (F := F) i (arg1.view.read (Elt F) X1) (arg2.view.read (Elt F) X2) (arg3.view.read (Elt F) X3) n⟩ := by
  have ho : k0_off6 k (BitVec.ofNat 32 r.val) = ![8 * n.val, 0] := by
    rw [k0_off6_eq k r]
    refine funext fun a => ?_
    match a with
    | ⟨0, _⟩ => show 32 * k.val + 8 * r.val = 8 * n.val; omega
    | ⟨1, _⟩ => rfl
  refine piece_congr (Val := Elt F) (s := S1024x128) (e := .i32) (size := S8x128.size) (k0_off6_inb k r) (row_inb n) _ _ ho ?_
  have hq0 : ldq0 (F := F) i arg1 X1 k r = arg1.view.read (Elt F) X1 (ix1 (n0 := 6144) ⟨256 * (i 0).val + n.val, by have := point_lt i; omega⟩) := by
    refine congrArg (arg1.view.read (Elt F) X1) (funext fun a => Fin.ext ?_)
    match a with
    | ⟨0, _⟩ =>
      show (k0_off1 i k (BitVec.ofNat 32 r.val)) 0 + 1 * 0 = 256 * (i 0).val + n.val
      rw [k0_off1_eq i k r]; show 256 * (i 0).val + 4 * k.val + r.val + 1 * 0 = _; omega
  have hq1 : ldq1 (F := F) i arg1 X1 k r = arg1.view.read (Elt F) X1 (ix1 (n0 := 6144) ⟨256 * (i 0).val + n.val + 128, by have := point_lt i; omega⟩) := by
    refine congrArg (arg1.view.read (Elt F) X1) (funext fun a => Fin.ext ?_)
    match a with
    | ⟨0, _⟩ =>
      show (k0_off2 i k (BitVec.ofNat 32 r.val)) 0 + 1 * 0 = 256 * (i 0).val + n.val + 128
      rw [k0_off2_eq i k r]; show 256 * (i 0).val + 4 * k.val + r.val + 128 + 1 * 0 = _; omega
  have hl : ldn (F := F) i arg2 X2 k r = arg2.view.read (Elt F) X2 (ix1 (n0 := 3072) ⟨128 * (i 0).val + n.val, by have := point_lt i; omega⟩) := by
    refine congrArg (arg2.view.read (Elt F) X2) (funext fun a => Fin.ext ?_)
    match a with
    | ⟨0, _⟩ =>
      show (k0_off3 i k (BitVec.ofNat 32 r.val)) 0 + 1 * 0 = 128 * (i 0).val + n.val
      rw [k0_off3_eq i k r]; show 128 * (i 0).val + 4 * k.val + r.val + 1 * 0 = _; omega
  have ha : (fun b => lda (F := F) arg3 X3 k r b) = fun b => sigWords (arg3.view.read (Elt F) X3) n b 0 := by
    funext b y
    refine congrArg (arg3.view.read (Elt F) X3) (funext fun a => Fin.ext ?_)
    match a with
    | ⟨0, _⟩ =>
      show (k0_off4 k (BitVec.ofNat 32 r.val) (BitVec.ofNat 32 (2 * b.val))) 0 + 8 * (y 0).val = 64 * n.val + 2 * b.val + 0 + 8 * (y 0).val
      rw [k0_off4_eq k r b]; show 256 * k.val + 64 * r.val + 2 * b.val + 8 * (y 0).val = _; omega
    | ⟨1, _⟩ =>
      show (k0_off4 k (BitVec.ofNat 32 r.val) (BitVec.ofNat 32 (2 * b.val))) 1 + 1 * (y 1).val = (y 1).val
      rw [k0_off4_eq k r b]; show 0 + 1 * (y 1).val = _; omega
  have hb : (fun b => ldb (F := F) arg3 X3 k r b) = fun b => sigWords (arg3.view.read (Elt F) X3) n b 1 := by
    funext b y
    refine congrArg (arg3.view.read (Elt F) X3) (funext fun a => Fin.ext ?_)
    match a with
    | ⟨0, _⟩ =>
      show (k0_off5 k (BitVec.ofNat 32 r.val) (BitVec.ofNat 32 (2 * b.val))) 0 + 8 * (y 0).val = 64 * n.val + 2 * b.val + 1 + 8 * (y 0).val
      rw [k0_off5_eq k r b]; show 256 * k.val + 64 * r.val + 2 * b.val + 1 + 8 * (y 0).val = _; omega
    | ⟨1, _⟩ =>
      show (k0_off5 k (BitVec.ofNat 32 r.val) (BitVec.ofNat 32 (2 * b.val))) 1 + 1 * (y 1).val = (y 1).val
      rw [k0_off5_eq k r b]; show 0 + 1 * (y 1).val = _; omega
  rw [hq0, hq1, hl, ha, hb]
  rfl

/-- The stores of the first `K` trips of the packing loop are one group of eight rows per batch row. -/
theorem pb1_tiles (v0 : BitVec 32) (X1 : BufTy.Contents (Elt F) arg1.view.ty) (X2 : BufTy.Contents (Elt F) arg2.view.ty) (X3 : BufTy.Contents (Elt F) arg3.view.ty)
    (K : ℕ) (hK : 4 * K ≤ 128) :
    pb_k0_t1 (F := F) 𝒱 c bd i arg1 harg1 arg2 harg2 arg3 harg3 arg4 harg4 arg5 harg5 arg6 harg6 v0 X1 X2 X3 K
      = View.tilePieces (NT := 128) (s := S1024x128) S8x128.size (fun n => ![8 * n.val, 0]) row_inb
          (fun n => rowWords (F := F) i (arg1.view.read (Elt F) X1) (arg2.view.read (Elt F) X2) (arg3.view.read (Elt F) X3) n) (4 * K) hK := by
  induction K with
  | zero => rfl
  | succ K ih =>
    have hT : k0_t1_loop.trips = 32 := by decide +kernel
    have hk : K < k0_t1_loop.trips := by omega
    have h := pb_k0_t1_succ (F := F) 𝒱 c bd i arg1 harg1 arg2 harg2 arg3 harg3 arg4 harg4 arg5 harg5 arg6 harg6 v0 X1 X2 X3 ⟨K, hk⟩
    rw [tripL1] at h
    refine h.trans ?_
    rw [ih (by omega),
      piece1_eq i arg1 arg2 arg3 X1 X2 X3 ⟨K, hk⟩ 0 ⟨4 * K + 0, by omega⟩ rfl, piece1_eq i arg1 arg2 arg3 X1 X2 X3 ⟨K, hk⟩ 1 ⟨4 * K + 1, by omega⟩ rfl,
      piece1_eq i arg1 arg2 arg3 X1 X2 X3 ⟨K, hk⟩ 2 ⟨4 * K + 2, by omega⟩ rfl, piece1_eq i arg1 arg2 arg3 X1 X2 X3 ⟨K, hk⟩ 3 ⟨4 * K + 3, by omega⟩ rfl]
    rfl

/-- After the packing loop the words read as the packed words of the block's 128 batch rows. -/
theorem read1 (v0 : BitVec 32) (X1 : BufTy.Contents (Elt F) arg1.view.ty) (X2 : BufTy.Contents (Elt F) arg2.view.ty) (X3 : BufTy.Contents (Elt F) arg3.view.ty)
    (G : BufTy.Contents (Elt F) arg4.view.ty) :
    arg4.view.read (Elt F) (arg4.view.writes (Elt F) G (pb_k0_t1 (F := F) 𝒱 c bd i arg1 harg1 arg2 harg2 arg3 harg3 arg4 harg4 arg5 harg5 arg6 harg6 v0 X1 X2 X3 32))
      = blockWords (F := F) i (arg1.view.read (Elt F) X1) (arg2.view.read (Elt F) X2) (arg3.view.read (Elt F) X3) := by
  funext y
  have h0 : (y 0).val < 1024 := (y 0).isLt
  have h1 : (y 1).val < 128 := (y 1).isLt
  rw [pb1_tiles 𝒱 c bd i arg1 harg1 arg2 harg2 arg3 harg3 arg4 harg4 arg5 harg5 arg6 harg6 v0 X1 X2 X3 32 (Nat.le_refl _)]
  exact View.read_tilePieces arg4.view G S8x128.size (fun n => ![8 * n.val, 0]) row_inb
      (fun n => rowWords (F := F) i (arg1.view.read (Elt F) X1) (arg2.view.read (Elt F) X2) (arg3.view.read (Elt F) X3) n) (4 * 32) (Nat.le_refl _) y
      ⟨(y 0).val / 8, by omega⟩ (by show (y 0).val / 8 < 128; omega) (ix2 (n0 := 8) (n1 := 128) ⟨(y 0).val % 8, Nat.mod_lt _ (by decide)⟩ ⟨(y 1).val, h1⟩)
      (Fin.forall_fin_two.mpr ⟨by show (y 0).val = 8 * ((y 0).val / 8) + (y 0).val % 8; omega, by show (y 1).val = 0 + (y 1).val; omega⟩)
      (0 : Fin 2) (fun i' hi' => by
        have hne : i'.val ≠ (y 0).val / 8 := fun h => hi' (Fin.ext h)
        show (y 0).val < 8 * i'.val ∨ 8 * i'.val + 8 ≤ (y 0).val
        omega)

/-! ## The counting loop -/

/-- A group of words loaded by the counting loop is that group of the transposed words. -/
theorem ldw_eq (X : BufTy.Contents (Elt F) arg6.view.ty) (k : Fin k0_t3_loop.trips) (r : Fin 16) (g : Fin 128) (hg : g.val = 16 * k.val + r.val) :
    ldw arg6 X k r = group (arg6.view.read (Elt F) X) g := by
  have ho : k0_off7 k (BitVec.ofNat 32 (8 * r.val)) = ![8 * g.val, 0] := by
    rw [k0_off7_eq k r]
    refine funext fun a => ?_
    match a with
    | ⟨0, _⟩ => show 128 * k.val + 8 * r.val = 8 * g.val; omega
    | ⟨1, _⟩ => rfl
  exact View.readAt_unit arg6.view X (k0_off7_inb k r) ho (row_inb g)

/-- The counters after `K` trips of the counting loop are those after `4 * K` groups each. -/
theorem st3 (c0 c1 : BitVec 32) (k2 : Fin k0_t2_loop.trips) (lo hi : IVec S1x128 32) (X : BufTy.Contents (Elt F) arg6.view.ty) (K : ℕ) (hK : 4 * K ≤ 32) :
    st_k0_t3 (F := F) 𝒱 c bd i arg1 harg1 arg2 harg2 arg3 harg3 arg4 harg4 arg5 harg5 arg6 harg6 c0 c1 k2 lo hi X (k0_pay40, k0_pay40, k0_pay40, k0_pay40) K
      = counters (arg6.view.read (Elt F) X) (k0_pay39 lo hi) (4 * K) hK := by
  induction K with
  | zero => rfl
  | succ K ih =>
    have hT : k0_t3_loop.trips = 8 := by decide +kernel
    have hk : K < k0_t3_loop.trips := by omega
    have h := st_k0_t3_succ (F := F) 𝒱 c bd i arg1 harg1 arg2 harg2 arg3 harg3 arg4 harg4 arg5 harg5 arg6 harg6 c0 c1 k2 lo hi X (k0_pay40, k0_pay40, k0_pay40, k0_pay40) ⟨K, hk⟩
    rw [tripR3] at h
    refine h.trans ?_
    rw [ih (by omega)]
    simp only [ldw_eq arg6 X ⟨K, hk⟩ 0 ⟨4 * (4 * K + 0) + 0, by omega⟩ (by show 4 * (4 * K + 0) + 0 = 16 * K + 0; omega), ldw_eq arg6 X ⟨K, hk⟩ 1 ⟨4 * (4 * K + 0) + 1, by omega⟩ (by show 4 * (4 * K + 0) + 1 = 16 * K + 1; omega), ldw_eq arg6 X ⟨K, hk⟩ 2 ⟨4 * (4 * K + 0) + 2, by omega⟩ (by show 4 * (4 * K + 0) + 2 = 16 * K + 2; omega), ldw_eq arg6 X ⟨K, hk⟩ 3 ⟨4 * (4 * K + 0) + 3, by omega⟩ (by show 4 * (4 * K + 0) + 3 = 16 * K + 3; omega), ldw_eq arg6 X ⟨K, hk⟩ 4 ⟨4 * (4 * K + 1) + 0, by omega⟩ (by show 4 * (4 * K + 1) + 0 = 16 * K + 4; omega), ldw_eq arg6 X ⟨K, hk⟩ 5 ⟨4 * (4 * K + 1) + 1, by omega⟩ (by show 4 * (4 * K + 1) + 1 = 16 * K + 5; omega), ldw_eq arg6 X ⟨K, hk⟩ 6 ⟨4 * (4 * K + 1) + 2, by omega⟩ (by show 4 * (4 * K + 1) + 2 = 16 * K + 6; omega), ldw_eq arg6 X ⟨K, hk⟩ 7 ⟨4 * (4 * K + 1) + 3, by omega⟩ (by show 4 * (4 * K + 1) + 3 = 16 * K + 7; omega), ldw_eq arg6 X ⟨K, hk⟩ 8 ⟨4 * (4 * K + 2) + 0, by omega⟩ (by show 4 * (4 * K + 2) + 0 = 16 * K + 8; omega), ldw_eq arg6 X ⟨K, hk⟩ 9 ⟨4 * (4 * K + 2) + 1, by omega⟩ (by show 4 * (4 * K + 2) + 1 = 16 * K + 9; omega), ldw_eq arg6 X ⟨K, hk⟩ 10 ⟨4 * (4 * K + 2) + 2, by omega⟩ (by show 4 * (4 * K + 2) + 2 = 16 * K + 10; omega), ldw_eq arg6 X ⟨K, hk⟩ 11 ⟨4 * (4 * K + 2) + 3, by omega⟩ (by show 4 * (4 * K + 2) + 3 = 16 * K + 11; omega), ldw_eq arg6 X ⟨K, hk⟩ 12 ⟨4 * (4 * K + 3) + 0, by omega⟩ (by show 4 * (4 * K + 3) + 0 = 16 * K + 12; omega), ldw_eq arg6 X ⟨K, hk⟩ 13 ⟨4 * (4 * K + 3) + 1, by omega⟩ (by show 4 * (4 * K + 3) + 1 = 16 * K + 13; omega), ldw_eq arg6 X ⟨K, hk⟩ 14 ⟨4 * (4 * K + 3) + 2, by omega⟩ (by show 4 * (4 * K + 3) + 2 = 16 * K + 14; omega), ldw_eq arg6 X ⟨K, hk⟩ 15 ⟨4 * (4 * K + 3) + 3, by omega⟩ (by show 4 * (4 * K + 3) + 3 = 16 * K + 15; omega)]
    rfl

/-- The interval before step `k` of the search. -/
theorem st2_eq (X : BufTy.Contents (Elt F) arg6.view.ty) (K : ℕ) (hK : K ≤ 7) :
    st2 (F := F) 𝒱 c bd i arg1 harg1 arg2 harg2 arg3 harg3 arg4 harg4 arg5 harg5 arg6 harg6 X (k0_pay56, k0_pay57) K = search (arg6.view.read (Elt F) X) K := by
  induction K with
  | zero => rfl
  | succ K ih =>
    have hT : k0_t2_loop.trips = 7 := by decide +kernel
    have hT3 : Scf.trips k0_t3_loop.lb k0_t3_loop.ub k0_t3_loop.st = 8 := by decide +kernel
    have hk : K < k0_t2_loop.trips := by omega
    have h := st2_succ (F := F) 𝒱 c bd i arg1 harg1 arg2 harg2 arg3 harg3 arg4 harg4 arg5 harg5 arg6 harg6 X (k0_pay56, k0_pay57) ⟨K, hk⟩
    rw [tripR2, hT3, st3 𝒱 c bd i arg1 harg1 arg2 harg2 arg3 harg3 arg4 harg4 arg5 harg5 arg6 harg6 _ _ _ _ _ X 8 (Nat.le_refl _)] at h
    refine h.trans ?_
    rw [ih (by omega)]
    rfl

end

/-! ## The transpose -/

/-- Each tile of 128 rows lies inside the block of words. -/
theorem tile_inb (s : Fin 8) : ∀ a, (![128 * s.val, 0] : Fin 2 → ℕ) a + S128x128.size a ≤ S1024x128.size a := by
  intro a
  have := s.isLt
  fin_cases a
  · show 128 * s.val + 128 ≤ 1024; omega
  · show 0 + 128 ≤ 128; omega

/-- The stored tile is the transpose of the loaded one. -/
theorem pay48_apply (v : Vec F S128x128 .i32) (y : S128x128.Idx) :
    k0_pay48 v y = v (ix2 (n0 := 128) (n1 := 128) (y 1) (y 0)) := by
  unfold k0_pay48
  rw [shapeCast_id, shapeCast_id]
  refine congrArg v (funext fun a => ?_)
  match a with | ⟨0, _⟩ => rfl | ⟨1, _⟩ => rfl

/-- Every eighth row of the words from row `s` on. -/
def every8 (x4 : Vec F S1024x128 .i32) (s : Fin 8) : Vec F S128x128 .i32 := fun y =>
  x4 (ix2 (n0 := 1024) (n1 := 128) ⟨s.val + 8 * (y 0).val, by have h0 : (y 0).val < 128 := (y 0).isLt; omega⟩ ⟨(y 1).val, (y 1).isLt⟩)

/-- A strided load of the words reads every eighth row. -/
theorem readAt_every8 (v : View sig .tc .vmem S1024x128 .i32) (X : BufTy.Contents (Elt F) v.ty) (s : Fin 8)
    (inb) : v.readAt (Elt F) (⟨![s.val, 0], S128x128.size, ![8, 1], inb⟩ : LoadRect S1024x128) X = every8 (v.read (Elt F) X) s := by
  funext y
  refine congrArg (v.read (Elt F) X) (funext fun a => Fin.ext ?_)
  match a with
  | ⟨0, _⟩ => rfl
  | ⟨1, _⟩ => show 0 + 1 * (y 1).val = (y 1).val; omega

/-- The eight transposed tiles, written one below the other, read as the transposed words. -/
theorem read_tiles (v : View sig .tc .vmem S1024x128 .i32) (G : BufTy.Contents (Elt F) v.ty) (x4 : Vec F S1024x128 .i32) :
    v.read (Elt F) (v.writes (Elt F) G (View.tilePieces (NT := 8) (s := S1024x128) S128x128.size (fun s => ![128 * s.val, 0]) tile_inb
      (fun s => k0_pay48 (every8 x4 s)) 8 (Nat.le_refl _))) = transposed x4 := by
  funext y
  have h0 : (y 0).val < 1024 := (y 0).isLt
  have h1 : (y 1).val < 128 := (y 1).isLt
  rw [View.read_tilePieces v G S128x128.size (fun i => ![128 * i.val, 0]) tile_inb _ 8 (Nat.le_refl _) y
      ⟨(y 0).val / 128, by omega⟩ (by show (y 0).val / 128 < 8; omega) (ix2 (n0 := 128) (n1 := 128) ⟨(y 0).val % 128, Nat.mod_lt _ (by decide)⟩ ⟨(y 1).val, h1⟩)
      (Fin.forall_fin_two.mpr ⟨by show (y 0).val = 128 * ((y 0).val / 128) + (y 0).val % 128; omega,
        by show (y 1).val = 0 + (y 1).val; omega⟩)
      (0 : Fin 2) (fun i' hi' => by
        have hne : i'.val ≠ (y 0).val / 128 := fun h => hi' (Fin.ext h)
        show (y 0).val < 128 * i'.val ∨ 128 * i'.val + 128 ≤ (y 0).val
        omega),
    pay48_apply]
  refine congrArg x4 (funext fun a => Fin.ext ?_)
  match a with
  | ⟨0, _⟩ => show (y 0).val / 128 + 8 * (y 1).val = 8 * (y 1).val + (y 0).val / 128; omega
  | ⟨1, _⟩ => rfl

end Cert.Distances.Hamming

end
-- ==== Proof.Dist.Body.lean ====
/-
  One run of the `distances` body over one block, with what it leaves in its two results named: functions of the
  block's queries, lengths and signatures alone.
-/
module

public import proofs.«01_k».proof.Proof.Dist.Passes
public import proofs.«01_k».proof.Proof.Gen.Distances.Frame

@[expose] public section

set_option maxRecDepth 16384

noncomputable section

namespace Cert.Distances.Hamming

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Distances Cert.Distances.Gen

variable {F : FTy → Type} [FloatOps F]

local notation "𝕄" => MT nD τ sig Unit (Elt F) ℕ (UR sig nD τ) ℕ

/-- The thresholds of a block: the upper end of the interval after seven steps of the search. -/
def blockThr (x4 : Vec F S1024x128 .i32) : Vec F S1x1x128 .i32 := k0_pay61 (search (transposed x4) 7).2

set_option maxHeartbeats 4000000 in
/-- The body's triple: given the queries `x1`, the lengths `x2` and a block's signatures `x3`, whatever the results
and the scratch held, the body ends with the inputs as they were and the two results at the named functions. -/
theorem distances_run (c : Dev nD) (i : grid0.Coords) (arg1 : Memref sig .tc .smem S6144 .i32) (harg1 : arg1.IsWhole) (arg2 : Memref sig .tc .smem S3072 .i32) (harg2 : arg2.IsWhole) (arg3 : Memref sig .tc .vmem S8192x128 .i32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1024x128 .i32) (harg6 : arg6.IsWhole)
    (x1 : Vec F S6144 .i32) (x2 : Vec F S3072 .i32) (x3 : Vec F S8192x128 .i32) :
      ∀ (E : Set ℕ) (K : PUnit → sProp 𝕄),
        iprop(owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x1 ∗ owns (c : Thread nD τ) arg2 fullShare x2 ∗ owns (c : Thread nD τ) arg3 fullShare x3 ∗ owns (c : Thread nD τ) arg4 fullShare (blockWords i x1 x2 x3) ∗ owns (c : Thread nD τ) arg5 fullShare (blockThr (blockWords i x1 x2 x3)) ∗ (∃ d, owns (c : Thread nD τ) arg6 fullShare d)) -∗ K ⟨⟩))
          ⊢ wp frame (wpE (defs₀ (F := F)) Variants.none c none) E (cc0_distances i arg1 harg1 arg2 harg2 arg3 harg3 arg4 harg4 arg5 harg5 arg6 harg6) K := by
    intro E K
    simp only [cc0_distances_eq_skeleton]; unfold cc0_distances_skel
    simp only [k0_part17_eq_skeleton, k0_part18_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg1.eq_unread hf1; obtain rfl := harg2.eq_unread hf2; obtain rfl := harg3.eq_unread hf3
    sl_exec
    sl_step
    iapply Hk
    have hT1 : Scf.trips k0_t1_loop.lb k0_t1_loop.ub k0_t1_loop.st = 32 := by decide +kernel
    have hT2 : Scf.trips k0_t2_loop.lb k0_t2_loop.ub k0_t2_loop.st = 7 := by decide +kernel
    have hw : arg4.view.read (Elt F) (arg4.view.writes (Elt F) f4 (pb_k0_t1 Variants.none c none i arg1 harg1 arg2 harg2 arg3 harg3 arg4 harg4 arg5 harg5 arg6 harg6
        (distances_run.sl.v0 i) (harg1.unread x1) (harg2.unread x2) (harg3.unread x3) (Scf.trips k0_t1_loop.lb k0_t1_loop.ub k0_t1_loop.st))) = blockWords i x1 x2 x3 := by
      rw [hT1, read1, harg1.read_unread, harg2.read_unread, harg3.read_unread]
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; swap; · iexact H4
      ipureintro; exact hw
    isplitl [H5]
    · iexists _; isplitr; swap; · iexact H5
      ipureintro
      rw [View.read_writes_full, hT2, st2_eq _ _ _ _ _ _ _ _ _ _ _ _ _ _ _ _ _ 7 (Nat.le_refl _)]
      unfold distances_run.sl.HS0_8
      have h0 : distances_run.sl.v7 c i arg1 harg1 arg2 harg2 arg3 harg3 arg4 harg4 arg5 harg5 arg6 harg6 x1 x2 x3 f4 = every8 (blockWords i x1 x2 x3) 0 := by
        unfold distances_run.sl.v7
        refine (readAt_every8 arg4.view _ 0 _).trans (congrArg (fun x => every8 x 0) hw)
      have h1 : distances_run.sl.v13 c i arg1 harg1 arg2 harg2 arg3 harg3 arg4 harg4 arg5 harg5 arg6 harg6 x1 x2 x3 f4 = every8 (blockWords i x1 x2 x3) 1 := by
        unfold distances_run.sl.v13
        refine (readAt_every8 arg4.view _ 1 _).trans (congrArg (fun x => every8 x 1) hw)
      have h2 : distances_run.sl.v19 c i arg1 harg1 arg2 harg2 arg3 harg3 arg4 harg4 arg5 harg5 arg6 harg6 x1 x2 x3 f4 = every8 (blockWords i x1 x2 x3) 2 := by
        unfold distances_run.sl.v19
        refine (readAt_every8 arg4.view _ 2 _).trans (congrArg (fun x => every8 x 2) hw)
      have h3 : distances_run.sl.v25 c i arg1 harg1 arg2 harg2 arg3 harg3 arg4 harg4 arg5 harg5 arg6 harg6 x1 x2 x3 f4 = every8 (blockWords i x1 x2 x3) 3 := by
        unfold distances_run.sl.v25
        refine (readAt_every8 arg4.view _ 3 _).trans (congrArg (fun x => every8 x 3) hw)
      have h4 : distances_run.sl.v31 c i arg1 harg1 arg2 harg2 arg3 harg3 arg4 harg4 arg5 harg5 arg6 harg6 x1 x2 x3 f4 = every8 (blockWords i x1 x2 x3) 4 := by
        unfold distances_run.sl.v31
        refine (readAt_every8 arg4.view _ 4 _).trans (congrArg (fun x => every8 x 4) hw)
      have h5 : distances_run.sl.v37 c i arg1 harg1 arg2 harg2 arg3 harg3 arg4 harg4 arg5 harg5 arg6 harg6 x1 x2 x3 f4 = every8 (blockWords i x1 x2 x3) 5 := by
        unfold distances_run.sl.v37
        refine (readAt_every8 arg4.view _ 5 _).trans (congrArg (fun x => every8 x 5) hw)
      have h6 : distances_run.sl.v43 c i arg1 harg1 arg2 harg2 arg3 harg3 arg4 harg4 arg5 harg5 arg6 harg6 x1 x2 x3 f4 = every8 (blockWords i x1 x2 x3) 6 := by
        unfold distances_run.sl.v43
        refine (readAt_every8 arg4.view _ 6 _).trans (congrArg (fun x => every8 x 6) hw)
      have h7 : distances_run.sl.v49 c i arg1 harg1 arg2 harg2 arg3 harg3 arg4 harg4 arg5 harg5 arg6 harg6 x1 x2 x3 f4 = every8 (blockWords i x1 x2 x3) 7 := by
        unfold distances_run.sl.v49
        refine (readAt_every8 arg4.view _ 7 _).trans (congrArg (fun x => every8 x 7) hw)
      rw [h0, h1, h2, h3, h4, h5, h6, h7]
      refine (congrArg (fun w => k0_pay61 (search w 7).2) ?_ : _ = k0_pay61 (search (transposed (blockWords i x1 x2 x3)) 7).2)
      exact read_tiles arg6.view _ (blockWords i x1 x2 x3)
    iexists _, _; isplitr; swap; · iexact HS0
    ipureintro; rfl

end Cert.Distances.Hamming

end
-- ==== Proof.Dist.Count.lean ====
/-
  The kernel's search for the threshold, lane by lane: its byte counters count the distances at most a level, and the
  interval closes on the least level that reaches 64.
-/
module

public import proofs.«01_k».proof.Proof.Dist.Passes
public import proofs.«01_k».proof.Proof.Dist.Bytes
public import proofs.«01_k».proof.Proof.Dist.Body
public import Idealize.ShloMosaic.Lib.Pointwise

@[expose] public section

set_option maxRecDepth 16384

noncomputable section

namespace Cert.Distances.Hamming

open Idealize.ShloMosaic
open Cert.Distances Cert.Distances.Gen

/-- Row `R` of the transposed words, in lane `l`. -/
def lane (w : Vec Bits S1024x128 .i32) (l : Fin 128) (R : ℕ) : BitVec 32 :=
  w (ix2 (n0 := 1024) (n1 := 128) ⟨R % 1024, Nat.mod_lt _ (by decide)⟩ l)

/-- One if byte `b` of row `R` is at most the level. -/
def hit (w : Vec Bits S1024x128 .i32) (l : Fin 128) (t b R : ℕ) : ℕ := if byte b (lane w l R) ≤ t then 1 else 0

/-- How many of the bytes of lane `l` are at most a level. -/
def cntLane (w : Vec Bits S1024x128 .i32) (l : Fin 128) (t : ℕ) : ℕ :=
  ∑ R ∈ Finset.range 1024, (hit w l t 0 R + hit w l t 1 R + hit w l t 2 R + hit w l t 3 R)

/-- A higher level counts at least as many. -/
theorem hit_mono (w : Vec Bits S1024x128 .i32) (l : Fin 128) (b R s t : ℕ) (h : s ≤ t) : hit w l s b R ≤ hit w l t b R := by
  unfold hit; split <;> split <;> omega

/-- A higher level counts at least as many, over the lane. -/
theorem cntLane_mono (w : Vec Bits S1024x128 .i32) (l : Fin 128) (s t : ℕ) (h : s ≤ t) : cntLane w l s ≤ cntLane w l t :=
  Finset.sum_le_sum fun R _ => by
    have := hit_mono w l 0 R s t h; have := hit_mono w l 1 R s t h; have := hit_mono w l 2 R s t h; have := hit_mono w l 3 R s t h
    omega

/-- A counter's bytes count the bytes at most the level in the rows it took. -/
theorem counter_byte (w : Vec Bits S1024x128 .i32) (hw : ∀ y, ∀ b < 4, byte b (w y) ≤ 127) (cmp : IVec S8x128 32) (mid : ℕ) (hm : mid ≤ 64) (m : Fin 4)
    (s : Fin 8) (l : Fin 128) (hc : (cmp (ix2 (n0 := 8) (n1 := 128) s l)).toNat = (mid + 128) * 16843009) (n : ℕ) (hn : n ≤ 32) :
    ∀ b < 4, byte b (counter (F := Bits) w cmp m n hn (ix2 (n0 := 8) (n1 := 128) s l)) = ∑ j ∈ Finset.range n, hit w l mid b (8 * (4 * j + m.val) + s.val) := by
  induction n with
  | zero => intro b hb; show byte b 0#32 = 0; unfold byte; rw [PackedFields.field_eq_div]; simp
  | succ n ih =>
    intro b hb
    have h := ih (Nat.le_of_succ_le hn)
    have hg : group w ⟨4 * n + m.val, by have := m.isLt; omega⟩ (ix2 (n0 := 8) (n1 := 128) s l) = lane w l (8 * (4 * n + m.val) + s.val) := by
      refine congrArg w (funext fun a => Fin.ext ?_)
      have := m.isLt; have := s.isLt
      match a with
      | ⟨0, _⟩ => show 8 * (4 * n + m.val) + 1 * s.val = (8 * (4 * n + m.val) + s.val) % 1024; omega
      | ⟨1, _⟩ => show 0 + 1 * l.val = l.val; omega
    have hle : ∀ b < 4, byte b (counter (F := Bits) w cmp m n (Nat.le_of_succ_le hn) (ix2 (n0 := 8) (n1 := 128) s l)) < 255 := by
      intro b hb
      rw [h b hb]
      calc _ ≤ ∑ j ∈ Finset.range n, 1 := Finset.sum_le_sum fun j _ => by unfold hit; split <;> omega
        _ = n := by simp
        _ < 255 := by omega
    have e := byte_step .vector mid hm (cmp (ix2 (n0 := 8) (n1 := 128) s l)) (group w ⟨4 * n + m.val, by have := m.isLt; omega⟩ (ix2 (n0 := 8) (n1 := 128) s l))
      (counter (F := Bits) w cmp m n (Nat.le_of_succ_le hn) (ix2 (n0 := 8) (n1 := 128) s l)) hc (by rw [hg]; exact hw _) hle b hb
    rw [Finset.sum_range_succ, ← h b hb]
    rw [hg] at e
    refine Eq.trans ?_ e
    rw [← hg]
    rfl

/-- The value of a sum of two words that stays inside the word. -/
theorem add_val (a x : BitVec 32) (A X : ℕ) (ha : a.toNat = A) (hx : x.toNat = X) (h : A + X < 4294967296) : (IntOp.addi a x).toNat = A + X := by
  unfold IntOp.addi
  rw [BitVec.toNat_add, ha, hx, Nat.mod_eq_of_lt h]

/-- The four bytes of a word, added up. -/
def bytesum (x : BitVec 32) : ℕ := byte 0 x + byte 1 x + byte 2 x + byte 3 x

/-- The sum of the sixteen bytes of the four counters. -/
def total (T0 T1 T2 T3 : IVec S8x128 32) : IVec S8x128 32 :=
  addi (addi (k0_pay45 T1 T2 T3 (k0_pay43 T0 T1) (k0_pay44 T1) 255#32) (andi (shrui T3 (broadcast S8x128 16#32)) (broadcast S8x128 255#32)))
    (andi (shrui T3 (broadcast S8x128 24#32)) (broadcast S8x128 255#32))

/-- A word's four bytes added onto a word, one after the other. -/
def addBytes (a x : BitVec 32) : BitVec 32 :=
  IntOp.addi (IntOp.addi (IntOp.addi (IntOp.addi a (IntOp.andi (IntOp.shrui .vector x 0#32) 255#32)) (IntOp.andi (IntOp.shrui .vector x 8#32) 255#32))
    (IntOp.andi (IntOp.shrui .vector x 16#32) 255#32)) (IntOp.andi (IntOp.shrui .vector x 24#32) 255#32)

/-- Bytes added up are at most four times 255. -/
theorem bytesum_le (x : BitVec 32) : bytesum x ≤ 1020 := by
  have := byte_lt 0 x; have := byte_lt 1 x; have := byte_lt 2 x; have := byte_lt 3 x
  unfold bytesum; omega

/-- The value of such a sum. -/
theorem addBytes_val (a x : BitVec 32) (A : ℕ) (ha : a.toNat = A) (h : A ≤ 65536) : (addBytes a x).toNat = A + bytesum x := by
  have h0 := byte_lt 0 x; have h1 := byte_lt 1 x; have h2 := byte_lt 2 x; have h3 := byte_lt 3 x
  have s0 := add_val a _ A _ ha (toNat_byte .vector x 0#32 0 (by decide) rfl) (by omega)
  have s1 := add_val _ _ _ _ s0 (toNat_byte .vector x 8#32 1 (by decide) rfl) (by omega)
  have s2 := add_val _ _ _ _ s1 (toNat_byte .vector x 16#32 2 (by decide) rfl) (by omega)
  have s3 := add_val _ _ _ _ s2 (toNat_byte .vector x 24#32 3 (by decide) rfl) (by omega)
  unfold addBytes bytesum
  rw [s3]
  simp only [Nat.add_assoc]

/-- The sum of the sixteen bytes at an index. -/
theorem total_apply (T0 T1 T2 T3 : IVec S8x128 32) (y : S8x128.Idx) :
    total T0 T1 T2 T3 y = addBytes (addBytes (addBytes (addBytes 0#32 (T0 y)) (T1 y)) (T2 y)) (T3 y) := by
  unfold total k0_pay45 k0_pay43 k0_pay44 k0_pay40 addBytes
  rfl

/-- The value of that sum. -/
theorem total_val (T0 T1 T2 T3 : IVec S8x128 32) (y : S8x128.Idx) :
    (total T0 T1 T2 T3 y).toNat = bytesum (T0 y) + bytesum (T1 y) + bytesum (T2 y) + bytesum (T3 y) := by
  have b0 := bytesum_le (T0 y); have b1 := bytesum_le (T1 y); have b2 := bytesum_le (T2 y); have b3 := bytesum_le (T3 y)
  have s0 := addBytes_val 0#32 (T0 y) 0 rfl (by omega)
  have s1 := addBytes_val _ (T1 y) _ s0 (by omega)
  have s2 := addBytes_val _ (T2 y) _ s1 (by omega)
  have s3 := addBytes_val _ (T3 y) _ s2 (by omega)
  rw [total_apply, s3, Nat.zero_add]

/-- The bytes of all the counters in lane `l`, added up. -/
def grand (T0 T1 T2 T3 : IVec S8x128 32) (l : Fin 128) : ℕ :=
  ∑ s : Fin 8, (bytesum (T0 (ix2 (n0 := 8) (n1 := 128) s l)) + bytesum (T1 (ix2 (n0 := 8) (n1 := 128) s l))
    + bytesum (T2 (ix2 (n0 := 8) (n1 := 128) s l)) + bytesum (T3 (ix2 (n0 := 8) (n1 := 128) s l)))

/-- The grand total is small. -/
theorem grand_le (T0 T1 T2 T3 : IVec S8x128 32) (l : Fin 128) : grand T0 T1 T2 T3 l ≤ 32640 := by
  unfold grand
  calc _ ≤ ∑ s : Fin 8, 4080 := Finset.sum_le_sum fun s _ => by
        have := bytesum_le (T0 (ix2 (n0 := 8) (n1 := 128) s l)); have := bytesum_le (T1 (ix2 (n0 := 8) (n1 := 128) s l))
        have := bytesum_le (T2 (ix2 (n0 := 8) (n1 := 128) s l)); have := bytesum_le (T3 (ix2 (n0 := 8) (n1 := 128) s l))
        omega
    _ = 32640 := by simp

/-- A signed comparison of small words. -/
theorem sge_small (x : BitVec 32) (h : x.toNat < 2147483648) : IntOp.cmpi .sge x 64#32 = BitVec.ofBool (decide (64 ≤ x.toNat)) := by
  have e : x.toInt = x.toNat := by rw [BitVec.toInt_eq_toNat_cond, if_pos (by omega)]
  show BitVec.ofBool ((64#32).sle x) = _
  congr 1
  rw [BitVec.sle_eq_decide, e]
  have : (64#32 : BitVec 32).toInt = 64 := by decide
  rw [this]
  congr 1
  exact propext (by omega)

/-- The comparison that narrows the interval: the grand total against 64. -/
theorem reached_eq (T0 T1 T2 T3 : IVec S8x128 32) (l : Fin 128) :
    k0_pay58 T3 (k0_pay45 T1 T2 T3 (k0_pay43 T0 T1) (k0_pay44 T1) 255#32) 16#32 (ix2 (n0 := 1) (n1 := 128) 0 l)
      = BitVec.ofBool (decide (64 ≤ grand T0 T1 T2 T3 l)) := by
  have hs : ∑ i ∈ Finset.univ.filter (fun i => reduces_S8x128_S128.drop i = ix1 (n0 := 128) l), (total T0 T1 T2 T3 i).toNat = grand T0 T1 T2 T3 l := by
    rw [Shape.Reduces.sum_fiber_r2_a0]
    exact Finset.sum_congr rfl fun s _ => total_val T0 T1 T2 T3 _
  have hb := grand_le T0 T1 T2 T3 l
  have hv : (multiReductionI .add [0] S128 (total T0 T1 T2 T3) 0#32 reduces_S8x128_S128 rfl (ix1 (n0 := 128) l)).toNat = grand T0 T1 T2 T3 l :=
    (WordSum.toNat_multiReductionI_add _ _ _ _ (by rw [hs]; omega)).trans hs
  have hx : shapeCast S1x128 (multiReductionI .add [0] S128 (total T0 T1 T2 T3) 0#32 reduces_S8x128_S128 rfl) shapeCasts_S128_S1x128 (ix2 (n0 := 1) (n1 := 128) 0 l)
      = multiReductionI .add [0] S128 (total T0 T1 T2 T3) 0#32 reduces_S8x128_S128 rfl (ix1 (n0 := 128) l) := by
    simp only [pointwise]
  refine Eq.trans (b := IntOp.cmpi .sge (shapeCast S1x128 (multiReductionI .add [0] S128 (total T0 T1 T2 T3) 0#32 reduces_S8x128_S128 rfl) shapeCasts_S128_S1x128 (ix2 (n0 := 1) (n1 := 128) 0 l)) 64#32) rfl ?_
  rw [hx, sge_small _ (by rw [hv]; omega), hv]

/-- The rows taken by the four counters are all the rows. -/
theorem regroup (f : ℕ → ℕ) :
    ∑ x : Fin 8, (∑ j ∈ Finset.range 32, f (8 * (4 * j + (0 : Fin 4).val) + x.val) + ∑ j ∈ Finset.range 32, f (8 * (4 * j + (1 : Fin 4).val) + x.val)
      + ∑ j ∈ Finset.range 32, f (8 * (4 * j + (2 : Fin 4).val) + x.val) + ∑ j ∈ Finset.range 32, f (8 * (4 * j + (3 : Fin 4).val) + x.val))
      = ∑ R ∈ Finset.range 1024, f R := by
  rw [show (1024 : ℕ) = 32 * 4 * 8 from rfl, sum_range_mul (32 * 4) 8, sum_range_mul 32 4]
  have h : ∀ i, ∑ j ∈ Finset.range 4, ∑ k ∈ Finset.range 8, f (8 * (4 * i + j) + k)
      = ∑ x : Fin 8, (f (8 * (4 * i + 0) + x.val) + f (8 * (4 * i + 1) + x.val) + f (8 * (4 * i + 2) + x.val) + f (8 * (4 * i + 3) + x.val)) := by
    intro i
    rw [Finset.sum_comm, Finset.sum_range]
    exact Finset.sum_congr rfl fun x _ => by simp [Finset.sum_range_succ]
  simp only [h]
  rw [Finset.sum_comm]
  exact Finset.sum_congr rfl fun x _ => by simp only [Finset.sum_add_distrib]; rfl

/-- Over the counters' rows, the grand total is the count over the lane. -/
theorem grand_counters (w : Vec Bits S1024x128 .i32) (hw : ∀ y, ∀ b < 4, byte b (w y) ≤ 127) (cmp : IVec S8x128 32) (mid : ℕ) (hm : mid ≤ 64)
    (l : Fin 128) (hc : ∀ s : Fin 8, (cmp (ix2 (n0 := 8) (n1 := 128) s l)).toNat = (mid + 128) * 16843009) (h : 32 ≤ 32) :
    grand (counter (F := Bits) w cmp 0 32 h) (counter (F := Bits) w cmp 1 32 h) (counter (F := Bits) w cmp 2 32 h) (counter (F := Bits) w cmp 3 32 h) l = cntLane w l mid := by
  have hq : ∀ (m : Fin 4) (s : Fin 8), bytesum (counter (F := Bits) w cmp m 32 h (ix2 (n0 := 8) (n1 := 128) s l))
      = ∑ j ∈ Finset.range 32, (hit w l mid 0 (8 * (4 * j + m.val) + s.val) + hit w l mid 1 (8 * (4 * j + m.val) + s.val)
        + hit w l mid 2 (8 * (4 * j + m.val) + s.val) + hit w l mid 3 (8 * (4 * j + m.val) + s.val)) := by
    intro m s
    have hcb := counter_byte w hw cmp mid hm m s l (hc s) 32 h
    unfold bytesum
    rw [hcb 0 (by decide), hcb 1 (by decide), hcb 2 (by decide), hcb 3 (by decide), ← Finset.sum_add_distrib, ← Finset.sum_add_distrib, ← Finset.sum_add_distrib]
  unfold grand cntLane
  simp only [hq]
  exact regroup (fun R => hit w l mid 0 R + hit w l mid 1 R + hit w l mid 2 R + hit w l mid 3 R)

/-- The compared word in a lane: the middle level plus 128, in each of the four bytes. -/
theorem compared (lo hi : IVec S1x128 32) (l : Fin 128) (s : Fin 8) (a b : ℕ) (hlo : (lo (ix2 (n0 := 1) (n1 := 128) 0 l)).toNat = a)
    (hhi : (hi (ix2 (n0 := 1) (n1 := 128) 0 l)).toNat = b) (h : (a + b) / 2 ≤ 64) :
    (k0_pay38 lo hi (ix2 (n0 := 1) (n1 := 128) 0 l)).toNat = (a + b) / 2
      ∧ (k0_pay39 lo hi (ix2 (n0 := 8) (n1 := 128) s l)).toNat = ((a + b) / 2 + 128) * 16843009 := by
  have e : (k0_pay38 lo hi (ix2 (n0 := 1) (n1 := 128) 0 l)).toNat = (a + b) / 2 := by
    have hs := add_val _ _ a b hlo hhi (by omega)
    show (IntOp.shrsi .vector (IntOp.addi (lo (ix2 (n0 := 1) (n1 := 128) 0 l)) (hi (ix2 (n0 := 1) (n1 := 128) 0 l))) 1#32).toNat = _
    generalize IntOp.addi (lo (ix2 (n0 := 1) (n1 := 128) 0 l)) (hi (ix2 (n0 := 1) (n1 := 128) 0 l)) = z at hs
    unfold IntOp.shrsi
    rw [if_pos (by decide), BitVec.sshiftRight_eq', BitVec.sshiftRight_eq_of_msb_false (by rw [BitVec.msb_eq_false_iff_two_mul_lt]; omega), BitVec.toNat_ushiftRight, hs]
    rw [Nat.shiftRight_eq_div_pow]
    rfl
  refine ⟨e, ?_⟩
  have hx : k0_pay39 lo hi (ix2 (n0 := 8) (n1 := 128) s l) = IntOp.muli (IntOp.ori (k0_pay38 lo hi (ix2 (n0 := 1) (n1 := 128) 0 l)) 128#32) 16843009#32 := by
    unfold k0_pay39
    simp only [pointwise]
    rfl
  rw [hx]
  generalize k0_pay38 lo hi (ix2 (n0 := 1) (n1 := 128) 0 l) = z at e
  generalize (a + b) / 2 = mid at e h
  have ho : (z ||| 128#32).toNat = mid + 128 := by
    rw [BitVec.toNat_or, e]
    have := Nat.shiftLeft_add_eq_or_of_lt (b := mid) (i := 7) (by omega) 1
    rw [Nat.or_comm]
    refine this.symm.trans ?_
    rw [Nat.shiftLeft_eq]
    omega
  show ((z ||| 128#32) * 16843009#32).toNat = _
  rw [BitVec.toNat_mul, ho]
  exact Nat.mod_eq_of_lt (by show (mid + 128) * 16843009 < 4294967296; omega)

/-- A choice between two words, by a comparison. -/
theorem choose (p : Prop) [Decidable p] (a b : BitVec 32) : Scalar.select (BitVec.ofBool (decide p)) a b = if p then a else b := by
  by_cases h : p <;> simp [Scalar.select, h]

/-- After `k` steps the interval brackets the level looked for. -/
theorem search_bracket (w : Vec Bits S1024x128 .i32) (hw : ∀ y, ∀ b < 4, byte b (w y) ≤ 127) (l : Fin 128) (k : ℕ) :
    Bracket (cntLane w l) ((search (F := Bits) w k).1 (ix2 (n0 := 1) (n1 := 128) 0 l)).toNat ((search (F := Bits) w k).2 (ix2 (n0 := 1) (n1 := 128) 0 l)).toNat (64 / 2 ^ k) := by
  induction k with
  | zero => exact Bracket.start _
  | succ k ih =>
    have hm := ih.mid_le
    have h8 := fun s => compared (search (F := Bits) w k).1 (search (F := Bits) w k).2 l s _ _ rfl rfl hm
    have hg := grand_counters w hw (k0_pay39 (search (F := Bits) w k).1 (search (F := Bits) w k).2) _ hm l (fun s => (h8 s).2) (Nat.le_refl _)
    have hst := ih.step (cntLane_mono w l)
    rw [Nat.div_div_eq_div_mul, ← Nat.pow_succ] at hst
    have hr := reached_eq (counter (F := Bits) w (k0_pay39 (search (F := Bits) w k).1 (search (F := Bits) w k).2) 0 32 (Nat.le_refl _))
      (counter (F := Bits) w (k0_pay39 (search (F := Bits) w k).1 (search (F := Bits) w k).2) 1 32 (Nat.le_refl _))
      (counter (F := Bits) w (k0_pay39 (search (F := Bits) w k).1 (search (F := Bits) w k).2) 2 32 (Nat.le_refl _))
      (counter (F := Bits) w (k0_pay39 (search (F := Bits) w k).1 (search (F := Bits) w k).2) 3 32 (Nat.le_refl _)) l
    rw [hg] at hr
    have e1 : (search (F := Bits) w (k + 1)).1 (ix2 (n0 := 1) (n1 := 128) 0 l)
        = if 64 ≤ cntLane w l ((((search (F := Bits) w k).1 (ix2 (n0 := 1) (n1 := 128) 0 l)).toNat + ((search (F := Bits) w k).2 (ix2 (n0 := 1) (n1 := 128) 0 l)).toNat) / 2)
          then (search (F := Bits) w k).1 (ix2 (n0 := 1) (n1 := 128) 0 l)
          else IntOp.addi (k0_pay38 (search (F := Bits) w k).1 (search (F := Bits) w k).2 (ix2 (n0 := 1) (n1 := 128) 0 l)) 1#32 := by
      rw [← choose, ← hr]
      rfl
    have e2 : (search (F := Bits) w (k + 1)).2 (ix2 (n0 := 1) (n1 := 128) 0 l)
        = if 64 ≤ cntLane w l ((((search (F := Bits) w k).1 (ix2 (n0 := 1) (n1 := 128) 0 l)).toNat + ((search (F := Bits) w k).2 (ix2 (n0 := 1) (n1 := 128) 0 l)).toNat) / 2)
          then k0_pay38 (search (F := Bits) w k).1 (search (F := Bits) w k).2 (ix2 (n0 := 1) (n1 := 128) 0 l)
          else (search (F := Bits) w k).2 (ix2 (n0 := 1) (n1 := 128) 0 l) := by
      rw [← choose, ← hr]
      rfl
    have h38 := (h8 0).1
    rw [e1, e2, apply_ite BitVec.toNat, apply_ite BitVec.toNat, add_val _ 1#32 _ 1 h38 rfl (by omega), h38]
    exact hst

/-- The thresholds of a block of words: in each lane the least level whose count reaches 64. -/
theorem blockThr_isThr (x4 : Vec Bits S1024x128 .i32) (hw : ∀ y, ∀ b < 4, byte b (x4 y) ≤ 127) (l : Fin 128) :
    IsThr (cntLane (transposed x4) l) (blockThr (F := Bits) x4 (ix3 (n0 := 1) (n1 := 1) (n2 := 128) 0 0 l)).toNat := by
  have h := search_bracket (transposed x4) (fun y => hw _) l 7
  have e : blockThr (F := Bits) x4 (ix3 (n0 := 1) (n1 := 1) (n2 := 128) 0 0 l) = (search (F := Bits) (transposed x4) 7).2 (ix2 (n0 := 1) (n1 := 128) 0 l) := by
    unfold blockThr k0_pay61
    simp only [pointwise]
  rw [e]
  exact h.done

end Cert.Distances.Hamming

end
-- ==== Proof.Dist.Run.lean ====
/-
  The pipeline of the `distances` call: its proof data, with what it leaves in its two results named, the body's
  obligation at every grid point, and the run of the whole program.
-/
module

public import proofs.«01_k».proof.Proof.Dist.Body
public import Idealize.ShloMosaic.Lib.Pipeline.ValueKit.Geometry

@[expose] public section

set_option maxRecDepth 16384

noncomputable section

namespace Cert.Distances.Hamming

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.Rounds
open Cert.Distances Cert.Distances.Gen

variable {F : FTy → Type} [FloatOps F]

local notation "𝕄" => MT nD τ sig Unit (Elt F) ℕ (UR sig nD τ) ℕ

/-- One grid point. Whatever else is held (`Pg`, `Ow`) rides along; the staged inputs stay as they are, the two staged
results end at the values named in the body's triple, and the scratch buffer is given back at some contents. -/
theorem distances_point (c : Dev nD) (i : grid0.Coords) (arg1 : Memref sig .tc .smem S6144 .i32) (harg1 : arg1.IsWhole) (arg2 : Memref sig .tc .smem S3072 .i32) (harg2 : arg2.IsWhole) (arg3 : Memref sig .tc .vmem S8192x128 .i32) (harg3 : arg3.IsWhole) (arg4 : Memref sig .tc .vmem S1024x128 .i32) (harg4 : arg4.IsWhole) (arg5 : Memref sig .tc .vmem S1x1x128 .i32) (harg5 : arg5.IsWhole) (arg6 : Memref sig .tc .vmem S1024x128 .i32) (harg6 : arg6.IsWhole)
    (x1 : Vec F S6144 .i32) (x2 : Vec F S3072 .i32) (x3 : Vec F S8192x128 .i32)
    (Pg Ow : sProp 𝕄) {D0 D1 D2 D3 D4 : Type}
    (d3 : D3 → Vec F S1024x128 .i32) (d4 : D4 → Vec F S1x1x128 .i32) :
    iprop(((∃ d, owns (c : Thread nD τ) arg6 fullShare d) ∗ Pg) ∗ Ow
        ∗ (∃ _d : D0, owns (c : Thread nD τ) arg1 fullShare x1) ∗ (∃ _d : D1, owns (c : Thread nD τ) arg2 fullShare x2) ∗ (∃ _d : D2, owns (c : Thread nD τ) arg3 fullShare x3)
        ∗ (∃ d, owns (c : Thread nD τ) arg4 fullShare (d3 d)) ∗ (∃ d, owns (c : Thread nD τ) arg5 fullShare (d4 d)))
      ⊢ wp frame (wpE (defs₀ (F := F)) Variants.none c none) Set.univ (cc0_distances i arg1 harg1 arg2 harg2 arg3 harg3 arg4 harg4 arg5 harg5 arg6 harg6)
        (fun _ => iprop(((∃ d, owns (c : Thread nD τ) arg6 fullShare d) ∗ Pg) ∗ Ow
          ∗ owns (c : Thread nD τ) arg1 fullShare x1 ∗ owns (c : Thread nD τ) arg2 fullShare x2 ∗ owns (c : Thread nD τ) arg3 fullShare x3
          ∗ owns (c : Thread nD τ) arg4 fullShare (blockWords i x1 x2 x3) ∗ owns (c : Thread nD τ) arg5 fullShare (blockThr (blockWords i x1 x2 x3)))) := by
  iintro ⟨⟨HS0, Hg⟩, Ho, ⟨%_, H0⟩, ⟨%_, H1⟩, ⟨%_, H2⟩, ⟨%_, H3⟩, ⟨%_, H4⟩⟩
  iapply (distances_run c i arg1 harg1 arg2 harg2 arg3 harg3 arg4 harg4 arg5 harg5 arg6 harg6 x1 x2 x3 Set.univ _)
  isplitl [H0]; · iexact H0
  isplitl [H1]; · iexact H1
  isplitl [H2]; · iexact H2
  isplitl [H3]; · iexists _; iexact H3
  isplitl [H4]; · iexists _; iexact H4
  isplitl [HS0]; · iexact HS0
  iintro ⟨H0, H1, H2, H3, H4, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  iexact H4

variable (m : (ℓ : Loc nD τ sig) → Buf (Elt F) ℓ) (ρ : Dev nD → PrngReg)

/-- The proof data of the call: the inputs' blocks stay, the results' blocks are the packed words and the thresholds of
the point's three input blocks. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockWords (grid0.coords t) (iblk m c 0 t) (iblk m c 1 t) (iblk m c 2 t)
    | ⟨4, _⟩ => blockThr (blockWords (grid0.coords t) (iblk m c 0 t) (iblk m c 1 t) (iblk m c 2 t))
  Φ _ := Pipeline.ΦA spec0 c
  q _ := fullShare
  owed _ := 0

/-- The proof data of the program's one pipeline. -/
def dats (p : Fin 1) (c : Dev nD) : Dat τ (Elt F) Unit ℕ (UR sig nD τ) ℕ (cfgs p) c := match p with | ⟨0, _⟩ => dat m c

/-- The proof data's arrays are the contents at the entry. -/
theorem A_eq (c : Dev nD) (w : Fin cfg0.W) : (dat m c).A w = V m c (Pipeline.arrRef spec0 w) := by dsimp only [dat]

/-- Before each grid point, window 0 holds the queries. -/
theorem before_0 (c : Dev nD) (t : Fin cfg0.N) (d) : (dat m c).before 0 t d = iblk m c 0 t :=
  before0_0_of m (dat m c) (A_eq m c 0) (fun t => by dsimp only [dat]) t d
/-- Before each grid point, window 1 holds the lengths. -/
theorem before_1 (c : Dev nD) (t : Fin cfg0.N) (d) : (dat m c).before 1 t d = iblk m c 1 t :=
  before0_1_of m (dat m c) (A_eq m c 1) (fun t => by dsimp only [dat]) t d
/-- Before each grid point, window 2 holds its block of the signatures. -/
theorem before_2 (c : Dev nD) (t : Fin cfg0.N) (d) : (dat m c).before 2 t d = iblk m c 2 t :=
  before0_2_of m (dat m c) (A_eq m c 2) (fun t => by dsimp only [dat]) t d

/-- The invariant: the call's scratch buffer at some contents, and the generator register. -/
theorem Phi_eq (c : Dev nD) :
    (Pipeline.ΦA spec0 c : sProp 𝕄) = iprop((∃ d, owns (c : Thread nD τ) (Memref.whole cc0_scratch0) fullShare d) ∗ ∃ r, prngReg c r) := by
  unfold Pipeline.ΦA
  rw [scopedRest0_eq]
  simp only [owns_whole]

/-- What the body is called with at point `t`, window by window. -/
def bodyPre (c : Dev nD) (t : Fin cfg0.N) : sProp 𝕄 :=
  iprop((dat m c).Φ t.castSucc ∗ (dat m c).owesAt () t.castSucc
    ∗ (∃ d, owns (c : Thread nD τ) (win0_0.stage (cfg0.slots t 0)) fullShare ((dat m c).before 0 t d))
    ∗ (∃ d, owns (c : Thread nD τ) (win0_1.stage (cfg0.slots t 1)) fullShare ((dat m c).before 1 t d))
    ∗ (∃ d, owns (c : Thread nD τ) (win0_2.stage (cfg0.slots t 2)) fullShare ((dat m c).before 2 t d))
    ∗ (∃ d, owns (c : Thread nD τ) (win0_3.stage (cfg0.slots t 3)) fullShare ((dat m c).before 3 t d))
    ∗ (∃ d, owns (c : Thread nD τ) (win0_4.stage (cfg0.slots t 4)) fullShare ((dat m c).before 4 t d)))

/-- What the body returns at point `t`. -/
def bodyPost (c : Dev nD) (t : Fin cfg0.N) : sProp 𝕄 :=
  iprop((dat m c).Φ t.succ ∗ (dat m c).owesAt () t.succ
    ∗ owns (c : Thread nD τ) (win0_0.stage (cfg0.slots t 0)) fullShare ((dat m c).after 0 t)
    ∗ owns (c : Thread nD τ) (win0_1.stage (cfg0.slots t 1)) fullShare ((dat m c).after 1 t)
    ∗ owns (c : Thread nD τ) (win0_2.stage (cfg0.slots t 2)) fullShare ((dat m c).after 2 t)
    ∗ owns (c : Thread nD τ) (win0_3.stage (cfg0.slots t 3)) fullShare ((dat m c).after 3 t)
    ∗ owns (c : Thread nD τ) (win0_4.stage (cfg0.slots t 4)) fullShare ((dat m c).after 4 t))

/-- The body at any point. -/
theorem sound (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2]
  rw [show (dat m c).Φ t.succ = (dat m c).Φ t.castSucc from rfl,
    show (dat m c).owesAt () t.succ = (dat m c).owesAt () t.castSucc from rfl,
    show (dat m c).Φ t.castSucc = Pipeline.ΦA spec0 c from rfl, Phi_eq]
  exact distances_point c (grid0.coords t) _ _ _ _ _ _ _ _ _ _ _ _ (iblk m c 0 t) (iblk m c 1 t) (iblk m c 2 t) _ _ _ _

/-- The body's obligation at every point of the call. -/
theorem obligation (c : Dev nD) : BodyObligation (dat (F := F) m c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound m c t) rfl .rfl fun _ => .rfl

/-- Every run ends, with each array at the contents the proof data names and every semaphore counter at zero. -/
theorem run [∀ e, Nonempty (Elt F e)] :
    θ_run (defs (F := F)) (onTc (τ := τ) (main (F := F))) ⟨m, fun _ => 0, ρ⟩ (fun r => FramePost cfgs (dats m) 0 (V m) r ∧ r.2.sem = fun _ => 0) :=
  θ_run_frame cfgs (dats m) 0 launch0 defs₀ Variants.none m ρ main (fun c => (obligation m c).loose) (fun c w => by show (dat m c).share w = _; unfold Dat.share; split <;> rfl) (fun _ _ => rfl) (V m) (hmain m Variants.none)
    (fun c w => A_eq m c w) (fun _ _ => rfl) _ (fun _ h => h)

/-- Every run leaves the three argument arrays as they were. -/
theorem args_kept (r : PUnit × MemSt nD τ sig (Elt F)) (h : FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 1).trans (((dats m 0 c).arrAt_in 1 rfl _).trans ((A_eq m c 1).trans (V_main_arg2 m c)))⟩

end Cert.Distances.Hamming

end
-- ==== Proof.Dist.Arrays.lean ====
/-
  The two arrays that the `distances` call leaves, as plain functions of its arguments.
-/
module

public import proofs.«01_k».proof.Proof.Dist.Plain
public import proofs.«01_k».proof.Proof.Dist.Count
public import proofs.«01_k».proof.Proof.Dist.Run
public import Idealize.ShloMosaic.Lib.Pipeline.ValueKit
public import Idealize.ShloMosaic.Lib.StableHlo.ReadAt

@[expose] public section

set_option maxRecDepth 16384

noncomputable section

namespace Cert.Distances.Hamming

open Idealize.ShloMosaic Idealize.ShloMosaic.TcCoe Idealize.SL.Sem
open Idealize.ShloMosaic.Pipeline (Dat)
open Cert.Distances Cert.Distances.Gen

variable (m : (ℓ : Loc nD τ sig) → Buf (Elt Bits) ℓ) (c : Dev nD)

/-- The queries' signatures, as launched. -/
def qs : Queries := m ((c : Thread nD τ).loc main_arg0)
/-- The items' signatures, as launched. -/
def hs : Items := m ((c : Thread nD τ).loc main_arg1)
/-- The lengths, as launched. -/
def ns : Lens := m ((c : Thread nD τ).loc main_arg2)

/-- The relaid queries, read at one index. -/
theorem entry_q (T : Fin 24) (n : Fin 128) (e : Fin 2) :
    V m c main_v7 (ix1 (n0 := 6144) ⟨256 * T.val + n.val + 128 * e.val, by omega⟩) = qs m c (ix2 ⟨T.val * 128 + n.val, by omega⟩ e) := by
  show StableHlo.after hostOps0 (fun b => m (c, b)) (Proc.devRef .tc main_v7) (ix1 (n0 := 6144) ⟨256 * T.val + n.val + 128 * e.val, by omega⟩) = _
  after_reads_at
  rfl

/-- The relaid signatures, read at one index. -/
theorem entry_h (r : Fin 3072) (k : Fin 32) (e : Fin 2) (l : Fin 128) :
    V m c main_v3 (ix2 (n0 := 196608) (n1 := 128) ⟨64 * r.val + 2 * k.val + e.val, by omega⟩ l) = hs m c (ix3 r ⟨k.val * 128 + l.val, by omega⟩ e) := by
  show StableHlo.after hostOps0 (fun b => m (c, b)) (Proc.devRef .tc main_v3) (ix2 (n0 := 196608) (n1 := 128) ⟨64 * r.val + 2 * k.val + e.val, by omega⟩ l) = _
  after_reads_at
  rfl

/-- The block indices of the call. -/
theorem index : ∀ t : Fin cfg0.N, win0_0.index t = ![0] ∧ win0_1.index t = ![0] ∧ win0_2.index t = ![t.val, 0]
    ∧ win0_3.index t = ![t.val, 0] ∧ win0_4.index t = ![t.val, 0, 0] ∧ (grid0.coords t 0).val = t.val :=
  (by decide +kernel : ∀ t : Fin grid0.N, _)

/-- The block of the queries is all of them. -/
theorem read_q (t : Fin cfg0.N) (x : Fin 6144) : iblk m c 0 t (ix1 (n0 := 6144) x) = V m c main_v7 (ix1 (n0 := 6144) x) := by
  blk_ext [iblk, index t]
/-- The block of the lengths is all of them. -/
theorem read_n (t : Fin cfg0.N) (x : Fin 3072) : iblk m c 1 t (ix1 (n0 := 3072) x) = V m c main_arg2 (ix1 (n0 := 3072) x) := by
  blk_ext [iblk, index t]
/-- A block of the signatures, read off its array. -/
theorem read_h (t : Fin cfg0.N) (x : Fin 8192) (l : Fin 128) :
    iblk m c 2 t (ix2 (n0 := 8192) (n1 := 128) x l) = V m c main_v3 (ix2 (n0 := 196608) (n1 := 128) ⟨8192 * t.val + x.val, by have := t.isLt; change t.val < 24 at this; omega⟩ l) := by
  blk_ext [iblk, index t]

/-- Where a block of the words sits in its array. -/
theorem place_w (t : Fin cfg0.N) (y : Fin 1024) (l : Fin 128) :
    (win0_3.blk t).view.emb (ix2 (n0 := 1024) (n1 := 128) y l) = ix2 (n0 := 24576) (n1 := 128) ⟨1024 * t.val + y.val, by have := t.isLt; change t.val < 24 at this; omega⟩ l := by
  blk_ext [index t]
/-- Where a block of the thresholds sits in its array. -/
theorem place_t (t : Fin cfg0.N) (l : Fin 128) :
    (win0_4.blk t).view.emb (ix3 (n0 := 1) (n1 := 1) (n2 := 128) 0 0 l) = ix3 (n0 := 24) (n1 := 1) (n2 := 128) ⟨t.val, t.isLt⟩ 0 l := by
  blk_ext [index t]

/-! ## The words -/

/-- The kernel compares a position in its word with the length less the byte's offset; for a length that is not
negative this is the comparison of the whole position with the length. -/
theorem position (n : BitVec 32) (hn : n.toNat < 2147483648) (s : Fin 8) (b : Fin 4) (l : Fin 128) (x : BitVec 32) (hx : x.toNat = 512 * s.val + l.val)
    (o : BitVec 32) (ho : o.toNat = 128 * b.val) :
    IntOp.cmpi .slt x (Scalar.subi n o) = BitVec.ofBool ((BitVec.ofNat 32 (512 * s.val + 128 * b.val + l.val)).slt n) := by
  have := s.isLt; have := b.isLt; have := l.isLt
  show BitVec.ofBool (x.slt (n - o)) = _
  congr 1
  rw [BitVec.slt_eq_decide, BitVec.slt_eq_decide]
  congr 1
  have e1 : x.toInt = (512 * s.val + l.val : ℕ) := by rw [BitVec.toInt_eq_toNat_cond, if_pos (by omega), hx]
  have e2 : n.toInt = n.toNat := by rw [BitVec.toInt_eq_toNat_cond, if_pos (by omega)]
  have e3 : (BitVec.ofNat 32 (512 * s.val + 128 * b.val + l.val)).toInt = (512 * s.val + 128 * b.val + l.val : ℕ) := by
    have : (BitVec.ofNat 32 (512 * s.val + 128 * b.val + l.val)).toNat = 512 * s.val + 128 * b.val + l.val := by
      rw [BitVec.toNat_ofNat]; exact Nat.mod_eq_of_lt (by omega)
    rw [BitVec.toInt_eq_toNat_cond, if_pos (by omega), this]
  have e4 : (n - o).toInt = (n.toNat : ℤ) - (128 * b.val : ℕ) := by
    have : (n - o).toNat = (4294967296 - o.toNat + n.toNat) % 4294967296 := by rw [BitVec.toNat_sub]
    rw [BitVec.toInt_eq_toNat_cond, this, ho]
    split <;> omega
  rw [e1, e2, e3, e4]
  exact propext (by omega)

/-- A choice between two words, by a Boolean. -/
theorem pick (p : Bool) (a b : BitVec 32) : Scalar.select (BitVec.ofBool p) a b = if p = true then a else b := by
  cases p <;> rfl

/-- One distance of a packed word. -/
theorem distOf_apply (n qa qb off : BitVec 32) (hn : n.toNat < 2147483648) (b : Fin 4) (ho : off.toNat = 128 * b.val) (va vb : Vec Bits S8x128 .i32) (s : Fin 8) (l : Fin 128) :
    distOf (F := Bits) n qa qb off va vb (ix2 (n0 := 8) (n1 := 128) s l)
      = if (BitVec.ofNat 32 (512 * s.val + 128 * b.val + l.val)).slt n then
          IntOp.addi (IntOp.ctpop (IntOp.xori (va (ix2 (n0 := 8) (n1 := 128) s l)) qa)) (IntOp.ctpop (IntOp.xori (vb (ix2 (n0 := 8) (n1 := 128) s l)) qb))
        else 127#32 := by
  have hx : (k0_pay46 (ix2 (n0 := 8) (n1 := 128) s l)).toNat = 512 * s.val + l.val := by
    have := s.isLt; have := l.isLt
    show (BitVec.ofNat 32 (0 * 8 + s.val) * 512#32 + BitVec.ofNat 32 (0 * 128 + l.val)).toNat = _
    rw [BitVec.toNat_add, BitVec.toNat_mul, BitVec.toNat_ofNat, BitVec.toNat_ofNat, BitVec.toNat_ofNat]
    omega
  rw [← pick, ← position n hn s b l _ hx off ho]
  unfold distOf
  rw [shapeCast_id, shapeCast_id]
  rfl

variable (hn : ∀ r : Fin 3072, (ns m c (ix1 (n0 := 3072) r)).toNat < 2147483648)

include hn in
/-- The words of a block. -/
theorem block_words (t : Fin cfg0.N) (y : Fin 1024) (l : Fin 128) :
    blockWords (F := Bits) (grid0.coords t) (iblk m c 0 t) (iblk m c 1 t) (iblk m c 2 t) (ix2 (n0 := 1024) (n1 := 128) y l)
      = packed (qs m c) (hs m c) (ns m c) ⟨128 * t.val + y.val / 8, by have := t.isLt; change t.val < 24 at this; omega⟩ (y.val % 8) l.val := by
  have ht : t.val < 24 := t.isLt
  have hc : (grid0.coords t 0).val = t.val := (index t).2.2.2.2.2
  have hr : 128 * t.val + y.val / 8 < 3072 := by omega
  have h8 : y.val % 8 < 8 := Nat.mod_lt _ (by decide)
  have hl := l.isLt
  have en : iblk m c 1 t (ix1 (n0 := 3072) ⟨128 * (grid0.coords t 0).val + y.val / 8, by omega⟩) = ns m c (ix1 (n0 := 3072) ⟨128 * t.val + y.val / 8, hr⟩) := by
    rw [read_n, V_main_arg2]
    refine congrArg (ns m c) (congrArg ix1 (Fin.ext ?_))
    show 128 * (grid0.coords t 0).val + y.val / 8 = _; rw [hc]
  have eq : ∀ (e : Fin 2) (x : Fin 6144), x.val = 256 * t.val + y.val / 8 + 128 * e.val →
      iblk m c 0 t (ix1 (n0 := 6144) x) = qs m c (ix2 (n0 := 3072) (n1 := 2) ⟨128 * t.val + y.val / 8, hr⟩ e) := by
    intro e x hx
    rw [read_q, show x = ⟨256 * (⟨t.val, ht⟩ : Fin 24).val + (⟨y.val / 8, by omega⟩ : Fin 128).val + 128 * e.val, by dsimp only; omega⟩ from Fin.ext hx, entry_q]
    refine congrArg (qs m c) (congrArg (fun r => ix2 r e) (Fin.ext ?_))
    show t.val * 128 + y.val / 8 = 128 * t.val + y.val / 8; omega
  have eh : ∀ (b : Fin 4) (e : Fin 2), sigWords (F := Bits) (iblk m c 2 t) ⟨y.val / 8, by omega⟩ b e (ix2 (n0 := 8) (n1 := 128) ⟨y.val % 8, h8⟩ l)
      = hs m c (ix3 (n0 := 3072) (n1 := 4096) (n2 := 2) ⟨128 * t.val + y.val / 8, hr⟩ ⟨(512 * (y.val % 8) + 128 * b.val + l.val) % 4096, Nat.mod_lt _ (by decide)⟩ e) := by
    intro b e
    have hb := b.isLt; have he := e.isLt
    unfold sigWords
    have hx : (⟨8192 * t.val + (64 * (y.val / 8) + 2 * b.val + e.val + 8 * (y.val % 8)), by omega⟩ : Fin 196608)
        = ⟨64 * (⟨128 * t.val + y.val / 8, hr⟩ : Fin 3072).val + 2 * (⟨4 * (y.val % 8) + b.val, by omega⟩ : Fin 32).val + e.val, by dsimp only; omega⟩ :=
      Fin.ext (by dsimp only; omega)
    refine (read_h m c t _ _).trans ?_
    refine (congrArg (fun z => V m c main_v3 (ix2 (n0 := 196608) (n1 := 128) z l)) hx).trans ((entry_h m c _ _ e l).trans ?_)
    refine congrArg (hs m c) (congrArg (fun z => ix3 (n0 := 3072) (n1 := 4096) (n2 := 2) ⟨128 * t.val + y.val / 8, hr⟩ z e) (Fin.ext ?_))
    dsimp only
    omega
  have q0 := eq 0 ⟨256 * (grid0.coords t 0).val + y.val / 8, by omega⟩ (by show 256 * (grid0.coords t 0).val + y.val / 8 + 0 = _; rw [hc]; rfl)
  have q1 := eq 1 ⟨256 * (grid0.coords t 0).val + y.val / 8 + 128, by omega⟩ (by show 256 * (grid0.coords t 0).val + y.val / 8 + 128 = _; rw [hc]; rfl)
  have D : ∀ (b : Fin 4) (off : BitVec 32), off.toNat = 128 * b.val →
      distOf (F := Bits) (iblk m c 1 t (ix1 (n0 := 3072) ⟨128 * (grid0.coords t 0).val + y.val / 8, by omega⟩))
        (iblk m c 0 t (ix1 (n0 := 6144) ⟨256 * (grid0.coords t 0).val + y.val / 8, by omega⟩))
        (iblk m c 0 t (ix1 (n0 := 6144) ⟨256 * (grid0.coords t 0).val + y.val / 8 + 128, by omega⟩)) off
        (sigWords (F := Bits) (iblk m c 2 t) ⟨y.val / 8, by omega⟩ b 0) (sigWords (F := Bits) (iblk m c 2 t) ⟨y.val / 8, by omega⟩ b 1)
        (ix2 (n0 := 8) (n1 := 128) ⟨y.val % 8, h8⟩ l)
      = dist (qs m c) (hs m c) (ns m c) ⟨128 * t.val + y.val / 8, hr⟩ (512 * (y.val % 8) + 128 * b.val + l.val) := by
    intro b off ho
    rw [en, q0, q1, distOf_apply _ _ _ off (hn _) b ho, eh b 0, eh b 1]
    rfl
  have d0 := D 0 0#32 rfl
  have d1 := D 1 128#32 rfl
  have d2 := D 2 256#32 rfl
  have d3 := D 3 384#32 rfl
  unfold packed
  rw [show 512 * (y.val % 8) + l.val = 512 * (y.val % 8) + 128 * (0 : Fin 4).val + l.val from rfl, ← d0,
    show 512 * (y.val % 8) + 128 + l.val = 512 * (y.val % 8) + 128 * (1 : Fin 4).val + l.val from rfl, ← d1,
    show 512 * (y.val % 8) + 256 + l.val = 512 * (y.val % 8) + 128 * (2 : Fin 4).val + l.val from rfl, ← d2,
    show 512 * (y.val % 8) + 384 + l.val = 512 * (y.val % 8) + 128 * (3 : Fin 4).val + l.val from rfl, ← d3]
  rfl

include hn in
/-- The packed words that the call leaves. -/
theorem words_arr : (dat (F := Bits) m c).arrAt 3 cfg0.N = wordsOf (qs m c) (hs m c) (ns m c) := by
  refine (dat m c).arrAt_eq_of_covers 3 _ (by decide +kernel) fun t hf y => ?_
  blk_simp
  obtain ⟨y, l, rfl⟩ : ∃ (a : Fin 1024) (l : Fin 128), y = ix2 (n0 := 1024) (n1 := 128) a l := ⟨y 0, y 1, eq_ix2 y⟩
  rw [place_w t y l]
  have ht : t.val < 24 := t.isLt
  refine (block_words m c hn t y l).trans ?_
  unfold wordsOf
  have e1 : (⟨128 * t.val + y.val / 8, by omega⟩ : Fin 3072) = ⟨(1024 * t.val + y.val) / 8, by omega⟩ := Fin.ext (by dsimp only; omega)
  have e2 : y.val % 8 = (1024 * t.val + y.val) % 8 := by omega
  show packed _ _ _ ⟨128 * t.val + y.val / 8, by omega⟩ (y.val % 8) l.val = packed _ _ _ ⟨(1024 * t.val + y.val) / 8, by omega⟩ ((1024 * t.val + y.val) % 8) l.val
  rw [e1, ← e2]

/-! ## The thresholds -/

include hn in
/-- The thresholds of a block: each the least level that the batch row's count reaches 64 at. -/
theorem block_thr (t : Fin cfg0.N) (l : Fin 128) :
    IsThr (count (qs m c) (hs m c) (ns m c) ⟨128 * t.val + l.val, by have := t.isLt; change t.val < 24 at this; omega⟩)
      (blockThr (F := Bits) (blockWords (F := Bits) (grid0.coords t) (iblk m c 0 t) (iblk m c 1 t) (iblk m c 2 t)) (ix3 (n0 := 1) (n1 := 1) (n2 := 128) 0 0 l)).toNat := by
  have ht : t.val < 24 := t.isLt
  have hw : ∀ y, ∀ b < 4, byte b (blockWords (F := Bits) (grid0.coords t) (iblk m c 0 t) (iblk m c 1 t) (iblk m c 2 t) y) ≤ 127 := by
    intro y b hb
    obtain ⟨y, l, rfl⟩ : ∃ (a : Fin 1024) (l : Fin 128), y = ix2 (n0 := 1024) (n1 := 128) a l := ⟨y 0, y 1, eq_ix2 y⟩
    rw [block_words m c hn t y l]
    exact packed_le _ _ _ _ _ _ b hb
  have h := blockThr_isThr _ hw l
  have e : cntLane (transposed (F := Bits) (blockWords (F := Bits) (grid0.coords t) (iblk m c 0 t) (iblk m c 1 t) (iblk m c 2 t))) l
      = count (qs m c) (hs m c) (ns m c) ⟨128 * t.val + l.val, by omega⟩ := by
    funext T
    refine count_eq (qs m c) (hs m c) (ns m c) ⟨128 * t.val + l.val, by omega⟩ T
      (lane (transposed (F := Bits) (blockWords (F := Bits) (grid0.coords t) (iblk m c 0 t) (iblk m c 1 t) (iblk m c 2 t))) l) fun R hR => ?_
    have hl := l.isLt
    have hb := block_words m c hn t ⟨8 * l.val + R / 128, by omega⟩ ⟨R % 128, Nat.mod_lt _ (by decide)⟩
    have e1 : (⟨128 * t.val + (8 * l.val + R / 128) / 8, by omega⟩ : Fin 3072) = ⟨128 * t.val + l.val, by omega⟩ := Fin.ext (by dsimp only; omega)
    have e2 : (8 * l.val + R / 128) % 8 = R / 128 := by omega
    dsimp only at hb
    rw [e1, e2] at hb
    rw [← hb]
    unfold lane transposed
    refine congrArg _ (funext fun a => Fin.ext ?_)
    match a with
    | ⟨0, _⟩ => show 8 * l.val + (R % 1024) / 128 = 8 * l.val + R / 128; omega
    | ⟨1, _⟩ => show (R % 1024) % 128 = R % 128; omega
  rw [← e]
  exact h

include hn in
/-- Any array of least levels is the array of thresholds that the call leaves. -/
theorem thr_arr (G : (⟨3, ![24, 1, 128]⟩ : Shape).Idx → BitVec 32)
    (hG : ∀ (t : Fin 24) (l : Fin 128), IsThr (count (qs m c) (hs m c) (ns m c) ⟨128 * t.val + l.val, by omega⟩) (G (ix3 (n0 := 24) (n1 := 1) (n2 := 128) t 0 l)).toNat) :
    (dat (F := Bits) m c).arrAt 4 cfg0.N = G := by
  refine (dat m c).arrAt_eq_of_covers 4 _ (by decide +kernel) fun t hf y => ?_
  blk_simp
  obtain ⟨l, rfl⟩ : ∃ (l : Fin 128), y = ix3 (n0 := 1) (n1 := 1) (n2 := 128) 0 0 l := ⟨y 2, by
    have h0 : (y 0).val < 1 := (y 0).isLt
    have h1 : (y 1).val < 1 := (y 1).isLt
    funext a
    match a with
    | ⟨0, _⟩ => exact Fin.ext (by show (y 0).val = 0; omega)
    | ⟨1, _⟩ => exact Fin.ext (by show (y 1).val = 0; omega)
    | ⟨2, _⟩ => rfl⟩
  rw [place_t t l]
  exact BitVec.eq_of_toNat_eq ((block_thr m c hn t l).unique (hG ⟨t.val, t.isLt⟩ l))

end Cert.Distances.Hamming

end
-- ==== Proof.Dist.Reference.lean ====
/-
  The two results of the reference for the `distances` call, as plain functions of its arguments.
-/
module

public import proofs.«01_k».proof.Proof.Dist.Plain
public import proofs.«01_k».proof.Proof.Gen.DistancesReference.Run
public import Idealize.ShloMosaic.Lib.Pointwise
public import Idealize.ShloMosaic.Lib.IndicatorCount

@[expose] public section

set_option maxRecDepth 16384

noncomputable section

namespace Cert.DistancesReference.Hamming

open Idealize.ShloMosaic Idealize.ShloMosaic.TcCoe Idealize.SL.Sem
open Cert.DistancesReference Cert.DistancesReference.Gen
open Cert.Distances.Hamming (Queries Items Lens dist_le packed wordsOf count IsThr)

/-- A choice by a truth value. -/
theorem pick (p : Bool) (a b : BitVec 32) : Scalar.select (BitVec.ofBool p) a b = if p = true then a else b := by
  cases p <;> rfl

/-- A shift by less than 32 places is the same everywhere. -/
theorem shl_unit (x y : BitVec 32) (hy : y.toNat < 32) : IntOp.shli .host x y = IntOp.shli .vector x y := by
  unfold IntOp.shli; rw [if_pos hy, if_pos hy]

/-- The signed comparison with 64, of small words. -/
theorem sge_small (x : BitVec 32) (h : x.toNat < 2147483648) : IntOp.cmpi .sge x 64#32 = BitVec.ofBool (decide (64 ≤ x.toNat)) := by
  unfold IntOp.cmpi
  have e : (64#32 : BitVec 32).sle x = decide (64 ≤ x.toNat) := by
    rw [BitVec.sle_eq_decide, show (64#32 : BitVec 32).toInt = 64 from by decide, BitVec.toInt_eq_toNat_of_lt (by omega)]
    exact decide_eq_decide.2 (by omega)
  rw [← e]

/-- The signed comparison of a small word with a level. -/
theorem sle_small (x : BitVec 32) (t : ℕ) (h : x.toNat < 2147483648) (ht : t < 64) :
    IntOp.cmpi .sle x (BitVec.ofNat 32 t) = 1#1 ↔ x.toNat ≤ t := by
  unfold IntOp.cmpi
  have e : x.sle (BitVec.ofNat 32 t) = decide (x.toNat ≤ t) := by
    have h2 : (BitVec.ofNat 32 t).toNat = t := by rw [BitVec.toNat_ofNat]; omega
    rw [BitVec.sle_eq_decide, BitVec.toInt_eq_toNat_of_lt (by omega), BitVec.toInt_eq_toNat_of_lt (by omega), h2]
    exact decide_eq_decide.2 (by omega)
  show BitVec.ofBool (x.sle (BitVec.ofNat 32 t)) = 1#1 ↔ _
  rw [e]
  by_cases hp : x.toNat ≤ t <;> simp [hp]

/-- The reference's distances. -/
def distAll (q : Queries) (h : Items) (n : Lens) : IVec S3072x4096 32 :=
  select (cmpi .slt (broadcastInDim S3072x4096 ![0, 1] bcast_S1x4096_S3072x4096_0_1 (broadcastInDim S1x4096 ![1] bcast_S4096_S1x4096_1 (iotaInDim S4096 32 0)))
      (broadcastInDim S3072x4096 ![0, 1] bcast_S3072x1_S3072x4096_0_1 (broadcastInDim S3072x1 ![0] bcast_S3072_S3072x1_0 n)))
    (addi (shapeCast _ (extractStridedSlice S3072x4096x1 ![0, 0, 0] (id (ctpop (xori h (broadcastInDim S3072x4096x2 ![0, 1, 2] bcast_S3072x1x2_S3072x4096x2_0_1_2
        (broadcastInDim S3072x1x2 ![0, 2] bcast_S3072x2_S3072x1x2_0_2 q))))) slices_S3072x4096x2_S3072x4096x1_0_0_0) shapeCasts_S3072x4096x1_S3072x4096)
      (shapeCast _ (extractStridedSlice S3072x4096x1 ![0, 0, 1] (id (ctpop (xori h (broadcastInDim S3072x4096x2 ![0, 1, 2] bcast_S3072x1x2_S3072x4096x2_0_1_2
        (broadcastInDim S3072x1x2 ![0, 2] bcast_S3072x2_S3072x1x2_0_2 q))))) slices_S3072x4096x2_S3072x4096x1_0_0_1) shapeCasts_S3072x4096x1_S3072x4096))
    (broadcastInDim S3072x4096 ![] bcast_S_S3072x4096 (id (constantI S_ 32 127#32)))

/-- The reference's distance of one item. -/
theorem distAll_apply (q : Queries) (h : Items) (n : Lens) (r : Fin 3072) (p : Fin 4096) :
    distAll q h n (ix2 (n0 := 3072) (n1 := 4096) r p) = Cert.Distances.Hamming.dist q h n r p.val := by
  have e : (⟨p.val % 4096, Nat.mod_lt _ (by decide)⟩ : Fin 4096) = p := Fin.ext (Nat.mod_eq_of_lt p.isLt)
  unfold Cert.Distances.Hamming.dist
  rw [e]
  unfold distAll
  simp only [id, pointwise]
  show Scalar.select (IntOp.cmpi .slt (BitVec.ofNat 32 p.val) (n (ix1 (n0 := 3072) r)))
      (IntOp.addi (IntOp.ctpop (IntOp.xori (h (ix3 (n0 := 3072) (n1 := 4096) (n2 := 2) ⟨0 + r.val, by omega⟩ ⟨0 + p.val, by omega⟩ 0)) (q (ix2 (n0 := 3072) (n1 := 2) ⟨0 + r.val, by omega⟩ 0))))
        (IntOp.ctpop (IntOp.xori (h (ix3 (n0 := 3072) (n1 := 4096) (n2 := 2) ⟨0 + r.val, by omega⟩ ⟨0 + p.val, by omega⟩ 1)) (q (ix2 (n0 := 3072) (n1 := 2) ⟨0 + r.val, by omega⟩ 1))))) 127#32 = _
  have zr : (⟨0 + r.val, by omega⟩ : Fin 3072) = r := Fin.ext (Nat.zero_add _)
  have zp : (⟨0 + p.val, by omega⟩ : Fin 4096) = p := Fin.ext (Nat.zero_add _)
  rw [zr, zp]
  unfold IntOp.cmpi
  rw [pick]

/-- The packed words, out of the distances. -/
def wordsAll (d : IVec S3072x4096 32) : IVec S24576x128 32 :=
  shapeCast _ (ori (ori (ori (shapeCast _ (extractStridedSlice S3072x8x1x128 ![0, 0, 0, 0] (shapeCast _ d shapeCasts_S3072x4096_S3072x8x4x128) slices_S3072x8x4x128_S3072x8x1x128_0_0_0_0) shapeCasts_S3072x8x1x128_S3072x8x128)
    (Host.shli (shapeCast _ (extractStridedSlice S3072x8x1x128 ![0, 0, 1, 0] (shapeCast _ d shapeCasts_S3072x4096_S3072x8x4x128) slices_S3072x8x4x128_S3072x8x1x128_0_0_1_0) shapeCasts_S3072x8x1x128_S3072x8x128) (broadcastInDim S3072x8x128 ![] bcast_S_S3072x8x128 (constantI S_ 32 8#32))))
    (Host.shli (shapeCast _ (extractStridedSlice S3072x8x1x128 ![0, 0, 2, 0] (shapeCast _ d shapeCasts_S3072x4096_S3072x8x4x128) slices_S3072x8x4x128_S3072x8x1x128_0_0_2_0) shapeCasts_S3072x8x1x128_S3072x8x128) (broadcastInDim S3072x8x128 ![] bcast_S_S3072x8x128 (constantI S_ 32 16#32))))
    (Host.shli (shapeCast _ (extractStridedSlice S3072x8x1x128 ![0, 0, 3, 0] (shapeCast _ d shapeCasts_S3072x4096_S3072x8x4x128) slices_S3072x8x4x128_S3072x8x1x128_0_0_3_0) shapeCasts_S3072x8x1x128_S3072x8x128) (broadcastInDim S3072x8x128 ![] bcast_S_S3072x8x128 (constantI S_ 32 24#32)))) shapeCasts_S3072x8x128_S24576x128

/-- The reference's words are the plain ones. -/
theorem wordsAll_eq (q : Queries) (h : Items) (n : Lens) : wordsAll (distAll q h n) = wordsOf q h n := by
  funext y
  obtain ⟨R, l, rfl⟩ : ∃ (a : Fin 24576) (l : Fin 128), y = ix2 (n0 := 24576) (n1 := 128) a l := ⟨y 0, y 1, eq_ix2 y⟩
  have hd : ∀ (r : Fin 3072) (p : Fin 4096), distAll q h n (ix2 (n0 := 3072) (n1 := 4096) r p) = Cert.Distances.Hamming.dist q h n r p.val := distAll_apply q h n
  generalize distAll q h n = d at hd
  unfold wordsAll
  simp only [pointwise, hd]
  unfold wordsOf packed
  rw [shl_unit _ 8#32 (by decide), shl_unit _ 16#32 (by decide), shl_unit _ 24#32 (by decide)]
  have w : ∀ (r r' : Fin 3072) (x y : ℕ), r.val = r'.val → x = y → Cert.Distances.Hamming.dist q h n r x = Cert.Distances.Hamming.dist q h n r' y := by
    rintro r r' x _ hr rfl; rw [Fin.ext hr]
  have z : 0 + R.val / 8 = R.val / 8 := Nat.zero_add _
  refine congr (congrArg _ (congr (congrArg _ (congr (congrArg _ (w _ _ _ _ z ?_)) (congrArg (fun d => IntOp.shli _ d _) (w _ _ _ _ z ?_)))) (congrArg (fun d => IntOp.shli _ d _) (w _ _ _ _ z ?_)))) (congrArg (fun d => IntOp.shli _ d _) (w _ _ _ _ z ?_))
  · show (0 + R.val % 8) * 512 + 0 * 128 + (0 + l.val) = 512 * (R.val % 8) + l.val; omega
  · show (0 + R.val % 8) * 512 + 1 * 128 + (0 + l.val) = 512 * (R.val % 8) + 128 + l.val; omega
  · show (0 + R.val % 8) * 512 + 2 * 128 + (0 + l.val) = 512 * (R.val % 8) + 256 + l.val; omega
  · show (0 + R.val % 8) * 512 + 3 * 128 + (0 + l.val) = 512 * (R.val % 8) + 384 + l.val; omega

/-- The counts, at each of the levels 0 to 63. -/
def countAll (d : IVec S3072x4096 32) : IVec S3072x64 32 :=
  Host.reduce IntOp.addi (extui 32 (cmpi .sle (broadcastInDim S3072x64x4096 ![0, 1, 2] bcast_S3072x1x4096_S3072x64x4096_0_1_2 (broadcastInDim S3072x1x4096 ![0, 2] bcast_S3072x4096_S3072x1x4096_0_2 d))
    (broadcastInDim S3072x64x4096 ![0, 1, 2] bcast_S1x64x1_S3072x64x4096_0_1_2 (broadcastInDim S1x64x1 ![1] bcast_S64_S1x64x1_1 (iotaInDim S64 32 0)))) natLt_1_32) (constantI S_ 32 0#32) reducesTo_S3072x64x4096_S3072x64_d2 h_S_

/-- The thresholds, out of the counts. -/
def thrAll (k : IVec S3072x64 32) : IVec S24x1x128 32 :=
  shapeCast _ (Host.reduce IntOp.minsi (select (cmpi .sge k (broadcastInDim S3072x64 ![] bcast_S_S3072x64 (constantI S_ 32 64#32)))
    (broadcastInDim S3072x64 ![0, 1] bcast_S1x64_S3072x64_0_1 (broadcastInDim S1x64 ![1] bcast_S64_S1x64_1 (iotaInDim S64 32 0)))
    (broadcastInDim S3072x64 ![] bcast_S_S3072x64 (id (constantI S_ 32 64#32)))) (constantI S_ 32 2147483647#32) reducesTo_S3072x64_S3072_d1 h_S_) shapeCasts_S3072_S24x1x128

/-- The reference's count at one level. -/
theorem countAll_val (q : Queries) (h : Items) (n : Lens) (r : Fin 3072) (t : Fin 64) :
    (countAll (distAll q h n) (ix2 (n0 := 3072) (n1 := 64) r t)).toNat = count q h n r t.val := by
  have hd : ∀ (r : Fin 3072) (p : Fin 4096), distAll q h n (ix2 (n0 := 3072) (n1 := 4096) r p) = Cert.Distances.Hamming.dist q h n r p.val := distAll_apply q h n
  generalize distAll q h n = d at hd
  unfold countAll
  simp only [pointwise, hd]
  show (Finset.fold IntOp.addi (0#32) (fun k : Fin 4096 => BitVec.setWidth 32 (IntOp.cmpi CmpIPredicate.sle (d (ix2 (n0 := 3072) (n1 := 4096) r k)) (BitVec.ofNat 32 t.val))) Finset.univ).toNat = _
  simp only [hd]
  rw [IndicatorCount.fold_addi_setWidth_eq_card]
  have hc := Finset.card_filter_le (Finset.univ : Finset (Fin 4096)) fun k => IntOp.cmpi CmpIPredicate.sle (Cert.Distances.Hamming.dist q h n r k.val) (BitVec.ofNat 32 t.val) = 1#1
  rw [Finset.card_univ, Fintype.card_fin] at hc
  rw [BitVec.toNat_ofNat, Nat.mod_eq_of_lt (by omega), Finset.card_filter]
  unfold Cert.Distances.Hamming.count
  rw [Finset.sum_range]
  refine Finset.sum_congr rfl fun p _ => ?_
  have e := sle_small (Cert.Distances.Hamming.dist q h n r p.val) t.val (by have := dist_le q h n r p.val; omega) t.isLt
  by_cases hp : (Cert.Distances.Hamming.dist q h n r p.val).toNat ≤ t.val
  · rw [if_pos hp, if_pos (e.2 hp)]
  · rw [if_neg hp, if_neg fun h => hp (e.1 h)]

/-- A fold by the signed minimum, of small words, lies below each of them and is one of them or its start. -/
theorem fold_min (v : Fin 64 → BitVec 32) (hv : ∀ k, (v k).toNat ≤ 64) (S : Finset (Fin 64)) :
    (S.fold IntOp.minsi 2147483647#32 v).toNat < 2147483648 ∧ (∀ k ∈ S, (S.fold IntOp.minsi 2147483647#32 v).toNat ≤ (v k).toNat)
      ∧ (S.fold IntOp.minsi 2147483647#32 v = 2147483647#32 ∨ ∃ k ∈ S, (S.fold IntOp.minsi 2147483647#32 v).toNat = (v k).toNat) := by
  classical
  induction S using Finset.induction_on with
  | empty => exact ⟨by rw [Finset.fold_empty]; decide, fun k hk => absurd hk (Finset.notMem_empty k), Or.inl rfl⟩
  | insert a S ha ih =>
    obtain ⟨h1, h2, h3⟩ := ih
    have ha64 := hv a
    rw [Finset.fold_insert ha]
    have e := WordArith.toNat_minsi_of_lt (v a) (S.fold IntOp.minsi 2147483647#32 v) (by omega) h1
    refine ⟨by omega, ?_, Or.inr ?_⟩
    · intro k hk
      rcases Finset.mem_insert.1 hk with rfl | hk
      · omega
      · have := h2 k hk; omega
    · rcases h3 with h3 | ⟨k, hk, hk'⟩
      · refine ⟨a, Finset.mem_insert_self a S, ?_⟩
        rw [e, h3]
        have : (2147483647#32 : BitVec 32).toNat = 2147483647 := by decide
        omega
      · by_cases hm : (v a).toNat ≤ (v k).toNat
        · exact ⟨a, Finset.mem_insert_self a S, by omega⟩
        · exact ⟨k, Finset.mem_insert_of_mem hk, by omega⟩

/-- The least of the levels kept is the least level that reaches 64. -/
theorem fold_isThr (cnt : ℕ → ℕ) (v : Fin 64 → BitVec 32) (hv : ∀ k : Fin 64, (v k).toNat = if 64 ≤ cnt k.val then k.val else 64) :
    IsThr cnt ((Finset.univ : Finset (Fin 64)).fold IntOp.minsi 2147483647#32 v).toNat := by
  have hle : ∀ k : Fin 64, (v k).toNat ≤ 64 := by intro k; rw [hv]; have := k.isLt; split <;> omega
  obtain ⟨h1, h2, h3⟩ := fold_min v hle Finset.univ
  have h0 := h2 0 (Finset.mem_univ _)
  have h0' := hle 0
  refine ⟨by omega, ?_, ?_⟩
  · intro t ht
    by_contra hc
    have e := hv ⟨t, by omega⟩
    rw [if_pos (by dsimp only; omega)] at e
    have := h2 ⟨t, by omega⟩ (Finset.mem_univ _)
    dsimp only at e
    omega
  · intro ht
    rcases h3 with h3 | ⟨k, -, hk⟩
    · rw [h3] at ht; exact absurd ht (by decide)
    · have e := hv k
      by_cases hc : 64 ≤ cnt k.val
      · rw [if_pos hc] at e; rw [hk, e]; exact hc
      · rw [if_neg hc] at e; omega

/-- The reference's thresholds are the least levels that reach 64. -/
theorem thrAll_isThr (q : Queries) (h : Items) (n : Lens) (T : Fin 24) (l : Fin 128) :
    IsThr (count q h n ⟨128 * T.val + l.val, by omega⟩) (thrAll (countAll (distAll q h n)) (ix3 (n0 := 24) (n1 := 1) (n2 := 128) T 0 l)).toNat := by
  have hk := countAll_val q h n
  generalize countAll (distAll q h n) = k at hk
  unfold thrAll
  simp only [id, pointwise]
  show IsThr _ (Finset.fold IntOp.minsi (2147483647#32) (fun x : Fin 64 => Scalar.select (IntOp.cmpi CmpIPredicate.sge (k (ix2 (n0 := 3072) (n1 := 64) ⟨T.val * 128 + l.val, by omega⟩ x)) 64#32) (BitVec.ofNat 32 x.val) 64#32) Finset.univ).toNat
  have e : (⟨T.val * 128 + l.val, by omega⟩ : Fin 3072) = ⟨128 * T.val + l.val, by omega⟩ := Fin.ext (by dsimp only; omega)
  rw [← e]
  refine fold_isThr _ _ fun x => ?_
  have hx := hk ⟨T.val * 128 + l.val, by omega⟩ x
  have hb : count q h n ⟨T.val * 128 + l.val, by omega⟩ x.val ≤ 4096 := by
    unfold Cert.Distances.Hamming.count
    calc _ ≤ ∑ p ∈ Finset.range 4096, 1 := Finset.sum_le_sum fun p _ => by split <;> omega
      _ = 4096 := by simp
  rw [sge_small _ (by rw [hx]; omega), pick, hx]
  by_cases hc : 64 ≤ count q h n ⟨T.val * 128 + l.val, by omega⟩ x.val
  · rw [if_pos (by simpa using hc), if_pos hc, BitVec.toNat_ofNat]; have := x.isLt; omega
  · rw [if_neg (by simpa using hc), if_neg hc]; rfl

end Cert.DistancesReference.Hamming

end
-- ==== Proof.Dist.Claim.lean ====
/-
  The `distances` call and its reference: both run to the end, and with the same results.
-/
module

public import proofs.«01_k».proof.Proof.Dist.Arrays
public import proofs.«01_k».proof.Proof.Dist.Reference
public import proofs.«01_k».proof.Defs
public import Idealize.ShloMosaic.Lib.Quiescent

@[expose] public section

set_option maxRecDepth 16384

noncomputable section

namespace Cert.Pre_lens_nonneg

/-- The precondition's shape relation holds. -/
theorem facts : Facts where
  bcast_S_S3072 := by decide

/-- The precondition, read at one length: as an unsigned number it lies below half the range. -/
theorem len_lt [Cert.Pre_lens_nonneg.Facts] (q : Idealize.ShloMosaic.IVec S3072x2 32) (h : Idealize.ShloMosaic.IVec S3072x4096x2 32)
    (n : Idealize.ShloMosaic.IVec S3072 32) (hp : Cert.Pre_lens_nonneg.fn (F := Idealize.ShloMosaic.Bits) q h n = fun _ => 1#1) (r : Fin 3072) :
    (n (Idealize.ShloMosaic.ix1 (n0 := 3072) r)).toNat < 2147483648 := by
  have e := congrFun hp (Idealize.ShloMosaic.ix1 (n0 := 3072) r)
  pointwise [Cert.Pre_lens_nonneg.fn] at e
  generalize n (Idealize.ShloMosaic.ix1 (n0 := 3072) r) = x at e
  have hs : (0#32 : BitVec 32).sle x = true := by
    cases hx : (0#32 : BitVec 32).sle x with
    | true => rfl
    | false =>
      have e' : BitVec.ofBool ((0#32 : BitVec 32).sle x) = 1#1 := e
      rw [hx] at e'; exact absurd e' (by decide)
  rw [BitVec.sle_eq_decide, show (0#32 : BitVec 32).toInt = 0 from by decide] at hs
  have h0 : 0 ≤ x.toInt := of_decide_eq_true hs
  rw [BitVec.toInt_eq_toNat_cond] at h0
  have := x.isLt
  split at h0 <;> omega

end Cert.Pre_lens_nonneg

namespace Cert.Proof

open Idealize.ShloMosaic Idealize.ShloMosaic.TcCoe Idealize.SL.Sem

/-- The `distances` call ends, with its arguments as they were and every semaphore counter at zero. -/
theorem distances_frame (m : (ℓ : Loc Cert.Distances.nD Cert.Distances.τ Cert.Distances.sig) → Buf (Elt Bits) ℓ) (g : Dev Cert.Distances.nD → PrngReg) :
    θ_run (Cert.Distances.defs (F := Bits)) (onTc (τ := Cert.Distances.τ) (Cert.Distances.main (F := Bits))) ⟨m, fun _ => 0, g⟩ (fun r => (∀ c : Dev Cert.Distances.nD,
      r.2.mem ((c.tc : Thread Cert.Distances.nD Cert.Distances.τ).loc Cert.Distances.main_arg0) = m ((c.tc : Thread Cert.Distances.nD Cert.Distances.τ).loc Cert.Distances.main_arg0)
      ∧ r.2.mem ((c.tc : Thread Cert.Distances.nD Cert.Distances.τ).loc Cert.Distances.main_arg1) = m ((c.tc : Thread Cert.Distances.nD Cert.Distances.τ).loc Cert.Distances.main_arg1)
      ∧ r.2.mem ((c.tc : Thread Cert.Distances.nD Cert.Distances.τ).loc Cert.Distances.main_arg2) = m ((c.tc : Thread Cert.Distances.nD Cert.Distances.τ).loc Cert.Distances.main_arg2))
      ∧ r.2.sem = fun _ => 0) :=
  (θ_run _ _ _).mono (fun r h => ⟨Cert.Distances.Hamming.args_kept m r h.1, h.2⟩) (Cert.Distances.Hamming.run m g)

/-- The reference of the `distances` call ends, with its arguments as they were and every semaphore counter at zero. -/
theorem distancesReference_frame (m : (ℓ : Loc Cert.DistancesReference.nD Cert.DistancesReference.τ Cert.DistancesReference.sig) → Buf (Elt Bits) ℓ)
    (g : Dev Cert.DistancesReference.nD → PrngReg) :
    θ_run (Cert.DistancesReference.defs (F := Bits)) (onTc (τ := Cert.DistancesReference.τ) (Cert.DistancesReference.main (F := Bits))) ⟨m, fun _ => 0, g⟩ (fun r => (∀ c : Dev Cert.DistancesReference.nD,
      r.2.mem ((c.tc : Thread Cert.DistancesReference.nD Cert.DistancesReference.τ).loc Cert.DistancesReference.main_arg0) = m ((c.tc : Thread Cert.DistancesReference.nD Cert.DistancesReference.τ).loc Cert.DistancesReference.main_arg0)
      ∧ r.2.mem ((c.tc : Thread Cert.DistancesReference.nD Cert.DistancesReference.τ).loc Cert.DistancesReference.main_arg1) = m ((c.tc : Thread Cert.DistancesReference.nD Cert.DistancesReference.τ).loc Cert.DistancesReference.main_arg1)
      ∧ r.2.mem ((c.tc : Thread Cert.DistancesReference.nD Cert.DistancesReference.τ).loc Cert.DistancesReference.main_arg2) = m ((c.tc : Thread Cert.DistancesReference.nD Cert.DistancesReference.τ).loc Cert.DistancesReference.main_arg2))
      ∧ r.2.sem = fun _ => 0) :=
  (θ_run _ _ _).mono (fun r h => ⟨fun c => (h c).2.2, sem_eq_zero_of_no_sems rfl r.2⟩) (Cert.DistancesReference.Value.run m g)

/-- On launches with equal arguments and nonnegative lengths, the `distances` call and its reference end with the same
packed words and the same thresholds, and with their arguments unchanged. -/
theorem bitexact : Cert.bitexact_Distances_DistancesReference_pre_lens_nonneg (hDistances := Cert.Distances.Gen.facts)
    (hDistancesReference := Cert.DistancesReference.Gen.facts) (hPre_lens_nonneg := Cert.Pre_lens_nonneg.facts) := by
  intro m g m' g' hpre hagree
  have hn : ∀ (c : Dev Cert.Distances.nD) (r : Fin 3072), (Cert.Distances.Hamming.ns m c (ix1 (n0 := 3072) r)).toNat < 2147483648 := fun c r =>
    @Cert.Pre_lens_nonneg.len_lt Cert.Pre_lens_nonneg.facts _ _ _ (hpre c) r
  refine ⟨fun c => Cert.Distances.Hamming.wordsOf (Cert.Distances.Hamming.qs m c) (Cert.Distances.Hamming.hs m c) (Cert.Distances.Hamming.ns m c),
    fun c => Cert.DistancesReference.Hamming.thrAll (Cert.DistancesReference.Hamming.countAll (Cert.DistancesReference.Hamming.distAll
      (Cert.Distances.Hamming.qs m c) (Cert.Distances.Hamming.hs m c) (Cert.Distances.Hamming.ns m c))), ?_, ?_⟩
  · refine (θ_run _ _ _).mono (fun r h c => ?_) (Cert.Distances.Hamming.run m g)
    exact ⟨((h.1 c).1 3).trans (Cert.Distances.Hamming.words_arr m c (hn c)),
      ((h.1 c).1 4).trans (Cert.Distances.Hamming.thr_arr m c (hn c) _ fun t l => Cert.DistancesReference.Hamming.thrAll_isThr _ _ _ t l),
      Cert.Distances.Hamming.args_kept m r h.1 c⟩
  · refine (θ_run _ _ _).mono (fun r h c => ?_) (Cert.DistancesReference.Value.run m' g')
    obtain ⟨a0, a1, a2⟩ := hagree c
    obtain ⟨v0, v1, k⟩ := h c
    refine ⟨v0.trans ?_, v1.trans ?_, k⟩
    · show Cert.DistancesReference.Hamming.wordsAll (Cert.DistancesReference.Hamming.distAll (m' ((c.tc : Thread Cert.DistancesReference.nD Cert.DistancesReference.τ).loc Cert.DistancesReference.main_arg0))
        (m' ((c.tc : Thread Cert.DistancesReference.nD Cert.DistancesReference.τ).loc Cert.DistancesReference.main_arg1)) (m' ((c.tc : Thread Cert.DistancesReference.nD Cert.DistancesReference.τ).loc Cert.DistancesReference.main_arg2))) = _
      rw [a0, a1, a2]
      exact Cert.DistancesReference.Hamming.wordsAll_eq _ _ _
    · show Cert.DistancesReference.Hamming.thrAll (Cert.DistancesReference.Hamming.countAll (Cert.DistancesReference.Hamming.distAll (m' ((c.tc : Thread Cert.DistancesReference.nD Cert.DistancesReference.τ).loc Cert.DistancesReference.main_arg0))
        (m' ((c.tc : Thread Cert.DistancesReference.nD Cert.DistancesReference.τ).loc Cert.DistancesReference.main_arg1)) (m' ((c.tc : Thread Cert.DistancesReference.nD Cert.DistancesReference.τ).loc Cert.DistancesReference.main_arg2)))) = _
      rw [a0, a1, a2]
      rfl

end Cert.Proof

end
-- ==== Proof.lean ====
/-
  The claims, put together.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Distances
public import proofs.«01_k».proof.Proof.Gen.Distances.Skeleton
public import proofs.«01_k».proof.Proof.Gen.Distances.Loops
public import proofs.«01_k».proof.Proof.Gen.Distances.Launch
public import proofs.«01_k».proof.Proof.Gen.Distances.Points
public import proofs.«01_k».proof.Proof.Gen.Distances.Frame
public import proofs.«01_k».proof.Proof.Gen.DistancesReference
public import proofs.«01_k».proof.Proof.Gen.DistancesReference.Run
public import proofs.«01_k».proof.Proof.Run
public import proofs.«01_k».proof.Proof.Bits.Run
public import proofs.«01_k».proof.Proof.ValueReference
public import proofs.«01_k».proof.Proof.ValuePre
public import proofs.«01_k».proof.Proof.Dist.Claim
public import Idealize.ShloMosaic.Adequacy
public import Idealize.ShloMosaic.Init

@[expose] public section

noncomputable section

namespace Cert.Proof

open Idealize.ShloMosaic Idealize.SL.Sem Cert.Kernel

/-- On launches with equal arguments and nonnegative finite scales, the ideal form of the kernel and the reference end
with the same pooled embeddings, selected positions and attention weights, and with their arguments unchanged. -/
theorem algebraic : Cert.algebraic_KernelIdeal_ReferenceIdeal_pre_scales_nonneg (hKernelIdeal := Cert.KernelIdeal.Gen.facts)
    (hReferenceIdeal := Cert.ReferenceIdeal.Gen.facts) (hPre_scales_nonneg := Cert.Pre_scales_nonneg.facts) := by
  intro m g m' g' hpre hagree
  have hs := Cert.KernelIdeal.Attend.allOk (inst := Cert.Pre_scales_nonneg.facts) m hpre
  refine ⟨_, _, _, Cert.KernelIdeal.Attend.run_values m g hs, ?_⟩
  refine (θ_run _ _ _).mono (fun r h c => ?_) (Cert.ReferenceIdeal.Value.run_blocks m' g')
  obtain ⟨a0, a1, a2, a3, a4, a5⟩ := hagree c
  have hrows : Cert.ReferenceIdeal.Attend.rowsAll m' c = Cert.KernelIdeal.Attend.rowsAll m c := by
    funext p
    match p with
    | 0 => exact a1
    | 1 => exact a2
    | 2 => exact a3
    | 3 => exact a4
  obtain ⟨v0, v2, k⟩ := h c
  refine ⟨v0.trans ((Cert.ReferenceIdeal.Attend.pooled_ref m' c).trans ?_), k.2.2.2.2.2.trans a5,
    v2.trans ((Cert.ReferenceIdeal.Attend.attn_ref m' c).trans ?_), k⟩
  · rw [hrows, a0]
  · rw [hrows, a0]

/-- Both forms of the kernel, the `distances` call, and the two references run to the end with their arguments unchanged
and every semaphore counter at zero; the ideal form keeps the kernel's text; where every scale is nonnegative and finite it
leaves its reference's results; and where every length is nonnegative the `distances` call leaves its reference's. -/
theorem claim : Cert.Claim := ⟨Cert.Kernel.Gen.facts, Cert.KernelIdeal.Gen.facts, Cert.ReferenceIdeal.Gen.facts, Cert.Distances.Gen.facts,
  Cert.DistancesReference.Gen.facts, Cert.Pre_scales_nonneg.facts, Cert.Pre_lens_nonneg.facts,
  fun m g _ => Cert.Kernel.Attend.frame_all m g, fun m g _ => Cert.KernelIdeal.Attend.frame_all m g,
  fun m g _ => Cert.KernelIdeal.Attend.frame_all m g, fun m g _ => Cert.ReferenceIdeal.Gen.frame m g,
  fun m g _ => Cert.ReferenceIdeal.Gen.frame m g, fun m g _ => distances_frame m g, fun m g _ => distances_frame m g,
  fun m g _ => distancesReference_frame m g, fun m g _ => distancesReference_frame m g, trivial, algebraic, bitexact⟩

end Cert.Proof

end
